-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_real_inputs [hPre_real_inputs : Cert.Pre_real_inputs.Facts] (m : (ℓ : Loc Cert.MlaIdeal.nD Cert.MlaIdeal.τ Cert.MlaIdeal.sig) → Buf (Elt Ideal) ℓ) : Prop :=
  ∀ c : Dev Cert.MlaIdeal.nD,
    (Cert.Pre_real_inputs.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_real_inputs [hPre_real_inputs : Cert.Pre_real_inputs.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_real_inputs.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpDxRes (m : (ℓ : Loc Cert.UpDxRes.nD Cert.UpDxRes.τ Cert.UpDxRes.sig) → Buf (Elt Bits) ℓ) : Prop :=
  True

def Pre_UpDxResIdeal (m : (ℓ : Loc Cert.UpDxResIdeal.nD Cert.UpDxResIdeal.τ Cert.UpDxResIdeal.sig) → Buf (Elt Ideal) ℓ) : Prop :=
  True

def Pre_UpDxResRefIdeal (m : (ℓ : Loc Cert.UpDxResRefIdeal.nD Cert.UpDxResRefIdeal.τ Cert.UpDxResRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWUp (m : (ℓ : Loc Cert.AdamWUp.nD Cert.AdamWUp.τ Cert.AdamWUp.sig) → Buf (Elt Bits) ℓ) : Prop :=
  True

def Pre_AdamWUpIdeal (m : (ℓ : Loc Cert.AdamWUpIdeal.nD Cert.AdamWUpIdeal.τ Cert.AdamWUpIdeal.sig) → Buf (Elt Ideal) ℓ) : Prop :=
  True

def Pre_AdamWUpRefIdeal (m : (ℓ : Loc Cert.AdamWUpRefIdeal.nD Cert.AdamWUpRefIdeal.τ Cert.AdamWUpRefIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_AdamWDownRefIdeal (m : (ℓ : Loc Cert.AdamWDownRefIdeal.nD Cert.AdamWDownRefIdeal.τ Cert.AdamWDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamReplicated (m : (ℓ : Loc Cert.AdamReplicated.nD Cert.AdamReplicated.τ Cert.AdamReplicated.sig) → Buf (Elt Bits) ℓ) : Prop :=
  True

def Pre_AdamReplicatedIdeal (m : (ℓ : Loc Cert.AdamReplicatedIdeal.nD Cert.AdamReplicatedIdeal.τ Cert.AdamReplicatedIdeal.sig) → Buf (Elt Ideal) ℓ) : Prop :=
  True

def Pre_AdamReplicatedRefIdeal (m : (ℓ : Loc Cert.AdamReplicatedRefIdeal.nD Cert.AdamReplicatedRefIdeal.τ Cert.AdamReplicatedRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_real_inputs [hMlaIdeal : Cert.MlaIdeal.Facts] [hPre_real_inputs : Cert.Pre_real_inputs.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_real_inputs m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_real_inputs [hMlaRefIdeal : Cert.MlaRefIdeal.Facts] [hPre_real_inputs : Cert.Pre_real_inputs.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_real_inputs m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_UpDxRes [hUpDxRes : Cert.UpDxRes.Facts] : Prop :=
  ∀ (m : (ℓ : Loc Cert.UpDxRes.nD Cert.UpDxRes.τ Cert.UpDxRes.sig) → Buf (Elt Bits) ℓ) (g : Dev Cert.UpDxRes.nD → PrngReg), Pre_UpDxRes m →
    θ_run (Cert.UpDxRes.defs (F := Bits)) (onTc (τ := Cert.UpDxRes.τ) (Cert.UpDxRes.main (F := Bits))) ⟨m, fun _ => 0, g⟩ (fun r => (∀ c : Dev Cert.UpDxRes.nD,
      r.2.mem ((c.tc : Thread Cert.UpDxRes.nD Cert.UpDxRes.τ).loc Cert.UpDxRes.main_arg0) = m ((c.tc : Thread Cert.UpDxRes.nD Cert.UpDxRes.τ).loc Cert.UpDxRes.main_arg0)
      ∧ r.2.mem ((c.tc : Thread Cert.UpDxRes.nD Cert.UpDxRes.τ).loc Cert.UpDxRes.main_arg1) = m ((c.tc : Thread Cert.UpDxRes.nD Cert.UpDxRes.τ).loc Cert.UpDxRes.main_arg1)
      ∧ r.2.mem ((c.tc : Thread Cert.UpDxRes.nD Cert.UpDxRes.τ).loc Cert.UpDxRes.main_arg2) = m ((c.tc : Thread Cert.UpDxRes.nD Cert.UpDxRes.τ).loc Cert.UpDxRes.main_arg2))
      ∧ r.2.sem = fun _ => 0)

def quiescent_UpDxResIdeal [hUpDxResIdeal : Cert.UpDxResIdeal.Facts] : Prop :=
  ∀ (m : (ℓ : Loc Cert.UpDxResIdeal.nD Cert.UpDxResIdeal.τ Cert.UpDxResIdeal.sig) → Buf (Elt Ideal) ℓ) (g : Dev Cert.UpDxResIdeal.nD → PrngReg), Pre_UpDxResIdeal m →
    θ_run (Cert.UpDxResIdeal.defs (F := Ideal)) (onTc (τ := Cert.UpDxResIdeal.τ) (Cert.UpDxResIdeal.main (F := Ideal))) ⟨m, fun _ => 0, g⟩ (fun r => (∀ c : Dev Cert.UpDxResIdeal.nD,
      r.2.mem ((c.tc : Thread Cert.UpDxResIdeal.nD Cert.UpDxResIdeal.τ).loc Cert.UpDxResIdeal.main_arg0) = m ((c.tc : Thread Cert.UpDxResIdeal.nD Cert.UpDxResIdeal.τ).loc Cert.UpDxResIdeal.main_arg0)
      ∧ r.2.mem ((c.tc : Thread Cert.UpDxResIdeal.nD Cert.UpDxResIdeal.τ).loc Cert.UpDxResIdeal.main_arg1) = m ((c.tc : Thread Cert.UpDxResIdeal.nD Cert.UpDxResIdeal.τ).loc Cert.UpDxResIdeal.main_arg1)
      ∧ r.2.mem ((c.tc : Thread Cert.UpDxResIdeal.nD Cert.UpDxResIdeal.τ).loc Cert.UpDxResIdeal.main_arg2) = m ((c.tc : Thread Cert.UpDxResIdeal.nD Cert.UpDxResIdeal.τ).loc Cert.UpDxResIdeal.main_arg2))
      ∧ r.2.sem = fun _ => 0)

def quiescent_UpDxResRefIdeal [hUpDxResRefIdeal : Cert.UpDxResRefIdeal.Facts] : Prop :=
  ∀ (m : (ℓ : Loc Cert.UpDxResRefIdeal.nD Cert.UpDxResRefIdeal.τ Cert.UpDxResRefIdeal.sig) → Buf (Elt Ideal) ℓ) (g : Dev Cert.UpDxResRefIdeal.nD → PrngReg), Pre_UpDxResRefIdeal m →
    θ_run (Cert.UpDxResRefIdeal.defs (F := Ideal)) (onTc (τ := Cert.UpDxResRefIdeal.τ) (Cert.UpDxResRefIdeal.main (F := Ideal))) ⟨m, fun _ => 0, g⟩ (fun r => (∀ c : Dev Cert.UpDxResRefIdeal.nD,
      r.2.mem ((c.tc : Thread Cert.UpDxResRefIdeal.nD Cert.UpDxResRefIdeal.τ).loc Cert.UpDxResRefIdeal.main_arg0) = m ((c.tc : Thread Cert.UpDxResRefIdeal.nD Cert.UpDxResRefIdeal.τ).loc Cert.UpDxResRefIdeal.main_arg0)
      ∧ r.2.mem ((c.tc : Thread Cert.UpDxResRefIdeal.nD Cert.UpDxResRefIdeal.τ).loc Cert.UpDxResRefIdeal.main_arg1) = m ((c.tc : Thread Cert.UpDxResRefIdeal.nD Cert.UpDxResRefIdeal.τ).loc Cert.UpDxResRefIdeal.main_arg1)
      ∧ r.2.mem ((c.tc : Thread Cert.UpDxResRefIdeal.nD Cert.UpDxResRefIdeal.τ).loc Cert.UpDxResRefIdeal.main_arg2) = m ((c.tc : Thread Cert.UpDxResRefIdeal.nD Cert.UpDxResRefIdeal.τ).loc Cert.UpDxResRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWUp [hAdamWUp : Cert.AdamWUp.Facts] : Prop :=
  ∀ (m : (ℓ : Loc Cert.AdamWUp.nD Cert.AdamWUp.τ Cert.AdamWUp.sig) → Buf (Elt Bits) ℓ) (g : Dev Cert.AdamWUp.nD → PrngReg), Pre_AdamWUp m →
    θ_run (Cert.AdamWUp.defs (F := Bits)) (onTc (τ := Cert.AdamWUp.τ) (Cert.AdamWUp.main (F := Bits))) ⟨m, fun _ => 0, g⟩ (fun r => (∀ c : Dev Cert.AdamWUp.nD,
      r.2.mem ((c.tc : Thread Cert.AdamWUp.nD Cert.AdamWUp.τ).loc Cert.AdamWUp.main_arg0) = m ((c.tc : Thread Cert.AdamWUp.nD Cert.AdamWUp.τ).loc Cert.AdamWUp.main_arg0)
      ∧ r.2.mem ((c.tc : Thread Cert.AdamWUp.nD Cert.AdamWUp.τ).loc Cert.AdamWUp.main_arg1) = m ((c.tc : Thread Cert.AdamWUp.nD Cert.AdamWUp.τ).loc Cert.AdamWUp.main_arg1)
      ∧ r.2.mem ((c.tc : Thread Cert.AdamWUp.nD Cert.AdamWUp.τ).loc Cert.AdamWUp.main_arg2) = m ((c.tc : Thread Cert.AdamWUp.nD Cert.AdamWUp.τ).loc Cert.AdamWUp.main_arg2)
      ∧ r.2.mem ((c.tc : Thread Cert.AdamWUp.nD Cert.AdamWUp.τ).loc Cert.AdamWUp.main_arg3) = m ((c.tc : Thread Cert.AdamWUp.nD Cert.AdamWUp.τ).loc Cert.AdamWUp.main_arg3))
      ∧ r.2.sem = fun _ => 0)

def quiescent_AdamWUpIdeal [hAdamWUpIdeal : Cert.AdamWUpIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg), Pre_AdamWUpIdeal m →
    θ_run (Cert.AdamWUpIdeal.defs (F := Ideal)) (onTc (τ := Cert.AdamWUpIdeal.τ) (Cert.AdamWUpIdeal.main (F := Ideal))) ⟨m, fun _ => 0, g⟩ (fun r => (∀ c : Dev Cert.AdamWUpIdeal.nD,
      r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
      ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
      ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
      ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ r.2.sem = fun _ => 0)

def quiescent_AdamWUpRefIdeal [hAdamWUpRefIdeal : Cert.AdamWUpRefIdeal.Facts] : Prop :=
  ∀ (m : (ℓ : Loc Cert.AdamWUpRefIdeal.nD Cert.AdamWUpRefIdeal.τ Cert.AdamWUpRefIdeal.sig) → Buf (Elt Ideal) ℓ) (g : Dev Cert.AdamWUpRefIdeal.nD → PrngReg), Pre_AdamWUpRefIdeal m →
    θ_run (Cert.AdamWUpRefIdeal.defs (F := Ideal)) (onTc (τ := Cert.AdamWUpRefIdeal.τ) (Cert.AdamWUpRefIdeal.main (F := Ideal))) ⟨m, fun _ => 0, g⟩ (fun r => (∀ c : Dev Cert.AdamWUpRefIdeal.nD,
      r.2.mem ((c.tc : Thread Cert.AdamWUpRefIdeal.nD Cert.AdamWUpRefIdeal.τ).loc Cert.AdamWUpRefIdeal.main_arg0) = m ((c.tc : Thread Cert.AdamWUpRefIdeal.nD Cert.AdamWUpRefIdeal.τ).loc Cert.AdamWUpRefIdeal.main_arg0)
      ∧ r.2.mem ((c.tc : Thread Cert.AdamWUpRefIdeal.nD Cert.AdamWUpRefIdeal.τ).loc Cert.AdamWUpRefIdeal.main_arg1) = m ((c.tc : Thread Cert.AdamWUpRefIdeal.nD Cert.AdamWUpRefIdeal.τ).loc Cert.AdamWUpRefIdeal.main_arg1)
      ∧ r.2.mem ((c.tc : Thread Cert.AdamWUpRefIdeal.nD Cert.AdamWUpRefIdeal.τ).loc Cert.AdamWUpRefIdeal.main_arg2) = m ((c.tc : Thread Cert.AdamWUpRefIdeal.nD Cert.AdamWUpRefIdeal.τ).loc Cert.AdamWUpRefIdeal.main_arg2)
      ∧ r.2.mem ((c.tc : Thread Cert.AdamWUpRefIdeal.nD Cert.AdamWUpRefIdeal.τ).loc Cert.AdamWUpRefIdeal.main_arg3) = m ((c.tc : Thread Cert.AdamWUpRefIdeal.nD Cert.AdamWUpRefIdeal.τ).loc Cert.AdamWUpRefIdeal.main_arg3))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ r.2.sem = fun _ => 0)

def quiescent_AdamWDownRefIdeal [hAdamWDownRefIdeal : Cert.AdamWDownRefIdeal.Facts] : Prop :=
  ∀ (m : (ℓ : Loc Cert.AdamWDownRefIdeal.nD Cert.AdamWDownRefIdeal.τ Cert.AdamWDownRefIdeal.sig) → Buf (Elt Ideal) ℓ) (g : Dev Cert.AdamWDownRefIdeal.nD → PrngReg), Pre_AdamWDownRefIdeal m →
    θ_run (Cert.AdamWDownRefIdeal.defs (F := Ideal)) (onTc (τ := Cert.AdamWDownRefIdeal.τ) (Cert.AdamWDownRefIdeal.main (F := Ideal))) ⟨m, fun _ => 0, g⟩ (fun r => (∀ c : Dev Cert.AdamWDownRefIdeal.nD,
      r.2.mem ((c.tc : Thread Cert.AdamWDownRefIdeal.nD Cert.AdamWDownRefIdeal.τ).loc Cert.AdamWDownRefIdeal.main_arg0) = m ((c.tc : Thread Cert.AdamWDownRefIdeal.nD Cert.AdamWDownRefIdeal.τ).loc Cert.AdamWDownRefIdeal.main_arg0)
      ∧ r.2.mem ((c.tc : Thread Cert.AdamWDownRefIdeal.nD Cert.AdamWDownRefIdeal.τ).loc Cert.AdamWDownRefIdeal.main_arg1) = m ((c.tc : Thread Cert.AdamWDownRefIdeal.nD Cert.AdamWDownRefIdeal.τ).loc Cert.AdamWDownRefIdeal.main_arg1)
      ∧ r.2.mem ((c.tc : Thread Cert.AdamWDownRefIdeal.nD Cert.AdamWDownRefIdeal.τ).loc Cert.AdamWDownRefIdeal.main_arg2) = m ((c.tc : Thread Cert.AdamWDownRefIdeal.nD Cert.AdamWDownRefIdeal.τ).loc Cert.AdamWDownRefIdeal.main_arg2)
      ∧ r.2.mem ((c.tc : Thread Cert.AdamWDownRefIdeal.nD Cert.AdamWDownRefIdeal.τ).loc Cert.AdamWDownRefIdeal.main_arg3) = m ((c.tc : Thread Cert.AdamWDownRefIdeal.nD Cert.AdamWDownRefIdeal.τ).loc Cert.AdamWDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamReplicated [hAdamReplicated : Cert.AdamReplicated.Facts] : Prop :=
  ∀ (m : (ℓ : Loc Cert.AdamReplicated.nD Cert.AdamReplicated.τ Cert.AdamReplicated.sig) → Buf (Elt Bits) ℓ) (g : Dev Cert.AdamReplicated.nD → PrngReg), Pre_AdamReplicated m →
    θ_run (Cert.AdamReplicated.defs (F := Bits)) (onTc (τ := Cert.AdamReplicated.τ) (Cert.AdamReplicated.main (F := Bits))) ⟨m, fun _ => 0, g⟩ (fun r => (∀ c : Dev Cert.AdamReplicated.nD,
      r.2.mem ((c.tc : Thread Cert.AdamReplicated.nD Cert.AdamReplicated.τ).loc Cert.AdamReplicated.main_arg0) = m ((c.tc : Thread Cert.AdamReplicated.nD Cert.AdamReplicated.τ).loc Cert.AdamReplicated.main_arg0)
      ∧ r.2.mem ((c.tc : Thread Cert.AdamReplicated.nD Cert.AdamReplicated.τ).loc Cert.AdamReplicated.main_arg1) = m ((c.tc : Thread Cert.AdamReplicated.nD Cert.AdamReplicated.τ).loc Cert.AdamReplicated.main_arg1)
      ∧ r.2.mem ((c.tc : Thread Cert.AdamReplicated.nD Cert.AdamReplicated.τ).loc Cert.AdamReplicated.main_arg2) = m ((c.tc : Thread Cert.AdamReplicated.nD Cert.AdamReplicated.τ).loc Cert.AdamReplicated.main_arg2)
      ∧ r.2.mem ((c.tc : Thread Cert.AdamReplicated.nD Cert.AdamReplicated.τ).loc Cert.AdamReplicated.main_arg3) = m ((c.tc : Thread Cert.AdamReplicated.nD Cert.AdamReplicated.τ).loc Cert.AdamReplicated.main_arg3))
      ∧ r.2.sem = fun _ => 0)

def quiescent_AdamReplicatedIdeal [hAdamReplicatedIdeal : Cert.AdamReplicatedIdeal.Facts] : Prop :=
  ∀ (m : (ℓ : Loc Cert.AdamReplicatedIdeal.nD Cert.AdamReplicatedIdeal.τ Cert.AdamReplicatedIdeal.sig) → Buf (Elt Ideal) ℓ) (g : Dev Cert.AdamReplicatedIdeal.nD → PrngReg), Pre_AdamReplicatedIdeal m →
    θ_run (Cert.AdamReplicatedIdeal.defs (F := Ideal)) (onTc (τ := Cert.AdamReplicatedIdeal.τ) (Cert.AdamReplicatedIdeal.main (F := Ideal))) ⟨m, fun _ => 0, g⟩ (fun r => (∀ c : Dev Cert.AdamReplicatedIdeal.nD,
      r.2.mem ((c.tc : Thread Cert.AdamReplicatedIdeal.nD Cert.AdamReplicatedIdeal.τ).loc Cert.AdamReplicatedIdeal.main_arg0) = m ((c.tc : Thread Cert.AdamReplicatedIdeal.nD Cert.AdamReplicatedIdeal.τ).loc Cert.AdamReplicatedIdeal.main_arg0)
      ∧ r.2.mem ((c.tc : Thread Cert.AdamReplicatedIdeal.nD Cert.AdamReplicatedIdeal.τ).loc Cert.AdamReplicatedIdeal.main_arg1) = m ((c.tc : Thread Cert.AdamReplicatedIdeal.nD Cert.AdamReplicatedIdeal.τ).loc Cert.AdamReplicatedIdeal.main_arg1)
      ∧ r.2.mem ((c.tc : Thread Cert.AdamReplicatedIdeal.nD Cert.AdamReplicatedIdeal.τ).loc Cert.AdamReplicatedIdeal.main_arg2) = m ((c.tc : Thread Cert.AdamReplicatedIdeal.nD Cert.AdamReplicatedIdeal.τ).loc Cert.AdamReplicatedIdeal.main_arg2)
      ∧ r.2.mem ((c.tc : Thread Cert.AdamReplicatedIdeal.nD Cert.AdamReplicatedIdeal.τ).loc Cert.AdamReplicatedIdeal.main_arg3) = m ((c.tc : Thread Cert.AdamReplicatedIdeal.nD Cert.AdamReplicatedIdeal.τ).loc Cert.AdamReplicatedIdeal.main_arg3))
      ∧ r.2.sem = fun _ => 0)

def quiescent_AdamReplicatedRefIdeal [hAdamReplicatedRefIdeal : Cert.AdamReplicatedRefIdeal.Facts] : Prop :=
  ∀ (m : (ℓ : Loc Cert.AdamReplicatedRefIdeal.nD Cert.AdamReplicatedRefIdeal.τ Cert.AdamReplicatedRefIdeal.sig) → Buf (Elt Ideal) ℓ) (g : Dev Cert.AdamReplicatedRefIdeal.nD → PrngReg), Pre_AdamReplicatedRefIdeal m →
    θ_run (Cert.AdamReplicatedRefIdeal.defs (F := Ideal)) (onTc (τ := Cert.AdamReplicatedRefIdeal.τ) (Cert.AdamReplicatedRefIdeal.main (F := Ideal))) ⟨m, fun _ => 0, g⟩ (fun r => (∀ c : Dev Cert.AdamReplicatedRefIdeal.nD,
      r.2.mem ((c.tc : Thread Cert.AdamReplicatedRefIdeal.nD Cert.AdamReplicatedRefIdeal.τ).loc Cert.AdamReplicatedRefIdeal.main_arg0) = m ((c.tc : Thread Cert.AdamReplicatedRefIdeal.nD Cert.AdamReplicatedRefIdeal.τ).loc Cert.AdamReplicatedRefIdeal.main_arg0)
      ∧ r.2.mem ((c.tc : Thread Cert.AdamReplicatedRefIdeal.nD Cert.AdamReplicatedRefIdeal.τ).loc Cert.AdamReplicatedRefIdeal.main_arg1) = m ((c.tc : Thread Cert.AdamReplicatedRefIdeal.nD Cert.AdamReplicatedRefIdeal.τ).loc Cert.AdamReplicatedRefIdeal.main_arg1)
      ∧ r.2.mem ((c.tc : Thread Cert.AdamReplicatedRefIdeal.nD Cert.AdamReplicatedRefIdeal.τ).loc Cert.AdamReplicatedRefIdeal.main_arg2) = m ((c.tc : Thread Cert.AdamReplicatedRefIdeal.nD Cert.AdamReplicatedRefIdeal.τ).loc Cert.AdamReplicatedRefIdeal.main_arg2)
      ∧ r.2.mem ((c.tc : Thread Cert.AdamReplicatedRefIdeal.nD Cert.AdamReplicatedRefIdeal.τ).loc Cert.AdamReplicatedRefIdeal.main_arg3) = m ((c.tc : Thread Cert.AdamReplicatedRefIdeal.nD Cert.AdamReplicatedRefIdeal.τ).loc Cert.AdamReplicatedRefIdeal.main_arg3))
      ∧ r.2.sem = fun _ => 0)

def preserves_Mla_MlaIdeal : Prop :=
  True

def algebraic_MlaIdeal_MlaRefIdeal_pre_real_inputs [hMlaIdeal : Cert.MlaIdeal.Facts] [hMlaRefIdeal : Cert.MlaRefIdeal.Facts] [hPre_real_inputs : Cert.Pre_real_inputs.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_real_inputs m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v60_0)) (v1 : (c : Dev Cert.MlaIdeal.nD) → Buf (Elt Ideal) ((c.tc : Thread Cert.MlaIdeal.nD Cert.MlaIdeal.τ).loc Cert.MlaIdeal.main_v60_1)) (v2 : (c : Dev Cert.MlaIdeal.nD) → Buf (Elt Ideal) ((c.tc : Thread Cert.MlaIdeal.nD Cert.MlaIdeal.τ).loc Cert.MlaIdeal.main_v60_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v60_0) = v0 c
          ∧ r.2.mem ((c.tc : Thread Cert.MlaIdeal.nD Cert.MlaIdeal.τ).loc Cert.MlaIdeal.main_v60_1) = v1 c
          ∧ r.2.mem ((c.tc : Thread Cert.MlaIdeal.nD Cert.MlaIdeal.τ).loc Cert.MlaIdeal.main_v60_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v64) = v0 c
          ∧ r.2.mem ((c.tc : Thread Cert.MlaRefIdeal.nD Cert.MlaRefIdeal.τ).loc Cert.MlaRefIdeal.main_v66) = v1 c
          ∧ r.2.mem ((c.tc : Thread Cert.MlaRefIdeal.nD Cert.MlaRefIdeal.τ).loc Cert.MlaRefIdeal.main_v68) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_UpDxRes_UpDxResIdeal : Prop :=
  True

def algebraic_UpDxResIdeal_UpDxResRefIdeal [hUpDxResIdeal : Cert.UpDxResIdeal.Facts] [hUpDxResRefIdeal : Cert.UpDxResRefIdeal.Facts] : Prop :=
  ∀ (m : (ℓ : Loc Cert.UpDxResIdeal.nD Cert.UpDxResIdeal.τ Cert.UpDxResIdeal.sig) → Buf (Elt Ideal) ℓ) (g : Dev Cert.UpDxResIdeal.nD → PrngReg)
    (m' : (ℓ : Loc Cert.UpDxResRefIdeal.nD Cert.UpDxResRefIdeal.τ Cert.UpDxResRefIdeal.sig) → Buf (Elt Ideal) ℓ) (g' : Dev Cert.UpDxResRefIdeal.nD → PrngReg), Pre_UpDxResIdeal m →
    (∀ c : Dev Cert.UpDxResIdeal.nD,
      m' ((c.tc : Thread Cert.UpDxResRefIdeal.nD Cert.UpDxResRefIdeal.τ).loc Cert.UpDxResRefIdeal.main_arg0) = m ((c.tc : Thread Cert.UpDxResIdeal.nD Cert.UpDxResIdeal.τ).loc Cert.UpDxResIdeal.main_arg0)
      ∧ m' ((c.tc : Thread Cert.UpDxResRefIdeal.nD Cert.UpDxResRefIdeal.τ).loc Cert.UpDxResRefIdeal.main_arg1) = m ((c.tc : Thread Cert.UpDxResIdeal.nD Cert.UpDxResIdeal.τ).loc Cert.UpDxResIdeal.main_arg1)
      ∧ m' ((c.tc : Thread Cert.UpDxResRefIdeal.nD Cert.UpDxResRefIdeal.τ).loc Cert.UpDxResRefIdeal.main_arg2) = m ((c.tc : Thread Cert.UpDxResIdeal.nD Cert.UpDxResIdeal.τ).loc Cert.UpDxResIdeal.main_arg2)) →
    ∃ (v0 : (c : Dev Cert.UpDxResIdeal.nD) → Buf (Elt Ideal) ((c.tc : Thread Cert.UpDxResIdeal.nD Cert.UpDxResIdeal.τ).loc Cert.UpDxResIdeal.main_v0)),
      θ_run (Cert.UpDxResIdeal.defs (F := Ideal)) (onTc (τ := Cert.UpDxResIdeal.τ) (Cert.UpDxResIdeal.main (F := Ideal))) ⟨m, fun _ => 0, g⟩ (fun r => ∀ c : Dev Cert.UpDxResIdeal.nD,
          r.2.mem ((c.tc : Thread Cert.UpDxResIdeal.nD Cert.UpDxResIdeal.τ).loc Cert.UpDxResIdeal.main_v0) = v0 c
          ∧ r.2.mem ((c.tc : Thread Cert.UpDxResIdeal.nD Cert.UpDxResIdeal.τ).loc Cert.UpDxResIdeal.main_arg0) = m ((c.tc : Thread Cert.UpDxResIdeal.nD Cert.UpDxResIdeal.τ).loc Cert.UpDxResIdeal.main_arg0)
          ∧ r.2.mem ((c.tc : Thread Cert.UpDxResIdeal.nD Cert.UpDxResIdeal.τ).loc Cert.UpDxResIdeal.main_arg1) = m ((c.tc : Thread Cert.UpDxResIdeal.nD Cert.UpDxResIdeal.τ).loc Cert.UpDxResIdeal.main_arg1)
          ∧ r.2.mem ((c.tc : Thread Cert.UpDxResIdeal.nD Cert.UpDxResIdeal.τ).loc Cert.UpDxResIdeal.main_arg2) = m ((c.tc : Thread Cert.UpDxResIdeal.nD Cert.UpDxResIdeal.τ).loc Cert.UpDxResIdeal.main_arg2))
      ∧ θ_run (Cert.UpDxResRefIdeal.defs (F := Ideal)) (onTc (τ := Cert.UpDxResRefIdeal.τ) (Cert.UpDxResRefIdeal.main (F := Ideal))) ⟨m', fun _ => 0, g'⟩ (fun r => ∀ c : Dev Cert.UpDxResRefIdeal.nD,
          r.2.mem ((c.tc : Thread Cert.UpDxResRefIdeal.nD Cert.UpDxResRefIdeal.τ).loc Cert.UpDxResRefIdeal.main_v5) = v0 c
          ∧ r.2.mem ((c.tc : Thread Cert.UpDxResRefIdeal.nD Cert.UpDxResRefIdeal.τ).loc Cert.UpDxResRefIdeal.main_arg0) = m' ((c.tc : Thread Cert.UpDxResRefIdeal.nD Cert.UpDxResRefIdeal.τ).loc Cert.UpDxResRefIdeal.main_arg0)
          ∧ r.2.mem ((c.tc : Thread Cert.UpDxResRefIdeal.nD Cert.UpDxResRefIdeal.τ).loc Cert.UpDxResRefIdeal.main_arg1) = m' ((c.tc : Thread Cert.UpDxResRefIdeal.nD Cert.UpDxResRefIdeal.τ).loc Cert.UpDxResRefIdeal.main_arg1)
          ∧ r.2.mem ((c.tc : Thread Cert.UpDxResRefIdeal.nD Cert.UpDxResRefIdeal.τ).loc Cert.UpDxResRefIdeal.main_arg2) = m' ((c.tc : Thread Cert.UpDxResRefIdeal.nD Cert.UpDxResRefIdeal.τ).loc Cert.UpDxResRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v8) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v1) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v6) = v2 c
          ∧ r.2.mem ((c.tc : Thread Cert.AdamWInRefIdeal.nD Cert.AdamWInRefIdeal.τ).loc Cert.AdamWInRefIdeal.main_v12) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v1) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v6) = v2 c
          ∧ r.2.mem ((c.tc : Thread Cert.AdamWOutRefIdeal.nD Cert.AdamWOutRefIdeal.τ).loc Cert.AdamWOutRefIdeal.main_v12) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWUp_AdamWUpIdeal : Prop :=
  True

def algebraic_AdamWUpIdeal_AdamWUpRefIdeal [hAdamWUpIdeal : Cert.AdamWUpIdeal.Facts] [hAdamWUpRefIdeal : Cert.AdamWUpRefIdeal.Facts] : Prop :=
  ∀ (m : (ℓ : Loc Cert.AdamWUpIdeal.nD Cert.AdamWUpIdeal.τ Cert.AdamWUpIdeal.sig) → Buf (Elt Ideal) ℓ) (g : Dev Cert.AdamWUpIdeal.nD → PrngReg)
    (m' : (ℓ : Loc Cert.AdamWUpRefIdeal.nD Cert.AdamWUpRefIdeal.τ Cert.AdamWUpRefIdeal.sig) → Buf (Elt Ideal) ℓ) (g' : Dev Cert.AdamWUpRefIdeal.nD → PrngReg), Pre_AdamWUpIdeal m →
    (∀ c : Dev Cert.AdamWUpIdeal.nD,
      m' ((c.tc : Thread Cert.AdamWUpRefIdeal.nD Cert.AdamWUpRefIdeal.τ).loc Cert.AdamWUpRefIdeal.main_arg0) = m ((c.tc : Thread Cert.AdamWUpIdeal.nD Cert.AdamWUpIdeal.τ).loc Cert.AdamWUpIdeal.main_arg0)
      ∧ m' ((c.tc : Thread Cert.AdamWUpRefIdeal.nD Cert.AdamWUpRefIdeal.τ).loc Cert.AdamWUpRefIdeal.main_arg1) = m ((c.tc : Thread Cert.AdamWUpIdeal.nD Cert.AdamWUpIdeal.τ).loc Cert.AdamWUpIdeal.main_arg1)
      ∧ m' ((c.tc : Thread Cert.AdamWUpRefIdeal.nD Cert.AdamWUpRefIdeal.τ).loc Cert.AdamWUpRefIdeal.main_arg2) = m ((c.tc : Thread Cert.AdamWUpIdeal.nD Cert.AdamWUpIdeal.τ).loc Cert.AdamWUpIdeal.main_arg2)
      ∧ m' ((c.tc : Thread Cert.AdamWUpRefIdeal.nD Cert.AdamWUpRefIdeal.τ).loc Cert.AdamWUpRefIdeal.main_arg3) = m ((c.tc : Thread Cert.AdamWUpIdeal.nD Cert.AdamWUpIdeal.τ).loc Cert.AdamWUpIdeal.main_arg3)) →
    ∃ (v0 : (c : Dev Cert.AdamWUpIdeal.nD) → Buf (Elt Ideal) ((c.tc : Thread Cert.AdamWUpIdeal.nD Cert.AdamWUpIdeal.τ).loc Cert.AdamWUpIdeal.main_v0_0)) (v1 : (c : Dev Cert.AdamWUpIdeal.nD) → Buf (Elt Ideal) ((c.tc : Thread Cert.AdamWUpIdeal.nD Cert.AdamWUpIdeal.τ).loc Cert.AdamWUpIdeal.main_v0_1)) (v2 : (c : Dev Cert.AdamWUpIdeal.nD) → Buf (Elt Ideal) ((c.tc : Thread Cert.AdamWUpIdeal.nD Cert.AdamWUpIdeal.τ).loc Cert.AdamWUpIdeal.main_v0_2)) (v3 : (c : Dev Cert.AdamWUpIdeal.nD) → Buf (Elt Ideal) ((c.tc : Thread Cert.AdamWUpIdeal.nD Cert.AdamWUpIdeal.τ).loc Cert.AdamWUpIdeal.main_v0_3)),
      θ_run (Cert.AdamWUpIdeal.defs (F := Ideal)) (onTc (τ := Cert.AdamWUpIdeal.τ) (Cert.AdamWUpIdeal.main (F := Ideal))) ⟨m, fun _ => 0, g⟩ (fun r => ∀ c : Dev Cert.AdamWUpIdeal.nD,
          r.2.mem ((c.tc : Thread Cert.AdamWUpIdeal.nD Cert.AdamWUpIdeal.τ).loc Cert.AdamWUpIdeal.main_v0_0) = v0 c
          ∧ r.2.mem ((c.tc : Thread Cert.AdamWUpIdeal.nD Cert.AdamWUpIdeal.τ).loc Cert.AdamWUpIdeal.main_v0_1) = v1 c
          ∧ r.2.mem ((c.tc : Thread Cert.AdamWUpIdeal.nD Cert.AdamWUpIdeal.τ).loc Cert.AdamWUpIdeal.main_v0_2) = v2 c
          ∧ r.2.mem ((c.tc : Thread Cert.AdamWUpIdeal.nD Cert.AdamWUpIdeal.τ).loc Cert.AdamWUpIdeal.main_v0_3) = v3 c
          ∧ r.2.mem ((c.tc : Thread Cert.AdamWUpIdeal.nD Cert.AdamWUpIdeal.τ).loc Cert.AdamWUpIdeal.main_arg0) = m ((c.tc : Thread Cert.AdamWUpIdeal.nD Cert.AdamWUpIdeal.τ).loc Cert.AdamWUpIdeal.main_arg0)
          ∧ r.2.mem ((c.tc : Thread Cert.AdamWUpIdeal.nD Cert.AdamWUpIdeal.τ).loc Cert.AdamWUpIdeal.main_arg1) = m ((c.tc : Thread Cert.AdamWUpIdeal.nD Cert.AdamWUpIdeal.τ).loc Cert.AdamWUpIdeal.main_arg1)
          ∧ r.2.mem ((c.tc : Thread Cert.AdamWUpIdeal.nD Cert.AdamWUpIdeal.τ).loc Cert.AdamWUpIdeal.main_arg2) = m ((c.tc : Thread Cert.AdamWUpIdeal.nD Cert.AdamWUpIdeal.τ).loc Cert.AdamWUpIdeal.main_arg2)
          ∧ r.2.mem ((c.tc : Thread Cert.AdamWUpIdeal.nD Cert.AdamWUpIdeal.τ).loc Cert.AdamWUpIdeal.main_arg3) = m ((c.tc : Thread Cert.AdamWUpIdeal.nD Cert.AdamWUpIdeal.τ).loc Cert.AdamWUpIdeal.main_arg3))
      ∧ θ_run (Cert.AdamWUpRefIdeal.defs (F := Ideal)) (onTc (τ := Cert.AdamWUpRefIdeal.τ) (Cert.AdamWUpRefIdeal.main (F := Ideal))) ⟨m', fun _ => 0, g'⟩ (fun r => ∀ c : Dev Cert.AdamWUpRefIdeal.nD,
          r.2.mem ((c.tc : Thread Cert.AdamWUpRefIdeal.nD Cert.AdamWUpRefIdeal.τ).loc Cert.AdamWUpRefIdeal.main_v1) = v0 c
          ∧ r.2.mem ((c.tc : Thread Cert.AdamWUpRefIdeal.nD Cert.AdamWUpRefIdeal.τ).loc Cert.AdamWUpRefIdeal.main_v25) = v1 c
          ∧ r.2.mem ((c.tc : Thread Cert.AdamWUpRefIdeal.nD Cert.AdamWUpRefIdeal.τ).loc Cert.AdamWUpRefIdeal.main_v6) = v2 c
          ∧ r.2.mem ((c.tc : Thread Cert.AdamWUpRefIdeal.nD Cert.AdamWUpRefIdeal.τ).loc Cert.AdamWUpRefIdeal.main_v12) = v3 c
          ∧ r.2.mem ((c.tc : Thread Cert.AdamWUpRefIdeal.nD Cert.AdamWUpRefIdeal.τ).loc Cert.AdamWUpRefIdeal.main_arg0) = m' ((c.tc : Thread Cert.AdamWUpRefIdeal.nD Cert.AdamWUpRefIdeal.τ).loc Cert.AdamWUpRefIdeal.main_arg0)
          ∧ r.2.mem ((c.tc : Thread Cert.AdamWUpRefIdeal.nD Cert.AdamWUpRefIdeal.τ).loc Cert.AdamWUpRefIdeal.main_arg1) = m' ((c.tc : Thread Cert.AdamWUpRefIdeal.nD Cert.AdamWUpRefIdeal.τ).loc Cert.AdamWUpRefIdeal.main_arg1)
          ∧ r.2.mem ((c.tc : Thread Cert.AdamWUpRefIdeal.nD Cert.AdamWUpRefIdeal.τ).loc Cert.AdamWUpRefIdeal.main_arg2) = m' ((c.tc : Thread Cert.AdamWUpRefIdeal.nD Cert.AdamWUpRefIdeal.τ).loc Cert.AdamWUpRefIdeal.main_arg2)
          ∧ r.2.mem ((c.tc : Thread Cert.AdamWUpRefIdeal.nD Cert.AdamWUpRefIdeal.τ).loc Cert.AdamWUpRefIdeal.main_arg3) = m' ((c.tc : Thread Cert.AdamWUpRefIdeal.nD Cert.AdamWUpRefIdeal.τ).loc Cert.AdamWUpRefIdeal.main_arg3))

def preserves_AdamWDown_AdamWDownIdeal : Prop :=
  True

def algebraic_AdamWDownIdeal_AdamWDownRefIdeal [hAdamWDownIdeal : Cert.AdamWDownIdeal.Facts] [hAdamWDownRefIdeal : Cert.AdamWDownRefIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.AdamWDownRefIdeal.nD Cert.AdamWDownRefIdeal.τ Cert.AdamWDownRefIdeal.sig) → Buf (Elt Ideal) ℓ) (g' : Dev Cert.AdamWDownRefIdeal.nD → PrngReg), Pre_AdamWDownIdeal m →
    (∀ c : Dev Cert.AdamWDownIdeal.nD,
      m' ((c.tc : Thread Cert.AdamWDownRefIdeal.nD Cert.AdamWDownRefIdeal.τ).loc Cert.AdamWDownRefIdeal.main_arg0) = m ((c.tc : Thread Cert.AdamWDownIdeal.nD Cert.AdamWDownIdeal.τ).loc Cert.AdamWDownIdeal.main_arg0)
      ∧ m' ((c.tc : Thread Cert.AdamWDownRefIdeal.nD Cert.AdamWDownRefIdeal.τ).loc Cert.AdamWDownRefIdeal.main_arg1) = m ((c.tc : Thread Cert.AdamWDownIdeal.nD Cert.AdamWDownIdeal.τ).loc Cert.AdamWDownIdeal.main_arg1)
      ∧ m' ((c.tc : Thread Cert.AdamWDownRefIdeal.nD Cert.AdamWDownRefIdeal.τ).loc Cert.AdamWDownRefIdeal.main_arg2) = m ((c.tc : Thread Cert.AdamWDownIdeal.nD Cert.AdamWDownIdeal.τ).loc Cert.AdamWDownIdeal.main_arg2)
      ∧ m' ((c.tc : Thread Cert.AdamWDownRefIdeal.nD Cert.AdamWDownRefIdeal.τ).loc Cert.AdamWDownRefIdeal.main_arg3) = m ((c.tc : Thread Cert.AdamWDownIdeal.nD Cert.AdamWDownIdeal.τ).loc Cert.AdamWDownIdeal.main_arg3)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)) (v3 : (c : Dev Cert.AdamWDownIdeal.nD) → Buf (Elt Ideal) ((c.tc : Thread Cert.AdamWDownIdeal.nD Cert.AdamWDownIdeal.τ).loc Cert.AdamWDownIdeal.main_v0_3)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_v0_3) = v3 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3))
      ∧ θ_run (Cert.AdamWDownRefIdeal.defs (F := Ideal)) (onTc (τ := Cert.AdamWDownRefIdeal.τ) (Cert.AdamWDownRefIdeal.main (F := Ideal))) ⟨m', fun _ => 0, g'⟩ (fun r => ∀ c : Dev Cert.AdamWDownRefIdeal.nD,
          r.2.mem ((c.tc : Thread Cert.AdamWDownRefIdeal.nD Cert.AdamWDownRefIdeal.τ).loc Cert.AdamWDownRefIdeal.main_v1) = v0 c
          ∧ r.2.mem ((c.tc : Thread Cert.AdamWDownRefIdeal.nD Cert.AdamWDownRefIdeal.τ).loc Cert.AdamWDownRefIdeal.main_v25) = v1 c
          ∧ r.2.mem ((c.tc : Thread Cert.AdamWDownRefIdeal.nD Cert.AdamWDownRefIdeal.τ).loc Cert.AdamWDownRefIdeal.main_v6) = v2 c
          ∧ r.2.mem ((c.tc : Thread Cert.AdamWDownRefIdeal.nD Cert.AdamWDownRefIdeal.τ).loc Cert.AdamWDownRefIdeal.main_v12) = v3 c
          ∧ r.2.mem ((c.tc : Thread Cert.AdamWDownRefIdeal.nD Cert.AdamWDownRefIdeal.τ).loc Cert.AdamWDownRefIdeal.main_arg0) = m' ((c.tc : Thread Cert.AdamWDownRefIdeal.nD Cert.AdamWDownRefIdeal.τ).loc Cert.AdamWDownRefIdeal.main_arg0)
          ∧ r.2.mem ((c.tc : Thread Cert.AdamWDownRefIdeal.nD Cert.AdamWDownRefIdeal.τ).loc Cert.AdamWDownRefIdeal.main_arg1) = m' ((c.tc : Thread Cert.AdamWDownRefIdeal.nD Cert.AdamWDownRefIdeal.τ).loc Cert.AdamWDownRefIdeal.main_arg1)
          ∧ r.2.mem ((c.tc : Thread Cert.AdamWDownRefIdeal.nD Cert.AdamWDownRefIdeal.τ).loc Cert.AdamWDownRefIdeal.main_arg2) = m' ((c.tc : Thread Cert.AdamWDownRefIdeal.nD Cert.AdamWDownRefIdeal.τ).loc Cert.AdamWDownRefIdeal.main_arg2)
          ∧ r.2.mem ((c.tc : Thread Cert.AdamWDownRefIdeal.nD Cert.AdamWDownRefIdeal.τ).loc Cert.AdamWDownRefIdeal.main_arg3) = m' ((c.tc : Thread Cert.AdamWDownRefIdeal.nD Cert.AdamWDownRefIdeal.τ).loc Cert.AdamWDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamReplicated_AdamReplicatedIdeal : Prop :=
  True

def algebraic_AdamReplicatedIdeal_AdamReplicatedRefIdeal [hAdamReplicatedIdeal : Cert.AdamReplicatedIdeal.Facts] [hAdamReplicatedRefIdeal : Cert.AdamReplicatedRefIdeal.Facts] : Prop :=
  ∀ (m : (ℓ : Loc Cert.AdamReplicatedIdeal.nD Cert.AdamReplicatedIdeal.τ Cert.AdamReplicatedIdeal.sig) → Buf (Elt Ideal) ℓ) (g : Dev Cert.AdamReplicatedIdeal.nD → PrngReg)
    (m' : (ℓ : Loc Cert.AdamReplicatedRefIdeal.nD Cert.AdamReplicatedRefIdeal.τ Cert.AdamReplicatedRefIdeal.sig) → Buf (Elt Ideal) ℓ) (g' : Dev Cert.AdamReplicatedRefIdeal.nD → PrngReg), Pre_AdamReplicatedIdeal m →
    (∀ c : Dev Cert.AdamReplicatedIdeal.nD,
      m' ((c.tc : Thread Cert.AdamReplicatedRefIdeal.nD Cert.AdamReplicatedRefIdeal.τ).loc Cert.AdamReplicatedRefIdeal.main_arg0) = m ((c.tc : Thread Cert.AdamReplicatedIdeal.nD Cert.AdamReplicatedIdeal.τ).loc Cert.AdamReplicatedIdeal.main_arg0)
      ∧ m' ((c.tc : Thread Cert.AdamReplicatedRefIdeal.nD Cert.AdamReplicatedRefIdeal.τ).loc Cert.AdamReplicatedRefIdeal.main_arg1) = m ((c.tc : Thread Cert.AdamReplicatedIdeal.nD Cert.AdamReplicatedIdeal.τ).loc Cert.AdamReplicatedIdeal.main_arg1)
      ∧ m' ((c.tc : Thread Cert.AdamReplicatedRefIdeal.nD Cert.AdamReplicatedRefIdeal.τ).loc Cert.AdamReplicatedRefIdeal.main_arg2) = m ((c.tc : Thread Cert.AdamReplicatedIdeal.nD Cert.AdamReplicatedIdeal.τ).loc Cert.AdamReplicatedIdeal.main_arg2)
      ∧ m' ((c.tc : Thread Cert.AdamReplicatedRefIdeal.nD Cert.AdamReplicatedRefIdeal.τ).loc Cert.AdamReplicatedRefIdeal.main_arg3) = m ((c.tc : Thread Cert.AdamReplicatedIdeal.nD Cert.AdamReplicatedIdeal.τ).loc Cert.AdamReplicatedIdeal.main_arg3)) →
    ∃ (v0 : (c : Dev Cert.AdamReplicatedIdeal.nD) → Buf (Elt Ideal) ((c.tc : Thread Cert.AdamReplicatedIdeal.nD Cert.AdamReplicatedIdeal.τ).loc Cert.AdamReplicatedIdeal.main_v0_0)) (v1 : (c : Dev Cert.AdamReplicatedIdeal.nD) → Buf (Elt Ideal) ((c.tc : Thread Cert.AdamReplicatedIdeal.nD Cert.AdamReplicatedIdeal.τ).loc Cert.AdamReplicatedIdeal.main_v0_1)) (v2 : (c : Dev Cert.AdamReplicatedIdeal.nD) → Buf (Elt Ideal) ((c.tc : Thread Cert.AdamReplicatedIdeal.nD Cert.AdamReplicatedIdeal.τ).loc Cert.AdamReplicatedIdeal.main_v0_2)) (v3 : (c : Dev Cert.AdamReplicatedIdeal.nD) → Buf (Elt Ideal) ((c.tc : Thread Cert.AdamReplicatedIdeal.nD Cert.AdamReplicatedIdeal.τ).loc Cert.AdamReplicatedIdeal.main_v0_3)),
      θ_run (Cert.AdamReplicatedIdeal.defs (F := Ideal)) (onTc (τ := Cert.AdamReplicatedIdeal.τ) (Cert.AdamReplicatedIdeal.main (F := Ideal))) ⟨m, fun _ => 0, g⟩ (fun r => ∀ c : Dev Cert.AdamReplicatedIdeal.nD,
          r.2.mem ((c.tc : Thread Cert.AdamReplicatedIdeal.nD Cert.AdamReplicatedIdeal.τ).loc Cert.AdamReplicatedIdeal.main_v0_0) = v0 c
          ∧ r.2.mem ((c.tc : Thread Cert.AdamReplicatedIdeal.nD Cert.AdamReplicatedIdeal.τ).loc Cert.AdamReplicatedIdeal.main_v0_1) = v1 c
          ∧ r.2.mem ((c.tc : Thread Cert.AdamReplicatedIdeal.nD Cert.AdamReplicatedIdeal.τ).loc Cert.AdamReplicatedIdeal.main_v0_2) = v2 c
          ∧ r.2.mem ((c.tc : Thread Cert.AdamReplicatedIdeal.nD Cert.AdamReplicatedIdeal.τ).loc Cert.AdamReplicatedIdeal.main_v0_3) = v3 c
          ∧ r.2.mem ((c.tc : Thread Cert.AdamReplicatedIdeal.nD Cert.AdamReplicatedIdeal.τ).loc Cert.AdamReplicatedIdeal.main_arg0) = m ((c.tc : Thread Cert.AdamReplicatedIdeal.nD Cert.AdamReplicatedIdeal.τ).loc Cert.AdamReplicatedIdeal.main_arg0)
          ∧ r.2.mem ((c.tc : Thread Cert.AdamReplicatedIdeal.nD Cert.AdamReplicatedIdeal.τ).loc Cert.AdamReplicatedIdeal.main_arg1) = m ((c.tc : Thread Cert.AdamReplicatedIdeal.nD Cert.AdamReplicatedIdeal.τ).loc Cert.AdamReplicatedIdeal.main_arg1)
          ∧ r.2.mem ((c.tc : Thread Cert.AdamReplicatedIdeal.nD Cert.AdamReplicatedIdeal.τ).loc Cert.AdamReplicatedIdeal.main_arg2) = m ((c.tc : Thread Cert.AdamReplicatedIdeal.nD Cert.AdamReplicatedIdeal.τ).loc Cert.AdamReplicatedIdeal.main_arg2)
          ∧ r.2.mem ((c.tc : Thread Cert.AdamReplicatedIdeal.nD Cert.AdamReplicatedIdeal.τ).loc Cert.AdamReplicatedIdeal.main_arg3) = m ((c.tc : Thread Cert.AdamReplicatedIdeal.nD Cert.AdamReplicatedIdeal.τ).loc Cert.AdamReplicatedIdeal.main_arg3))
      ∧ θ_run (Cert.AdamReplicatedRefIdeal.defs (F := Ideal)) (onTc (τ := Cert.AdamReplicatedRefIdeal.τ) (Cert.AdamReplicatedRefIdeal.main (F := Ideal))) ⟨m', fun _ => 0, g'⟩ (fun r => ∀ c : Dev Cert.AdamReplicatedRefIdeal.nD,
          r.2.mem ((c.tc : Thread Cert.AdamReplicatedRefIdeal.nD Cert.AdamReplicatedRefIdeal.τ).loc Cert.AdamReplicatedRefIdeal.main_v0) = v0 c
          ∧ r.2.mem ((c.tc : Thread Cert.AdamReplicatedRefIdeal.nD Cert.AdamReplicatedRefIdeal.τ).loc Cert.AdamReplicatedRefIdeal.main_v24) = v1 c
          ∧ r.2.mem ((c.tc : Thread Cert.AdamReplicatedRefIdeal.nD Cert.AdamReplicatedRefIdeal.τ).loc Cert.AdamReplicatedRefIdeal.main_v5) = v2 c
          ∧ r.2.mem ((c.tc : Thread Cert.AdamReplicatedRefIdeal.nD Cert.AdamReplicatedRefIdeal.τ).loc Cert.AdamReplicatedRefIdeal.main_v11) = v3 c
          ∧ r.2.mem ((c.tc : Thread Cert.AdamReplicatedRefIdeal.nD Cert.AdamReplicatedRefIdeal.τ).loc Cert.AdamReplicatedRefIdeal.main_arg0) = m' ((c.tc : Thread Cert.AdamReplicatedRefIdeal.nD Cert.AdamReplicatedRefIdeal.τ).loc Cert.AdamReplicatedRefIdeal.main_arg0)
          ∧ r.2.mem ((c.tc : Thread Cert.AdamReplicatedRefIdeal.nD Cert.AdamReplicatedRefIdeal.τ).loc Cert.AdamReplicatedRefIdeal.main_arg1) = m' ((c.tc : Thread Cert.AdamReplicatedRefIdeal.nD Cert.AdamReplicatedRefIdeal.τ).loc Cert.AdamReplicatedRefIdeal.main_arg1)
          ∧ r.2.mem ((c.tc : Thread Cert.AdamReplicatedRefIdeal.nD Cert.AdamReplicatedRefIdeal.τ).loc Cert.AdamReplicatedRefIdeal.main_arg2) = m' ((c.tc : Thread Cert.AdamReplicatedRefIdeal.nD Cert.AdamReplicatedRefIdeal.τ).loc Cert.AdamReplicatedRefIdeal.main_arg2)
          ∧ r.2.mem ((c.tc : Thread Cert.AdamReplicatedRefIdeal.nD Cert.AdamReplicatedRefIdeal.τ).loc Cert.AdamReplicatedRefIdeal.main_arg3) = m' ((c.tc : Thread Cert.AdamReplicatedRefIdeal.nD Cert.AdamReplicatedRefIdeal.τ).loc Cert.AdamReplicatedRefIdeal.main_arg3))

def Claim : Prop :=
  ∃ (hMla : Cert.Mla.Facts) (hMlaIdeal : Cert.MlaIdeal.Facts) (hMlaRefIdeal : Cert.MlaRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFfnUp : Cert.FfnUp.Facts) (hFfnUpIdeal : Cert.FfnUpIdeal.Facts) (hFfnUpRefIdeal : Cert.FfnUpRefIdeal.Facts) (hInProj : Cert.InProj.Facts) (hInProjIdeal : Cert.InProjIdeal.Facts) (hInProjRefIdeal : Cert.InProjRefIdeal.Facts) (hUpDxRes : Cert.UpDxRes.Facts) (hUpDxResIdeal : Cert.UpDxResIdeal.Facts) (hUpDxResRefIdeal : Cert.UpDxResRefIdeal.Facts) (hOutProj : Cert.OutProj.Facts) (hOutProjIdeal : Cert.OutProjIdeal.Facts) (hOutProjRefIdeal : Cert.OutProjRefIdeal.Facts) (hFfnDown : Cert.FfnDown.Facts) (hFfnDownIdeal : Cert.FfnDownIdeal.Facts) (hFfnDownRefIdeal : Cert.FfnDownRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamWUp : Cert.AdamWUp.Facts) (hAdamWUpIdeal : Cert.AdamWUpIdeal.Facts) (hAdamWUpRefIdeal : Cert.AdamWUpRefIdeal.Facts) (hAdamWDown : Cert.AdamWDown.Facts) (hAdamWDownIdeal : Cert.AdamWDownIdeal.Facts) (hAdamWDownRefIdeal : Cert.AdamWDownRefIdeal.Facts) (hAdamSmall : Cert.AdamSmall.Facts) (hAdamSmallIdeal : Cert.AdamSmallIdeal.Facts) (hAdamSmallRefIdeal : Cert.AdamSmallRefIdeal.Facts) (hAdamReplicated : Cert.AdamReplicated.Facts) (hAdamReplicatedIdeal : Cert.AdamReplicatedIdeal.Facts) (hAdamReplicatedRefIdeal : Cert.AdamReplicatedRefIdeal.Facts) (hPre_real_inputs : Cert.Pre_real_inputs.Facts),
    quiescent_Mla (hMla := hMla)
    ∧ quiescent_MlaIdeal (hMlaIdeal := hMlaIdeal)
    ∧ quiescent_MlaIdeal_pre_real_inputs (hMlaIdeal := hMlaIdeal) (hPre_real_inputs := hPre_real_inputs)
    ∧ quiescent_MlaRefIdeal (hMlaRefIdeal := hMlaRefIdeal)
    ∧ quiescent_MlaRefIdeal_pre_real_inputs (hMlaRefIdeal := hMlaRefIdeal) (hPre_real_inputs := hPre_real_inputs)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpDxRes (hUpDxRes := hUpDxRes)
    ∧ quiescent_UpDxResIdeal (hUpDxResIdeal := hUpDxResIdeal)
    ∧ quiescent_UpDxResRefIdeal (hUpDxResRefIdeal := hUpDxResRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWUp (hAdamWUp := hAdamWUp)
    ∧ quiescent_AdamWUpIdeal (hAdamWUpIdeal := hAdamWUpIdeal)
    ∧ quiescent_AdamWUpRefIdeal (hAdamWUpRefIdeal := hAdamWUpRefIdeal)
    ∧ quiescent_AdamWDown (hAdamWDown := hAdamWDown)
    ∧ quiescent_AdamWDownIdeal (hAdamWDownIdeal := hAdamWDownIdeal)
    ∧ quiescent_AdamWDownRefIdeal (hAdamWDownRefIdeal := hAdamWDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamReplicated (hAdamReplicated := hAdamReplicated)
    ∧ quiescent_AdamReplicatedIdeal (hAdamReplicatedIdeal := hAdamReplicatedIdeal)
    ∧ quiescent_AdamReplicatedRefIdeal (hAdamReplicatedRefIdeal := hAdamReplicatedRefIdeal)
    ∧ preserves_Mla_MlaIdeal
    ∧ algebraic_MlaIdeal_MlaRefIdeal_pre_real_inputs (hMlaIdeal := hMlaIdeal) (hMlaRefIdeal := hMlaRefIdeal) (hPre_real_inputs := hPre_real_inputs)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_InProj_InProjIdeal
    ∧ algebraic_InProjIdeal_InProjRefIdeal (hInProjIdeal := hInProjIdeal) (hInProjRefIdeal := hInProjRefIdeal)
    ∧ preserves_UpDxRes_UpDxResIdeal
    ∧ algebraic_UpDxResIdeal_UpDxResRefIdeal (hUpDxResIdeal := hUpDxResIdeal) (hUpDxResRefIdeal := hUpDxResRefIdeal)
    ∧ preserves_OutProj_OutProjIdeal
    ∧ algebraic_OutProjIdeal_OutProjRefIdeal (hOutProjIdeal := hOutProjIdeal) (hOutProjRefIdeal := hOutProjRefIdeal)
    ∧ preserves_FfnDown_FfnDownIdeal
    ∧ algebraic_FfnDownIdeal_FfnDownRefIdeal (hFfnDownIdeal := hFfnDownIdeal) (hFfnDownRefIdeal := hFfnDownRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWUp_AdamWUpIdeal
    ∧ algebraic_AdamWUpIdeal_AdamWUpRefIdeal (hAdamWUpIdeal := hAdamWUpIdeal) (hAdamWUpRefIdeal := hAdamWUpRefIdeal)
    ∧ preserves_AdamWDown_AdamWDownIdeal
    ∧ algebraic_AdamWDownIdeal_AdamWDownRefIdeal (hAdamWDownIdeal := hAdamWDownIdeal) (hAdamWDownRefIdeal := hAdamWDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamReplicated_AdamReplicatedIdeal
    ∧ algebraic_AdamReplicatedIdeal_AdamReplicatedRefIdeal (hAdamReplicatedIdeal := hAdamReplicatedIdeal) (hAdamReplicatedRefIdeal := hAdamReplicatedRefIdeal)
-- ==== Pre_real_inputs.lean ====
abbrev S8208x4x96 : Shape := ⟨3, ![8208, 4, 96]⟩
abbrev S8208x4x64 : Shape := ⟨3, ![8208, 4, 64]⟩
abbrev S_ : Shape := ⟨0, ![]⟩

class Facts : Prop where
  bcast_S_S8208x4x96 : S_.BroadcastsInDim S8208x4x96 (![] : Fin 0 → Fin S8208x4x96.rank)
  reducesTo_S8208x4x96_S_d0_1_2 : S8208x4x96.ReducesTo [0, 1, 2] S_
  h_S_ : 0 < S_.numel
  bcast_S_S8208x4x64 : S_.BroadcastsInDim S8208x4x64 (![] : Fin 0 → Fin S8208x4x64.rank)
  reducesTo_S8208x4x64_S_d0_1_2 : S8208x4x64.ReducesTo [0, 1, 2] S_

variable [Facts]

def fn_part1 {F : FTy → Type} [FloatOps F] (main_v13 : IVec S_ 1) (main_v16 : IVec S8208x4x64 1) : IVec S_ 1 :=
  let main_c_5 : IVec S_ 1 := constantI S_ 1 1#1
  let main_v17 : IVec S_ 1 := (fun x v => Host.reduce IntOp.andi x v reducesTo_S8208x4x64_S_d0_1_2 h_S_) main_v16 main_c_5
  let main_v18 : IVec S_ 1 := andi main_v13 main_v17
  main_v18

def fn {F : FTy → Type} [FloatOps F] (main_arg0 : FVec F S8208x4x96 .f32) (main_arg1 : FVec F S8208x4x96 .f32) (main_arg2 : FVec F S8208x4x64 .f32) (main_arg3 : FVec F S8208x4x64 .f32) : IVec S_ 1 :=
  let main_v0 : FVec F S8208x4x96 .f32 := Host.absf main_arg0
  let main_cst : FVec F S_ .f32 := constant S_ .f32 0x7F800000#32
  let main_v1 : FVec F S8208x4x96 .f32 := broadcastInDim S8208x4x96 ![] bcast_S_S8208x4x96 main_cst
  let main_v2 : IVec S8208x4x96 1 := cmpf .olt main_v0 main_v1
  let main_c : IVec S_ 1 := constantI S_ 1 1#1
  let main_v3 : IVec S_ 1 := (fun x v => Host.reduce IntOp.andi x v reducesTo_S8208x4x96_S_d0_1_2 h_S_) main_v2 main_c
  let main_v4 : FVec F S8208x4x96 .f32 := Host.absf main_arg1
  let main_cst_0 : FVec F S_ .f32 := constant S_ .f32 0x7F800000#32
  let main_v5 : FVec F S8208x4x96 .f32 := broadcastInDim S8208x4x96 ![] bcast_S_S8208x4x96 main_cst_0
  let main_v6 : IVec S8208x4x96 1 := cmpf .olt main_v4 main_v5
  let main_c_1 : IVec S_ 1 := constantI S_ 1 1#1
  let main_v7 : IVec S_ 1 := (fun x v => Host.reduce IntOp.andi x v reducesTo_S8208x4x96_S_d0_1_2 h_S_) main_v6 main_c_1
  let main_v8 : IVec S_ 1 := andi main_v3 main_v7
  let main_v9 : FVec F S8208x4x64 .f32 := Host.absf main_arg2
  let main_cst_2 : FVec F S_ .f32 := constant S_ .f32 0x7F800000#32
  let main_v10 : FVec F S8208x4x64 .f32 := broadcastInDim S8208x4x64 ![] bcast_S_S8208x4x64 main_cst_2
  let main_v11 : IVec S8208x4x64 1 := cmpf .olt main_v9 main_v10
  let main_c_3 : IVec S_ 1 := constantI S_ 1 1#1
  let main_v12 : IVec S_ 1 := (fun x v => Host.reduce IntOp.andi x v reducesTo_S8208x4x64_S_d0_1_2 h_S_) main_v11 main_c_3
  let main_v13 : IVec S_ 1 := andi main_v8 main_v12
  let main_v14 : FVec F S8208x4x64 .f32 := Host.absf main_arg3
  let main_cst_4 : FVec F S_ .f32 := constant S_ .f32 0x7F800000#32
  let main_v15 : FVec F S8208x4x64 .f32 := broadcastInDim S8208x4x64 ![] bcast_S_S8208x4x64 main_cst_4
  let main_v16 : IVec S8208x4x64 1 := cmpf .olt main_v14 main_v15
  fn_part1 (F := F) main_v13 main_v16
-- ==== Mla.lean ====
abbrev S8208x4x96 : Shape := ⟨3, ![8208, 4, 96]⟩
abbrev S8208x4x64 : Shape := ⟨3, ![8208, 4, 64]⟩
abbrev S8208 : Shape := ⟨1, ![8208]⟩
abbrev S4x8208x8208 : Shape := ⟨3, ![4, 8208, 8208]⟩
abbrev S_ : Shape := ⟨0, ![]⟩
abbrev S1x8208 : Shape := ⟨2, ![1, 8208]⟩
abbrev S8208x1 : Shape := ⟨2, ![8208, 1]⟩
abbrev S8208x8208 : Shape := ⟨2, ![8208, 8208]⟩
abbrev S4x8208 : Shape := ⟨2, ![4, 8208]⟩
abbrev S4x8208x1 : Shape := ⟨3, ![4, 8208, 1]⟩
abbrev S4x64x8208 : Shape := ⟨3, ![4, 64, 8208]⟩
abbrev S4x8320 : Shape := ⟨2, ![4, 8320]⟩
abbrev S4x8320x1 : Shape := ⟨3, ![4, 8320, 1]⟩
abbrev S4x8320x128 : Shape := ⟨3, ![4, 8320, 128]⟩
abbrev S8320x4x128 : Shape := ⟨3, ![8320, 4, 128]⟩
abbrev S8320x4x64 : Shape := ⟨3, ![8320, 4, 64]⟩
abbrev S4x8320x64 : Shape := ⟨3, ![4, 8320, 64]⟩
abbrev S4x128x8320 : Shape := ⟨3, ![4, 128, 8320]⟩
abbrev S4x64x8320 : Shape := ⟨3, ![4, 64, 8320]⟩
abbrev S1x640x128 : Shape := ⟨3, ![1, 640, 128]⟩
abbrev S1x8320x128 : Shape := ⟨3, ![1, 8320, 128]⟩
abbrev S1x8320x64 : Shape := ⟨3, ![1, 8320, 64]⟩
abbrev S1x640x64 : Shape := ⟨3, ![1, 640, 64]⟩
abbrev S1x128x640 : Shape := ⟨3, ![1, 128, 640]⟩
abbrev S1x64x640 : Shape := ⟨3, ![1, 64, 640]⟩
abbrev S1x128x8320 : Shape := ⟨3, ![1, 128, 8320]⟩
abbrev S1x64x8320 : Shape := ⟨3, ![1, 64, 8320]⟩
abbrev S640x128 : Shape := ⟨2, ![640, 128]⟩
abbrev S128x640 : Shape := ⟨2, ![128, 640]⟩
abbrev S64x640 : Shape := ⟨2, ![64, 640]⟩
abbrev S640x64 : Shape := ⟨2, ![640, 64]⟩
abbrev S640 : Shape := ⟨1, ![640]⟩
abbrev S640x1 : Shape := ⟨2, ![640, 1]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩

abbrev nBuf : Space → Nat
  | .hbm => 94
  | .vmem => 22
  | .smem => 0
  | _ => 0

abbrev bufTy : (tb : Table) → Fin (tcTables nBuf tb) → BufTy
  | .hbm, ⟨0, _⟩ => ⟨S8208x4x96, .f32⟩
  | .hbm, ⟨1, _⟩ => ⟨S8208x4x96, .f32⟩
  | .hbm, ⟨2, _⟩ => ⟨S8208x4x64, .f32⟩
  | .hbm, ⟨3, _⟩ => ⟨S8208x4x64, .f32⟩
  | .hbm, ⟨4, _⟩ => ⟨S8208, .i32⟩
  | .hbm, ⟨5, _⟩ => ⟨S4x8208x8208, .f32⟩
  | .hbm, ⟨6, _⟩ => ⟨S_, .f32⟩
  | .hbm, ⟨7, _⟩ => ⟨S4x8208x8208, .f32⟩
  | .hbm, ⟨8, _⟩ => ⟨S4x8208x8208, .f32⟩
  | .hbm, ⟨9, _⟩ => ⟨S1x8208, .i32⟩
  | .hbm, ⟨10, _⟩ => ⟨S8208x1, .i32⟩
  | .hbm, ⟨11, _⟩ => ⟨S8208x8208, .i32⟩
  | .hbm, ⟨12, _⟩ => ⟨S8208x8208, .i32⟩
  | .hbm, ⟨13, _⟩ => ⟨S8208x8208, .i1⟩
  | .hbm, ⟨14, _⟩ => ⟨S_, .f32⟩
  | .hbm, ⟨15, _⟩ => ⟨S_, .f32⟩
  | .hbm, ⟨16, _⟩ => ⟨S4x8208x8208, .i1⟩
  | .hbm, ⟨17, _⟩ => ⟨S4x8208x8208, .f32⟩
  | .hbm, ⟨18, _⟩ => ⟨S4x8208x8208, .f32⟩
  | .hbm, ⟨19, _⟩ => ⟨S_, .f32⟩
  | .hbm, ⟨20, _⟩ => ⟨S4x8208, .f32⟩
  | .hbm, ⟨21, _⟩ => ⟨S_, .f32⟩
  | .hbm, ⟨22, _⟩ => ⟨S4x8208, .f32⟩
  | .hbm, ⟨23, _⟩ => ⟨S4x8208, .f32⟩
  | .hbm, ⟨24, _⟩ => ⟨S4x8208x1, .f32⟩
  | .hbm, ⟨25, _⟩ => ⟨S4x8208x8208, .f32⟩
  | .hbm, ⟨26, _⟩ => ⟨S4x8208x8208, .f32⟩
  | .hbm, ⟨27, _⟩ => ⟨S4x8208x8208, .f32⟩
  | .hbm, ⟨28, _⟩ => ⟨S_, .f32⟩
  | .hbm, ⟨29, _⟩ => ⟨S4x8208, .f32⟩
  | .hbm, ⟨30, _⟩ => ⟨S4x8208x1, .f32⟩
  | .hbm, ⟨31, _⟩ => ⟨S4x8208x8208, .f32⟩
  | .hbm, ⟨32, _⟩ => ⟨S4x8208x8208, .f32⟩
  | .hbm, ⟨33, _⟩ => ⟨S4x64x8208, .f32⟩
  | .hbm, ⟨34, _⟩ => ⟨S8208x4x64, .f32⟩
  | .hbm, ⟨35, _⟩ => ⟨S8208, .i32⟩
  | .hbm, ⟨36, _⟩ => ⟨S4x8208x8208, .f32⟩
  | .hbm, ⟨37, _⟩ => ⟨S_, .f32⟩
  | .hbm, ⟨38, _⟩ => ⟨S4x8208x8208, .f32⟩
  | .hbm, ⟨39, _⟩ => ⟨S4x8208x8208, .f32⟩
  | .hbm, ⟨40, _⟩ => ⟨S1x8208, .i32⟩
  | .hbm, ⟨41, _⟩ => ⟨S8208x1, .i32⟩
  | .hbm, ⟨42, _⟩ => ⟨S8208x8208, .i32⟩
  | .hbm, ⟨43, _⟩ => ⟨S8208x8208, .i32⟩
  | .hbm, ⟨44, _⟩ => ⟨S8208x8208, .i1⟩
  | .hbm, ⟨45, _⟩ => ⟨S_, .f32⟩
  | .hbm, ⟨46, _⟩ => ⟨S_, .f32⟩
  | .hbm, ⟨47, _⟩ => ⟨S4x8208x8208, .i1⟩
  | .hbm, ⟨48, _⟩ => ⟨S4x8208x8208, .f32⟩
  | .hbm, ⟨49, _⟩ => ⟨S4x8208x8208, .f32⟩
  | .hbm, ⟨50, _⟩ => ⟨S_, .f32⟩
  | .hbm, ⟨51, _⟩ => ⟨S4x8208, .f32⟩
  | .hbm, ⟨52, _⟩ => ⟨S4x8208x1, .f32⟩
  | .hbm, ⟨53, _⟩ => ⟨S4x8208x8208, .f32⟩
  | .hbm, ⟨54, _⟩ => ⟨S4x8208x8208, .f32⟩
  | .hbm, ⟨55, _⟩ => ⟨S4x8208x8208, .f32⟩
  | .hbm, ⟨56, _⟩ => ⟨S_, .f32⟩
  | .hbm, ⟨57, _⟩ => ⟨S4x8208, .f32⟩
  | .hbm, ⟨58, _⟩ => ⟨S4x8208, .f32⟩
  | .hbm, ⟨59, _⟩ => ⟨S4x8208, .f32⟩
  | .hbm, ⟨60, _⟩ => ⟨S_, .i32⟩
  | .hbm, ⟨61, _⟩ => ⟨S_, .f32⟩
  | .hbm, ⟨62, _⟩ => ⟨S4x8320, .f32⟩
  | .hbm, ⟨63, _⟩ => ⟨S4x8320x1, .f32⟩
  | .hbm, ⟨64, _⟩ => ⟨S4x8320x128, .f32⟩
  | .hbm, ⟨65, _⟩ => ⟨S_, .i32⟩
  | .hbm, ⟨66, _⟩ => ⟨S_, .f32⟩
  | .hbm, ⟨67, _⟩ => ⟨S8320x4x128, .f32⟩
  | .hbm, ⟨68, _⟩ => ⟨S4x8320x128, .f32⟩
  | .hbm, ⟨69, _⟩ => ⟨S_, .i32⟩
  | .hbm, ⟨70, _⟩ => ⟨S_, .f32⟩
  | .hbm, ⟨71, _⟩ => ⟨S8320x4x128, .f32⟩
  | .hbm, ⟨72, _⟩ => ⟨S4x8320x128, .f32⟩
  | .hbm, ⟨73, _⟩ => ⟨S4x8320x128, .bf16⟩
  | .hbm, ⟨74, _⟩ => ⟨S_, .i32⟩
  | .hbm, ⟨75, _⟩ => ⟨S_, .f32⟩
  | .hbm, ⟨76, _⟩ => ⟨S8320x4x64, .f32⟩
  | .hbm, ⟨77, _⟩ => ⟨S4x8320x64, .f32⟩
  | .hbm, ⟨78, _⟩ => ⟨S4x8320x64, .bf16⟩
  | .hbm, ⟨79, _⟩ => ⟨S_, .i32⟩
  | .hbm, ⟨80, _⟩ => ⟨S_, .f32⟩
  | .hbm, ⟨81, _⟩ => ⟨S8320x4x64, .f32⟩
  | .hbm, ⟨82, _⟩ => ⟨S4x8320x64, .f32⟩
  | .hbm, ⟨83, _⟩ => ⟨S_, .i32⟩
  | .hbm, ⟨84, _⟩ => ⟨S_, .f32⟩
  | .hbm, ⟨85, _⟩ => ⟨S8320x4x64, .f32⟩
  | .hbm, ⟨86, _⟩ => ⟨S4x8320x64, .f32⟩
  | .hbm, ⟨87, _⟩ => ⟨S4x128x8320, .f32⟩
  | .hbm, ⟨88, _⟩ => ⟨S4x128x8320, .bf16⟩
  | .hbm, ⟨89, _⟩ => ⟨S4x64x8320, .f32⟩
  | .hbm, ⟨90, _⟩ => ⟨S4x64x8320, .bf16⟩
  | .hbm, ⟨91, _⟩ => ⟨S4x8320x128, .f32⟩
  | .hbm, ⟨92, _⟩ => ⟨S4x128x8320, .f32⟩
  | .hbm, ⟨93, _⟩ => ⟨S4x64x8320, .f32⟩
  | .local _ .vmem, ⟨0, _⟩ => ⟨S1x640x128, .f32⟩
  | .local _ .vmem, ⟨1, _⟩ => ⟨S1x640x128, .f32⟩
  | .local _ .vmem, ⟨2, _⟩ => ⟨S1x8320x128, .bf16⟩
  | .local _ .vmem, ⟨3, _⟩ => ⟨S1x8320x128, .bf16⟩
  | .local _ .vmem, ⟨4, _⟩ => ⟨S1x8320x64, .bf16⟩
  | .local _ .vmem, ⟨5, _⟩ => ⟨S1x8320x64, .bf16⟩
  | .local _ .vmem, ⟨6, _⟩ => ⟨S1x640x64, .f32⟩
  | .local _ .vmem, ⟨7, _⟩ => ⟨S1x640x64, .f32⟩
  | .local _ .vmem, ⟨8, _⟩ => ⟨S1x640x128, .f32⟩
  | .local _ .vmem, ⟨9, _⟩ => ⟨S1x640x128, .f32⟩
  | .local _ .vmem, ⟨10, _⟩ => ⟨S1x640x64, .f32⟩
  | .local _ .vmem, ⟨11, _⟩ => ⟨S1x640x64, .f32⟩
  | .local _ .vmem, ⟨12, _⟩ => ⟨S1x128x640, .bf16⟩
  | .local _ .vmem, ⟨13, _⟩ => ⟨S1x128x640, .bf16⟩
  | .local _ .vmem, ⟨14, _⟩ => ⟨S1x64x640, .bf16⟩
  | .local _ .vmem, ⟨15, _⟩ => ⟨S1x64x640, .bf16⟩
  | .local _ .vmem, ⟨16, _⟩ => ⟨S1x640x128, .f32⟩
  | .local _ .vmem, ⟨17, _⟩ => ⟨S1x640x128, .f32⟩
  | .local _ .vmem, ⟨18, _⟩ => ⟨S1x128x8320, .f32⟩
  | .local _ .vmem, ⟨19, _⟩ => ⟨S1x128x8320, .f32⟩
  | .local _ .vmem, ⟨20, _⟩ => ⟨S1x64x8320, .f32⟩
  | .local _ .vmem, ⟨21, _⟩ => ⟨S1x64x8320, .f32⟩
  | _, _ => ⟨S8208x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c : Ref sig .tc := ⟨.hbm, 60, rfl⟩
abbrev main_call2_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_call3_v0 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_call4_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_call5_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_call6_v0 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_call7_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev main_v60_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 13], ![false, false]⟩

def k0_mult1 : BitVec 32 :=
  let c0_i32_23 : BitVec 32 := 0#32
  c0_i32_23
@[reducible] def k0_t1_loop (i : grid0.Coords) : Scf.Loop 32 :=
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_50 : BitVec 32 := 1#32
  ⟨c0_i32_48, v95, c1_i32_50⟩
def k0_mult2 (i : grid0.Coords) (k0_t1 : Fin (k0_t1_loop i).trips) : BitVec 32 :=
  let c1_i32_93 : BitVec 32 := 1#32
  let c8_i32_92 : BitVec 32 := 8#32
  let c0_i32_48 : BitVec 32 := 0#32
  let c1_i32_50 : BitVec 32 := 1#32
  let arg13 : BitVec 32 := Scf.iv c0_i32_48 c1_i32_50 k0_t1
  let v167 : BitVec 32 := Scalar.muli c8_i32_92 arg13
  let v168 : BitVec 32 := Scalar.addi c1_i32_93 v167
  let c0_i32_94 : BitVec 32 := 0#32
  let v169 : BitVec 32 := Scalar.addi v168 c0_i32_94
  let c128_i32 : BitVec 32 := 128#32
  let v191 : BitVec 32 := Scalar.muli v169 c128_i32
  v191
def k0_mult3 (i : grid0.Coords) (k0_t1 : Fin (k0_t1_loop i).trips) : BitVec 32 :=
  let c1_i32_96 : BitVec 32 := 1#32
  let c8_i32_95 : BitVec 32 := 8#32
  let c0_i32_48 : BitVec 32 := 0#32
  let c1_i32_50 : BitVec 32 := 1#32
  let arg13 : BitVec 32 := Scf.iv c0_i32_48 c1_i32_50 k0_t1
  let v170 : BitVec 32 := Scalar.muli c8_i32_95 arg13
  let v171 : BitVec 32 := Scalar.addi c1_i32_96 v170
  let c1_i32_97 : BitVec 32 := 1#32
  let v172 : BitVec 32 := Scalar.addi v171 c1_i32_97
  let c128_i32_113 : BitVec 32 := 128#32
  let v193 : BitVec 32 := Scalar.muli v172 c128_i32_113
  v193
def k0_mult4 (i : grid0.Coords) (k0_t1 : Fin (k0_t1_loop i).trips) : BitVec 32 :=
  let c1_i32_99 : BitVec 32 := 1#32
  let c8_i32_98 : BitVec 32 := 8#32
  let c0_i32_48 : BitVec 32 := 0#32
  let c1_i32_50 : BitVec 32 := 1#32
  let arg13 : BitVec 32 := Scf.iv c0_i32_48 c1_i32_50 k0_t1
  let v173 : BitVec 32 := Scalar.muli c8_i32_98 arg13
  let v174 : BitVec 32 := Scalar.addi c1_i32_99 v173
  let c2_i32_100 : BitVec 32 := 2#32
  let v175 : BitVec 32 := Scalar.addi v174 c2_i32_100
  let c128_i32_114 : BitVec 32 := 128#32
  let v195 : BitVec 32 := Scalar.muli v175 c128_i32_114
  v195
def k0_mult5 (i : grid0.Coords) (k0_t1 : Fin (k0_t1_loop i).trips) : BitVec 32 :=
  let c1_i32_102 : BitVec 32 := 1#32
  let c8_i32_101 : BitVec 32 := 8#32
  let c0_i32_48 : BitVec 32 := 0#32
  let c1_i32_50 : BitVec 32 := 1#32
  let arg13 : BitVec 32 := Scf.iv c0_i32_48 c1_i32_50 k0_t1
  let v176 : BitVec 32 := Scalar.muli c8_i32_101 arg13
  let v177 : BitVec 32 := Scalar.addi c1_i32_102 v176
  let c3_i32 : BitVec 32 := 3#32
  let v178 : BitVec 32 := Scalar.addi v177 c3_i32
  let c128_i32_115 : BitVec 32 := 128#32
  let v197 : BitVec 32 := Scalar.muli v178 c128_i32_115
  v197
def k0_mult6 (i : grid0.Coords) (k0_t1 : Fin (k0_t1_loop i).trips) : BitVec 32 :=
  let c1_i32_104 : BitVec 32 := 1#32
  let c8_i32_103 : BitVec 32 := 8#32
  let c0_i32_48 : BitVec 32 := 0#32
  let c1_i32_50 : BitVec 32 := 1#32
  let arg13 : BitVec 32 := Scf.iv c0_i32_48 c1_i32_50 k0_t1
  let v179 : BitVec 32 := Scalar.muli c8_i32_103 arg13
  let v180 : BitVec 32 := Scalar.addi c1_i32_104 v179
  let c4_i32_105 : BitVec 32 := 4#32
  let v181 : BitVec 32 := Scalar.addi v180 c4_i32_105
  let c128_i32_116 : BitVec 32 := 128#32
  let v199 : BitVec 32 := Scalar.muli v181 c128_i32_116
  v199
def k0_mult7 (i : grid0.Coords) (k0_t1 : Fin (k0_t1_loop i).trips) : BitVec 32 :=
  let c1_i32_107 : BitVec 32 := 1#32
  let c8_i32_106 : BitVec 32 := 8#32
  let c0_i32_48 : BitVec 32 := 0#32
  let c1_i32_50 : BitVec 32 := 1#32
  let arg13 : BitVec 32 := Scf.iv c0_i32_48 c1_i32_50 k0_t1
  let v182 : BitVec 32 := Scalar.muli c8_i32_106 arg13
  let v183 : BitVec 32 := Scalar.addi c1_i32_107 v182
  let c5_i32 : BitVec 32 := 5#32
  let v184 : BitVec 32 := Scalar.addi v183 c5_i32
  let c128_i32_117 : BitVec 32 := 128#32
  let v201 : BitVec 32 := Scalar.muli v184 c128_i32_117
  v201
def k0_mult8 (i : grid0.Coords) (k0_t1 : Fin (k0_t1_loop i).trips) : BitVec 32 :=
  let c1_i32_109 : BitVec 32 := 1#32
  let c8_i32_108 : BitVec 32 := 8#32
  let c0_i32_48 : BitVec 32 := 0#32
  let c1_i32_50 : BitVec 32 := 1#32
  let arg13 : BitVec 32 := Scf.iv c0_i32_48 c1_i32_50 k0_t1
  let v185 : BitVec 32 := Scalar.muli c8_i32_108 arg13
  let v186 : BitVec 32 := Scalar.addi c1_i32_109 v185
  let c6_i32 : BitVec 32 := 6#32
  let v187 : BitVec 32 := Scalar.addi v186 c6_i32
  let c128_i32_118 : BitVec 32 := 128#32
  let v203 : BitVec 32 := Scalar.muli v187 c128_i32_118
  v203
def k0_mult9 (i : grid0.Coords) (k0_t1 : Fin (k0_t1_loop i).trips) : BitVec 32 :=
  let c1_i32_111 : BitVec 32 := 1#32
  let c8_i32_110 : BitVec 32 := 8#32
  let c0_i32_48 : BitVec 32 := 0#32
  let c1_i32_50 : BitVec 32 := 1#32
  let arg13 : BitVec 32 := Scf.iv c0_i32_48 c1_i32_50 k0_t1
  let v188 : BitVec 32 := Scalar.muli c8_i32_110 arg13
  let v189 : BitVec 32 := Scalar.addi c1_i32_111 v188
  let c7_i32_112 : BitVec 32 := 7#32
  let v190 : BitVec 32 := Scalar.addi v189 c7_i32_112
  let c128_i32_119 : BitVec 32 := 128#32
  let v205 : BitVec 32 := Scalar.muli v190 c128_i32_119
  v205
def k0_off1 (i : grid0.Coords) (k0_t1 : Fin (k0_t1_loop i).trips) (c0_i32_94 : BitVec 32) : Fin 3 → Nat :=
  let c0_120 : Index := 0#32
  let c1_i32_93 : BitVec 32 := 1#32
  let c8_i32_92 : BitVec 32 := 8#32
  let c0_i32_48 : BitVec 32 := 0#32
  let c1_i32_50 : BitVec 32 := 1#32
  let arg13 : BitVec 32 := Scf.iv c0_i32_48 c1_i32_50 k0_t1
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v207 : Index := Scalar.indexCast v192
  let c0_121 : Index := 0#32
  ![0, v207.toNat, 0]
def k0_off2 (i : grid0.Coords) (k0_t1 : Fin (k0_t1_loop i).trips) (c0_i32_94 : BitVec 32) : Fin 3 → Nat :=
  let c0_144 : Index := 0#32
  let c1_i32_93 : BitVec 32 := 1#32
  let c8_i32_92 : BitVec 32 := 8#32
  let c0_i32_48 : BitVec 32 := 0#32
  let c1_i32_50 : BitVec 32 := 1#32
  let arg13 : BitVec 32 := Scf.iv c0_i32_48 c1_i32_50 k0_t1
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v239 : Index := Scalar.indexCast v192
  let c0_145 : Index := 0#32
  ![0, v239.toNat, 0]
def k0_off3 (i : grid0.Coords) (k0_t1 : Fin (k0_t1_loop i).trips) (c0_i32_94 : BitVec 32) : Fin 3 → Nat :=
  let c0_193 : Index := 0#32
  let c0_194 : Index := 0#32
  let c1_i32_93 : BitVec 32 := 1#32
  let c8_i32_92 : BitVec 32 := 8#32
  let c0_i32_48 : BitVec 32 := 0#32
  let c1_i32_50 : BitVec 32 := 1#32
  let arg13 : BitVec 32 := Scf.iv c0_i32_48 c1_i32_50 k0_t1
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v377 : Index := Scalar.indexCast v192
  ![0, 0, v377.toNat]
def k0_off4 (i : grid0.Coords) (k0_t1 : Fin (k0_t1_loop i).trips) (c0_i32_94 : BitVec 32) : Fin 3 → Nat :=
  let c0_198 : Index := 0#32
  let c0_199 : Index := 0#32
  let c1_i32_93 : BitVec 32 := 1#32
  let c8_i32_92 : BitVec 32 := 8#32
  let c0_i32_48 : BitVec 32 := 0#32
  let c1_i32_50 : BitVec 32 := 1#32
  let arg13 : BitVec 32 := Scf.iv c0_i32_48 c1_i32_50 k0_t1
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v386 : Index := Scalar.indexCast v192
  ![0, 0, v386.toNat]
@[reducible] def k0_t2_loop (i : grid0.Coords) : Scf.Loop 32 :=
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let v92 : BitVec 32 := Scalar.addi c0_i32_48 v91
  let c1_i32_51 : BitVec 32 := 1#32
  ⟨v95, v92, c1_i32_51⟩
def k0_mult10 (i : grid0.Coords) (k0_t2 : Fin (k0_t2_loop i).trips) : BitVec 32 :=
  let c1_i32_93 : BitVec 32 := 1#32
  let c8_i32_92 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v167 : BitVec 32 := Scalar.muli c8_i32_92 arg13
  let v168 : BitVec 32 := Scalar.addi c1_i32_93 v167
  let c0_i32_94 : BitVec 32 := 0#32
  let v169 : BitVec 32 := Scalar.addi v168 c0_i32_94
  let c128_i32 : BitVec 32 := 128#32
  let v191 : BitVec 32 := Scalar.muli v169 c128_i32
  v191
def k0_mult11 (i : grid0.Coords) (k0_t2 : Fin (k0_t2_loop i).trips) : BitVec 32 :=
  let c1_i32_96 : BitVec 32 := 1#32
  let c8_i32_95 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v170 : BitVec 32 := Scalar.muli c8_i32_95 arg13
  let v171 : BitVec 32 := Scalar.addi c1_i32_96 v170
  let c1_i32_97 : BitVec 32 := 1#32
  let v172 : BitVec 32 := Scalar.addi v171 c1_i32_97
  let c128_i32_113 : BitVec 32 := 128#32
  let v193 : BitVec 32 := Scalar.muli v172 c128_i32_113
  v193
def k0_mult12 (i : grid0.Coords) (k0_t2 : Fin (k0_t2_loop i).trips) : BitVec 32 :=
  let c1_i32_99 : BitVec 32 := 1#32
  let c8_i32_98 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v173 : BitVec 32 := Scalar.muli c8_i32_98 arg13
  let v174 : BitVec 32 := Scalar.addi c1_i32_99 v173
  let c2_i32_100 : BitVec 32 := 2#32
  let v175 : BitVec 32 := Scalar.addi v174 c2_i32_100
  let c128_i32_114 : BitVec 32 := 128#32
  let v195 : BitVec 32 := Scalar.muli v175 c128_i32_114
  v195
def k0_mult13 (i : grid0.Coords) (k0_t2 : Fin (k0_t2_loop i).trips) : BitVec 32 :=
  let c1_i32_102 : BitVec 32 := 1#32
  let c8_i32_101 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v176 : BitVec 32 := Scalar.muli c8_i32_101 arg13
  let v177 : BitVec 32 := Scalar.addi c1_i32_102 v176
  let c3_i32 : BitVec 32 := 3#32
  let v178 : BitVec 32 := Scalar.addi v177 c3_i32
  let c128_i32_115 : BitVec 32 := 128#32
  let v197 : BitVec 32 := Scalar.muli v178 c128_i32_115
  v197
def k0_mult14 (i : grid0.Coords) (k0_t2 : Fin (k0_t2_loop i).trips) : BitVec 32 :=
  let c1_i32_104 : BitVec 32 := 1#32
  let c8_i32_103 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v179 : BitVec 32 := Scalar.muli c8_i32_103 arg13
  let v180 : BitVec 32 := Scalar.addi c1_i32_104 v179
  let c4_i32_105 : BitVec 32 := 4#32
  let v181 : BitVec 32 := Scalar.addi v180 c4_i32_105
  let c128_i32_116 : BitVec 32 := 128#32
  let v199 : BitVec 32 := Scalar.muli v181 c128_i32_116
  v199
def k0_mult15 (i : grid0.Coords) (k0_t2 : Fin (k0_t2_loop i).trips) : BitVec 32 :=
  let c1_i32_107 : BitVec 32 := 1#32
  let c8_i32_106 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v182 : BitVec 32 := Scalar.muli c8_i32_106 arg13
  let v183 : BitVec 32 := Scalar.addi c1_i32_107 v182
  let c5_i32 : BitVec 32 := 5#32
  let v184 : BitVec 32 := Scalar.addi v183 c5_i32
  let c128_i32_117 : BitVec 32 := 128#32
  let v201 : BitVec 32 := Scalar.muli v184 c128_i32_117
  v201
def k0_mult16 (i : grid0.Coords) (k0_t2 : Fin (k0_t2_loop i).trips) : BitVec 32 :=
  let c1_i32_109 : BitVec 32 := 1#32
  let c8_i32_108 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v185 : BitVec 32 := Scalar.muli c8_i32_108 arg13
  let v186 : BitVec 32 := Scalar.addi c1_i32_109 v185
  let c6_i32 : BitVec 32 := 6#32
  let v187 : BitVec 32 := Scalar.addi v186 c6_i32
  let c128_i32_118 : BitVec 32 := 128#32
  let v203 : BitVec 32 := Scalar.muli v187 c128_i32_118
  v203
def k0_mult17 (i : grid0.Coords) (k0_t2 : Fin (k0_t2_loop i).trips) : BitVec 32 :=
  let c1_i32_111 : BitVec 32 := 1#32
  let c8_i32_110 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v188 : BitVec 32 := Scalar.muli c8_i32_110 arg13
  let v189 : BitVec 32 := Scalar.addi c1_i32_111 v188
  let c7_i32_112 : BitVec 32 := 7#32
  let v190 : BitVec 32 := Scalar.addi v189 c7_i32_112
  let c128_i32_119 : BitVec 32 := 128#32
  let v205 : BitVec 32 := Scalar.muli v190 c128_i32_119
  v205
def k0_off5 (i : grid0.Coords) (k0_t2 : Fin (k0_t2_loop i).trips) (c0_i32_94 : BitVec 32) : Fin 3 → Nat :=
  let c0_120 : Index := 0#32
  let c1_i32_93 : BitVec 32 := 1#32
  let c8_i32_92 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v207 : Index := Scalar.indexCast v192
  let c0_121 : Index := 0#32
  ![0, v207.toNat, 0]
def k0_off6 (i : grid0.Coords) (k0_t2 : Fin (k0_t2_loop i).trips) (c0_i32_94 : BitVec 32) : Fin 3 → Nat :=
  let c0_144 : Index := 0#32
  let c1_i32_93 : BitVec 32 := 1#32
  let c8_i32_92 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v239 : Index := Scalar.indexCast v192
  let c0_145 : Index := 0#32
  ![0, v239.toNat, 0]
def k0_off7 (i : grid0.Coords) (k0_t2 : Fin (k0_t2_loop i).trips) (c0_i32_94 : BitVec 32) : Fin 3 → Nat :=
  let c0_193 : Index := 0#32
  let c0_194 : Index := 0#32
  let c1_i32_93 : BitVec 32 := 1#32
  let c8_i32_92 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v377 : Index := Scalar.indexCast v192
  ![0, 0, v377.toNat]
def k0_off8 (i : grid0.Coords) (k0_t2 : Fin (k0_t2_loop i).trips) (c0_i32_94 : BitVec 32) : Fin 3 → Nat :=
  let c0_198 : Index := 0#32
  let c0_199 : Index := 0#32
  let c1_i32_93 : BitVec 32 := 1#32
  let c8_i32_92 : BitVec 32 := 8#32
  let c0_i32_48 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let v91 : BitVec 32 := Scalar.subi v90 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg13 : BitVec 32 := Scf.iv v95 c1_i32_51 k0_t2
  let v167 : BitVec 32 := Scalar.muli c8_i32_92 arg13
  let v168 : BitVec 32 := Scalar.addi c1_i32_93 v167
  let v169 : BitVec 32 := Scalar.addi v168 c0_i32_94
  let c128_i32 : BitVec 32 := 128#32
  let v191 : BitVec 32 := Scalar.muli v169 c128_i32
  let v192 : BitVec 32 := v191
  let v386 : Index := Scalar.indexCast v192
  ![0, 0, v386.toNat]
@[reducible] def k0_t3_loop (i : grid0.Coords) : Scf.Loop 32 :=
  let c0_i32_54 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_53 : BitVec 32 := 0#32
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_56 : BitVec 32 := 1#32
  ⟨c0_i32_54, v106, c1_i32_56⟩
def k0_mult18 (i : grid0.Coords) (k0_t3 : Fin (k0_t3_loop i).trips) : BitVec 32 :=
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let c1_i32_56 : BitVec 32 := 1#32
  let arg13 : BitVec 32 := Scf.iv c0_i32_54 c1_i32_56 k0_t3
  let v168 : BitVec 32 := Scalar.muli c4_i32_93 arg13
  let v169 : BitVec 32 := Scalar.addi v167 v168
  let c0_i32_94 : BitVec 32 := 0#32
  let v170 : BitVec 32 := Scalar.addi v169 c0_i32_94
  let c128_i32 : BitVec 32 := 128#32
  let v183 : BitVec 32 := Scalar.muli v170 c128_i32
  v183
def k0_mult19 (i : grid0.Coords) (k0_t3 : Fin (k0_t3_loop i).trips) : BitVec 32 :=
  let c1_i32_95 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v171 : BitVec 32 := Scalar.addi c1_i32_95 v99
  let c4_i32_96 : BitVec 32 := 4#32
  let c0_i32_54 : BitVec 32 := 0#32
  let c1_i32_56 : BitVec 32 := 1#32
  let arg13 : BitVec 32 := Scf.iv c0_i32_54 c1_i32_56 k0_t3
  let v172 : BitVec 32 := Scalar.muli c4_i32_96 arg13
  let v173 : BitVec 32 := Scalar.addi v171 v172
  let c1_i32_97 : BitVec 32 := 1#32
  let v174 : BitVec 32 := Scalar.addi v173 c1_i32_97
  let c128_i32_103 : BitVec 32 := 128#32
  let v185 : BitVec 32 := Scalar.muli v174 c128_i32_103
  v185
def k0_mult20 (i : grid0.Coords) (k0_t3 : Fin (k0_t3_loop i).trips) : BitVec 32 :=
  let c1_i32_98 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v175 : BitVec 32 := Scalar.addi c1_i32_98 v99
  let c4_i32_99 : BitVec 32 := 4#32
  let c0_i32_54 : BitVec 32 := 0#32
  let c1_i32_56 : BitVec 32 := 1#32
  let arg13 : BitVec 32 := Scf.iv c0_i32_54 c1_i32_56 k0_t3
  let v176 : BitVec 32 := Scalar.muli c4_i32_99 arg13
  let v177 : BitVec 32 := Scalar.addi v175 v176
  let c2_i32_100 : BitVec 32 := 2#32
  let v178 : BitVec 32 := Scalar.addi v177 c2_i32_100
  let c128_i32_104 : BitVec 32 := 128#32
  let v187 : BitVec 32 := Scalar.muli v178 c128_i32_104
  v187
def k0_mult21 (i : grid0.Coords) (k0_t3 : Fin (k0_t3_loop i).trips) : BitVec 32 :=
  let c1_i32_101 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v179 : BitVec 32 := Scalar.addi c1_i32_101 v99
  let c4_i32_102 : BitVec 32 := 4#32
  let c0_i32_54 : BitVec 32 := 0#32
  let c1_i32_56 : BitVec 32 := 1#32
  let arg13 : BitVec 32 := Scf.iv c0_i32_54 c1_i32_56 k0_t3
  let v180 : BitVec 32 := Scalar.muli c4_i32_102 arg13
  let v181 : BitVec 32 := Scalar.addi v179 v180
  let c3_i32 : BitVec 32 := 3#32
  let v182 : BitVec 32 := Scalar.addi v181 c3_i32
  let c128_i32_105 : BitVec 32 := 128#32
  let v189 : BitVec 32 := Scalar.muli v182 c128_i32_105
  v189
def k0_off9 (i : grid0.Coords) (k0_t3 : Fin (k0_t3_loop i).trips) (c0_i32_94 : BitVec 32) : Fin 3 → Nat :=
  let c0_106 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let c1_i32_56 : BitVec 32 := 1#32
  let arg13 : BitVec 32 := Scf.iv c0_i32_54 c1_i32_56 k0_t3
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v191 : Index := Scalar.indexCast v184
  let c0_107 : Index := 0#32
  ![0, v191.toNat, 0]
def k0_off10 (i : grid0.Coords) (k0_t3 : Fin (k0_t3_loop i).trips) (c0_i32_94 : BitVec 32) : Fin 3 → Nat :=
  let c0_118 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let c1_i32_56 : BitVec 32 := 1#32
  let arg13 : BitVec 32 := Scf.iv c0_i32_54 c1_i32_56 k0_t3
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v207 : Index := Scalar.indexCast v184
  let c0_119 : Index := 0#32
  ![0, v207.toNat, 0]
def k0_off11 (i : grid0.Coords) (k0_t3 : Fin (k0_t3_loop i).trips) (c0_i32_94 : BitVec 32) : Fin 3 → Nat :=
  let c0_143 : Index := 0#32
  let c0_144 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let c1_i32_56 : BitVec 32 := 1#32
  let arg13 : BitVec 32 := Scf.iv c0_i32_54 c1_i32_56 k0_t3
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v277 : Index := Scalar.indexCast v184
  ![0, 0, v277.toNat]
def k0_off12 (i : grid0.Coords) (k0_t3 : Fin (k0_t3_loop i).trips) (c0_i32_94 : BitVec 32) : Fin 3 → Nat :=
  let c0_148 : Index := 0#32
  let c0_149 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let c1_i32_56 : BitVec 32 := 1#32
  let arg13 : BitVec 32 := Scf.iv c0_i32_54 c1_i32_56 k0_t3
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v286 : Index := Scalar.indexCast v184
  ![0, 0, v286.toNat]
@[reducible] def k0_t4_loop (i : grid0.Coords) : Scf.Loop 32 :=
  let c0_i32_54 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_53 : BitVec 32 := 0#32
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let v103 : BitVec 32 := Scalar.addi c0_i32_54 v102
  let c1_i32_57 : BitVec 32 := 1#32
  ⟨v106, v103, c1_i32_57⟩
def k0_mult22 (i : grid0.Coords) (k0_t4 : Fin (k0_t4_loop i).trips) : BitVec 32 :=
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v168 : BitVec 32 := Scalar.muli c4_i32_93 arg13
  let v169 : BitVec 32 := Scalar.addi v167 v168
  let c0_i32_94 : BitVec 32 := 0#32
  let v170 : BitVec 32 := Scalar.addi v169 c0_i32_94
  let c128_i32 : BitVec 32 := 128#32
  let v183 : BitVec 32 := Scalar.muli v170 c128_i32
  v183
def k0_mult23 (i : grid0.Coords) (k0_t4 : Fin (k0_t4_loop i).trips) : BitVec 32 :=
  let c1_i32_95 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v171 : BitVec 32 := Scalar.addi c1_i32_95 v99
  let c4_i32_96 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v172 : BitVec 32 := Scalar.muli c4_i32_96 arg13
  let v173 : BitVec 32 := Scalar.addi v171 v172
  let c1_i32_97 : BitVec 32 := 1#32
  let v174 : BitVec 32 := Scalar.addi v173 c1_i32_97
  let c128_i32_103 : BitVec 32 := 128#32
  let v185 : BitVec 32 := Scalar.muli v174 c128_i32_103
  v185
def k0_mult24 (i : grid0.Coords) (k0_t4 : Fin (k0_t4_loop i).trips) : BitVec 32 :=
  let c1_i32_98 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v175 : BitVec 32 := Scalar.addi c1_i32_98 v99
  let c4_i32_99 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v176 : BitVec 32 := Scalar.muli c4_i32_99 arg13
  let v177 : BitVec 32 := Scalar.addi v175 v176
  let c2_i32_100 : BitVec 32 := 2#32
  let v178 : BitVec 32 := Scalar.addi v177 c2_i32_100
  let c128_i32_104 : BitVec 32 := 128#32
  let v187 : BitVec 32 := Scalar.muli v178 c128_i32_104
  v187
def k0_mult25 (i : grid0.Coords) (k0_t4 : Fin (k0_t4_loop i).trips) : BitVec 32 :=
  let c1_i32_101 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v179 : BitVec 32 := Scalar.addi c1_i32_101 v99
  let c4_i32_102 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v180 : BitVec 32 := Scalar.muli c4_i32_102 arg13
  let v181 : BitVec 32 := Scalar.addi v179 v180
  let c3_i32 : BitVec 32 := 3#32
  let v182 : BitVec 32 := Scalar.addi v181 c3_i32
  let c128_i32_105 : BitVec 32 := 128#32
  let v189 : BitVec 32 := Scalar.muli v182 c128_i32_105
  v189
def k0_off13 (i : grid0.Coords) (k0_t4 : Fin (k0_t4_loop i).trips) (c0_i32_94 : BitVec 32) : Fin 3 → Nat :=
  let c0_106 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v191 : Index := Scalar.indexCast v184
  let c0_107 : Index := 0#32
  ![0, v191.toNat, 0]
def k0_off14 (i : grid0.Coords) (k0_t4 : Fin (k0_t4_loop i).trips) (c0_i32_94 : BitVec 32) : Fin 3 → Nat :=
  let c0_118 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v207 : Index := Scalar.indexCast v184
  let c0_119 : Index := 0#32
  ![0, v207.toNat, 0]
def k0_off15 (i : grid0.Coords) (k0_t4 : Fin (k0_t4_loop i).trips) (c0_i32_94 : BitVec 32) : Fin 3 → Nat :=
  let c0_143 : Index := 0#32
  let c0_144 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v277 : Index := Scalar.indexCast v184
  ![0, 0, v277.toNat]
def k0_off16 (i : grid0.Coords) (k0_t4 : Fin (k0_t4_loop i).trips) (c0_i32_94 : BitVec 32) : Fin 3 → Nat :=
  let c0_148 : Index := 0#32
  let c0_149 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v167 : BitVec 32 := Scalar.addi c1_i32_92 v99
  let c4_i32_93 : BitVec 32 := 4#32
  let c0_i32_54 : BitVec 32 := 0#32
  let v100 : BitVec 32 := Scalar.subi v88 v99
  let c4_i32 : BitVec 32 := 4#32
  let v101 : BitVec 32 := Scalar.divsi v100 c4_i32
  let v102 : BitVec 32 := Scalar.subi v101 c0_i32_54
  let c1_i32_55 : BitVec 32 := 1#32
  let v104 : BitVec 32 := Scalar.divsi v102 c1_i32_55
  let v105 : BitVec 32 := Scalar.muli v104 c1_i32_55
  let v106 : BitVec 32 := Scalar.addi c0_i32_54 v105
  let c1_i32_57 : BitVec 32 := 1#32
  let arg13 : BitVec 32 := Scf.iv v106 c1_i32_57 k0_t4
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v286 : Index := Scalar.indexCast v184
  ![0, 0, v286.toNat]
@[reducible] def k0_t5_loop (i : grid0.Coords) : Scf.Loop 32 :=
  let c0_i32_59 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_53 : BitVec 32 := 0#32
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_61 : BitVec 32 := 1#32
  ⟨c0_i32_59, v117, c1_i32_61⟩
def k0_mult26 (i : grid0.Coords) (k0_t5 : Fin (k0_t5_loop i).trips) : BitVec 32 :=
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let c1_i32_61 : BitVec 32 := 1#32
  let arg13 : BitVec 32 := Scf.iv c0_i32_59 c1_i32_61 k0_t5
  let v168 : BitVec 32 := Scalar.muli c2_i32_93 arg13
  let v169 : BitVec 32 := Scalar.addi v167 v168
  let c0_i32_94 : BitVec 32 := 0#32
  let v170 : BitVec 32 := Scalar.addi v169 c0_i32_94
  let c128_i32 : BitVec 32 := 128#32
  let v175 : BitVec 32 := Scalar.muli v170 c128_i32
  v175
def k0_mult27 (i : grid0.Coords) (k0_t5 : Fin (k0_t5_loop i).trips) : BitVec 32 :=
  let c1_i32_95 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v171 : BitVec 32 := Scalar.addi c1_i32_95 v110
  let c2_i32_96 : BitVec 32 := 2#32
  let c0_i32_59 : BitVec 32 := 0#32
  let c1_i32_61 : BitVec 32 := 1#32
  let arg13 : BitVec 32 := Scf.iv c0_i32_59 c1_i32_61 k0_t5
  let v172 : BitVec 32 := Scalar.muli c2_i32_96 arg13
  let v173 : BitVec 32 := Scalar.addi v171 v172
  let c1_i32_97 : BitVec 32 := 1#32
  let v174 : BitVec 32 := Scalar.addi v173 c1_i32_97
  let c128_i32_98 : BitVec 32 := 128#32
  let v177 : BitVec 32 := Scalar.muli v174 c128_i32_98
  v177
def k0_off17 (i : grid0.Coords) (k0_t5 : Fin (k0_t5_loop i).trips) (c0_i32_94 : BitVec 32) : Fin 3 → Nat :=
  let c0_99 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let c1_i32_61 : BitVec 32 := 1#32
  let arg13 : BitVec 32 := Scf.iv c0_i32_59 c1_i32_61 k0_t5
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v179 : Index := Scalar.indexCast v176
  let c0_100 : Index := 0#32
  ![0, v179.toNat, 0]
def k0_off18 (i : grid0.Coords) (k0_t5 : Fin (k0_t5_loop i).trips) (c0_i32_94 : BitVec 32) : Fin 3 → Nat :=
  let c0_105 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let c1_i32_61 : BitVec 32 := 1#32
  let arg13 : BitVec 32 := Scf.iv c0_i32_59 c1_i32_61 k0_t5
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v187 : Index := Scalar.indexCast v176
  let c0_106 : Index := 0#32
  ![0, v187.toNat, 0]
def k0_off19 (i : grid0.Coords) (k0_t5 : Fin (k0_t5_loop i).trips) (c0_i32_94 : BitVec 32) : Fin 3 → Nat :=
  let c0_118 : Index := 0#32
  let c0_119 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let c1_i32_61 : BitVec 32 := 1#32
  let arg13 : BitVec 32 := Scf.iv c0_i32_59 c1_i32_61 k0_t5
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v223 : Index := Scalar.indexCast v176
  ![0, 0, v223.toNat]
def k0_off20 (i : grid0.Coords) (k0_t5 : Fin (k0_t5_loop i).trips) (c0_i32_94 : BitVec 32) : Fin 3 → Nat :=
  let c0_123 : Index := 0#32
  let c0_124 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let c1_i32_61 : BitVec 32 := 1#32
  let arg13 : BitVec 32 := Scf.iv c0_i32_59 c1_i32_61 k0_t5
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v232 : Index := Scalar.indexCast v176
  ![0, 0, v232.toNat]
@[reducible] def k0_t6_loop (i : grid0.Coords) : Scf.Loop 32 :=
  let c0_i32_59 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_53 : BitVec 32 := 0#32
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let v114 : BitVec 32 := Scalar.addi c0_i32_59 v113
  let c1_i32_62 : BitVec 32 := 1#32
  ⟨v117, v114, c1_i32_62⟩
def k0_mult28 (i : grid0.Coords) (k0_t6 : Fin (k0_t6_loop i).trips) : BitVec 32 :=
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_62 : BitVec 32 := 1#32
  let arg13 : BitVec 32 := Scf.iv v117 c1_i32_62 k0_t6
  let v168 : BitVec 32 := Scalar.muli c2_i32_93 arg13
  let v169 : BitVec 32 := Scalar.addi v167 v168
  let c0_i32_94 : BitVec 32 := 0#32
  let v170 : BitVec 32 := Scalar.addi v169 c0_i32_94
  let c128_i32 : BitVec 32 := 128#32
  let v175 : BitVec 32 := Scalar.muli v170 c128_i32
  v175
def k0_mult29 (i : grid0.Coords) (k0_t6 : Fin (k0_t6_loop i).trips) : BitVec 32 :=
  let c1_i32_95 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v171 : BitVec 32 := Scalar.addi c1_i32_95 v110
  let c2_i32_96 : BitVec 32 := 2#32
  let c0_i32_59 : BitVec 32 := 0#32
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_62 : BitVec 32 := 1#32
  let arg13 : BitVec 32 := Scf.iv v117 c1_i32_62 k0_t6
  let v172 : BitVec 32 := Scalar.muli c2_i32_96 arg13
  let v173 : BitVec 32 := Scalar.addi v171 v172
  let c1_i32_97 : BitVec 32 := 1#32
  let v174 : BitVec 32 := Scalar.addi v173 c1_i32_97
  let c128_i32_98 : BitVec 32 := 128#32
  let v177 : BitVec 32 := Scalar.muli v174 c128_i32_98
  v177
def k0_off21 (i : grid0.Coords) (k0_t6 : Fin (k0_t6_loop i).trips) (c0_i32_94 : BitVec 32) : Fin 3 → Nat :=
  let c0_99 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_62 : BitVec 32 := 1#32
  let arg13 : BitVec 32 := Scf.iv v117 c1_i32_62 k0_t6
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v179 : Index := Scalar.indexCast v176
  let c0_100 : Index := 0#32
  ![0, v179.toNat, 0]
def k0_off22 (i : grid0.Coords) (k0_t6 : Fin (k0_t6_loop i).trips) (c0_i32_94 : BitVec 32) : Fin 3 → Nat :=
  let c0_105 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_62 : BitVec 32 := 1#32
  let arg13 : BitVec 32 := Scf.iv v117 c1_i32_62 k0_t6
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v187 : Index := Scalar.indexCast v176
  let c0_106 : Index := 0#32
  ![0, v187.toNat, 0]
def k0_off23 (i : grid0.Coords) (k0_t6 : Fin (k0_t6_loop i).trips) (c0_i32_94 : BitVec 32) : Fin 3 → Nat :=
  let c0_118 : Index := 0#32
  let c0_119 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_62 : BitVec 32 := 1#32
  let arg13 : BitVec 32 := Scf.iv v117 c1_i32_62 k0_t6
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v223 : Index := Scalar.indexCast v176
  ![0, 0, v223.toNat]
def k0_off24 (i : grid0.Coords) (k0_t6 : Fin (k0_t6_loop i).trips) (c0_i32_94 : BitVec 32) : Fin 3 → Nat :=
  let c0_123 : Index := 0#32
  let c0_124 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v167 : BitVec 32 := Scalar.addi c1_i32_92 v110
  let c2_i32_93 : BitVec 32 := 2#32
  let c0_i32_59 : BitVec 32 := 0#32
  let v111 : BitVec 32 := Scalar.subi v88 v110
  let c2_i32 : BitVec 32 := 2#32
  let v112 : BitVec 32 := Scalar.divsi v111 c2_i32
  let v113 : BitVec 32 := Scalar.subi v112 c0_i32_59
  let c1_i32_60 : BitVec 32 := 1#32
  let v115 : BitVec 32 := Scalar.divsi v113 c1_i32_60
  let v116 : BitVec 32 := Scalar.muli v115 c1_i32_60
  let v117 : BitVec 32 := Scalar.addi c0_i32_59 v116
  let c1_i32_62 : BitVec 32 := 1#32
  let arg13 : BitVec 32 := Scf.iv v117 c1_i32_62 k0_t6
  let v168 : BitVec 32 := Scalar.muli c2_i32_93 arg13
  let v169 : BitVec 32 := Scalar.addi v167 v168
  let v170 : BitVec 32 := Scalar.addi v169 c0_i32_94
  let c128_i32 : BitVec 32 := 128#32
  let v175 : BitVec 32 := Scalar.muli v170 c128_i32
  let v176 : BitVec 32 := v175
  let v232 : Index := Scalar.indexCast v176
  ![0, 0, v232.toNat]
@[reducible] def k0_t7_loop (i : grid0.Coords) : Scf.Loop 32 :=
  let c0_i32_65 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_53 : BitVec 32 := 0#32
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let c1_i32_67 : BitVec 32 := 1#32
  ⟨c0_i32_65, v128, c1_i32_67⟩
def k0_mult30 (i : grid0.Coords) (k0_t7 : Fin (k0_t7_loop i).trips) : BitVec 32 :=
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let c1_i32_67 : BitVec 32 := 1#32
  let arg13 : BitVec 32 := Scf.iv c0_i32_65 c1_i32_67 k0_t7
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  v171
def k0_off25 (i : grid0.Coords) (k0_t7 : Fin (k0_t7_loop i).trips) : Fin 3 → Nat :=
  let c0_95 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let c1_i32_67 : BitVec 32 := 1#32
  let arg13 : BitVec 32 := Scf.iv c0_i32_65 c1_i32_67 k0_t7
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v173 : Index := Scalar.indexCast v172
  let c0_96 : Index := 0#32
  ![0, v173.toNat, 0]
def k0_off26 (i : grid0.Coords) (k0_t7 : Fin (k0_t7_loop i).trips) : Fin 3 → Nat :=
  let c0_98 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let c1_i32_67 : BitVec 32 := 1#32
  let arg13 : BitVec 32 := Scf.iv c0_i32_65 c1_i32_67 k0_t7
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v177 : Index := Scalar.indexCast v172
  let c0_99 : Index := 0#32
  ![0, v177.toNat, 0]
def k0_off27 (i : grid0.Coords) (k0_t7 : Fin (k0_t7_loop i).trips) : Fin 3 → Nat :=
  let c0_105 : Index := 0#32
  let c0_106 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let c1_i32_67 : BitVec 32 := 1#32
  let arg13 : BitVec 32 := Scf.iv c0_i32_65 c1_i32_67 k0_t7
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v196 : Index := Scalar.indexCast v172
  ![0, 0, v196.toNat]
def k0_off28 (i : grid0.Coords) (k0_t7 : Fin (k0_t7_loop i).trips) : Fin 3 → Nat :=
  let c0_110 : Index := 0#32
  let c0_111 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let c1_i32_67 : BitVec 32 := 1#32
  let arg13 : BitVec 32 := Scf.iv c0_i32_65 c1_i32_67 k0_t7
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v205 : Index := Scalar.indexCast v172
  ![0, 0, v205.toNat]
@[reducible] def k0_t8_loop (i : grid0.Coords) : Scf.Loop 32 :=
  let c0_i32_65 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_53 : BitVec 32 := 0#32
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let v125 : BitVec 32 := Scalar.addi c0_i32_65 v124
  let c1_i32_68 : BitVec 32 := 1#32
  ⟨v128, v125, c1_i32_68⟩
def k0_mult31 (i : grid0.Coords) (k0_t8 : Fin (k0_t8_loop i).trips) : BitVec 32 :=
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let c1_i32_68 : BitVec 32 := 1#32
  let arg13 : BitVec 32 := Scf.iv v128 c1_i32_68 k0_t8
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  v171
def k0_off29 (i : grid0.Coords) (k0_t8 : Fin (k0_t8_loop i).trips) : Fin 3 → Nat :=
  let c0_95 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let c1_i32_68 : BitVec 32 := 1#32
  let arg13 : BitVec 32 := Scf.iv v128 c1_i32_68 k0_t8
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v173 : Index := Scalar.indexCast v172
  let c0_96 : Index := 0#32
  ![0, v173.toNat, 0]
def k0_off30 (i : grid0.Coords) (k0_t8 : Fin (k0_t8_loop i).trips) : Fin 3 → Nat :=
  let c0_98 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let c1_i32_68 : BitVec 32 := 1#32
  let arg13 : BitVec 32 := Scf.iv v128 c1_i32_68 k0_t8
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v177 : Index := Scalar.indexCast v172
  let c0_99 : Index := 0#32
  ![0, v177.toNat, 0]
def k0_off31 (i : grid0.Coords) (k0_t8 : Fin (k0_t8_loop i).trips) : Fin 3 → Nat :=
  let c0_105 : Index := 0#32
  let c0_106 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let c1_i32_68 : BitVec 32 := 1#32
  let arg13 : BitVec 32 := Scf.iv v128 c1_i32_68 k0_t8
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v196 : Index := Scalar.indexCast v172
  ![0, 0, v196.toNat]
def k0_off32 (i : grid0.Coords) (k0_t8 : Fin (k0_t8_loop i).trips) : Fin 3 → Nat :=
  let c0_110 : Index := 0#32
  let c0_111 : Index := 0#32
  let c1_i32_92 : BitVec 32 := 1#32
  let c0_i32_53 : BitVec 32 := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c1_i32_45 : BitVec 32 := 1#32
  let v87 : BitVec 32 := Scalar.subi v32 c1_i32_45
  let c0_i32_46 : BitVec 32 := 0#32
  let v88 : BitVec 32 := Scalar.maxsi v87 c0_i32_46
  let c0_i32_47 : BitVec 32 := 0#32
  let v89 : BitVec 32 := Scalar.subi v88 c0_i32_47
  let c8_i32 : BitVec 32 := 8#32
  let v90 : BitVec 32 := Scalar.divsi v89 c8_i32
  let c8_i32_52 : BitVec 32 := 8#32
  let v98 : BitVec 32 := Scalar.muli v90 c8_i32_52
  let v99 : BitVec 32 := Scalar.addi c0_i32_53 v98
  let v100 : BitVec 32 := Scalar.subi v88 v99
  let c4_i32 : BitVec 32 := 4#32
  let v101 : BitVec 32 := Scalar.divsi v100 c4_i32
  let c4_i32_58 : BitVec 32 := 4#32
  let v109 : BitVec 32 := Scalar.muli v101 c4_i32_58
  let v110 : BitVec 32 := Scalar.addi v99 v109
  let v111 : BitVec 32 := Scalar.subi v88 v110
  let c2_i32 : BitVec 32 := 2#32
  let v112 : BitVec 32 := Scalar.divsi v111 c2_i32
  let c2_i32_63 : BitVec 32 := 2#32
  let v120 : BitVec 32 := Scalar.muli v112 c2_i32_63
  let v121 : BitVec 32 := Scalar.addi v110 v120
  let v167 : BitVec 32 := Scalar.addi c1_i32_92 v121
  let c1_i32_93 : BitVec 32 := 1#32
  let c0_i32_65 : BitVec 32 := 0#32
  let v122 : BitVec 32 := Scalar.subi v88 v121
  let c1_i32_64 : BitVec 32 := 1#32
  let v123 : BitVec 32 := Scalar.divsi v122 c1_i32_64
  let v124 : BitVec 32 := Scalar.subi v123 c0_i32_65
  let c1_i32_66 : BitVec 32 := 1#32
  let v126 : BitVec 32 := Scalar.divsi v124 c1_i32_66
  let v127 : BitVec 32 := Scalar.muli v126 c1_i32_66
  let v128 : BitVec 32 := Scalar.addi c0_i32_65 v127
  let c1_i32_68 : BitVec 32 := 1#32
  let arg13 : BitVec 32 := Scf.iv v128 c1_i32_68 k0_t8
  let v168 : BitVec 32 := Scalar.muli c1_i32_93 arg13
  let v169 : BitVec 32 := Scalar.addi v167 v168
  let c0_i32_94 : BitVec 32 := 0#32
  let v170 : BitVec 32 := Scalar.addi v169 c0_i32_94
  let c128_i32 : BitVec 32 := 128#32
  let v171 : BitVec 32 := Scalar.muli v170 c128_i32
  let v172 : BitVec 32 := v171
  let v205 : Index := Scalar.indexCast v172
  ![0, 0, v205.toNat]
@[reducible] def k0_t9_loop (i : grid0.Coords) : Scf.Loop 32 :=
  let c0_i32_72 : BitVec 32 := 0#32
  let arg1 : BitVec 32 := BitVec.ofNat 32 (i 1).val
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_74 : BitVec 32 := 1#32
  ⟨c0_i32_72, v139, c1_i32_74⟩
def k0_mult32 (i : grid0.Coords) (k0_t9 : Fin (k0_t9_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32_74 : BitVec 32 := 1#32
  let arg13 : BitVec 32 := Scf.iv c0_i32_72 c1_i32_74 k0_t9
  let v168 : BitVec 32 := Scalar.muli c4_i32_93 arg13
  let v169 : BitVec 32 := Scalar.addi v167 v168
  let c0_i32_94 : BitVec 32 := 0#32
  let v170 : BitVec 32 := Scalar.addi v169 c0_i32_94
  let c128_i32 : BitVec 32 := 128#32
  let v183 : BitVec 32 := Scalar.muli v170 c128_i32
  v183
def k0_mult33 (i : grid0.Coords) (k0_t9 : Fin (k0_t9_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_95 : BitVec 32 := 0#32
  let v171 : BitVec 32 := Scalar.addi v32 c0_i32_95
  let c4_i32_96 : BitVec 32 := 4#32
  let c0_i32_72 : BitVec 32 := 0#32
  let c1_i32_74 : BitVec 32 := 1#32
  let arg13 : BitVec 32 := Scf.iv c0_i32_72 c1_i32_74 k0_t9
  let v172 : BitVec 32 := Scalar.muli c4_i32_96 arg13
  let v173 : BitVec 32 := Scalar.addi v171 v172
  let c1_i32_97 : BitVec 32 := 1#32
  let v174 : BitVec 32 := Scalar.addi v173 c1_i32_97
  let c128_i32_103 : BitVec 32 := 128#32
  let v185 : BitVec 32 := Scalar.muli v174 c128_i32_103
  v185
def k0_mult34 (i : grid0.Coords) (k0_t9 : Fin (k0_t9_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_98 : BitVec 32 := 0#32
  let v175 : BitVec 32 := Scalar.addi v32 c0_i32_98
  let c4_i32_99 : BitVec 32 := 4#32
  let c0_i32_72 : BitVec 32 := 0#32
  let c1_i32_74 : BitVec 32 := 1#32
  let arg13 : BitVec 32 := Scf.iv c0_i32_72 c1_i32_74 k0_t9
  let v176 : BitVec 32 := Scalar.muli c4_i32_99 arg13
  let v177 : BitVec 32 := Scalar.addi v175 v176
  let c2_i32_100 : BitVec 32 := 2#32
  let v178 : BitVec 32 := Scalar.addi v177 c2_i32_100
  let c128_i32_104 : BitVec 32 := 128#32
  let v187 : BitVec 32 := Scalar.muli v178 c128_i32_104
  v187
def k0_mult35 (i : grid0.Coords) (k0_t9 : Fin (k0_t9_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_101 : BitVec 32 := 0#32
  let v179 : BitVec 32 := Scalar.addi v32 c0_i32_101
  let c4_i32_102 : BitVec 32 := 4#32
  let c0_i32_72 : BitVec 32 := 0#32
  let c1_i32_74 : BitVec 32 := 1#32
  let arg13 : BitVec 32 := Scf.iv c0_i32_72 c1_i32_74 k0_t9
  let v180 : BitVec 32 := Scalar.muli c4_i32_102 arg13
  let v181 : BitVec 32 := Scalar.addi v179 v180
  let c3_i32 : BitVec 32 := 3#32
  let v182 : BitVec 32 := Scalar.addi v181 c3_i32
  let c128_i32_105 : BitVec 32 := 128#32
  let v189 : BitVec 32 := Scalar.muli v182 c128_i32_105
  v189
def k0_off33 (i : grid0.Coords) (k0_t9 : Fin (k0_t9_loop i).trips) (c0_i32_94 : BitVec 32) : Fin 3 → Nat :=
  let c0_106 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32_74 : BitVec 32 := 1#32
  let arg13 : BitVec 32 := Scf.iv c0_i32_72 c1_i32_74 k0_t9
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v191 : Index := Scalar.indexCast v184
  let c0_107 : Index := 0#32
  ![0, v191.toNat, 0]
def k0_off34 (i : grid0.Coords) (k0_t9 : Fin (k0_t9_loop i).trips) (c0_i32_94 : BitVec 32) : Fin 3 → Nat :=
  let c0_118 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32_74 : BitVec 32 := 1#32
  let arg13 : BitVec 32 := Scf.iv c0_i32_72 c1_i32_74 k0_t9
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v207 : Index := Scalar.indexCast v184
  let c0_119 : Index := 0#32
  ![0, v207.toNat, 0]
def k0_off35 (i : grid0.Coords) (k0_t9 : Fin (k0_t9_loop i).trips) (c0_i32_94 : BitVec 32) : Fin 3 → Nat :=
  let c0_151 : Index := 0#32
  let c0_152 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32_74 : BitVec 32 := 1#32
  let arg13 : BitVec 32 := Scf.iv c0_i32_72 c1_i32_74 k0_t9
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v317 : Index := Scalar.indexCast v184
  ![0, 0, v317.toNat]
def k0_off36 (i : grid0.Coords) (k0_t9 : Fin (k0_t9_loop i).trips) (c0_i32_94 : BitVec 32) : Fin 3 → Nat :=
  let c0_156 : Index := 0#32
  let c0_157 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32_74 : BitVec 32 := 1#32
  let arg13 : BitVec 32 := Scf.iv c0_i32_72 c1_i32_74 k0_t9
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v326 : Index := Scalar.indexCast v184
  ![0, 0, v326.toNat]
@[reducible] def k0_t10_loop (i : grid0.Coords) : Scf.Loop 32 :=
  let c0_i32_72 : BitVec 32 := 0#32
  let arg1 : BitVec 32 := BitVec.ofNat 32 (i 1).val
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let v136 : BitVec 32 := Scalar.addi c0_i32_72 v135
  let c1_i32_75 : BitVec 32 := 1#32
  ⟨v139, v136, c1_i32_75⟩
def k0_mult36 (i : grid0.Coords) (k0_t10 : Fin (k0_t10_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v168 : BitVec 32 := Scalar.muli c4_i32_93 arg13
  let v169 : BitVec 32 := Scalar.addi v167 v168
  let c0_i32_94 : BitVec 32 := 0#32
  let v170 : BitVec 32 := Scalar.addi v169 c0_i32_94
  let c128_i32 : BitVec 32 := 128#32
  let v183 : BitVec 32 := Scalar.muli v170 c128_i32
  v183
def k0_mult37 (i : grid0.Coords) (k0_t10 : Fin (k0_t10_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_95 : BitVec 32 := 0#32
  let v171 : BitVec 32 := Scalar.addi v32 c0_i32_95
  let c4_i32_96 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v172 : BitVec 32 := Scalar.muli c4_i32_96 arg13
  let v173 : BitVec 32 := Scalar.addi v171 v172
  let c1_i32_97 : BitVec 32 := 1#32
  let v174 : BitVec 32 := Scalar.addi v173 c1_i32_97
  let c128_i32_103 : BitVec 32 := 128#32
  let v185 : BitVec 32 := Scalar.muli v174 c128_i32_103
  v185
def k0_mult38 (i : grid0.Coords) (k0_t10 : Fin (k0_t10_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_98 : BitVec 32 := 0#32
  let v175 : BitVec 32 := Scalar.addi v32 c0_i32_98
  let c4_i32_99 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v176 : BitVec 32 := Scalar.muli c4_i32_99 arg13
  let v177 : BitVec 32 := Scalar.addi v175 v176
  let c2_i32_100 : BitVec 32 := 2#32
  let v178 : BitVec 32 := Scalar.addi v177 c2_i32_100
  let c128_i32_104 : BitVec 32 := 128#32
  let v187 : BitVec 32 := Scalar.muli v178 c128_i32_104
  v187
def k0_mult39 (i : grid0.Coords) (k0_t10 : Fin (k0_t10_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_101 : BitVec 32 := 0#32
  let v179 : BitVec 32 := Scalar.addi v32 c0_i32_101
  let c4_i32_102 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v180 : BitVec 32 := Scalar.muli c4_i32_102 arg13
  let v181 : BitVec 32 := Scalar.addi v179 v180
  let c3_i32 : BitVec 32 := 3#32
  let v182 : BitVec 32 := Scalar.addi v181 c3_i32
  let c128_i32_105 : BitVec 32 := 128#32
  let v189 : BitVec 32 := Scalar.muli v182 c128_i32_105
  v189
def k0_off37 (i : grid0.Coords) (k0_t10 : Fin (k0_t10_loop i).trips) (c0_i32_94 : BitVec 32) : Fin 3 → Nat :=
  let c0_106 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v191 : Index := Scalar.indexCast v184
  let c0_107 : Index := 0#32
  ![0, v191.toNat, 0]
def k0_off38 (i : grid0.Coords) (k0_t10 : Fin (k0_t10_loop i).trips) (c0_i32_94 : BitVec 32) : Fin 3 → Nat :=
  let c0_118 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v207 : Index := Scalar.indexCast v184
  let c0_119 : Index := 0#32
  ![0, v207.toNat, 0]
def k0_off39 (i : grid0.Coords) (k0_t10 : Fin (k0_t10_loop i).trips) (c0_i32_94 : BitVec 32) : Fin 3 → Nat :=
  let c0_151 : Index := 0#32
  let c0_152 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v317 : Index := Scalar.indexCast v184
  ![0, 0, v317.toNat]
def k0_off40 (i : grid0.Coords) (k0_t10 : Fin (k0_t10_loop i).trips) (c0_i32_94 : BitVec 32) : Fin 3 → Nat :=
  let c0_156 : Index := 0#32
  let c0_157 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_92 : BitVec 32 := 0#32
  let v167 : BitVec 32 := Scalar.addi v32 c0_i32_92
  let c4_i32_93 : BitVec 32 := 4#32
  let c0_i32_72 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let v135 : BitVec 32 := Scalar.subi v134 c0_i32_72
  let c1_i32_73 : BitVec 32 := 1#32
  let v137 : BitVec 32 := Scalar.divsi v135 c1_i32_73
  let v138 : BitVec 32 := Scalar.muli v137 c1_i32_73
  let v139 : BitVec 32 := Scalar.addi c0_i32_72 v138
  let c1_i32_75 : BitVec 32 := 1#32
  let arg13 : BitVec 32 := Scf.iv v139 c1_i32_75 k0_t10
  let v168 : BitVec 32 := Scalar.muli c4_i32_93 arg13
  let v169 : BitVec 32 := Scalar.addi v167 v168
  let v170 : BitVec 32 := Scalar.addi v169 c0_i32_94
  let c128_i32 : BitVec 32 := 128#32
  let v183 : BitVec 32 := Scalar.muli v170 c128_i32
  let v184 : BitVec 32 := v183
  let v326 : Index := Scalar.indexCast v184
  ![0, 0, v326.toNat]
@[reducible] def k0_t11_loop (i : grid0.Coords) : Scf.Loop 32 :=
  let c0_i32_79 : BitVec 32 := 0#32
  let arg1 : BitVec 32 := BitVec.ofNat 32 (i 1).val
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let v131 : BitVec 32 := Scalar.subi v29 v32
  let c0_i32_69 : BitVec 32 := 0#32
  let v132 : BitVec 32 := Scalar.maxsi v131 c0_i32_69
  let c0_i32_77 : BitVec 32 := 0#32
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_81 : BitVec 32 := 1#32
  ⟨c0_i32_79, v150, c1_i32_81⟩
def k0_mult40 (i : grid0.Coords) (k0_t11 : Fin (k0_t11_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let c1_i32_81 : BitVec 32 := 1#32
  let arg13 : BitVec 32 := Scf.iv c0_i32_79 c1_i32_81 k0_t11
  let v168 : BitVec 32 := Scalar.muli c2_i32_92 arg13
  let v169 : BitVec 32 := Scalar.addi v167 v168
  let c0_i32_93 : BitVec 32 := 0#32
  let v170 : BitVec 32 := Scalar.addi v169 c0_i32_93
  let c128_i32 : BitVec 32 := 128#32
  let v175 : BitVec 32 := Scalar.muli v170 c128_i32
  v175
def k0_mult41 (i : grid0.Coords) (k0_t11 : Fin (k0_t11_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v171 : BitVec 32 := Scalar.addi v32 v143
  let c2_i32_94 : BitVec 32 := 2#32
  let c0_i32_79 : BitVec 32 := 0#32
  let c1_i32_81 : BitVec 32 := 1#32
  let arg13 : BitVec 32 := Scf.iv c0_i32_79 c1_i32_81 k0_t11
  let v172 : BitVec 32 := Scalar.muli c2_i32_94 arg13
  let v173 : BitVec 32 := Scalar.addi v171 v172
  let c1_i32_95 : BitVec 32 := 1#32
  let v174 : BitVec 32 := Scalar.addi v173 c1_i32_95
  let c128_i32_96 : BitVec 32 := 128#32
  let v177 : BitVec 32 := Scalar.muli v174 c128_i32_96
  v177
def k0_off41 (i : grid0.Coords) (k0_t11 : Fin (k0_t11_loop i).trips) (c0_i32_93 : BitVec 32) : Fin 3 → Nat :=
  let c0_97 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let c1_i32_81 : BitVec 32 := 1#32
  let arg13 : BitVec 32 := Scf.iv c0_i32_79 c1_i32_81 k0_t11
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v179 : Index := Scalar.indexCast v176
  let c0_98 : Index := 0#32
  ![0, v179.toNat, 0]
def k0_off42 (i : grid0.Coords) (k0_t11 : Fin (k0_t11_loop i).trips) (c0_i32_93 : BitVec 32) : Fin 3 → Nat :=
  let c0_103 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let c1_i32_81 : BitVec 32 := 1#32
  let arg13 : BitVec 32 := Scf.iv c0_i32_79 c1_i32_81 k0_t11
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v187 : Index := Scalar.indexCast v176
  let c0_104 : Index := 0#32
  ![0, v187.toNat, 0]
def k0_off43 (i : grid0.Coords) (k0_t11 : Fin (k0_t11_loop i).trips) (c0_i32_93 : BitVec 32) : Fin 3 → Nat :=
  let c0_120 : Index := 0#32
  let c0_121 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let c1_i32_81 : BitVec 32 := 1#32
  let arg13 : BitVec 32 := Scf.iv c0_i32_79 c1_i32_81 k0_t11
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v243 : Index := Scalar.indexCast v176
  ![0, 0, v243.toNat]
def k0_off44 (i : grid0.Coords) (k0_t11 : Fin (k0_t11_loop i).trips) (c0_i32_93 : BitVec 32) : Fin 3 → Nat :=
  let c0_125 : Index := 0#32
  let c0_126 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let c1_i32_81 : BitVec 32 := 1#32
  let arg13 : BitVec 32 := Scf.iv c0_i32_79 c1_i32_81 k0_t11
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v252 : Index := Scalar.indexCast v176
  ![0, 0, v252.toNat]
@[reducible] def k0_t12_loop (i : grid0.Coords) : Scf.Loop 32 :=
  let c0_i32_79 : BitVec 32 := 0#32
  let arg1 : BitVec 32 := BitVec.ofNat 32 (i 1).val
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let v131 : BitVec 32 := Scalar.subi v29 v32
  let c0_i32_69 : BitVec 32 := 0#32
  let v132 : BitVec 32 := Scalar.maxsi v131 c0_i32_69
  let c0_i32_77 : BitVec 32 := 0#32
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let v147 : BitVec 32 := Scalar.addi c0_i32_79 v146
  let c1_i32_82 : BitVec 32 := 1#32
  ⟨v150, v147, c1_i32_82⟩
def k0_mult42 (i : grid0.Coords) (k0_t12 : Fin (k0_t12_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_82 : BitVec 32 := 1#32
  let arg13 : BitVec 32 := Scf.iv v150 c1_i32_82 k0_t12
  let v168 : BitVec 32 := Scalar.muli c2_i32_92 arg13
  let v169 : BitVec 32 := Scalar.addi v167 v168
  let c0_i32_93 : BitVec 32 := 0#32
  let v170 : BitVec 32 := Scalar.addi v169 c0_i32_93
  let c128_i32 : BitVec 32 := 128#32
  let v175 : BitVec 32 := Scalar.muli v170 c128_i32
  v175
def k0_mult43 (i : grid0.Coords) (k0_t12 : Fin (k0_t12_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v171 : BitVec 32 := Scalar.addi v32 v143
  let c2_i32_94 : BitVec 32 := 2#32
  let c0_i32_79 : BitVec 32 := 0#32
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_82 : BitVec 32 := 1#32
  let arg13 : BitVec 32 := Scf.iv v150 c1_i32_82 k0_t12
  let v172 : BitVec 32 := Scalar.muli c2_i32_94 arg13
  let v173 : BitVec 32 := Scalar.addi v171 v172
  let c1_i32_95 : BitVec 32 := 1#32
  let v174 : BitVec 32 := Scalar.addi v173 c1_i32_95
  let c128_i32_96 : BitVec 32 := 128#32
  let v177 : BitVec 32 := Scalar.muli v174 c128_i32_96
  v177
def k0_off45 (i : grid0.Coords) (k0_t12 : Fin (k0_t12_loop i).trips) (c0_i32_93 : BitVec 32) : Fin 3 → Nat :=
  let c0_97 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_82 : BitVec 32 := 1#32
  let arg13 : BitVec 32 := Scf.iv v150 c1_i32_82 k0_t12
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v179 : Index := Scalar.indexCast v176
  let c0_98 : Index := 0#32
  ![0, v179.toNat, 0]
def k0_off46 (i : grid0.Coords) (k0_t12 : Fin (k0_t12_loop i).trips) (c0_i32_93 : BitVec 32) : Fin 3 → Nat :=
  let c0_103 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_82 : BitVec 32 := 1#32
  let arg13 : BitVec 32 := Scf.iv v150 c1_i32_82 k0_t12
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v187 : Index := Scalar.indexCast v176
  let c0_104 : Index := 0#32
  ![0, v187.toNat, 0]
def k0_off47 (i : grid0.Coords) (k0_t12 : Fin (k0_t12_loop i).trips) (c0_i32_93 : BitVec 32) : Fin 3 → Nat :=
  let c0_120 : Index := 0#32
  let c0_121 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_82 : BitVec 32 := 1#32
  let arg13 : BitVec 32 := Scf.iv v150 c1_i32_82 k0_t12
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v243 : Index := Scalar.indexCast v176
  ![0, 0, v243.toNat]
def k0_off48 (i : grid0.Coords) (k0_t12 : Fin (k0_t12_loop i).trips) (c0_i32_93 : BitVec 32) : Fin 3 → Nat :=
  let c0_125 : Index := 0#32
  let c0_126 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v167 : BitVec 32 := Scalar.addi v32 v143
  let c2_i32_92 : BitVec 32 := 2#32
  let c0_i32_79 : BitVec 32 := 0#32
  let v144 : BitVec 32 := Scalar.subi v132 v143
  let c2_i32_78 : BitVec 32 := 2#32
  let v145 : BitVec 32 := Scalar.divsi v144 c2_i32_78
  let v146 : BitVec 32 := Scalar.subi v145 c0_i32_79
  let c1_i32_80 : BitVec 32 := 1#32
  let v148 : BitVec 32 := Scalar.divsi v146 c1_i32_80
  let v149 : BitVec 32 := Scalar.muli v148 c1_i32_80
  let v150 : BitVec 32 := Scalar.addi c0_i32_79 v149
  let c1_i32_82 : BitVec 32 := 1#32
  let arg13 : BitVec 32 := Scf.iv v150 c1_i32_82 k0_t12
  let v168 : BitVec 32 := Scalar.muli c2_i32_92 arg13
  let v169 : BitVec 32 := Scalar.addi v167 v168
  let v170 : BitVec 32 := Scalar.addi v169 c0_i32_93
  let c128_i32 : BitVec 32 := 128#32
  let v175 : BitVec 32 := Scalar.muli v170 c128_i32
  let v176 : BitVec 32 := v175
  let v252 : Index := Scalar.indexCast v176
  ![0, 0, v252.toNat]
@[reducible] def k0_t13_loop (i : grid0.Coords) : Scf.Loop 32 :=
  let c0_i32_85 : BitVec 32 := 0#32
  let arg1 : BitVec 32 := BitVec.ofNat 32 (i 1).val
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let v131 : BitVec 32 := Scalar.subi v29 v32
  let c0_i32_69 : BitVec 32 := 0#32
  let v132 : BitVec 32 := Scalar.maxsi v131 c0_i32_69
  let c0_i32_77 : BitVec 32 := 0#32
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let c1_i32_87 : BitVec 32 := 1#32
  ⟨c0_i32_85, v161, c1_i32_87⟩
def k0_mult44 (i : grid0.Coords) (k0_t13 : Fin (k0_t13_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let c1_i32_87 : BitVec 32 := 1#32
  let arg13 : BitVec 32 := Scf.iv c0_i32_85 c1_i32_87 k0_t13
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  v171
def k0_off49 (i : grid0.Coords) (k0_t13 : Fin (k0_t13_loop i).trips) : Fin 3 → Nat :=
  let c0_94 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let c1_i32_87 : BitVec 32 := 1#32
  let arg13 : BitVec 32 := Scf.iv c0_i32_85 c1_i32_87 k0_t13
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v173 : Index := Scalar.indexCast v172
  let c0_95 : Index := 0#32
  ![0, v173.toNat, 0]
def k0_off50 (i : grid0.Coords) (k0_t13 : Fin (k0_t13_loop i).trips) : Fin 3 → Nat :=
  let c0_97 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let c1_i32_87 : BitVec 32 := 1#32
  let arg13 : BitVec 32 := Scf.iv c0_i32_85 c1_i32_87 k0_t13
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v177 : Index := Scalar.indexCast v172
  let c0_98 : Index := 0#32
  ![0, v177.toNat, 0]
def k0_off51 (i : grid0.Coords) (k0_t13 : Fin (k0_t13_loop i).trips) : Fin 3 → Nat :=
  let c0_106 : Index := 0#32
  let c0_107 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let c1_i32_87 : BitVec 32 := 1#32
  let arg13 : BitVec 32 := Scf.iv c0_i32_85 c1_i32_87 k0_t13
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v206 : Index := Scalar.indexCast v172
  ![0, 0, v206.toNat]
def k0_off52 (i : grid0.Coords) (k0_t13 : Fin (k0_t13_loop i).trips) : Fin 3 → Nat :=
  let c0_111 : Index := 0#32
  let c0_112 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let c1_i32_87 : BitVec 32 := 1#32
  let arg13 : BitVec 32 := Scf.iv c0_i32_85 c1_i32_87 k0_t13
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v215 : Index := Scalar.indexCast v172
  ![0, 0, v215.toNat]
@[reducible] def k0_t14_loop (i : grid0.Coords) : Scf.Loop 32 :=
  let c0_i32_85 : BitVec 32 := 0#32
  let arg1 : BitVec 32 := BitVec.ofNat 32 (i 1).val
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let v131 : BitVec 32 := Scalar.subi v29 v32
  let c0_i32_69 : BitVec 32 := 0#32
  let v132 : BitVec 32 := Scalar.maxsi v131 c0_i32_69
  let c0_i32_77 : BitVec 32 := 0#32
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let v158 : BitVec 32 := Scalar.addi c0_i32_85 v157
  let c1_i32_88 : BitVec 32 := 1#32
  ⟨v161, v158, c1_i32_88⟩
def k0_mult45 (i : grid0.Coords) (k0_t14 : Fin (k0_t14_loop i).trips) : BitVec 32 :=
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let c1_i32_88 : BitVec 32 := 1#32
  let arg13 : BitVec 32 := Scf.iv v161 c1_i32_88 k0_t14
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  v171
def k0_off53 (i : grid0.Coords) (k0_t14 : Fin (k0_t14_loop i).trips) : Fin 3 → Nat :=
  let c0_94 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let c1_i32_88 : BitVec 32 := 1#32
  let arg13 : BitVec 32 := Scf.iv v161 c1_i32_88 k0_t14
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v173 : Index := Scalar.indexCast v172
  let c0_95 : Index := 0#32
  ![0, v173.toNat, 0]
def k0_off54 (i : grid0.Coords) (k0_t14 : Fin (k0_t14_loop i).trips) : Fin 3 → Nat :=
  let c0_97 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let c1_i32_88 : BitVec 32 := 1#32
  let arg13 : BitVec 32 := Scf.iv v161 c1_i32_88 k0_t14
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v177 : Index := Scalar.indexCast v172
  let c0_98 : Index := 0#32
  ![0, v177.toNat, 0]
def k0_off55 (i : grid0.Coords) (k0_t14 : Fin (k0_t14_loop i).trips) : Fin 3 → Nat :=
  let c0_106 : Index := 0#32
  let c0_107 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let c1_i32_88 : BitVec 32 := 1#32
  let arg13 : BitVec 32 := Scf.iv v161 c1_i32_88 k0_t14
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v206 : Index := Scalar.indexCast v172
  ![0, 0, v206.toNat]
def k0_off56 (i : grid0.Coords) (k0_t14 : Fin (k0_t14_loop i).trips) : Fin 3 → Nat :=
  let c0_111 : Index := 0#32
  let c0_112 : Index := 0#32
  let arg1 : BitVec 32 := BitVec.ofNat 32 (i 1).val
  let c640_i32_19 : BitVec 32 := 640#32
  let v30 : BitVec 32 := Scalar.muli arg1 c640_i32_19
  let c7_i32_20 : BitVec 32 := 7#32
  let v31 : BitVec 32 := Scalar.shrsi v30 c7_i32_20
  let c1_i32_21 : BitVec 32 := 1#32
  let v32 : BitVec 32 := Scalar.maxsi v31 c1_i32_21
  let c0_i32_77 : BitVec 32 := 0#32
  let c1_i32 : BitVec 32 := 1#32
  let v26 : BitVec 32 := Scalar.addi arg1 c1_i32
  let c640_i32_18 : BitVec 32 := 640#32
  let v27 : BitVec 32 := Scalar.muli v26 c640_i32_18
  let c127_i32 : BitVec 32 := 127#32
  let v28 : BitVec 32 := Scalar.addi v27 c127_i32
  let c7_i32 : BitVec 32 := 7#32
  let v29 : BitVec 32 := Scalar.shrsi v28 c7_i32
  let v131 : BitVec 32 := Scalar.subi v29 v32
  let c0_i32_69 : BitVec 32 := 0#32
  let v132 : BitVec 32 := Scalar.maxsi v131 c0_i32_69
  let c0_i32_70 : BitVec 32 := 0#32
  let v133 : BitVec 32 := Scalar.subi v132 c0_i32_70
  let c4_i32_71 : BitVec 32 := 4#32
  let v134 : BitVec 32 := Scalar.divsi v133 c4_i32_71
  let c4_i32_76 : BitVec 32 := 4#32
  let v142 : BitVec 32 := Scalar.muli v134 c4_i32_76
  let v143 : BitVec 32 := Scalar.addi c0_i32_77 v142
  let v144 : BitVec 32 := Scalar.subi v132 v143
  let c2_i32_78 : BitVec 32 := 2#32
  let v145 : BitVec 32 := Scalar.divsi v144 c2_i32_78
  let c2_i32_83 : BitVec 32 := 2#32
  let v153 : BitVec 32 := Scalar.muli v145 c2_i32_83
  let v154 : BitVec 32 := Scalar.addi v143 v153
  let v167 : BitVec 32 := Scalar.addi v32 v154
  let c1_i32_92 : BitVec 32 := 1#32
  let c0_i32_85 : BitVec 32 := 0#32
  let v155 : BitVec 32 := Scalar.subi v132 v154
  let c1_i32_84 : BitVec 32 := 1#32
  let v156 : BitVec 32 := Scalar.divsi v155 c1_i32_84
  let v157 : BitVec 32 := Scalar.subi v156 c0_i32_85
  let c1_i32_86 : BitVec 32 := 1#32
  let v159 : BitVec 32 := Scalar.divsi v157 c1_i32_86
  let v160 : BitVec 32 := Scalar.muli v159 c1_i32_86
  let v161 : BitVec 32 := Scalar.addi c0_i32_85 v160
  let c1_i32_88 : BitVec 32 := 1#32
  let arg13 : BitVec 32 := Scf.iv v161 c1_i32_88 k0_t14
  let v168 : BitVec 32 := Scalar.muli c1_i32_92 arg13
  let v169 : BitVec 32 := Scalar.addi v167 v168
  let c0_i32_93 : BitVec 32 := 0#32
  let v170 : BitVec 32 := Scalar.addi v169 c0_i32_93
  let c128_i32 : BitVec 32 := 128#32
  let v171 : BitVec 32 := Scalar.muli v170 c128_i32
  let v172 : BitVec 32 := v171
  let v215 : Index := Scalar.indexCast v172
  ![0, 0, v215.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8320x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x8320 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x8320 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MlaRefIdeal.lean ====
abbrev S8208x4x96 : Shape := ⟨3, ![8208, 4, 96]⟩
abbrev S8208x4x64 : Shape := ⟨3, ![8208, 4, 64]⟩
abbrev S8208 : Shape := ⟨1, ![8208]⟩
abbrev S4x8208x8208 : Shape := ⟨3, ![4, 8208, 8208]⟩
abbrev S_ : Shape := ⟨0, ![]⟩
abbrev S1x8208 : Shape := ⟨2, ![1, 8208]⟩
abbrev S8208x1 : Shape := ⟨2, ![8208, 1]⟩
abbrev S8208x8208 : Shape := ⟨2, ![8208, 8208]⟩
abbrev S4x8208 : Shape := ⟨2, ![4, 8208]⟩
abbrev S4x8208x1 : Shape := ⟨3, ![4, 8208, 1]⟩
abbrev S4x64x8208 : Shape := ⟨3, ![4, 64, 8208]⟩
abbrev S4x8208x96 : Shape := ⟨3, ![4, 8208, 96]⟩
abbrev S8320x4x128 : Shape := ⟨3, ![8320, 4, 128]⟩
abbrev S4x8320x128 : Shape := ⟨3, ![4, 8320, 128]⟩
abbrev S4x128x8320 : Shape := ⟨3, ![4, 128, 8320]⟩
abbrev S8320x4x64 : Shape := ⟨3, ![8320, 4, 64]⟩
abbrev S4x64x8320 : Shape := ⟨3, ![4, 64, 8320]⟩

abbrev nBuf : Space → Nat
  | .hbm => 101
  | .vmem => 0
  | .smem => 0
  | _ => 0

abbrev bufTy : (tb : Table) → Fin (tcTables nBuf tb) → BufTy
  | .hbm, ⟨0, _⟩ => ⟨S8208x4x96, .f32⟩
  | .hbm, ⟨1, _⟩ => ⟨S8208x4x96, .f32⟩
  | .hbm, ⟨2, _⟩ => ⟨S8208x4x64, .f32⟩
  | .hbm, ⟨3, _⟩ => ⟨S8208x4x64, .f32⟩
  | .hbm, ⟨4, _⟩ => ⟨S8208, .i32⟩
  | .hbm, ⟨5, _⟩ => ⟨S4x8208x8208, .f32⟩
  | .hbm, ⟨6, _⟩ => ⟨S_, .f32⟩
  | .hbm, ⟨7, _⟩ => ⟨S4x8208x8208, .f32⟩
  | .hbm, ⟨8, _⟩ => ⟨S4x8208x8208, .f32⟩
  | .hbm, ⟨9, _⟩ => ⟨S1x8208, .i32⟩
  | .hbm, ⟨10, _⟩ => ⟨S8208x1, .i32⟩
  | .hbm, ⟨11, _⟩ => ⟨S8208x8208, .i32⟩
  | .hbm, ⟨12, _⟩ => ⟨S8208x8208, .i32⟩
  | .hbm, ⟨13, _⟩ => ⟨S8208x8208, .i1⟩
  | .hbm, ⟨14, _⟩ => ⟨S_, .f32⟩
  | .hbm, ⟨15, _⟩ => ⟨S_, .f32⟩
  | .hbm, ⟨16, _⟩ => ⟨S4x8208x8208, .i1⟩
  | .hbm, ⟨17, _⟩ => ⟨S4x8208x8208, .f32⟩
  | .hbm, ⟨18, _⟩ => ⟨S4x8208x8208, .f32⟩
  | .hbm, ⟨19, _⟩ => ⟨S_, .f32⟩
  | .hbm, ⟨20, _⟩ => ⟨S4x8208x8208, .f32⟩
  | .hbm, ⟨21, _⟩ => ⟨S_, .f32⟩
  | .hbm, ⟨22, _⟩ => ⟨S4x8208, .f32⟩
  | .hbm, ⟨23, _⟩ => ⟨S4x8208x1, .f32⟩
  | .hbm, ⟨24, _⟩ => ⟨S4x8208x8208, .f32⟩
  | .hbm, ⟨25, _⟩ => ⟨S4x8208x8208, .i1⟩
  | .hbm, ⟨26, _⟩ => ⟨S4x8208x8208, .f32⟩
  | .hbm, ⟨27, _⟩ => ⟨S_, .f32⟩
  | .hbm, ⟨28, _⟩ => ⟨S4x8208, .f32⟩
  | .hbm, ⟨29, _⟩ => ⟨S_, .f32⟩
  | .hbm, ⟨30, _⟩ => ⟨S4x8208, .f32⟩
  | .hbm, ⟨31, _⟩ => ⟨S4x8208, .f32⟩
  | .hbm, ⟨32, _⟩ => ⟨S_, .f32⟩
  | .hbm, ⟨33, _⟩ => ⟨S4x8208, .f32⟩
  | .hbm, ⟨34, _⟩ => ⟨S4x8208, .i1⟩
  | .hbm, ⟨35, _⟩ => ⟨S_, .f32⟩
  | .hbm, ⟨36, _⟩ => ⟨S4x8208, .f32⟩
  | .hbm, ⟨37, _⟩ => ⟨S4x8208, .i1⟩
  | .hbm, ⟨38, _⟩ => ⟨S_, .f32⟩
  | .hbm, ⟨39, _⟩ => ⟨S4x8208, .f32⟩
  | .hbm, ⟨40, _⟩ => ⟨S_, .f32⟩
  | .hbm, ⟨41, _⟩ => ⟨S4x8208, .f32⟩
  | .hbm, ⟨42, _⟩ => ⟨S_, .f32⟩
  | .hbm, ⟨43, _⟩ => ⟨S4x8208, .f32⟩
  | .hbm, ⟨44, _⟩ => ⟨S4x8208, .f32⟩
  | .hbm, ⟨45, _⟩ => ⟨S4x8208, .f32⟩
  | .hbm, ⟨46, _⟩ => ⟨S4x8208x1, .f32⟩
  | .hbm, ⟨47, _⟩ => ⟨S4x8208x8208, .f32⟩
  | .hbm, ⟨48, _⟩ => ⟨S4x8208x8208, .f32⟩
  | .hbm, ⟨49, _⟩ => ⟨S4x8208x8208, .f32⟩
  | .hbm, ⟨50, _⟩ => ⟨S_, .f32⟩
  | .hbm, ⟨51, _⟩ => ⟨S4x8208, .f32⟩
  | .hbm, ⟨52, _⟩ => ⟨S4x8208x1, .f32⟩
  | .hbm, ⟨53, _⟩ => ⟨S4x8208x8208, .f32⟩
  | .hbm, ⟨54, _⟩ => ⟨S4x8208x8208, .f32⟩
  | .hbm, ⟨55, _⟩ => ⟨S4x8208x1, .f32⟩
  | .hbm, ⟨56, _⟩ => ⟨S_, .f32⟩
  | .hbm, ⟨57, _⟩ => ⟨S4x8208x1, .f32⟩
  | .hbm, ⟨58, _⟩ => ⟨S4x8208x1, .f32⟩
  | .hbm, ⟨59, _⟩ => ⟨S4x64x8208, .f32⟩
  | .hbm, ⟨60, _⟩ => ⟨S8208x4x64, .f32⟩
  | .hbm, ⟨61, _⟩ => ⟨S4x64x8208, .f32⟩
  | .hbm, ⟨62, _⟩ => ⟨S4x8208x8208, .f32⟩
  | .hbm, ⟨63, _⟩ => ⟨S4x64x8208, .f32⟩
  | .hbm, ⟨64, _⟩ => ⟨S8208x4x64, .f32⟩
  | .hbm, ⟨65, _⟩ => ⟨S4x8208x8208, .f32⟩
  | .hbm, ⟨66, _⟩ => ⟨S4x8208x8208, .f32⟩
  | .hbm, ⟨67, _⟩ => ⟨S4x8208x8208, .f32⟩
  | .hbm, ⟨68, _⟩ => ⟨S_, .f32⟩
  | .hbm, ⟨69, _⟩ => ⟨S4x8208, .f32⟩
  | .hbm, ⟨70, _⟩ => ⟨S4x8208x1, .f32⟩
  | .hbm, ⟨71, _⟩ => ⟨S4x8208x1, .f32⟩
  | .hbm, ⟨72, _⟩ => ⟨S4x8208x8208, .f32⟩
  | .hbm, ⟨73, _⟩ => ⟨S4x8208x8208, .f32⟩
  | .hbm, ⟨74, _⟩ => ⟨S_, .f32⟩
  | .hbm, ⟨75, _⟩ => ⟨S4x8208, .f32⟩
  | .hbm, ⟨76, _⟩ => ⟨S4x8208x8208, .f32⟩
  | .hbm, ⟨77, _⟩ => ⟨S4x8208x8208, .f32⟩
  | .hbm, ⟨78, _⟩ => ⟨S4x8208x8208, .f32⟩
  | .hbm, ⟨79, _⟩ => ⟨S_, .f32⟩
  | .hbm, ⟨80, _⟩ => ⟨S4x8208x8208, .f32⟩
  | .hbm, ⟨81, _⟩ => ⟨S4x8208x8208, .f32⟩
  | .hbm, ⟨82, _⟩ => ⟨S_, .f32⟩
  | .hbm, ⟨83, _⟩ => ⟨S4x8208x8208, .f32⟩
  | .hbm, ⟨84, _⟩ => ⟨S4x8208x8208, .f32⟩
  | .hbm, ⟨85, _⟩ => ⟨S4x8208x96, .f32⟩
  | .hbm, ⟨86, _⟩ => ⟨S8208x4x96, .f32⟩
  | .hbm, ⟨87, _⟩ => ⟨S4x8208x96, .f32⟩
  | .hbm, ⟨88, _⟩ => ⟨S8208x4x96, .f32⟩
  | .hbm, ⟨89, _⟩ => ⟨S_, .i32⟩
  | .hbm, ⟨90, _⟩ => ⟨S_, .f32⟩
  | .hbm, ⟨91, _⟩ => ⟨S8320x4x128, .f32⟩
  | .hbm, ⟨92, _⟩ => ⟨S4x8320x128, .f32⟩
  | .hbm, ⟨93, _⟩ => ⟨S_, .i32⟩
  | .hbm, ⟨94, _⟩ => ⟨S_, .f32⟩
  | .hbm, ⟨95, _⟩ => ⟨S8320x4x128, .f32⟩
  | .hbm, ⟨96, _⟩ => ⟨S4x128x8320, .f32⟩
  | .hbm, ⟨97, _⟩ => ⟨S_, .i32⟩
  | .hbm, ⟨98, _⟩ => ⟨S_, .f32⟩
  | .hbm, ⟨99, _⟩ => ⟨S8320x4x64, .f32⟩
  | .hbm, ⟨100, _⟩ => ⟨S4x64x8320, .f32⟩
  | _, _ => ⟨S8208x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_call3_v0 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_call4_v0 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== DownDx.lean ====
abbrev S8320x1024 : Shape := ⟨2, ![8320, 1024]⟩
abbrev S2816x1024 : Shape := ⟨2, ![2816, 1024]⟩
abbrev S8320x2816 : Shape := ⟨2, ![8320, 2816]⟩
abbrev S640x1024 : Shape := ⟨2, ![640, 1024]⟩
abbrev S1408x1024 : Shape := ⟨2, ![1408, 1024]⟩
abbrev S640x1408 : Shape := ⟨2, ![640, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S8320x2816, .f32⟩
  | .local _ .vmem, ⟨0, _⟩ => ⟨S640x1024, .f32⟩
  | .local _ .vmem, ⟨1, _⟩ => ⟨S640x1024, .f32⟩
  | .local _ .vmem, ⟨2, _⟩ => ⟨S1408x1024, .bf16⟩
  | .local _ .vmem, ⟨3, _⟩ => ⟨S1408x1024, .bf16⟩
  | .local _ .vmem, ⟨4, _⟩ => ⟨S640x1408, .f32⟩
  | .local _ .vmem, ⟨5, _⟩ => ⟨S640x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x2816, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S8320x2816 : Shape := ⟨2, ![8320, 2816]⟩
abbrev S8320x1024 : Shape := ⟨2, ![8320, 1024]⟩
abbrev S2816x1024 : Shape := ⟨2, ![2816, 1024]⟩
abbrev S640x1408 : Shape := ⟨2, ![640, 1408]⟩
abbrev S640x1024 : Shape := ⟨2, ![640, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .f32⟩
  | .local _ .vmem, ⟨0, _⟩ => ⟨S640x1408, .bf16⟩
  | .local _ .vmem, ⟨1, _⟩ => ⟨S640x1408, .bf16⟩
  | .local _ .vmem, ⟨2, _⟩ => ⟨S640x1024, .f32⟩
  | .local _ .vmem, ⟨3, _⟩ => ⟨S640x1024, .f32⟩
  | .local _ .vmem, ⟨4, _⟩ => ⟨S1408x1024, .f32⟩
  | .local _ .vmem, ⟨5, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let c12_i32 : BitVec 32 := 12#32
  let v8 : BitVec 1 := Scalar.cmpi .slt arg2 c12_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c12_i32_6 : BitVec 32 := 12#32
  let v12 : BitVec 1 := Scalar.cmpi .eq arg2 c12_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S1024x2816, .f32⟩
  | .hbm, ⟨7, _⟩ => ⟨S2816x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S8320x2816 : Shape := ⟨2, ![8320, 2816]⟩
abbrev S1024x2816 : Shape := ⟨2, ![1024, 2816]⟩
abbrev S8320x1024 : Shape := ⟨2, ![8320, 1024]⟩
abbrev S640x1408 : Shape := ⟨2, ![640, 1408]⟩
abbrev S1024x1408 : Shape := ⟨2, ![1024, 1408]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .local _ .vmem, ⟨0, _⟩ => ⟨S640x1408, .bf16⟩
  | .local _ .vmem, ⟨1, _⟩ => ⟨S640x1408, .bf16⟩
  | .local _ .vmem, ⟨2, _⟩ => ⟨S1024x1408, .bf16⟩
  | .local _ .vmem, ⟨3, _⟩ => ⟨S1024x1408, .bf16⟩
  | .local _ .vmem, ⟨4, _⟩ => ⟨S640x1024, .f32⟩
  | .local _ .vmem, ⟨5, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8320x2816 : Shape := ⟨2, ![8320, 2816]⟩
abbrev S1024x2816 : Shape := ⟨2, ![1024, 2816]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S_, .f32⟩
  | .hbm, ⟨3, _⟩ => ⟨S8320x1024, .f32⟩
  | .hbm, ⟨4, _⟩ => ⟨S1024x2816, .f32⟩
  | .hbm, ⟨5, _⟩ => ⟨S8320x2816, .f32⟩
  | .hbm, ⟨6, _⟩ => ⟨S8320x2816, .f32⟩
  | .hbm, ⟨7, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8320x1024 : Shape := ⟨2, ![8320, 1024]⟩
abbrev S8320x2816 : Shape := ⟨2, ![8320, 2816]⟩
abbrev S1024x2816 : Shape := ⟨2, ![1024, 2816]⟩
abbrev S640x512 : Shape := ⟨2, ![640, 512]⟩
abbrev S640x1408 : Shape := ⟨2, ![640, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S1024x2816, .f32⟩
  | .local _ .vmem, ⟨0, _⟩ => ⟨S640x512, .bf16⟩
  | .local _ .vmem, ⟨1, _⟩ => ⟨S640x512, .bf16⟩
  | .local _ .vmem, ⟨2, _⟩ => ⟨S640x1408, .bf16⟩
  | .local _ .vmem, ⟨3, _⟩ => ⟨S640x1408, .bf16⟩
  | .local _ .vmem, ⟨4, _⟩ => ⟨S512x1408, .f32⟩
  | .local _ .vmem, ⟨5, _⟩ => ⟨S512x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c12_i32 : BitVec 32 := 12#32
  let v7 : BitVec 1 := Scalar.cmpi .slt arg2 c12_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c12_i32_6 : BitVec 32 := 12#32
  let v11 : BitVec 1 := Scalar.cmpi .eq arg2 c12_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8320x1024 : Shape := ⟨2, ![8320, 1024]⟩
abbrev S8320x2816 : Shape := ⟨2, ![8320, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S_, .f32⟩
  | .hbm, ⟨3, _⟩ => ⟨S1024x2816, .f32⟩
  | .hbm, ⟨4, _⟩ => ⟨S8320x1024, .f32⟩
  | .hbm, ⟨5, _⟩ => ⟨S8320x2816, .f32⟩
  | .hbm, ⟨6, _⟩ => ⟨S8320x2816, .f32⟩
  | .hbm, ⟨7, _⟩ => ⟨S2816x1024, .f32⟩
  | .hbm, ⟨8, _⟩ => ⟨S1024x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8320x1024 : Shape := ⟨2, ![8320, 1024]⟩
abbrev S1024x1024 : Shape := ⟨2, ![1024, 1024]⟩
abbrev S640x512 : Shape := ⟨2, ![640, 512]⟩
abbrev S640x1024 : Shape := ⟨2, ![640, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .f32⟩
  | .local _ .vmem, ⟨0, _⟩ => ⟨S640x512, .bf16⟩
  | .local _ .vmem, ⟨1, _⟩ => ⟨S640x512, .bf16⟩
  | .local _ .vmem, ⟨2, _⟩ => ⟨S640x1024, .f32⟩
  | .local _ .vmem, ⟨3, _⟩ => ⟨S640x1024, .f32⟩
  | .local _ .vmem, ⟨4, _⟩ => ⟨S512x1024, .f32⟩
  | .local _ .vmem, ⟨5, _⟩ => ⟨S512x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let c12_i32 : BitVec 32 := 12#32
  let v8 : BitVec 1 := Scalar.cmpi .slt arg2 c12_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c12_i32_6 : BitVec 32 := 12#32
  let v12 : BitVec 1 := Scalar.cmpi .eq arg2 c12_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S8320x3072 : Shape := ⟨2, ![8320, 3072]⟩
abbrev S1024x3072 : Shape := ⟨2, ![1024, 3072]⟩
abbrev S8320x1024 : Shape := ⟨2, ![8320, 1024]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x3072, .f32⟩
  | .hbm, ⟨1, _⟩ => ⟨S1024x3072, .bf16⟩
  | .hbm, ⟨2, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 3], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let c2_i32 : BitVec 32 := 2#32
  let v8 : BitVec 1 := Scalar.cmpi .slt arg2 c2_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8320x3072 : Shape := ⟨2, ![8320, 3072]⟩
abbrev S1024x3072 : Shape := ⟨2, ![1024, 3072]⟩
abbrev S_ : Shape := ⟨0, ![]⟩
abbrev S8320x1024 : Shape := ⟨2, ![8320, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S1024x3072, .bf16⟩
  | .hbm, ⟨2, _⟩ => ⟨S_, .f32⟩
  | .hbm, ⟨3, _⟩ => ⟨S8320x1024, .f32⟩
  | .hbm, ⟨4, _⟩ => ⟨S1024x3072, .f32⟩
  | .hbm, ⟨5, _⟩ => ⟨S8320x3072, .f32⟩
  | .hbm, ⟨6, _⟩ => ⟨S8320x1024, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S8320x1024 : Shape := ⟨2, ![8320, 1024]⟩
abbrev S8320x3072 : Shape := ⟨2, ![8320, 3072]⟩
abbrev S1024x3072 : Shape := ⟨2, ![1024, 3072]⟩
abbrev S640x512 : Shape := ⟨2, ![640, 512]⟩
abbrev S640x1024 : Shape := ⟨2, ![640, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .f32⟩
  | .hbm, ⟨2, _⟩ => ⟨S1024x3072, .f32⟩
  | .local _ .vmem, ⟨0, _⟩ => ⟨S640x512, .bf16⟩
  | .local _ .vmem, ⟨1, _⟩ => ⟨S640x512, .bf16⟩
  | .local _ .vmem, ⟨2, _⟩ => ⟨S640x1024, .f32⟩
  | .local _ .vmem, ⟨3, _⟩ => ⟨S640x1024, .f32⟩
  | .local _ .vmem, ⟨4, _⟩ => ⟨S512x1024, .f32⟩
  | .local _ .vmem, ⟨5, _⟩ => ⟨S512x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 13], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let c12_i32 : BitVec 32 := 12#32
  let v8 : BitVec 1 := Scalar.cmpi .slt arg2 c12_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c12_i32_6 : BitVec 32 := 12#32
  let v12 : BitVec 1 := Scalar.cmpi .eq arg2 c12_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8320x1024 : Shape := ⟨2, ![8320, 1024]⟩
abbrev S8320x3072 : Shape := ⟨2, ![8320, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .f32⟩
  | .hbm, ⟨2, _⟩ => ⟨S_, .f32⟩
  | .hbm, ⟨3, _⟩ => ⟨S1024x3072, .f32⟩
  | .hbm, ⟨4, _⟩ => ⟨S8320x1024, .f32⟩
  | .hbm, ⟨5, _⟩ => ⟨S8320x3072, .f32⟩
  | .hbm, ⟨6, _⟩ => ⟨S3072x1024, .f32⟩
  | .hbm, ⟨7, _⟩ => ⟨S1024x3072, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp.lean ====
abbrev S8320x1024 : Shape := ⟨2, ![8320, 1024]⟩
abbrev S1024x5632 : Shape := ⟨2, ![1024, 5632]⟩
abbrev S8320x5632 : Shape := ⟨2, ![8320, 5632]⟩
abbrev S640x1024 : Shape := ⟨2, ![640, 1024]⟩
abbrev S1024x1408 : Shape := ⟨2, ![1024, 1408]⟩
abbrev S640x1408 : Shape := ⟨2, ![640, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .f32⟩
  | .local _ .vmem, ⟨0, _⟩ => ⟨S640x1024, .bf16⟩
  | .local _ .vmem, ⟨1, _⟩ => ⟨S640x1024, .bf16⟩
  | .local _ .vmem, ⟨2, _⟩ => ⟨S1024x1408, .bf16⟩
  | .local _ .vmem, ⟨3, _⟩ => ⟨S1024x1408, .bf16⟩
  | .local _ .vmem, ⟨4, _⟩ => ⟨S640x1408, .f32⟩
  | .local _ .vmem, ⟨5, _⟩ => ⟨S640x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x1024, .f32⟩
  | .hbm, ⟨3, _⟩ => ⟨S1024x5632, .f32⟩
  | .hbm, ⟨4, _⟩ => ⟨S8320x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProj.lean ====
abbrev S8320x1024 : Shape := ⟨2, ![8320, 1024]⟩
abbrev S1024x3072 : Shape := ⟨2, ![1024, 3072]⟩
abbrev S8320x3072 : Shape := ⟨2, ![8320, 3072]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x3072, .bf16⟩
  | .hbm, ⟨2, _⟩ => ⟨S8320x3072, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8320x1024 : Shape := ⟨2, ![8320, 1024]⟩
abbrev S1024x3072 : Shape := ⟨2, ![1024, 3072]⟩
abbrev S8320x3072 : Shape := ⟨2, ![8320, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x3072, .bf16⟩
  | .hbm, ⟨2, _⟩ => ⟨S8320x1024, .f32⟩
  | .hbm, ⟨3, _⟩ => ⟨S1024x3072, .f32⟩
  | .hbm, ⟨4, _⟩ => ⟨S8320x3072, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDxRes.lean ====
abbrev S8320x2816 : Shape := ⟨2, ![8320, 2816]⟩
abbrev S1024x2816 : Shape := ⟨2, ![1024, 2816]⟩
abbrev S8320x1024 : Shape := ⟨2, ![8320, 1024]⟩
abbrev S640x1408 : Shape := ⟨2, ![640, 1408]⟩
abbrev S1024x1408 : Shape := ⟨2, ![1024, 1408]⟩
abbrev S640x1024 : Shape := ⟨2, ![640, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .hbm, ⟨3, _⟩ => ⟨S8320x1024, .f32⟩
  | .local _ .vmem, ⟨0, _⟩ => ⟨S640x1408, .bf16⟩
  | .local _ .vmem, ⟨1, _⟩ => ⟨S640x1408, .bf16⟩
  | .local _ .vmem, ⟨2, _⟩ => ⟨S1024x1408, .bf16⟩
  | .local _ .vmem, ⟨3, _⟩ => ⟨S1024x1408, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxResRefIdeal.lean ====
abbrev S8320x2816 : Shape := ⟨2, ![8320, 2816]⟩
abbrev S1024x2816 : Shape := ⟨2, ![1024, 2816]⟩
abbrev S8320x1024 : Shape := ⟨2, ![8320, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S1024x2816, .f32⟩
  | .hbm, ⟨6, _⟩ => ⟨S8320x2816, .f32⟩
  | .hbm, ⟨7, _⟩ => ⟨S8320x2816, .f32⟩
  | .hbm, ⟨8, _⟩ => ⟨S8320x1024, .f32⟩
  | .hbm, ⟨9, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutProj.lean ====
abbrev S8320x1024 : Shape := ⟨2, ![8320, 1024]⟩
abbrev S1024x1024 : Shape := ⟨2, ![1024, 1024]⟩
abbrev S640x1024 : Shape := ⟨2, ![640, 1024]⟩
abbrev S640x1 : Shape := ⟨2, ![640, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8320x1024 : Shape := ⟨2, ![8320, 1024]⟩
abbrev S1024x1024 : Shape := ⟨2, ![1024, 1024]⟩
abbrev S8320 : Shape := ⟨1, ![8320]⟩
abbrev S_ : Shape := ⟨0, ![]⟩
abbrev S8320x1 : Shape := ⟨2, ![8320, 1]⟩

abbrev nBuf : Space → Nat
  | .hbm => 17
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320, .i32⟩
  | .hbm, ⟨4, _⟩ => ⟨S_, .i32⟩
  | .hbm, ⟨5, _⟩ => ⟨S8320, .i32⟩
  | .hbm, ⟨6, _⟩ => ⟨S8320, .i1⟩
  | .hbm, ⟨7, _⟩ => ⟨S8320x1, .i1⟩
  | .hbm, ⟨8, _⟩ => ⟨S8320x1024, .f32⟩
  | .hbm, ⟨9, _⟩ => ⟨S1024x1024, .f32⟩
  | .hbm, ⟨10, _⟩ => ⟨S8320x1024, .f32⟩
  | .hbm, ⟨11, _⟩ => ⟨S8320x1024, .f32⟩
  | .hbm, ⟨12, _⟩ => ⟨S_, .f32⟩
  | .hbm, ⟨13, _⟩ => ⟨S_, .f32⟩
  | .hbm, ⟨14, _⟩ => ⟨S8320x1024, .i1⟩
  | .hbm, ⟨15, _⟩ => ⟨S8320x1024, .f32⟩
  | .hbm, ⟨16, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== FfnDown.lean ====
abbrev S8320x2816 : Shape := ⟨2, ![8320, 2816]⟩
abbrev S2816x1024 : Shape := ⟨2, ![2816, 1024]⟩
abbrev S8320x1024 : Shape := ⟨2, ![8320, 1024]⟩
abbrev S640x1408 : Shape := ⟨2, ![640, 1408]⟩
abbrev S1408x1024 : Shape := ⟨2, ![1408, 1024]⟩
abbrev S640x1024 : Shape := ⟨2, ![640, 1024]⟩
abbrev S640x1 : Shape := ⟨2, ![640, 1]⟩

abbrev nBuf : Space → Nat
  | .hbm => 4
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x1024, .f32⟩
  | .local _ .vmem, ⟨0, _⟩ => ⟨S640x1408, .bf16⟩
  | .local _ .vmem, ⟨1, _⟩ => ⟨S640x1408, .bf16⟩
  | .local _ .vmem, ⟨2, _⟩ => ⟨S1408x1024, .bf16⟩
  | .local _ .vmem, ⟨3, _⟩ => ⟨S1408x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8320x2816 : Shape := ⟨2, ![8320, 2816]⟩
abbrev S2816x1024 : Shape := ⟨2, ![2816, 1024]⟩
abbrev S8320x1024 : Shape := ⟨2, ![8320, 1024]⟩
abbrev S8320 : Shape := ⟨1, ![8320]⟩
abbrev S_ : Shape := ⟨0, ![]⟩
abbrev S8320x1 : Shape := ⟨2, ![8320, 1]⟩

abbrev nBuf : Space → Nat
  | .hbm => 17
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320, .i32⟩
  | .hbm, ⟨4, _⟩ => ⟨S_, .i32⟩
  | .hbm, ⟨5, _⟩ => ⟨S8320, .i32⟩
  | .hbm, ⟨6, _⟩ => ⟨S8320, .i1⟩
  | .hbm, ⟨7, _⟩ => ⟨S8320x1, .i1⟩
  | .hbm, ⟨8, _⟩ => ⟨S8320x2816, .f32⟩
  | .hbm, ⟨9, _⟩ => ⟨S2816x1024, .f32⟩
  | .hbm, ⟨10, _⟩ => ⟨S8320x1024, .f32⟩
  | .hbm, ⟨11, _⟩ => ⟨S8320x1024, .f32⟩
  | .hbm, ⟨12, _⟩ => ⟨S_, .f32⟩
  | .hbm, ⟨13, _⟩ => ⟨S_, .f32⟩
  | .hbm, ⟨14, _⟩ => ⟨S8320x1024, .i1⟩
  | .hbm, ⟨15, _⟩ => ⟨S8320x1024, .f32⟩
  | .hbm, ⟨16, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== AdamWIn.lean ====
abbrev S4x2048x333 : Shape := ⟨3, ![4, 2048, 333]⟩
abbrev S2048x333 : Shape := ⟨2, ![2048, 333]⟩
abbrev S4x256x333 : Shape := ⟨3, ![4, 256, 333]⟩
abbrev S256x333 : Shape := ⟨2, ![256, 333]⟩
abbrev S1x256x333 : Shape := ⟨3, ![1, 256, 333]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x333, .bf16⟩
  | .hbm, ⟨1, _⟩ => ⟨S2048x333, .f32⟩
  | .hbm, ⟨2, _⟩ => ⟨S2048x333, .f32⟩
  | .hbm, ⟨3, _⟩ => ⟨S2048x333, .f32⟩
  | .hbm, ⟨4, _⟩ => ⟨S2048x333, .f32⟩
  | .hbm, ⟨5, _⟩ => ⟨S2048x333, .f32⟩
  | .hbm, ⟨6, _⟩ => ⟨S2048x333, .f32⟩
  | .hbm, ⟨7, _⟩ => ⟨S2048x333, .f32⟩
  | .local _ .vmem, ⟨0, _⟩ => ⟨S4x256x333, .bf16⟩
  | .local _ .vmem, ⟨1, _⟩ => ⟨S4x256x333, .bf16⟩
  | .local _ .vmem, ⟨2, _⟩ => ⟨S256x333, .f32⟩
  | .local _ .vmem, ⟨3, _⟩ => ⟨S256x333, .f32⟩
  | .local _ .vmem, ⟨4, _⟩ => ⟨S256x333, .f32⟩
  | .local _ .vmem, ⟨5, _⟩ => ⟨S256x333, .f32⟩
  | .local _ .vmem, ⟨6, _⟩ => ⟨S256x333, .f32⟩
  | .local _ .vmem, ⟨7, _⟩ => ⟨S256x333, .f32⟩
  | .local _ .vmem, ⟨8, _⟩ => ⟨S256x333, .f32⟩
  | .local _ .vmem, ⟨9, _⟩ => ⟨S256x333, .f32⟩
  | .local _ .vmem, ⟨10, _⟩ => ⟨S256x333, .f32⟩
  | .local _ .vmem, ⟨11, _⟩ => ⟨S256x333, .f32⟩
  | .local _ .vmem, ⟨12, _⟩ => ⟨S256x333, .f32⟩
  | .local _ .vmem, ⟨13, _⟩ => ⟨S256x333, .f32⟩
  | .local _ .vmem, ⟨14, _⟩ => ⟨S256x333, .f32⟩
  | .local _ .vmem, ⟨15, _⟩ => ⟨S256x333, .f32⟩
  | _, _ => ⟨S4x2048x333, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x333 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x333 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x333 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x333 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x333 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x333 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x333 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x333 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S4x2048x333 : Shape := ⟨3, ![4, 2048, 333]⟩
abbrev S2048x333 : Shape := ⟨2, ![2048, 333]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x333, .bf16⟩
  | .hbm, ⟨1, _⟩ => ⟨S2048x333, .f32⟩
  | .hbm, ⟨2, _⟩ => ⟨S2048x333, .f32⟩
  | .hbm, ⟨3, _⟩ => ⟨S2048x333, .f32⟩
  | .hbm, ⟨4, _⟩ => ⟨S4x2048x333, .f32⟩
  | .hbm, ⟨5, _⟩ => ⟨S_, .f32⟩
  | .hbm, ⟨6, _⟩ => ⟨S2048x333, .f32⟩
  | .hbm, ⟨7, _⟩ => ⟨S_, .f32⟩
  | .hbm, ⟨8, _⟩ => ⟨S2048x333, .f32⟩
  | .hbm, ⟨9, _⟩ => ⟨S2048x333, .f32⟩
  | .hbm, ⟨10, _⟩ => ⟨S_, .f32⟩
  | .hbm, ⟨11, _⟩ => ⟨S2048x333, .f32⟩
  | .hbm, ⟨12, _⟩ => ⟨S2048x333, .f32⟩
  | .hbm, ⟨13, _⟩ => ⟨S2048x333, .f32⟩
  | .hbm, ⟨14, _⟩ => ⟨S_, .f32⟩
  | .hbm, ⟨15, _⟩ => ⟨S2048x333, .f32⟩
  | .hbm, ⟨16, _⟩ => ⟨S2048x333, .f32⟩
  | .hbm, ⟨17, _⟩ => ⟨S2048x333, .f32⟩
  | .hbm, ⟨18, _⟩ => ⟨S_, .f32⟩
  | .hbm, ⟨19, _⟩ => ⟨S2048x333, .f32⟩
  | .hbm, ⟨20, _⟩ => ⟨S2048x333, .f32⟩
  | .hbm, ⟨21, _⟩ => ⟨S2048x333, .f32⟩
  | .hbm, ⟨22, _⟩ => ⟨S_, .f32⟩
  | .hbm, ⟨23, _⟩ => ⟨S2048x333, .f32⟩
  | .hbm, ⟨24, _⟩ => ⟨S2048x333, .f32⟩
  | .hbm, ⟨25, _⟩ => ⟨S_, .f32⟩
  | .hbm, ⟨26, _⟩ => ⟨S2048x333, .f32⟩
  | .hbm, ⟨27, _⟩ => ⟨S2048x333, .f32⟩
  | .hbm, ⟨28, _⟩ => ⟨S2048x333, .f32⟩
  | .hbm, ⟨29, _⟩ => ⟨S_, .f32⟩
  | .hbm, ⟨30, _⟩ => ⟨S2048x333, .f32⟩
  | .hbm, ⟨31, _⟩ => ⟨S2048x333, .f32⟩
  | .hbm, ⟨32, _⟩ => ⟨S2048x333, .f32⟩
  | .hbm, ⟨33, _⟩ => ⟨S_, .f32⟩
  | .hbm, ⟨34, _⟩ => ⟨S2048x333, .f32⟩
  | .hbm, ⟨35, _⟩ => ⟨S2048x333, .f32⟩
  | .hbm, ⟨36, _⟩ => ⟨S2048x333, .f32⟩
  | .hbm, ⟨37, _⟩ => ⟨S_, .f32⟩
  | .hbm, ⟨38, _⟩ => ⟨S2048x333, .f32⟩
  | .hbm, ⟨39, _⟩ => ⟨S2048x333, .f32⟩
  | _, _ => ⟨S4x2048x333, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWOut.lean ====
abbrev S4x256x1024 : Shape := ⟨3, ![4, 256, 1024]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutRefIdeal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWUp.lean ====
abbrev S4x2048x704 : Shape := ⟨3, ![4, 2048, 704]⟩
abbrev S2048x704 : Shape := ⟨2, ![2048, 704]⟩
abbrev S4x128x704 : Shape := ⟨3, ![4, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S4x128x704, .bf16⟩
  | .local _ .vmem, ⟨1, _⟩ => ⟨S4x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWUpRefIdeal.lean ====
abbrev S4x2048x704 : Shape := ⟨3, ![4, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S4x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWDown.lean ====
abbrev S4x704x1024 : Shape := ⟨3, ![4, 704, 1024]⟩
abbrev S704x1024 : Shape := ⟨2, ![704, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWDownRefIdeal.lean ====
abbrev S4x704x1024 : Shape := ⟨3, ![4, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x336x128 : Shape := ⟨3, ![8, 336, 128]⟩
abbrev S336x128 : Shape := ⟨2, ![336, 128]⟩
abbrev S1x336x128 : Shape := ⟨3, ![1, 336, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S336x128, .f32⟩
  | .hbm, ⟨5, _⟩ => ⟨S336x128, .f32⟩
  | .hbm, ⟨6, _⟩ => ⟨S336x128, .f32⟩
  | .hbm, ⟨7, _⟩ => ⟨S336x128, .f32⟩
  | .local _ .vmem, ⟨0, _⟩ => ⟨S8x336x128, .f32⟩
  | .local _ .vmem, ⟨1, _⟩ => ⟨S336x128, .f32⟩
  | .local _ .vmem, ⟨2, _⟩ => ⟨S336x128, .f32⟩
  | .local _ .vmem, ⟨3, _⟩ => ⟨S336x128, .f32⟩
  | .local _ .vmem, ⟨4, _⟩ => ⟨S336x128, .f32⟩
  | .local _ .vmem, ⟨5, _⟩ => ⟨S336x128, .f32⟩
  | .local _ .vmem, ⟨6, _⟩ => ⟨S336x128, .f32⟩
  | .local _ .vmem, ⟨7, _⟩ => ⟨S336x128, .f32⟩
  | _, _ => ⟨S8x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S336x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S336x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S336x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S336x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x336x128 : Shape := ⟨3, ![8, 336, 128]⟩
abbrev S336x128 : Shape := ⟨2, ![336, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S_, .f32⟩
  | .hbm, ⟨5, _⟩ => ⟨S336x128, .f32⟩
  | .hbm, ⟨6, _⟩ => ⟨S_, .f32⟩
  | .hbm, ⟨7, _⟩ => ⟨S336x128, .f32⟩
  | .hbm, ⟨8, _⟩ => ⟨S336x128, .f32⟩
  | .hbm, ⟨9, _⟩ => ⟨S_, .f32⟩
  | .hbm, ⟨10, _⟩ => ⟨S336x128, .f32⟩
  | .hbm, ⟨11, _⟩ => ⟨S336x128, .f32⟩
  | .hbm, ⟨12, _⟩ => ⟨S336x128, .f32⟩
  | .hbm, ⟨13, _⟩ => ⟨S_, .f32⟩
  | .hbm, ⟨14, _⟩ => ⟨S336x128, .f32⟩
  | .hbm, ⟨15, _⟩ => ⟨S336x128, .f32⟩
  | .hbm, ⟨16, _⟩ => ⟨S336x128, .f32⟩
  | .hbm, ⟨17, _⟩ => ⟨S_, .f32⟩
  | .hbm, ⟨18, _⟩ => ⟨S336x128, .f32⟩
  | .hbm, ⟨19, _⟩ => ⟨S336x128, .f32⟩
  | .hbm, ⟨20, _⟩ => ⟨S336x128, .f32⟩
  | .hbm, ⟨21, _⟩ => ⟨S_, .f32⟩
  | .hbm, ⟨22, _⟩ => ⟨S336x128, .f32⟩
  | .hbm, ⟨23, _⟩ => ⟨S336x128, .f32⟩
  | .hbm, ⟨24, _⟩ => ⟨S_, .f32⟩
  | .hbm, ⟨25, _⟩ => ⟨S336x128, .f32⟩
  | .hbm, ⟨26, _⟩ => ⟨S336x128, .f32⟩
  | .hbm, ⟨27, _⟩ => ⟨S336x128, .f32⟩
  | .hbm, ⟨28, _⟩ => ⟨S_, .f32⟩
  | .hbm, ⟨29, _⟩ => ⟨S336x128, .f32⟩
  | .hbm, ⟨30, _⟩ => ⟨S336x128, .f32⟩
  | .hbm, ⟨31, _⟩ => ⟨S336x128, .f32⟩
  | .hbm, ⟨32, _⟩ => ⟨S_, .f32⟩
  | .hbm, ⟨33, _⟩ => ⟨S336x128, .f32⟩
  | .hbm, ⟨34, _⟩ => ⟨S336x128, .f32⟩
  | .hbm, ⟨35, _⟩ => ⟨S336x128, .f32⟩
  | .hbm, ⟨36, _⟩ => ⟨S_, .f32⟩
  | .hbm, ⟨37, _⟩ => ⟨S336x128, .f32⟩
  | .hbm, ⟨38, _⟩ => ⟨S336x128, .f32⟩
  | _, _ => ⟨S8x336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamReplicated.lean ====
abbrev S8x168x128 : Shape := ⟨3, ![8, 168, 128]⟩
abbrev S168x128 : Shape := ⟨2, ![168, 128]⟩
abbrev S1x168x128 : Shape := ⟨3, ![1, 168, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .hbm, ⟨7, _⟩ => ⟨S168x128, .f32⟩
  | .local _ .vmem, ⟨0, _⟩ => ⟨S8x168x128, .f32⟩
  | .local _ .vmem, ⟨1, _⟩ => ⟨S168x128, .f32⟩
  | .local _ .vmem, ⟨2, _⟩ => ⟨S168x128, .f32⟩
  | .local _ .vmem, ⟨3, _⟩ => ⟨S168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | .local _ .vmem, ⟨7, _⟩ => ⟨S168x128, .f32⟩
  | _, _ => ⟨S8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamReplicatedRefIdeal.lean ====
abbrev S8x168x128 : Shape := ⟨3, ![8, 168, 128]⟩
abbrev S168x128 : Shape := ⟨2, ![168, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S_, .f32⟩
  | .hbm, ⟨7, _⟩ => ⟨S168x128, .f32⟩
  | .hbm, ⟨8, _⟩ => ⟨S168x128, .f32⟩
  | .hbm, ⟨9, _⟩ => ⟨S_, .f32⟩
  | .hbm, ⟨10, _⟩ => ⟨S168x128, .f32⟩
  | .hbm, ⟨11, _⟩ => ⟨S168x128, .f32⟩
  | .hbm, ⟨12, _⟩ => ⟨S168x128, .f32⟩
  | .hbm, ⟨13, _⟩ => ⟨S_, .f32⟩
  | .hbm, ⟨14, _⟩ => ⟨S168x128, .f32⟩
  | .hbm, ⟨15, _⟩ => ⟨S168x128, .f32⟩
  | .hbm, ⟨16, _⟩ => ⟨S168x128, .f32⟩
  | .hbm, ⟨17, _⟩ => ⟨S_, .f32⟩
  | .hbm, ⟨18, _⟩ => ⟨S168x128, .f32⟩
  | .hbm, ⟨19, _⟩ => ⟨S168x128, .f32⟩
  | .hbm, ⟨20, _⟩ => ⟨S168x128, .f32⟩
  | .hbm, ⟨21, _⟩ => ⟨S_, .f32⟩
  | .hbm, ⟨22, _⟩ => ⟨S168x128, .f32⟩
  | .hbm, ⟨23, _⟩ => ⟨S168x128, .f32⟩
  | .hbm, ⟨24, _⟩ => ⟨S_, .f32⟩
  | .hbm, ⟨25, _⟩ => ⟨S168x128, .f32⟩
  | .hbm, ⟨26, _⟩ => ⟨S168x128, .f32⟩
  | .hbm, ⟨27, _⟩ => ⟨S168x128, .f32⟩
  | .hbm, ⟨28, _⟩ => ⟨S_, .f32⟩
  | .hbm, ⟨29, _⟩ => ⟨S168x128, .f32⟩
  | .hbm, ⟨30, _⟩ => ⟨S168x128, .f32⟩
  | .hbm, ⟨31, _⟩ => ⟨S168x128, .f32⟩
  | .hbm, ⟨32, _⟩ => ⟨S_, .f32⟩
  | .hbm, ⟨33, _⟩ => ⟨S168x128, .f32⟩
  | .hbm, ⟨34, _⟩ => ⟨S168x128, .f32⟩
  | .hbm, ⟨35, _⟩ => ⟨S168x128, .f32⟩
  | .hbm, ⟨36, _⟩ => ⟨S_, .f32⟩
  | .hbm, ⟨37, _⟩ => ⟨S168x128, .f32⟩
  | .hbm, ⟨38, _⟩ => ⟨S168x128, .f32⟩
  | _, _ => ⟨S8x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Mla.Spec.lean ====
/- What one key block of the attention gradient does, as a function: the state a run carries (the gradient of the query
   tile, and the two accumulated arrays as they read) and the step that one block of 128 keys makes on it. -/
module

public import proofs.«01_k».proof.Proof.Gen.MlaIdeal.Skeleton
public import Idealize.ShloMosaic.Lib.Pipeline.FrameBody

@[expose] public section

set_option maxRecDepth 16384

noncomputable section

namespace Cert.Proof.MlaIdeal

open Cert.MlaIdeal Cert.MlaIdeal.Facts₀ Cert.MlaIdeal.Facts
open Idealize.ShloMosaic Idealize.ShloMosaic.TcCoe

variable {F : FTy → Type} [FloatOps F]

theorem kInb (j : Fin 65) : ∀ a, (![0, 128 * j.val, 0] : Fin 3 → ℕ) a + S1x128x128.size a ≤ S1x8320x128.size a := by
  revert j; decide +kernel
theorem vInb (j : Fin 65) : ∀ a, (![0, 128 * j.val, 0] : Fin 3 → ℕ) a + S1x128x64.size a ≤ S1x8320x64.size a := by
  revert j; decide +kernel
theorem dkInb (j : Fin 65) : ∀ a, (![0, 0, 128 * j.val] : Fin 3 → ℕ) a + S1x128x128.size a ≤ S1x128x8320.size a := by
  revert j; decide +kernel
theorem dvInb (j : Fin 65) : ∀ a, (![0, 0, 128 * j.val] : Fin 3 → ℕ) a + S1x64x128.size a ≤ S1x64x8320.size a := by
  revert j; decide +kernel

/-- The rows of key block `j` in the keys, -/
abbrev kRect (j : Fin 65) : Rect S1x8320x128 := Rect.unit (s := S1x8320x128) ![0, 128 * j.val, 0] S1x128x128.size (kInb j)
/-- in the values, -/
abbrev vRect (j : Fin 65) : Rect S1x8320x64 := Rect.unit (s := S1x8320x64) ![0, 128 * j.val, 0] S1x128x64.size (vInb j)
/-- and its columns in the gradients of the keys -/
abbrev dkRect (j : Fin 65) : Rect S1x128x8320 := Rect.unit (s := S1x128x8320) ![0, 0, 128 * j.val] S1x128x128.size (dkInb j)
/-- and of the values. -/
abbrev dvRect (j : Fin 65) : Rect S1x64x8320 := Rect.unit (s := S1x64x8320) ![0, 0, 128 * j.val] S1x64x128.size (dvInb j)

variable (F) in
/-- What a query tile works from: its queries, the gradient of its outputs, both as rows and as columns, the row sums
    `delta` and the logarithms of the row normalisers; the keys and values of the head, as they read; and the words the
    mask compares (the tile's row positions and the lanes). -/
structure Tile where
  q : FVec F S640x128 .bf16
  dob : FVec F S640x64 .bf16
  qt : FVec F S128x640 .bf16
  dot : FVec F S64x640 .bf16
  delta : FVec F S640x1 .f32
  lse : FVec F S640x1 .f32
  K : S1x8320x128.Idx → Elt F .bf16
  V : S1x8320x64.Idx → Elt F .bf16
  lane : IVec S640x128 32
  row : IVec S640x128 32

variable (F) in
/-- What a run carries from block to block: the tile's query gradient, and what the key and value gradients read. -/
@[ext] structure St where
  dq : FVec F S640x128 .f32
  dk : S1x128x8320.Idx → Elt F .f32
  dv : S1x64x8320.Idx → Elt F .f32

namespace Tile

variable (T : Tile F)

/-- The keys of block `j`. -/
def kb (j : Fin 65) : FVec F S128x128 .bf16 := shapeCast S128x128 (View.ld T.K (kRect j)) shapeCasts_S1x128x128_S128x128
/-- The values of block `j`. -/
def vb (j : Fin 65) : FVec F S128x64 .bf16 := shapeCast S128x64 (View.ld T.V (vRect j)) shapeCasts_S1x128x64_S128x64

/-- The weights of the tile's rows on block `j`, unmasked. -/
def p (j : Fin 65) : FVec F S640x128 .f32 :=
  exp (minimumf (subf (mulf (matmul dot_S640x128_S128x128_S640x128_1_1_0_0_n_n none T.q (T.kb j) (constant S640x128 .f32 0x00000000#32))
    (broadcast S640x128 (Scalar.ofBits .f32 0x3DD105EC#32))) (broadcastTo S640x128 T.lse broadcasts_S640x1_S640x128))
    (broadcast S640x128 (Scalar.ofBits .f32 0x00000000#32)))

/-- The mask of block `j`: a key at or before the row, and not in the front padding. -/
def mask (j : Fin 65) : IVec S640x128 1 :=
  andi (cmpi .sle (addi (broadcast S640x128 (BitVec.ofNat 32 (128 * j.val))) T.lane) T.row)
    (cmpi .sge (addi (broadcast S640x128 (BitVec.ofNat 32 (128 * j.val))) T.lane) (broadcast S640x128 112#32))

/-- The weights of the tile's rows on block `j`, masked. -/
def pm (j : Fin 65) : FVec F S640x128 .f32 :=
  select (T.mask j) (T.p j) (broadcast S640x128 (Scalar.ofBits .f32 0x00000000#32))

/-- The gradient of the scores on block `j`, from its weights. -/
def ds (w : FVec F S640x128 .f32) (j : Fin 65) : FVec F S640x128 .bf16 :=
  truncf .bf16 (mulf (mulf w (subf (matmul dot_S640x64_S128x64_S640x128_1_1_0_0_n_n none T.dob (T.vb j) (constant S640x128 .f32 0x00000000#32))
    (broadcastTo S640x128 T.delta broadcasts_S640x1_S640x128))) (broadcast S640x128 (Scalar.ofBits .f32 0x3DD105EC#32))) bitsLt_bf16_f32

/-- Block `j`'s part of the tile's query gradient, -/
def dqTo (w : FVec F S640x128 .f32) (j : Fin 65) (x : FVec F S640x128 .f32) : FVec F S640x128 .f32 :=
  addf x (matmul dot_S640x128_S128x128_S640x128_1_0_0_1_n_n none (T.ds w j) (T.kb j) (constant S640x128 .f32 0x00000000#32))
/-- the key gradient's columns of block `j` with the tile's part added, -/
def dkTo (w : FVec F S640x128 .f32) (j : Fin 65) (x : Vec F S1x128x128 .f32) : FVec F S1x128x128 .f32 :=
  shapeCast S1x128x128 (addf (shapeCast S128x128 x shapeCasts_S1x128x128_S128x128)
    (matmul dot_S128x640_S640x128_S128x128_1_0_0_1_n_n none T.qt (T.ds w j) (constant S128x128 .f32 0x00000000#32))) shapeCasts_S128x128_S1x128x128
/-- and the value gradient's. -/
def dvTo (w : FVec F S640x128 .f32) (x : Vec F S1x64x128 .f32) : FVec F S1x64x128 .f32 :=
  shapeCast S1x64x128 (addf (shapeCast S64x128 x shapeCasts_S1x64x128_S64x128)
    (matmul dot_S64x640_S640x128_S64x128_1_0_0_1_n_n none T.dot (truncf .bf16 w bitsLt_bf16_f32) (constant S64x128 .f32 0x00000000#32))) shapeCasts_S64x128_S1x64x128

/-- Block `j` with weights `w`. -/
def step (w : FVec F S640x128 .f32) (j : Fin 65) (s : St F) : St F where
  dq := T.dqTo w j s.dq
  dk := (dkRect j).overlay s.dk (T.dkTo w j (View.ld s.dk (dkRect j)))
  dv := (dvRect j).overlay s.dv (T.dvTo w (View.ld s.dv (dvRect j)))

/-- The blocks `lo, …, lo + n - 1` in order, by one of the two steps. -/
def run (f : ℕ → St F → St F) (lo : ℕ) : ℕ → St F → St F
  | 0, s => s
  | n + 1, s => f (lo + n) (run f lo n s)

end Tile

theorem Tile.run_add (f : ℕ → St F → St F) (lo n m : ℕ) (s : St F) :
    Tile.run f lo (n + m) s = Tile.run f (lo + n) m (Tile.run f lo n s) := by
  induction m with
  | zero => rfl
  | succ m ih => rw [← Nat.add_assoc, Tile.run, Tile.run, ih, Nat.add_assoc]

end Cert.Proof.MlaIdeal
-- ==== Proof.Mla.Offsets.lean ====
/- Where the loops' accesses lie: the number of trips of each loop, and the block each access of a trip works on. -/
module

public import proofs.«01_k».proof.Proof.Gen.MlaIdeal.Skeleton
public import Idealize.ShloMosaic.Lib.Exec

@[expose] public section

set_option maxRecDepth 16384

noncomputable section

namespace Cert.Proof.MlaIdeal

open Cert.MlaIdeal
open Idealize.ShloMosaic

/-- The unmasked blocks after block 0: `1, …, free i`. -/
abbrev freeN (i : grid0.Coords) : ℕ := 5 * (i 1).val - 1
/-- The first block the loops mask. -/
abbrev diag0 (i : grid0.Coords) : ℕ := max (5 * (i 1).val) 1

theorem trips1 : ∀ i : grid0.Coords, (k0_t1_loop i).trips = freeN i / 8 := by decide +kernel
theorem trips3 : ∀ i : grid0.Coords, (k0_t3_loop i).trips = freeN i % 8 / 4 := by decide +kernel
theorem trips5 : ∀ i : grid0.Coords, (k0_t5_loop i).trips = freeN i % 4 / 2 := by decide +kernel
theorem trips7 : ∀ i : grid0.Coords, (k0_t7_loop i).trips = freeN i % 2 := by decide +kernel
theorem trips9 : ∀ i : grid0.Coords, (k0_t9_loop i).trips = 1 := by decide +kernel
theorem trips11 : ∀ i : grid0.Coords, (k0_t11_loop i).trips = 0 := by decide +kernel
theorem trips13 : ∀ i : grid0.Coords, (k0_t13_loop i).trips = if (i 1).val = 0 then 0 else 1 := by decide +kernel

/-- The block on which trip `k` of each loop starts: the loops of 8, 4, 2 and 1 unmasked blocks, -/
abbrev lo1 (k : ℕ) : ℕ := 1 + 8 * k
abbrev lo3 (i : grid0.Coords) (k : ℕ) : ℕ := 1 + freeN i / 8 * 8 + 4 * k
abbrev lo5 (i : grid0.Coords) (k : ℕ) : ℕ := 1 + freeN i / 4 * 4 + 2 * k
abbrev lo7 (i : grid0.Coords) (k : ℕ) : ℕ := 1 + freeN i / 2 * 2 + k
/-- and the loops of 4 and 1 masked ones (the loop of 2 makes no trip). -/
abbrev lo9 (i : grid0.Coords) (k : ℕ) : ℕ := diag0 i + 4 * k
abbrev lo13 (i : grid0.Coords) (k : ℕ) : ℕ := diag0 i + 4 + k

theorem off1_eq : ∀ (i : grid0.Coords) (k : Fin (k0_t1_loop i).trips) (b : Fin 8),
    k0_off1 i k (BitVec.ofNat 32 b.val) = ![0, 128 * (lo1 k.val + b.val), 0] := by decide +kernel
theorem off2_eq : ∀ (i : grid0.Coords) (k : Fin (k0_t1_loop i).trips) (b : Fin 8),
    k0_off2 i k (BitVec.ofNat 32 b.val) = ![0, 128 * (lo1 k.val + b.val), 0] := by decide +kernel
theorem off3_eq : ∀ (i : grid0.Coords) (k : Fin (k0_t1_loop i).trips) (b : Fin 8),
    k0_off3 i k (BitVec.ofNat 32 b.val) = ![0, 0, 128 * (lo1 k.val + b.val)] := by decide +kernel
theorem off4_eq : ∀ (i : grid0.Coords) (k : Fin (k0_t1_loop i).trips) (b : Fin 8),
    k0_off4 i k (BitVec.ofNat 32 b.val) = ![0, 0, 128 * (lo1 k.val + b.val)] := by decide +kernel
theorem off9_eq : ∀ (i : grid0.Coords) (k : Fin (k0_t3_loop i).trips) (b : Fin 4),
    k0_off9 i k (BitVec.ofNat 32 b.val) = ![0, 128 * (lo3 i k.val + b.val), 0] := by decide +kernel
theorem off10_eq : ∀ (i : grid0.Coords) (k : Fin (k0_t3_loop i).trips) (b : Fin 4),
    k0_off10 i k (BitVec.ofNat 32 b.val) = ![0, 128 * (lo3 i k.val + b.val), 0] := by decide +kernel
theorem off11_eq : ∀ (i : grid0.Coords) (k : Fin (k0_t3_loop i).trips) (b : Fin 4),
    k0_off11 i k (BitVec.ofNat 32 b.val) = ![0, 0, 128 * (lo3 i k.val + b.val)] := by decide +kernel
theorem off12_eq : ∀ (i : grid0.Coords) (k : Fin (k0_t3_loop i).trips) (b : Fin 4),
    k0_off12 i k (BitVec.ofNat 32 b.val) = ![0, 0, 128 * (lo3 i k.val + b.val)] := by decide +kernel
theorem off17_eq : ∀ (i : grid0.Coords) (k : Fin (k0_t5_loop i).trips) (b : Fin 2),
    k0_off17 i k (BitVec.ofNat 32 b.val) = ![0, 128 * (lo5 i k.val + b.val), 0] := by decide +kernel
theorem off18_eq : ∀ (i : grid0.Coords) (k : Fin (k0_t5_loop i).trips) (b : Fin 2),
    k0_off18 i k (BitVec.ofNat 32 b.val) = ![0, 128 * (lo5 i k.val + b.val), 0] := by decide +kernel
theorem off19_eq : ∀ (i : grid0.Coords) (k : Fin (k0_t5_loop i).trips) (b : Fin 2),
    k0_off19 i k (BitVec.ofNat 32 b.val) = ![0, 0, 128 * (lo5 i k.val + b.val)] := by decide +kernel
theorem off20_eq : ∀ (i : grid0.Coords) (k : Fin (k0_t5_loop i).trips) (b : Fin 2),
    k0_off20 i k (BitVec.ofNat 32 b.val) = ![0, 0, 128 * (lo5 i k.val + b.val)] := by decide +kernel
theorem off25_eq : ∀ (i : grid0.Coords) (k : Fin (k0_t7_loop i).trips), k0_off25 i k = ![0, 128 * (lo7 i k.val + 0), 0] := by decide +kernel
theorem off26_eq : ∀ (i : grid0.Coords) (k : Fin (k0_t7_loop i).trips), k0_off26 i k = ![0, 128 * (lo7 i k.val + 0), 0] := by decide +kernel
theorem off27_eq : ∀ (i : grid0.Coords) (k : Fin (k0_t7_loop i).trips), k0_off27 i k = ![0, 0, 128 * (lo7 i k.val + 0)] := by decide +kernel
theorem off28_eq : ∀ (i : grid0.Coords) (k : Fin (k0_t7_loop i).trips), k0_off28 i k = ![0, 0, 128 * (lo7 i k.val + 0)] := by decide +kernel
theorem off33_eq : ∀ (i : grid0.Coords) (k : Fin (k0_t9_loop i).trips) (b : Fin 4),
    k0_off33 i k (BitVec.ofNat 32 b.val) = ![0, 128 * (lo9 i k.val + b.val), 0] := by decide +kernel
theorem off34_eq : ∀ (i : grid0.Coords) (k : Fin (k0_t9_loop i).trips) (b : Fin 4),
    k0_off34 i k (BitVec.ofNat 32 b.val) = ![0, 128 * (lo9 i k.val + b.val), 0] := by decide +kernel
theorem off35_eq : ∀ (i : grid0.Coords) (k : Fin (k0_t9_loop i).trips) (b : Fin 4),
    k0_off35 i k (BitVec.ofNat 32 b.val) = ![0, 0, 128 * (lo9 i k.val + b.val)] := by decide +kernel
theorem off36_eq : ∀ (i : grid0.Coords) (k : Fin (k0_t9_loop i).trips) (b : Fin 4),
    k0_off36 i k (BitVec.ofNat 32 b.val) = ![0, 0, 128 * (lo9 i k.val + b.val)] := by decide +kernel
theorem off49_eq : ∀ (i : grid0.Coords) (k : Fin (k0_t13_loop i).trips), k0_off49 i k = ![0, 128 * (lo13 i k.val + 0), 0] := by decide +kernel
theorem off50_eq : ∀ (i : grid0.Coords) (k : Fin (k0_t13_loop i).trips), k0_off50 i k = ![0, 128 * (lo13 i k.val + 0), 0] := by decide +kernel
theorem off51_eq : ∀ (i : grid0.Coords) (k : Fin (k0_t13_loop i).trips), k0_off51 i k = ![0, 0, 128 * (lo13 i k.val + 0)] := by decide +kernel
theorem off52_eq : ∀ (i : grid0.Coords) (k : Fin (k0_t13_loop i).trips), k0_off52 i k = ![0, 0, 128 * (lo13 i k.val + 0)] := by decide +kernel

/-- Every block of a trip is a block of the head. -/
theorem lt1 : ∀ (i : grid0.Coords) (k : Fin (k0_t1_loop i).trips) (b : Fin 8), lo1 k.val + b.val < 65 := by decide +kernel
theorem lt3 : ∀ (i : grid0.Coords) (k : Fin (k0_t3_loop i).trips) (b : Fin 4), lo3 i k.val + b.val < 65 := by decide +kernel
theorem lt5 : ∀ (i : grid0.Coords) (k : Fin (k0_t5_loop i).trips) (b : Fin 2), lo5 i k.val + b.val < 65 := by decide +kernel
theorem lt7 : ∀ (i : grid0.Coords) (k : Fin (k0_t7_loop i).trips) (b : Fin 1), lo7 i k.val + b.val < 65 := by decide +kernel
theorem lt9 : ∀ (i : grid0.Coords) (k : Fin (k0_t9_loop i).trips) (b : Fin 4), lo9 i k.val + b.val < 65 := by decide +kernel
theorem lt13 : ∀ (i : grid0.Coords) (k : Fin (k0_t13_loop i).trips) (b : Fin 1), lo13 i k.val + b.val < 65 := by decide +kernel

/-- A block of a group: its number is below the group's size. -/
class InGroup (n : ℕ) (b : ℕ) : Prop where
  lt : b < n
instance : InGroup 8 0 := ⟨by decide⟩
instance : InGroup 8 1 := ⟨by decide⟩
instance : InGroup 8 2 := ⟨by decide⟩
instance : InGroup 8 3 := ⟨by decide⟩
instance : InGroup 8 4 := ⟨by decide⟩
instance : InGroup 8 5 := ⟨by decide⟩
instance : InGroup 8 6 := ⟨by decide⟩
instance : InGroup 8 7 := ⟨by decide⟩
instance : InGroup 4 0 := ⟨by decide⟩
instance : InGroup 4 1 := ⟨by decide⟩
instance : InGroup 4 2 := ⟨by decide⟩
instance : InGroup 4 3 := ⟨by decide⟩
instance : InGroup 2 0 := ⟨by decide⟩
instance : InGroup 2 1 := ⟨by decide⟩
instance (i : grid0.Coords) (k : Fin (k0_t1_loop i).trips) (b : ℕ) [h : InGroup 8 b] : ClosedOff (k0_off3 i k (BitVec.ofNat 32 b)) :=
  ⟨![0, 0, 128 * (lo1 k.val + b)], off3_eq i k ⟨b, h.lt⟩⟩
instance (i : grid0.Coords) (k : Fin (k0_t1_loop i).trips) (b : ℕ) [h : InGroup 8 b] : ClosedOff (k0_off4 i k (BitVec.ofNat 32 b)) :=
  ⟨![0, 0, 128 * (lo1 k.val + b)], off4_eq i k ⟨b, h.lt⟩⟩
instance (i : grid0.Coords) (k : Fin (k0_t3_loop i).trips) (b : ℕ) [h : InGroup 4 b] : ClosedOff (k0_off11 i k (BitVec.ofNat 32 b)) :=
  ⟨![0, 0, 128 * (lo3 i k.val + b)], off11_eq i k ⟨b, h.lt⟩⟩
instance (i : grid0.Coords) (k : Fin (k0_t3_loop i).trips) (b : ℕ) [h : InGroup 4 b] : ClosedOff (k0_off12 i k (BitVec.ofNat 32 b)) :=
  ⟨![0, 0, 128 * (lo3 i k.val + b)], off12_eq i k ⟨b, h.lt⟩⟩
instance (i : grid0.Coords) (k : Fin (k0_t5_loop i).trips) (b : ℕ) [h : InGroup 2 b] : ClosedOff (k0_off19 i k (BitVec.ofNat 32 b)) :=
  ⟨![0, 0, 128 * (lo5 i k.val + b)], off19_eq i k ⟨b, h.lt⟩⟩
instance (i : grid0.Coords) (k : Fin (k0_t5_loop i).trips) (b : ℕ) [h : InGroup 2 b] : ClosedOff (k0_off20 i k (BitVec.ofNat 32 b)) :=
  ⟨![0, 0, 128 * (lo5 i k.val + b)], off20_eq i k ⟨b, h.lt⟩⟩
instance (i : grid0.Coords) (k : Fin (k0_t9_loop i).trips) (b : ℕ) [h : InGroup 4 b] : ClosedOff (k0_off35 i k (BitVec.ofNat 32 b)) :=
  ⟨![0, 0, 128 * (lo9 i k.val + b)], off35_eq i k ⟨b, h.lt⟩⟩
instance (i : grid0.Coords) (k : Fin (k0_t9_loop i).trips) (b : ℕ) [h : InGroup 4 b] : ClosedOff (k0_off36 i k (BitVec.ofNat 32 b)) :=
  ⟨![0, 0, 128 * (lo9 i k.val + b)], off36_eq i k ⟨b, h.lt⟩⟩

/-- The words of the masked blocks' positions are the positions. -/
theorem word9 : ∀ (i : grid0.Coords) (k : Fin (k0_t9_loop i).trips) (b : Fin 4),
    BitVec.ofNat 32 (128 * (lo9 i k.val + b.val)) = Scalar.muli (Scalar.addi (Scalar.addi (Scalar.addi (BitVec.ofNat 32 (diag0 i)) 0#32)
      (Scalar.muli 4#32 (Scf.iv 0#32 1#32 k))) (BitVec.ofNat 32 b.val)) 128#32 := by decide +kernel
theorem word13 : ∀ (i : grid0.Coords) (k : Fin (k0_t13_loop i).trips) (b : Fin 1),
    BitVec.ofNat 32 (128 * (lo13 i k.val + b.val)) = Scalar.muli (Scalar.addi (Scalar.addi (Scalar.addi (BitVec.ofNat 32 (diag0 i)) 4#32)
      (Scalar.muli 1#32 (Scf.iv 0#32 1#32 k))) (BitVec.ofNat 32 b.val)) 128#32 := by decide +kernel

end Cert.Proof.MlaIdeal
-- ==== Proof.Mla.Own.lean ====
/- What a run of the blocks holds: the keys and values it reads, and the two accumulated arrays, reading a state. -/
module

public import proofs.«01_k».proof.Proof.Mla.Spec
public import proofs.«01_k».proof.Proof.Mla.Offsets
public import proofs.«01_k».proof.Proof.Gen.MlaIdeal.Loops
public import Idealize.ShloMosaic.Lib.LoopRemainder

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a buffer reads. -/
def Rd {S : Shape} (v : View sig .tc .vmem S .f32) (f : v.ty.Contents (Elt F)) : S.Idx → Elt F .f32 := v.read (Elt F) f
theorem Rd_eq {S : Shape} (v : View sig .tc .vmem S .f32) (f : v.ty.Contents (Elt F)) : Rd v f = v.read (Elt F) f := rfl
attribute [irreducible] Rd

/-- The keys and values at their contents, the accumulators reading the state `s`, and the carried value the state's. -/
abbrev Own (c : Dev nD) (arg3 : Memref sig .tc .vmem S1x8320x128 .bf16) (arg4 : Memref sig .tc .vmem S1x8320x64 .bf16)
    (arg11 : Memref sig .tc .vmem S1x128x8320 .f32) (arg12 : Memref sig .tc .vmem S1x64x8320 .f32)
    (X : BufTy.Contents (Elt F) arg3.view.ty) (Y : BufTy.Contents (Elt F) arg4.view.ty) (s : St F) (acc : FVec F S640x128 .f32) : sProp 𝕄 :=
  iprop((arg3.view.loc (c : Thread nD τ) ↦[arg3.view.set]{fullShare} X) ∗ (arg4.view.loc (c : Thread nD τ) ↦[arg4.view.set]{fullShare} Y)
    ∗ (∃ f, (arg11.view.loc (c : Thread nD τ) ↦[arg11.view.set]{fullShare} f) ∗ ⌜Rd arg11.view f = s.dk⌝)
    ∗ (∃ g, (arg12.view.loc (c : Thread nD τ) ↦[arg12.view.set]{fullShare} g) ∗ ⌜Rd arg12.view g = s.dv⌝) ∗ ⌜acc = s.dq⌝)

/-- The state a group of blocks starts from: the carried value, and what the accumulators read. -/
abbrev st0 {arg11 : Memref sig .tc .vmem S1x128x8320 .f32} {arg12 : Memref sig .tc .vmem S1x64x8320 .f32}
    (a : FVec F S640x128 .f32) (f : BufTy.Contents (Elt F) arg11.view.ty) (g : BufTy.Contents (Elt F) arg12.view.ty) : St F :=
  ⟨a, Rd arg11.view f, Rd arg12.view g⟩

/-- The tile a run works from, of what the kernel computed before its loops and of the buffers of the keys and values. -/
abbrev tile {arg3 : Memref sig .tc .vmem S1x8320x128 .bf16} {arg4 : Memref sig .tc .vmem S1x8320x64 .bf16}
    (v6 : FVec F S128x640 .bf16) (v8 : FVec F S64x640 .bf16) (v11 : FVec F S640x128 .bf16) (v14 : FVec F S640x64 .bf16)
    (v19 v22 : FVec F S640x1 .f32) (X : BufTy.Contents (Elt F) arg3.view.ty) (Y : BufTy.Contents (Elt F) arg4.view.ty)
    (v4 v25 : IVec S640x128 32) : Tile F :=
  ⟨v11, v14, v6, v8, v19, v22, arg3.view.read (Elt F) X, arg4.view.read (Elt F) Y, v4, v25⟩

end Cert.Proof.MlaIdeal
-- ==== Proof.Mla.Blocks.lean ====
/- The step of one block against what a run's loads and stores read: a group of blocks, its stores listed one over the
   other, is the blocks' steps in order. -/
module

public import proofs.«01_k».proof.Proof.Mla.Own

@[expose] public section

set_option maxRecDepth 16384

noncomputable section

namespace Cert.Proof.MlaIdeal

open Cert.MlaIdeal Cert.MlaIdeal.Gen
open Idealize.ShloMosaic Idealize.ShloMosaic.TcCoe

variable {F : FTy → Type} [FloatOps F]

/-- A load of a whole block of keys reads the block. -/
theorem k_read (v : View sig .tc .vmem S1x8320x128 .bf16) (X : v.ty.Contents (Elt F)) (K : S1x8320x128.Idx → Elt F .bf16)
    (hK : K = v.read (Elt F) X) (off : Fin 3 → ℕ) (inb) (j : Fin 65) (h : off = ![0, 128 * j.val, 0]) :
    View.ld K (kRect j) = v.readAt (Elt F) (Rect.unit (s := S1x8320x128) off S1x128x128.size inb).toLoadRect X := by
  subst h hK; rfl

theorem v_read (v : View sig .tc .vmem S1x8320x64 .bf16) (X : v.ty.Contents (Elt F)) (K : S1x8320x64.Idx → Elt F .bf16)
    (hK : K = v.read (Elt F) X) (off : Fin 3 → ℕ) (inb) (j : Fin 65) (h : off = ![0, 128 * j.val, 0]) :
    View.ld K (vRect j) = v.readAt (Elt F) (Rect.unit (s := S1x8320x64) off S1x128x64.size inb).toLoadRect X := by
  subst h hK; rfl

/-- So the block, as a matrix, is the load's. -/
theorem kb_eq (T : Tile F) (v : View sig .tc .vmem S1x8320x128 .bf16) (X : v.ty.Contents (Elt F)) (hK : T.K = v.read (Elt F) X)
    (off : Fin 3 → ℕ) (inb) (j : Fin 65) (h : off = ![0, 128 * j.val, 0]) :
    T.kb j = shapeCast S128x128 (v.readAt (Elt F) (Rect.unit (s := S1x8320x128) off S1x128x128.size inb).toLoadRect X)
      Facts₀.shapeCasts_S1x128x128_S128x128 := by
  rw [Tile.kb, k_read v X T.K hK off inb j h]

theorem vb_eq (T : Tile F) (v : View sig .tc .vmem S1x8320x64 .bf16) (X : v.ty.Contents (Elt F)) (hK : T.V = v.read (Elt F) X)
    (off : Fin 3 → ℕ) (inb) (j : Fin 65) (h : off = ![0, 128 * j.val, 0]) :
    T.vb j = shapeCast S128x64 (v.readAt (Elt F) (Rect.unit (s := S1x8320x64) off S1x128x64.size inb).toLoadRect X)
      Facts₀.shapeCasts_S1x128x64_S128x64 := by
  rw [Tile.vb, v_read v X T.V hK off inb j h]

/-- What a buffer reads after one more store: the store's payload over what it read before it. -/
theorem read_over {S : Shape} (v : View sig .tc .vmem S .f32) (f : v.ty.Contents (Elt F)) (r : Rect S) (w : r.shape.Idx → Elt F .f32)
    (L : List (View.Piece (Elt F) S .f32)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    exact (View.read_writes_cons_emb (Val := Elt F) v f r w L x).trans (r.overlay_emb _ w x).symm
  · exact (View.read_writes_cons_miss (Val := Elt F) v f ⟨r, w⟩ L y hy).trans (r.overlay_of_not_mem _ w hy).symm

namespace Tile

variable (T : Tile F)

/-- Two blocks' columns are apart: writing one leaves what the other reads, -/
theorem ld_dk_of_ne {j j' : Fin 65} (h : j ≠ j') (d : S1x128x8320.Idx → Elt F .f32) (w : S1x128x128.Idx → Elt F .f32) :
    View.ld ((dkRect j).overlay d w) (dkRect j') = View.ld d (dkRect j') := by
  funext x
  refine (dkRect j).overlay_of_not_mem d w fun hm => h ?_
  obtain ⟨y, hy⟩ := (dkRect j).exists_idx_of_mem hm
  have e := congrArg (fun z : S1x128x8320.Idx => (z 2).val) hy
  have hx : (x 2).val < 128 := (x 2).isLt
  have hy' : (y 2).val < 128 := (y 2).isLt
  have e' : 128 * j.val + 1 * (y 2).val = 128 * j'.val + 1 * (x 2).val := e
  exact Fin.ext (by omega)

theorem ld_dv_of_ne {j j' : Fin 65} (h : j ≠ j') (d : S1x64x8320.Idx → Elt F .f32) (w : S1x64x128.Idx → Elt F .f32) :
    View.ld ((dvRect j).overlay d w) (dvRect j') = View.ld d (dvRect j') := by
  funext x
  refine (dvRect j).overlay_of_not_mem d w fun hm => h ?_
  obtain ⟨y, hy⟩ := (dvRect j).exists_idx_of_mem hm
  have e := congrArg (fun z : S1x64x8320.Idx => (z 2).val) hy
  have hx : (x 2).val < 128 := (x 2).isLt
  have hy' : (y 2).val < 128 := (y 2).isLt
  have e' : 128 * j.val + 1 * (y 2).val = 128 * j'.val + 1 * (x 2).val := e
  exact Fin.ext (by omega)

/-- The weights a block step is made with: the masked ones or not. -/
def wt (m : Bool) (j : Fin 65) : FVec F S640x128 .f32 := if m then T.pm j else T.p j
/-- Block `j`, masked or not. -/
def blk (m : Bool) (j : ℕ) (s : St F) : St F := if h : j < 65 then T.step (T.wt m ⟨j, h⟩) ⟨j, h⟩ s else s

variable {T} {m : Bool} {lo n : ℕ} {s : St F}

theorem run_succ (h : lo + n < 65) :
    run (T.blk m) lo (n + 1) s = T.step (T.wt m ⟨lo + n, h⟩) ⟨lo + n, h⟩ (run (T.blk m) lo n s) := by
  rw [run, blk, dif_pos h]

theorem run_dq (h : lo + n < 65) :
    (run (T.blk m) lo (n + 1) s).dq = T.dqTo (T.wt m ⟨lo + n, h⟩) ⟨lo + n, h⟩ (run (T.blk m) lo n s).dq := by
  rw [run_succ h]; rfl

theorem ld_run_dk {j : Fin 65} (h : ∀ b < n, lo + b ≠ j.val) : View.ld (run (T.blk m) lo n s).dk (dkRect j) = View.ld s.dk (dkRect j) := by
  induction n with
  | zero => rfl
  | succ n ih =>
    by_cases hl : lo + n < 65
    · rw [run_succ hl, step, ld_dk_of_ne (fun e => h n (Nat.lt_succ_self _) (congrArg Fin.val e)), ih fun b hb => h b (Nat.lt_succ_of_lt hb)]
    · rw [run, blk, dif_neg hl]; exact ih fun b hb => h b (Nat.lt_succ_of_lt hb)

theorem ld_run_dv {j : Fin 65} (h : ∀ b < n, lo + b ≠ j.val) : View.ld (run (T.blk m) lo n s).dv (dvRect j) = View.ld s.dv (dvRect j) := by
  induction n with
  | zero => rfl
  | succ n ih =>
    by_cases hl : lo + n < 65
    · rw [run_succ hl, step, ld_dv_of_ne (fun e => h n (Nat.lt_succ_self _) (congrArg Fin.val e)), ih fun b hb => h b (Nat.lt_succ_of_lt hb)]
    · rw [run, blk, dif_neg hl]; exact ih fun b hb => h b (Nat.lt_succ_of_lt hb)

/-- The store of the group's block `n` over the stores of the blocks before it, its payload made from what the buffer
    read before the group: one block more. -/
theorem dk_store (v : View sig .tc .vmem S1x128x8320 .f32) (f : v.ty.Contents (Elt F)) (L : List (View.Piece (Elt F) S1x128x8320 .f32))
    (off : Fin 3 → ℕ) (inb) (h : lo + n < 65) (ho : off = ![0, 0, 128 * (lo + n)]) (hf : v.read (Elt F) f = s.dk)
    (hL : v.read (Elt F) (v.writes (Elt F) f L) = (run (T.blk m) lo n s).dk) (pay : FVec F S1x128x128 .f32)
    (hp : pay = T.dkTo (T.wt m ⟨lo + n, h⟩) ⟨lo + n, h⟩ (v.readAt (Elt F) (Rect.unit (s := S1x128x8320) off S1x128x128.size inb).toLoadRect f)) :
    v.read (Elt F) (v.writes (Elt F) f (⟨Rect.unit (s := S1x128x8320) off S1x128x128.size inb, pay⟩ :: L)) = (run (T.blk m) lo (n + 1) s).dk := by
  subst ho
  have e : View.ld (v.read (Elt F) f) (dkRect ⟨lo + n, h⟩) = View.ld (run (T.blk m) lo n s).dk (dkRect ⟨lo + n, h⟩) := by
    rw [hf]; exact (ld_run_dk fun b hb => by have := Nat.ne_of_lt hb; simpa using this).symm
  have e' : pay = T.dkTo (T.wt m ⟨lo + n, h⟩) ⟨lo + n, h⟩ (View.ld (run (T.blk m) lo n s).dk (dkRect ⟨lo + n, h⟩)) := by
    rw [hp, ← e]; rfl
  rw [read_over, hL, e', run_succ h]; rfl

theorem dv_store (v : View sig .tc .vmem S1x64x8320 .f32) (f : v.ty.Contents (Elt F)) (L : List (View.Piece (Elt F) S1x64x8320 .f32))
    (off : Fin 3 → ℕ) (inb) (h : lo + n < 65) (ho : off = ![0, 0, 128 * (lo + n)]) (hf : v.read (Elt F) f = s.dv)
    (hL : v.read (Elt F) (v.writes (Elt F) f L) = (run (T.blk m) lo n s).dv) (pay : FVec F S1x64x128 .f32)
    (hp : pay = T.dvTo (T.wt m ⟨lo + n, h⟩) (v.readAt (Elt F) (Rect.unit (s := S1x64x8320) off S1x64x128.size inb).toLoadRect f)) :
    v.read (Elt F) (v.writes (Elt F) f (⟨Rect.unit (s := S1x64x8320) off S1x64x128.size inb, pay⟩ :: L)) = (run (T.blk m) lo (n + 1) s).dv := by
  subst ho
  have e : View.ld (v.read (Elt F) f) (dvRect ⟨lo + n, h⟩) = View.ld (run (T.blk m) lo n s).dv (dvRect ⟨lo + n, h⟩) := by
    rw [hf]; exact (ld_run_dv fun b hb => by have := Nat.ne_of_lt hb; simpa using this).symm
  have e' : pay = T.dvTo (T.wt m ⟨lo + n, h⟩) (View.ld (run (T.blk m) lo n s).dv (dvRect ⟨lo + n, h⟩)) := by
    rw [hp, ← e]; rfl
  rw [read_over, hL, e', run_succ h]; rfl

end Tile

end Cert.Proof.MlaIdeal
-- ==== Proof.Mla.Loop1.lean ====
module

public import proofs.«01_k».proof.Proof.Mla.Blocks

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v4 v25 : IVec S640x128 32) (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)
  (f0 : BufTy.Contents (Elt F) arg11.view.ty) (g0 : BufTy.Contents (Elt F) arg12.view.ty) (init : FVec F S640x128 .f32)

/-- The eight-block loop: before trip `k` the blocks of the trips before have made their steps. -/
@[instance_reducible] def loop1 (v32 v34 : BitVec 32) (v59 : FVec F S640x128 .f32) (v65 : FVec F S640x128 .bf16) (v67 : FVec F S640x128 .f32) (v70 cst_37 : FVec F S128x128 .f32) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v6 v8 v11 v14 v19 v22 v32 v34 v59 v65 v67 v70 cst_37 init where
  inv k acc := Own c arg3 arg4 arg11 arg12 X Y
    (Tile.run (Tile.blk (tile (arg3 := arg3) (arg4 := arg4) v6 v8 v11 v14 v19 v22 X Y (fun _ => 0#32) (fun _ => 0#32)) false) 1 (8 * k) (st0 (arg11 := arg11) (arg12 := arg12) init f0 g0)) acc
  step k acc := by
    try subst h32
    try subst h154
    rw [show 8 * (k.val + 1) = 8 * k.val + 8 from rfl, Tile.run_add]
    generalize Tile.run _ _ _ (st0 (arg11 := arg11) (arg12 := arg12) init f0 g0) = s
    unfold k0_t1_body
    iintro ⟨H3, H4, ⟨%f, Hf, %hf⟩, ⟨%g, Hg, %hg⟩, %hacc⟩
    rw [Rd_eq] at hf hg
    sl_exec
    sl_step
    generalize hT : (tile (arg3 := arg3) (arg4 := arg4) v6 v8 v11 v14 v19 v22 X Y (fun _ => 0#32) (fun _ => 0#32)) = T
    have hk : ∀ b (h : b < 8), T.kb ⟨lo1 k.val + b, lt1 i k ⟨b, h⟩⟩ = _ := fun b h =>
      kb_eq T arg3.view X (by rw [← hT]) _ (k0_off1_inb i k ⟨b, h⟩) ⟨lo1 k.val + b, lt1 i k ⟨b, h⟩⟩ (off1_eq i k ⟨b, h⟩)
    have hv : ∀ b (h : b < 8), T.vb ⟨lo1 k.val + b, lt1 i k ⟨b, h⟩⟩ = _ := fun b h =>
      vb_eq T arg4.view Y (by rw [← hT]) _ (k0_off2_inb i k ⟨b, h⟩) ⟨lo1 k.val + b, lt1 i k ⟨b, h⟩⟩ (off2_eq i k ⟨b, h⟩)
    isplitl [H3]; · iexact H3
    isplitl [H4]; · iexact H4
    isplitl [Hf]
    · iexists _
      isplitl [Hf]; · iexact Hf
      ipureintro
      rw [Rd_eq]
      refine Tile.dk_store (n := 7) _ _ _ _ _ (lt1 i k 7) (off3_eq i k ⟨7, by decide⟩) hf (Tile.dk_store (n := 6) _ _ _ _ _ (lt1 i k 6) (off3_eq i k ⟨6, by decide⟩) hf (Tile.dk_store (n := 5) _ _ _ _ _ (lt1 i k 5) (off3_eq i k ⟨5, by decide⟩) hf (Tile.dk_store (n := 4) _ _ _ _ _ (lt1 i k 4) (off3_eq i k ⟨4, by decide⟩) hf (Tile.dk_store (n := 3) _ _ _ _ _ (lt1 i k 3) (off3_eq i k ⟨3, by decide⟩) hf (Tile.dk_store (n := 2) _ _ _ _ _ (lt1 i k 2) (off3_eq i k ⟨2, by decide⟩) hf (Tile.dk_store (n := 1) _ _ _ _ _ (lt1 i k 1) (off3_eq i k ⟨1, by decide⟩) hf (Tile.dk_store (n := 0) _ _ [] _ _ (lt1 i k 0) (off3_eq i k ⟨0, by decide⟩) hf hf _ ?_) _ ?_) _ ?_) _ ?_) _ ?_) _ ?_) _ ?_) _ ?_
      all_goals
        simp only [Tile.dkTo, Tile.dvTo, Tile.dqTo, Tile.ds, Tile.wt, Tile.p, Bool.false_eq_true, if_false]
        simp only [hk 0 (by decide), hv 0 (by decide), hk 1 (by decide), hv 1 (by decide), hk 2 (by decide), hv 2 (by decide), hk 3 (by decide), hv 3 (by decide), hk 4 (by decide), hv 4 (by decide), hk 5 (by decide), hv 5 (by decide), hk 6 (by decide), hv 6 (by decide), hk 7 (by decide), hv 7 (by decide)]
        subst hT; rfl
    isplitl [Hg]
    · iexists _
      isplitl [Hg]; · iexact Hg
      ipureintro
      rw [Rd_eq]
      refine Tile.dv_store (n := 7) _ _ _ _ _ (lt1 i k 7) (off4_eq i k ⟨7, by decide⟩) hg (Tile.dv_store (n := 6) _ _ _ _ _ (lt1 i k 6) (off4_eq i k ⟨6, by decide⟩) hg (Tile.dv_store (n := 5) _ _ _ _ _ (lt1 i k 5) (off4_eq i k ⟨5, by decide⟩) hg (Tile.dv_store (n := 4) _ _ _ _ _ (lt1 i k 4) (off4_eq i k ⟨4, by decide⟩) hg (Tile.dv_store (n := 3) _ _ _ _ _ (lt1 i k 3) (off4_eq i k ⟨3, by decide⟩) hg (Tile.dv_store (n := 2) _ _ _ _ _ (lt1 i k 2) (off4_eq i k ⟨2, by decide⟩) hg (Tile.dv_store (n := 1) _ _ _ _ _ (lt1 i k 1) (off4_eq i k ⟨1, by decide⟩) hg (Tile.dv_store (n := 0) _ _ [] _ _ (lt1 i k 0) (off4_eq i k ⟨0, by decide⟩) hg hg _ ?_) _ ?_) _ ?_) _ ?_) _ ?_) _ ?_) _ ?_) _ ?_
      all_goals
        simp only [Tile.dkTo, Tile.dvTo, Tile.dqTo, Tile.ds, Tile.wt, Tile.p, Bool.false_eq_true, if_false]
        simp only [hk 0 (by decide), hv 0 (by decide), hk 1 (by decide), hv 1 (by decide), hk 2 (by decide), hv 2 (by decide), hk 3 (by decide), hv 3 (by decide), hk 4 (by decide), hv 4 (by decide), hk 5 (by decide), hv 5 (by decide), hk 6 (by decide), hv 6 (by decide), hk 7 (by decide), hv 7 (by decide)]
        subst hT; rfl
    ipureintro
    refine Eq.trans ?_ (Tile.run_dq (n := 7) (lt1 i k 7)).symm
    rw [Tile.run_dq (n := 6) (lt1 i k 6), Tile.run_dq (n := 5) (lt1 i k 5), Tile.run_dq (n := 4) (lt1 i k 4), Tile.run_dq (n := 3) (lt1 i k 3), Tile.run_dq (n := 2) (lt1 i k 2), Tile.run_dq (n := 1) (lt1 i k 1), Tile.run_dq (n := 0) (lt1 i k 0)]
    simp only [Tile.dkTo, Tile.dvTo, Tile.dqTo, Tile.ds, Tile.wt, Tile.p, Bool.false_eq_true, if_false]
    simp only [hk 0 (by decide), hv 0 (by decide), hk 1 (by decide), hv 1 (by decide), hk 2 (by decide), hv 2 (by decide), hk 3 (by decide), hv 3 (by decide), hk 4 (by decide), hv 4 (by decide), hk 5 (by decide), hv 5 (by decide), hk 6 (by decide), hv 6 (by decide), hk 7 (by decide), hv 7 (by decide)]
    rw [hacc]
    subst hT; rfl

/-- The loop, from any state: after it the state its blocks lead to. -/
theorem wp_loop1 (v32 v34 : BitVec 32) (v59 : FVec F S640x128 .f32) (v65 : FVec F S640x128 .bf16) (v67 : FVec F S640x128 .f32) (v70 cst_37 : FVec F S128x128 .f32) (s : St F) {β : Type} {kk : FVec F S640x128 .f32 → Prog (TpuEff nD τ sig (Elt F) Λ₀ .tc) β} {Q : β → sProp 𝕄} :
    Own c arg3 arg4 arg11 arg12 X Y s init
    ⊢ iprop((∀ acc, Own c arg3 arg4 arg11 arg12 X Y (Tile.run (Tile.blk (tile (arg3 := arg3) (arg4 := arg4) v6 v8 v11 v14 v19 v22 X Y (fun _ => 0#32) (fun _ => 0#32)) false) 1 (8 * (freeN i / 8)) s) acc -∗ wp frame (wpE defs₀ 𝒱 c.tc bd) E (kk acc) Q)
      -∗ wp frame (wpE defs₀ 𝒱 c.tc bd) E (Scf.Loop.for (k0_t1_loop i) (k0_t1_ok i) init (Gen.k0_t1_body (F := F) i arg2 harg2 arg3 harg3 arg4 harg4 arg5 harg5 arg6 harg6 arg7 harg7 arg8 harg8 arg9 harg9 arg10 harg10 arg11 harg11 arg12 harg12 v6 v8 v11 v14 v19 v22 v32 v34 v59 v65 v67 v70 cst_37) >>= kk) Q) := by
  iintro ⟨H3, H4, ⟨%f, Hf, %hf⟩, ⟨%g, Hg, %hg⟩, %hacc⟩
  obtain rfl : s = st0 (arg11 := arg11) (arg12 := arg12) init f g := St.ext hacc.symm hf.symm hg.symm
  have h := exec_loop (M := 𝕄) frame (wpE defs₀ 𝒱 c.tc bd) E _ _ _ _ init _ (loop1 𝒱 c bd E i arg2 harg2 arg3 harg3 arg4 harg4 arg5 harg5 arg6 harg6 arg7 harg7 arg8 harg8 arg9 harg9 arg10 harg10 arg11 harg11 arg12 harg12 v6 v8 v11 v14 v19 v22 X Y f g init v32 v34 v59 v65 v67 v70 cst_37) (kk := kk) (Q := Q)
  have hi : (loop1 𝒱 c bd E i arg2 harg2 arg3 harg3 arg4 harg4 arg5 harg5 arg6 harg6 arg7 harg7 arg8 harg8 arg9 harg9 arg10 harg10 arg11 harg11 arg12 harg12 v6 v8 v11 v14 v19 v22 X Y f g init v32 v34 v59 v65 v67 v70 cst_37).inv = fun k acc => Own c arg3 arg4 arg11 arg12 X Y
      (Tile.run (Tile.blk (tile (arg3 := arg3) (arg4 := arg4) v6 v8 v11 v14 v19 v22 X Y (fun _ => 0#32) (fun _ => 0#32)) false) 1 (8 * k) (st0 (arg11 := arg11) (arg12 := arg12) init f g)) acc := rfl
  rw [hi] at h
  rw [show Scf.trips (k0_t1_loop i).lb (k0_t1_loop i).ub (k0_t1_loop i).st = _ from trips1 i] at h
  iapply h
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

end Cert.Proof.MlaIdeal
-- ==== Proof.Mla.Loop3.lean ====
module

public import proofs.«01_k».proof.Proof.Mla.Blocks

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v4 v25 : IVec S640x128 32) (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)
  (f0 : BufTy.Contents (Elt F) arg11.view.ty) (g0 : BufTy.Contents (Elt F) arg12.view.ty) (init : FVec F S640x128 .f32)

/-- The four-block loop: before trip `k` the blocks of the trips before have made their steps. -/
@[instance_reducible] def loop3 (v32 v34 : BitVec 32) (v59 : FVec F S640x128 .f32) (v65 : FVec F S640x128 .bf16) (v67 : FVec F S640x128 .f32) (v70 cst_37 : FVec F S128x128 .f32) (v99 : BitVec 32) :
    Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v6 v8 v11 v14 v19 v22 v32 v34 v59 v65 v67 v70 cst_37 v99 init where
  inv k acc := Own c arg3 arg4 arg11 arg12 X Y
    (Tile.run (Tile.blk (tile (arg3 := arg3) (arg4 := arg4) v6 v8 v11 v14 v19 v22 X Y (fun _ => 0#32) (fun _ => 0#32)) false) (1 + freeN i / 8 * 8) (4 * k) (st0 (arg11 := arg11) (arg12 := arg12) init f0 g0)) acc
  step k acc := by
    try subst h32
    try subst h154
    rw [show 4 * (k.val + 1) = 4 * k.val + 4 from rfl, Tile.run_add]
    generalize Tile.run _ _ _ (st0 (arg11 := arg11) (arg12 := arg12) init f0 g0) = s
    unfold k0_t3_body
    iintro ⟨H3, H4, ⟨%f, Hf, %hf⟩, ⟨%g, Hg, %hg⟩, %hacc⟩
    rw [Rd_eq] at hf hg
    sl_exec
    sl_step
    generalize hT : (tile (arg3 := arg3) (arg4 := arg4) v6 v8 v11 v14 v19 v22 X Y (fun _ => 0#32) (fun _ => 0#32)) = T
    have hk : ∀ b (h : b < 4), T.kb ⟨lo3 i k.val + b, lt3 i k ⟨b, h⟩⟩ = _ := fun b h =>
      kb_eq T arg3.view X (by rw [← hT]) _ (k0_off9_inb i k ⟨b, h⟩) ⟨lo3 i k.val + b, lt3 i k ⟨b, h⟩⟩ (off9_eq i k ⟨b, h⟩)
    have hv : ∀ b (h : b < 4), T.vb ⟨lo3 i k.val + b, lt3 i k ⟨b, h⟩⟩ = _ := fun b h =>
      vb_eq T arg4.view Y (by rw [← hT]) _ (k0_off10_inb i k ⟨b, h⟩) ⟨lo3 i k.val + b, lt3 i k ⟨b, h⟩⟩ (off10_eq i k ⟨b, h⟩)
    isplitl [H3]; · iexact H3
    isplitl [H4]; · iexact H4
    isplitl [Hf]
    · iexists _
      isplitl [Hf]; · iexact Hf
      ipureintro
      rw [Rd_eq]
      refine Tile.dk_store (n := 3) _ _ _ _ _ (lt3 i k 3) (off11_eq i k ⟨3, by decide⟩) hf (Tile.dk_store (n := 2) _ _ _ _ _ (lt3 i k 2) (off11_eq i k ⟨2, by decide⟩) hf (Tile.dk_store (n := 1) _ _ _ _ _ (lt3 i k 1) (off11_eq i k ⟨1, by decide⟩) hf (Tile.dk_store (n := 0) _ _ [] _ _ (lt3 i k 0) (off11_eq i k ⟨0, by decide⟩) hf hf _ ?_) _ ?_) _ ?_) _ ?_
      all_goals
        simp only [Tile.dkTo, Tile.dvTo, Tile.dqTo, Tile.ds, Tile.wt, Tile.p, Bool.false_eq_true, if_false]
        simp only [hk 0 (by decide), hv 0 (by decide), hk 1 (by decide), hv 1 (by decide), hk 2 (by decide), hv 2 (by decide), hk 3 (by decide), hv 3 (by decide)]
        subst hT; rfl
    isplitl [Hg]
    · iexists _
      isplitl [Hg]; · iexact Hg
      ipureintro
      rw [Rd_eq]
      refine Tile.dv_store (n := 3) _ _ _ _ _ (lt3 i k 3) (off12_eq i k ⟨3, by decide⟩) hg (Tile.dv_store (n := 2) _ _ _ _ _ (lt3 i k 2) (off12_eq i k ⟨2, by decide⟩) hg (Tile.dv_store (n := 1) _ _ _ _ _ (lt3 i k 1) (off12_eq i k ⟨1, by decide⟩) hg (Tile.dv_store (n := 0) _ _ [] _ _ (lt3 i k 0) (off12_eq i k ⟨0, by decide⟩) hg hg _ ?_) _ ?_) _ ?_) _ ?_
      all_goals
        simp only [Tile.dkTo, Tile.dvTo, Tile.dqTo, Tile.ds, Tile.wt, Tile.p, Bool.false_eq_true, if_false]
        simp only [hk 0 (by decide), hv 0 (by decide), hk 1 (by decide), hv 1 (by decide), hk 2 (by decide), hv 2 (by decide), hk 3 (by decide), hv 3 (by decide)]
        subst hT; rfl
    ipureintro
    refine Eq.trans ?_ (Tile.run_dq (n := 3) (lt3 i k 3)).symm
    rw [Tile.run_dq (n := 2) (lt3 i k 2), Tile.run_dq (n := 1) (lt3 i k 1), Tile.run_dq (n := 0) (lt3 i k 0)]
    simp only [Tile.dkTo, Tile.dvTo, Tile.dqTo, Tile.ds, Tile.wt, Tile.p, Bool.false_eq_true, if_false]
    simp only [hk 0 (by decide), hv 0 (by decide), hk 1 (by decide), hv 1 (by decide), hk 2 (by decide), hv 2 (by decide), hk 3 (by decide), hv 3 (by decide)]
    rw [hacc]
    subst hT; rfl

/-- The loop, from any state: after it the state its blocks lead to. -/
theorem wp_loop3 (v32 v34 : BitVec 32) (v59 : FVec F S640x128 .f32) (v65 : FVec F S640x128 .bf16) (v67 : FVec F S640x128 .f32) (v70 cst_37 : FVec F S128x128 .f32) (v99 : BitVec 32) (s : St F) {β : Type} {kk : FVec F S640x128 .f32 → Prog (TpuEff nD τ sig (Elt F) Λ₀ .tc) β} {Q : β → sProp 𝕄} :
    Own c arg3 arg4 arg11 arg12 X Y s init
    ⊢ iprop((∀ acc, Own c arg3 arg4 arg11 arg12 X Y (Tile.run (Tile.blk (tile (arg3 := arg3) (arg4 := arg4) v6 v8 v11 v14 v19 v22 X Y (fun _ => 0#32) (fun _ => 0#32)) false) (1 + freeN i / 8 * 8) (4 * (freeN i % 8 / 4)) s) acc -∗ wp frame (wpE defs₀ 𝒱 c.tc bd) E (kk acc) Q)
      -∗ wp frame (wpE defs₀ 𝒱 c.tc bd) E (Scf.Loop.for (k0_t3_loop i) (k0_t3_ok i) init (Gen.k0_t3_body (F := F) i arg2 harg2 arg3 harg3 arg4 harg4 arg5 harg5 arg6 harg6 arg7 harg7 arg8 harg8 arg9 harg9 arg10 harg10 arg11 harg11 arg12 harg12 v6 v8 v11 v14 v19 v22 v32 v34 v59 v65 v67 v70 cst_37 v99) >>= kk) Q) := by
  iintro ⟨H3, H4, ⟨%f, Hf, %hf⟩, ⟨%g, Hg, %hg⟩, %hacc⟩
  obtain rfl : s = st0 (arg11 := arg11) (arg12 := arg12) init f g := St.ext hacc.symm hf.symm hg.symm
  have h := exec_loop (M := 𝕄) frame (wpE defs₀ 𝒱 c.tc bd) E _ _ _ _ init _ (loop3 𝒱 c bd E i arg2 harg2 arg3 harg3 arg4 harg4 arg5 harg5 arg6 harg6 arg7 harg7 arg8 harg8 arg9 harg9 arg10 harg10 arg11 harg11 arg12 harg12 v6 v8 v11 v14 v19 v22 X Y f g init v32 v34 v59 v65 v67 v70 cst_37 v99) (kk := kk) (Q := Q)
  have hi : (loop3 𝒱 c bd E i arg2 harg2 arg3 harg3 arg4 harg4 arg5 harg5 arg6 harg6 arg7 harg7 arg8 harg8 arg9 harg9 arg10 harg10 arg11 harg11 arg12 harg12 v6 v8 v11 v14 v19 v22 X Y f g init v32 v34 v59 v65 v67 v70 cst_37 v99).inv = fun k acc => Own c arg3 arg4 arg11 arg12 X Y
      (Tile.run (Tile.blk (tile (arg3 := arg3) (arg4 := arg4) v6 v8 v11 v14 v19 v22 X Y (fun _ => 0#32) (fun _ => 0#32)) false) (1 + freeN i / 8 * 8) (4 * k) (st0 (arg11 := arg11) (arg12 := arg12) init f g)) acc := rfl
  rw [hi] at h
  rw [show Scf.trips (k0_t3_loop i).lb (k0_t3_loop i).ub (k0_t3_loop i).st = _ from trips3 i] at h
  iapply h
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

end Cert.Proof.MlaIdeal
-- ==== Proof.Mla.Loop5.lean ====
module

public import proofs.«01_k».proof.Proof.Mla.Blocks

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v4 v25 : IVec S640x128 32) (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)
  (f0 : BufTy.Contents (Elt F) arg11.view.ty) (g0 : BufTy.Contents (Elt F) arg12.view.ty) (init : FVec F S640x128 .f32)

/-- The two-block loop: before trip `k` the blocks of the trips before have made their steps. -/
@[instance_reducible] def loop5 (v29 v32 v88 v99 v101 v106 : BitVec 32) (v107 : FVec F S640x128 .f32) (v110 : BitVec 32) :
    Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107 v110 init where
  inv k acc := Own c arg3 arg4 arg11 arg12 X Y
    (Tile.run (Tile.blk (tile (arg3 := arg3) (arg4 := arg4) v6 v8 v11 v14 v19 v22 X Y v4 v25) false) (1 + freeN i / 4 * 4) (2 * k) (st0 (arg11 := arg11) (arg12 := arg12) init f0 g0)) acc
  step k acc := by
    try subst h32
    try subst h154
    rw [show 2 * (k.val + 1) = 2 * k.val + 2 from rfl, Tile.run_add]
    generalize Tile.run _ _ _ (st0 (arg11 := arg11) (arg12 := arg12) init f0 g0) = s
    unfold k0_t5_body
    iintro ⟨H3, H4, ⟨%f, Hf, %hf⟩, ⟨%g, Hg, %hg⟩, %hacc⟩
    rw [Rd_eq] at hf hg
    sl_exec
    sl_step
    generalize hT : (tile (arg3 := arg3) (arg4 := arg4) v6 v8 v11 v14 v19 v22 X Y v4 v25) = T
    have hk : ∀ b (h : b < 2), T.kb ⟨lo5 i k.val + b, lt5 i k ⟨b, h⟩⟩ = _ := fun b h =>
      kb_eq T arg3.view X (by rw [← hT]) _ (k0_off17_inb i k ⟨b, h⟩) ⟨lo5 i k.val + b, lt5 i k ⟨b, h⟩⟩ (off17_eq i k ⟨b, h⟩)
    have hv : ∀ b (h : b < 2), T.vb ⟨lo5 i k.val + b, lt5 i k ⟨b, h⟩⟩ = _ := fun b h =>
      vb_eq T arg4.view Y (by rw [← hT]) _ (k0_off18_inb i k ⟨b, h⟩) ⟨lo5 i k.val + b, lt5 i k ⟨b, h⟩⟩ (off18_eq i k ⟨b, h⟩)
    isplitl [H3]; · iexact H3
    isplitl [H4]; · iexact H4
    isplitl [Hf]
    · iexists _
      isplitl [Hf]; · iexact Hf
      ipureintro
      rw [Rd_eq]
      refine Tile.dk_store (n := 1) _ _ _ _ _ (lt5 i k 1) (off19_eq i k ⟨1, by decide⟩) hf (Tile.dk_store (n := 0) _ _ [] _ _ (lt5 i k 0) (off19_eq i k ⟨0, by decide⟩) hf hf _ ?_) _ ?_
      all_goals
        simp only [Tile.dkTo, Tile.dvTo, Tile.dqTo, Tile.ds, Tile.wt, Tile.p, Bool.false_eq_true, if_false]
        simp only [hk 0 (by decide), hv 0 (by decide), hk 1 (by decide), hv 1 (by decide)]
        subst hT; rfl
    isplitl [Hg]
    · iexists _
      isplitl [Hg]; · iexact Hg
      ipureintro
      rw [Rd_eq]
      refine Tile.dv_store (n := 1) _ _ _ _ _ (lt5 i k 1) (off20_eq i k ⟨1, by decide⟩) hg (Tile.dv_store (n := 0) _ _ [] _ _ (lt5 i k 0) (off20_eq i k ⟨0, by decide⟩) hg hg _ ?_) _ ?_
      all_goals
        simp only [Tile.dkTo, Tile.dvTo, Tile.dqTo, Tile.ds, Tile.wt, Tile.p, Bool.false_eq_true, if_false]
        simp only [hk 0 (by decide), hv 0 (by decide), hk 1 (by decide), hv 1 (by decide)]
        subst hT; rfl
    ipureintro
    refine Eq.trans ?_ (Tile.run_dq (n := 1) (lt5 i k 1)).symm
    rw [Tile.run_dq (n := 0) (lt5 i k 0)]
    simp only [Tile.dkTo, Tile.dvTo, Tile.dqTo, Tile.ds, Tile.wt, Tile.p, Bool.false_eq_true, if_false]
    simp only [hk 0 (by decide), hv 0 (by decide), hk 1 (by decide), hv 1 (by decide)]
    rw [hacc]
    subst hT; rfl

/-- The loop, from any state: after it the state its blocks lead to. -/
theorem wp_loop5 (v29 v32 v88 v99 v101 v106 : BitVec 32) (v107 : FVec F S640x128 .f32) (v110 : BitVec 32) (s : St F) {β : Type} {kk : FVec F S640x128 .f32 → Prog (TpuEff nD τ sig (Elt F) Λ₀ .tc) β} {Q : β → sProp 𝕄} :
    Own c arg3 arg4 arg11 arg12 X Y s init
    ⊢ iprop((∀ acc, Own c arg3 arg4 arg11 arg12 X Y (Tile.run (Tile.blk (tile (arg3 := arg3) (arg4 := arg4) v6 v8 v11 v14 v19 v22 X Y v4 v25) false) (1 + freeN i / 4 * 4) (2 * (freeN i % 4 / 2)) s) acc -∗ wp frame (wpE defs₀ 𝒱 c.tc bd) E (kk acc) Q)
      -∗ wp frame (wpE defs₀ 𝒱 c.tc bd) E (Scf.Loop.for (k0_t5_loop i) (k0_t5_ok i) init (Gen.k0_t5_body (F := F) i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107 v110) >>= kk) Q) := by
  iintro ⟨H3, H4, ⟨%f, Hf, %hf⟩, ⟨%g, Hg, %hg⟩, %hacc⟩
  obtain rfl : s = st0 (arg11 := arg11) (arg12 := arg12) init f g := St.ext hacc.symm hf.symm hg.symm
  have h := exec_loop (M := 𝕄) frame (wpE defs₀ 𝒱 c.tc bd) E _ _ _ _ init _ (loop5 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v29 v32 v88 v99 v101 v106 v107 v110) (kk := kk) (Q := Q)
  have hi : (loop5 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v29 v32 v88 v99 v101 v106 v107 v110).inv = fun k acc => Own c arg3 arg4 arg11 arg12 X Y
      (Tile.run (Tile.blk (tile (arg3 := arg3) (arg4 := arg4) v6 v8 v11 v14 v19 v22 X Y v4 v25) false) (1 + freeN i / 4 * 4) (2 * k) (st0 (arg11 := arg11) (arg12 := arg12) init f g)) acc := rfl
  rw [hi] at h
  rw [show Scf.trips (k0_t5_loop i).lb (k0_t5_loop i).ub (k0_t5_loop i).st = _ from trips5 i] at h
  iapply h
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

end Cert.Proof.MlaIdeal
-- ==== Proof.Mla.Loop7.lean ====
module

public import proofs.«01_k».proof.Proof.Mla.Blocks

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v4 v25 : IVec S640x128 32) (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)
  (f0 : BufTy.Contents (Elt F) arg11.view.ty) (g0 : BufTy.Contents (Elt F) arg12.view.ty) (init : FVec F S640x128 .f32)

/-- The one-block loop: before trip `k` the blocks of the trips before have made their steps. -/
@[instance_reducible] def loop7 (v29 v32 v88 v99 v101 v106 : BitVec 32) (v107 : FVec F S640x128 .f32) (v121 : BitVec 32) :
    Gen.LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107 v121 init where
  inv k acc := Own c arg3 arg4 arg11 arg12 X Y
    (Tile.run (Tile.blk (tile (arg3 := arg3) (arg4 := arg4) v6 v8 v11 v14 v19 v22 X Y v4 v25) false) (1 + freeN i / 2 * 2) k (st0 (arg11 := arg11) (arg12 := arg12) init f0 g0)) acc
  step k acc := by
    try subst h32
    try subst h154
    rw [Tile.run_add]
    generalize Tile.run _ _ _ (st0 (arg11 := arg11) (arg12 := arg12) init f0 g0) = s
    unfold k0_t7_body
    iintro ⟨H3, H4, ⟨%f, Hf, %hf⟩, ⟨%g, Hg, %hg⟩, %hacc⟩
    rw [Rd_eq] at hf hg
    sl_exec
    sl_step
    generalize hT : (tile (arg3 := arg3) (arg4 := arg4) v6 v8 v11 v14 v19 v22 X Y v4 v25) = T
    have hk := kb_eq T arg3.view X (by rw [← hT]) _ (k0_off25_inb i k) ⟨lo7 i k.val + 0, lt7 i k 0⟩ (off25_eq i k)
    have hv := vb_eq T arg4.view Y (by rw [← hT]) _ (k0_off26_inb i k) ⟨lo7 i k.val + 0, lt7 i k 0⟩ (off26_eq i k)
    isplitl [H3]; · iexact H3
    isplitl [H4]; · iexact H4
    isplitl [Hf]
    · iexists _
      isplitl [Hf]; · iexact Hf
      ipureintro
      rw [Rd_eq]
      refine Tile.dk_store (n := 0) _ _ [] _ _ (lt7 i k 0) (off27_eq i k) hf hf _ ?_
      all_goals
        simp only [Tile.dkTo, Tile.dvTo, Tile.dqTo, Tile.ds, Tile.wt, Tile.p, Bool.false_eq_true, if_false]
        simp only [hk, hv]
        subst hT; rfl
    isplitl [Hg]
    · iexists _
      isplitl [Hg]; · iexact Hg
      ipureintro
      rw [Rd_eq]
      refine Tile.dv_store (n := 0) _ _ [] _ _ (lt7 i k 0) (off28_eq i k) hg hg _ ?_
      all_goals
        simp only [Tile.dkTo, Tile.dvTo, Tile.dqTo, Tile.ds, Tile.wt, Tile.p, Bool.false_eq_true, if_false]
        simp only [hk, hv]
        subst hT; rfl
    ipureintro
    refine Eq.trans ?_ (Tile.run_dq (n := 0) (lt7 i k 0)).symm
    simp only [Tile.dkTo, Tile.dvTo, Tile.dqTo, Tile.ds, Tile.wt, Tile.p, Bool.false_eq_true, if_false]
    simp only [hk, hv]
    rw [hacc]
    subst hT; rfl

/-- The loop, from any state: after it the state its blocks lead to. -/
theorem wp_loop7 (v29 v32 v88 v99 v101 v106 : BitVec 32) (v107 : FVec F S640x128 .f32) (v121 : BitVec 32) (s : St F) {β : Type} {kk : FVec F S640x128 .f32 → Prog (TpuEff nD τ sig (Elt F) Λ₀ .tc) β} {Q : β → sProp 𝕄} :
    Own c arg3 arg4 arg11 arg12 X Y s init
    ⊢ iprop((∀ acc, Own c arg3 arg4 arg11 arg12 X Y (Tile.run (Tile.blk (tile (arg3 := arg3) (arg4 := arg4) v6 v8 v11 v14 v19 v22 X Y v4 v25) false) (1 + freeN i / 2 * 2) ((freeN i % 2)) s) acc -∗ wp frame (wpE defs₀ 𝒱 c.tc bd) E (kk acc) Q)
      -∗ wp frame (wpE defs₀ 𝒱 c.tc bd) E (Scf.Loop.for (k0_t7_loop i) (k0_t7_ok i) init (Gen.k0_t7_body (F := F) i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107 v121) >>= kk) Q) := by
  iintro ⟨H3, H4, ⟨%f, Hf, %hf⟩, ⟨%g, Hg, %hg⟩, %hacc⟩
  obtain rfl : s = st0 (arg11 := arg11) (arg12 := arg12) init f g := St.ext hacc.symm hf.symm hg.symm
  have h := exec_loop (M := 𝕄) frame (wpE defs₀ 𝒱 c.tc bd) E _ _ _ _ init _ (loop7 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v29 v32 v88 v99 v101 v106 v107 v121) (kk := kk) (Q := Q)
  have hi : (loop7 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v29 v32 v88 v99 v101 v106 v107 v121).inv = fun k acc => Own c arg3 arg4 arg11 arg12 X Y
      (Tile.run (Tile.blk (tile (arg3 := arg3) (arg4 := arg4) v6 v8 v11 v14 v19 v22 X Y v4 v25) false) (1 + freeN i / 2 * 2) k (st0 (arg11 := arg11) (arg12 := arg12) init f g)) acc := rfl
  rw [hi] at h
  rw [show Scf.trips (k0_t7_loop i).lb (k0_t7_loop i).ub (k0_t7_loop i).st = _ from trips7 i] at h
  iapply h
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

end Cert.Proof.MlaIdeal
-- ==== Proof.Mla.Loop9.lean ====
module

public import proofs.«01_k».proof.Proof.Mla.Blocks

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v4 v25 : IVec S640x128 32) (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)
  (f0 : BufTy.Contents (Elt F) arg11.view.ty) (g0 : BufTy.Contents (Elt F) arg12.view.ty) (init : FVec F S640x128 .f32)

/-- The masked four-block loop: before trip `k` the blocks of the trips before have made their steps. -/
@[instance_reducible] def loop9 (v29 v32 v88 v99 v101 v106 : BitVec 32) (v107 : FVec F S640x128 .f32) (h32 : v32 = BitVec.ofNat 32 (diag0 i)) :
    Gen.LoopInvTy_k0_t9 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107 init where
  inv k acc := Own c arg3 arg4 arg11 arg12 X Y
    (Tile.run (Tile.blk (tile (arg3 := arg3) (arg4 := arg4) v6 v8 v11 v14 v19 v22 X Y v4 v25) true) (diag0 i) (4 * k) (st0 (arg11 := arg11) (arg12 := arg12) init f0 g0)) acc
  step k acc := by
    try subst h32
    try subst h154
    rw [show 4 * (k.val + 1) = 4 * k.val + 4 from rfl, Tile.run_add]
    generalize Tile.run _ _ _ (st0 (arg11 := arg11) (arg12 := arg12) init f0 g0) = s
    unfold k0_t9_body
    iintro ⟨H3, H4, ⟨%f, Hf, %hf⟩, ⟨%g, Hg, %hg⟩, %hacc⟩
    rw [Rd_eq] at hf hg
    sl_exec
    sl_step
    generalize hT : (tile (arg3 := arg3) (arg4 := arg4) v6 v8 v11 v14 v19 v22 X Y v4 v25) = T
    have hk : ∀ b (h : b < 4), T.kb ⟨lo9 i k.val + b, lt9 i k ⟨b, h⟩⟩ = _ := fun b h =>
      kb_eq T arg3.view X (by rw [← hT]) _ (k0_off33_inb i k ⟨b, h⟩) ⟨lo9 i k.val + b, lt9 i k ⟨b, h⟩⟩ (off33_eq i k ⟨b, h⟩)
    have hv : ∀ b (h : b < 4), T.vb ⟨lo9 i k.val + b, lt9 i k ⟨b, h⟩⟩ = _ := fun b h =>
      vb_eq T arg4.view Y (by rw [← hT]) _ (k0_off34_inb i k ⟨b, h⟩) ⟨lo9 i k.val + b, lt9 i k ⟨b, h⟩⟩ (off34_eq i k ⟨b, h⟩)
    have hw : ∀ b (h : b < 4), BitVec.ofNat 32 (128 * (lo9 i k.val + b)) = _ := fun b h => word9 i k ⟨b, h⟩
    isplitl [H3]; · iexact H3
    isplitl [H4]; · iexact H4
    isplitl [Hf]
    · iexists _
      isplitl [Hf]; · iexact Hf
      ipureintro
      rw [Rd_eq]
      refine Tile.dk_store (n := 3) _ _ _ _ _ (lt9 i k 3) (off35_eq i k ⟨3, by decide⟩) hf (Tile.dk_store (n := 2) _ _ _ _ _ (lt9 i k 2) (off35_eq i k ⟨2, by decide⟩) hf (Tile.dk_store (n := 1) _ _ _ _ _ (lt9 i k 1) (off35_eq i k ⟨1, by decide⟩) hf (Tile.dk_store (n := 0) _ _ [] _ _ (lt9 i k 0) (off35_eq i k ⟨0, by decide⟩) hf hf _ ?_) _ ?_) _ ?_) _ ?_
      all_goals
        simp only [Tile.dkTo, Tile.dvTo, Tile.dqTo, Tile.ds, Tile.wt, Tile.p, if_true, Tile.pm, Tile.mask]
        simp only [hk 0 (by decide), hv 0 (by decide), hk 1 (by decide), hv 1 (by decide), hk 2 (by decide), hv 2 (by decide), hk 3 (by decide), hv 3 (by decide), hw 0 (by decide), hw 1 (by decide), hw 2 (by decide), hw 3 (by decide)]
        subst hT; rfl
    isplitl [Hg]
    · iexists _
      isplitl [Hg]; · iexact Hg
      ipureintro
      rw [Rd_eq]
      refine Tile.dv_store (n := 3) _ _ _ _ _ (lt9 i k 3) (off36_eq i k ⟨3, by decide⟩) hg (Tile.dv_store (n := 2) _ _ _ _ _ (lt9 i k 2) (off36_eq i k ⟨2, by decide⟩) hg (Tile.dv_store (n := 1) _ _ _ _ _ (lt9 i k 1) (off36_eq i k ⟨1, by decide⟩) hg (Tile.dv_store (n := 0) _ _ [] _ _ (lt9 i k 0) (off36_eq i k ⟨0, by decide⟩) hg hg _ ?_) _ ?_) _ ?_) _ ?_
      all_goals
        simp only [Tile.dkTo, Tile.dvTo, Tile.dqTo, Tile.ds, Tile.wt, Tile.p, if_true, Tile.pm, Tile.mask]
        simp only [hk 0 (by decide), hv 0 (by decide), hk 1 (by decide), hv 1 (by decide), hk 2 (by decide), hv 2 (by decide), hk 3 (by decide), hv 3 (by decide), hw 0 (by decide), hw 1 (by decide), hw 2 (by decide), hw 3 (by decide)]
        subst hT; rfl
    ipureintro
    refine Eq.trans ?_ (Tile.run_dq (n := 3) (lt9 i k 3)).symm
    rw [Tile.run_dq (n := 2) (lt9 i k 2), Tile.run_dq (n := 1) (lt9 i k 1), Tile.run_dq (n := 0) (lt9 i k 0)]
    simp only [Tile.dkTo, Tile.dvTo, Tile.dqTo, Tile.ds, Tile.wt, Tile.p, if_true, Tile.pm, Tile.mask]
    simp only [hk 0 (by decide), hv 0 (by decide), hk 1 (by decide), hv 1 (by decide), hk 2 (by decide), hv 2 (by decide), hk 3 (by decide), hv 3 (by decide), hw 0 (by decide), hw 1 (by decide), hw 2 (by decide), hw 3 (by decide)]
    rw [hacc]
    subst hT; rfl

/-- The loop, from any state: after it the state its blocks lead to. -/
theorem wp_loop9 (v29 v32 v88 v99 v101 v106 : BitVec 32) (v107 : FVec F S640x128 .f32) (h32 : v32 = BitVec.ofNat 32 (diag0 i)) (s : St F) {β : Type} {kk : FVec F S640x128 .f32 → Prog (TpuEff nD τ sig (Elt F) Λ₀ .tc) β} {Q : β → sProp 𝕄} :
    Own c arg3 arg4 arg11 arg12 X Y s init
    ⊢ iprop((∀ acc, Own c arg3 arg4 arg11 arg12 X Y (Tile.run (Tile.blk (tile (arg3 := arg3) (arg4 := arg4) v6 v8 v11 v14 v19 v22 X Y v4 v25) true) (diag0 i) (4 * (1)) s) acc -∗ wp frame (wpE defs₀ 𝒱 c.tc bd) E (kk acc) Q)
      -∗ wp frame (wpE defs₀ 𝒱 c.tc bd) E (Scf.Loop.for (k0_t9_loop i) (k0_t9_ok i) init (Gen.k0_t9_body (F := F) i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107) >>= kk) Q) := by
  iintro ⟨H3, H4, ⟨%f, Hf, %hf⟩, ⟨%g, Hg, %hg⟩, %hacc⟩
  obtain rfl : s = st0 (arg11 := arg11) (arg12 := arg12) init f g := St.ext hacc.symm hf.symm hg.symm
  have h := exec_loop (M := 𝕄) frame (wpE defs₀ 𝒱 c.tc bd) E _ _ _ _ init _ (loop9 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v29 v32 v88 v99 v101 v106 v107 h32) (kk := kk) (Q := Q)
  have hi : (loop9 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v29 v32 v88 v99 v101 v106 v107 h32).inv = fun k acc => Own c arg3 arg4 arg11 arg12 X Y
      (Tile.run (Tile.blk (tile (arg3 := arg3) (arg4 := arg4) v6 v8 v11 v14 v19 v22 X Y v4 v25) true) (diag0 i) (4 * k) (st0 (arg11 := arg11) (arg12 := arg12) init f g)) acc := rfl
  rw [hi] at h
  rw [show Scf.trips (k0_t9_loop i).lb (k0_t9_loop i).ub (k0_t9_loop i).st = _ from trips9 i] at h
  iapply h
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

end Cert.Proof.MlaIdeal
-- ==== Proof.Mla.Loop13.lean ====
module

public import proofs.«01_k».proof.Proof.Mla.Blocks

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v4 v25 : IVec S640x128 32) (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)
  (f0 : BufTy.Contents (Elt F) arg11.view.ty) (g0 : BufTy.Contents (Elt F) arg12.view.ty) (init : FVec F S640x128 .f32)

/-- The masked one-block loop: before trip `k` the blocks of the trips before have made their steps. -/
@[instance_reducible] def loop13 (v32 v154 : BitVec 32) (h32 : v32 = BitVec.ofNat 32 (diag0 i)) (h154 : v154 = 4#32) :
    Gen.LoopInvTy_k0_t13 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v4 v6 v8 v11 v14 v19 v22 v25 v32 v154 init where
  inv k acc := Own c arg3 arg4 arg11 arg12 X Y
    (Tile.run (Tile.blk (tile (arg3 := arg3) (arg4 := arg4) v6 v8 v11 v14 v19 v22 X Y v4 v25) true) (diag0 i + 4) k (st0 (arg11 := arg11) (arg12 := arg12) init f0 g0)) acc
  step k acc := by
    try subst h32
    try subst h154
    rw [Tile.run_add]
    generalize Tile.run _ _ _ (st0 (arg11 := arg11) (arg12 := arg12) init f0 g0) = s
    unfold k0_t13_body
    iintro ⟨H3, H4, ⟨%f, Hf, %hf⟩, ⟨%g, Hg, %hg⟩, %hacc⟩
    rw [Rd_eq] at hf hg
    sl_exec
    sl_step
    generalize hT : (tile (arg3 := arg3) (arg4 := arg4) v6 v8 v11 v14 v19 v22 X Y v4 v25) = T
    have hk := kb_eq T arg3.view X (by rw [← hT]) _ (k0_off49_inb i k) ⟨lo13 i k.val + 0, lt13 i k 0⟩ (off49_eq i k)
    have hv := vb_eq T arg4.view Y (by rw [← hT]) _ (k0_off50_inb i k) ⟨lo13 i k.val + 0, lt13 i k 0⟩ (off50_eq i k)
    have hw : ∀ b (h : b < 1), BitVec.ofNat 32 (128 * (lo13 i k.val + b)) = _ := fun b h => word13 i k ⟨b, h⟩
    isplitl [H3]; · iexact H3
    isplitl [H4]; · iexact H4
    isplitl [Hf]
    · iexists _
      isplitl [Hf]; · iexact Hf
      ipureintro
      rw [Rd_eq]
      refine Tile.dk_store (n := 0) _ _ [] _ _ (lt13 i k 0) (off51_eq i k) hf hf _ ?_
      all_goals
        simp only [Tile.dkTo, Tile.dvTo, Tile.dqTo, Tile.ds, Tile.wt, Tile.p, if_true, Tile.pm, Tile.mask]
        simp only [hk, hv, hw 0 (by decide)]
        subst hT; rfl
    isplitl [Hg]
    · iexists _
      isplitl [Hg]; · iexact Hg
      ipureintro
      rw [Rd_eq]
      refine Tile.dv_store (n := 0) _ _ [] _ _ (lt13 i k 0) (off52_eq i k) hg hg _ ?_
      all_goals
        simp only [Tile.dkTo, Tile.dvTo, Tile.dqTo, Tile.ds, Tile.wt, Tile.p, if_true, Tile.pm, Tile.mask]
        simp only [hk, hv, hw 0 (by decide)]
        subst hT; rfl
    ipureintro
    refine Eq.trans ?_ (Tile.run_dq (n := 0) (lt13 i k 0)).symm
    simp only [Tile.dkTo, Tile.dvTo, Tile.dqTo, Tile.ds, Tile.wt, Tile.p, if_true, Tile.pm, Tile.mask]
    simp only [hk, hv, hw 0 (by decide)]
    rw [hacc]
    subst hT; rfl

/-- The loop, from any state: after it the state its blocks lead to. -/
theorem wp_loop13 (v32 v154 : BitVec 32) (h32 : v32 = BitVec.ofNat 32 (diag0 i)) (h154 : v154 = 4#32) (s : St F) {β : Type} {kk : FVec F S640x128 .f32 → Prog (TpuEff nD τ sig (Elt F) Λ₀ .tc) β} {Q : β → sProp 𝕄} :
    Own c arg3 arg4 arg11 arg12 X Y s init
    ⊢ iprop((∀ acc, Own c arg3 arg4 arg11 arg12 X Y (Tile.run (Tile.blk (tile (arg3 := arg3) (arg4 := arg4) v6 v8 v11 v14 v19 v22 X Y v4 v25) true) (diag0 i + 4) ((if (i 1).val = 0 then 0 else 1)) s) acc -∗ wp frame (wpE defs₀ 𝒱 c.tc bd) E (kk acc) Q)
      -∗ wp frame (wpE defs₀ 𝒱 c.tc bd) E (Scf.Loop.for (k0_t13_loop i) (k0_t13_ok i) init (Gen.k0_t13_body (F := F) i arg2 harg2 arg3 harg3 arg4 harg4 arg5 harg5 arg6 harg6 arg7 harg7 arg8 harg8 arg9 harg9 arg10 harg10 arg11 harg11 arg12 harg12 v4 v6 v8 v11 v14 v19 v22 v25 v32 v154) >>= kk) Q) := by
  iintro ⟨H3, H4, ⟨%f, Hf, %hf⟩, ⟨%g, Hg, %hg⟩, %hacc⟩
  obtain rfl : s = st0 (arg11 := arg11) (arg12 := arg12) init f g := St.ext hacc.symm hf.symm hg.symm
  have h := exec_loop (M := 𝕄) frame (wpE defs₀ 𝒱 c.tc bd) E _ _ _ _ init _ (loop13 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v32 v154 h32 h154) (kk := kk) (Q := Q)
  have hi : (loop13 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y f g init v32 v154 h32 h154).inv = fun k acc => Own c arg3 arg4 arg11 arg12 X Y
      (Tile.run (Tile.blk (tile (arg3 := arg3) (arg4 := arg4) v6 v8 v11 v14 v19 v22 X Y v4 v25) true) (diag0 i + 4) k (st0 (arg11 := arg11) (arg12 := arg12) init f g)) acc := rfl
  rw [hi] at h
  rw [show Scf.trips (k0_t13_loop i).lb (k0_t13_loop i).ub (k0_t13_loop i).st = _ from trips13 i] at h
  iapply h
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

end Cert.Proof.MlaIdeal
-- ==== Proof.Mla.Part54.lean ====
module

public import proofs.«01_k».proof.Proof.Mla.Loop1
public import proofs.«01_k».proof.Proof.Mla.Loop3
public import proofs.«01_k».proof.Proof.Mla.Loop5
public import proofs.«01_k».proof.Proof.Mla.Loop7
public import proofs.«01_k».proof.Proof.Mla.Loop9
public import proofs.«01_k».proof.Proof.Mla.Loop13

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loops that make no trip. -/
theorem tripsZ : ∀ i : grid0.Coords, (k0_t2_loop i).trips = 0 ∧ (k0_t4_loop i).trips = 0 ∧ (k0_t6_loop i).trips = 0 ∧ (k0_t8_loop i).trips = 0
    ∧ (k0_t10_loop i).trips = 0 ∧ (k0_t11_loop i).trips = 0 ∧ (k0_t12_loop i).trips = 0 ∧ (k0_t14_loop i).trips = 0 := by decide +kernel

theorem wp_loop0 (𝒱 : Variants) (c : Dev nD) (bd : Option 𝒱.V) (E : Set ℕ) {σ β : Type} {L : Scf.Loop 32} (h : L.trips = 0) (ok : Scf.OK L.lb L.ub L.st) (init : σ)
    (body : Fin L.trips → σ → Prog (TpuEff nD τ sig (Elt F) Λ₀ .tc) σ) (kk : σ → Prog (TpuEff nD τ sig (Elt F) Λ₀ .tc) β) (Q : β → sProp 𝕄) :
    wp frame (wpE defs₀ 𝒱 c.tc bd) E (kk init) Q ⊢ wp frame (wpE defs₀ 𝒱 c.tc bd) E (Scf.Loop.for L ok init body >>= kk) Q := by
  rw [show Scf.Loop.for L ok init body = .ret init from Scf.for_eq_ret _ _ _ _ _ _ h]
  exact .rfl

/-- The number of blocks the row's mask reaches. -/
abbrev nblk (i : grid0.Coords) : ℕ := 5 * (i 1).val + 5

theorem word29 : ∀ i : grid0.Coords,
    Scalar.shrsi (Scalar.addi (Scalar.muli (Scalar.addi (BitVec.ofNat 32 (i 1).val) 1#32) 640#32) 127#32) 7#32 = BitVec.ofNat 32 (nblk i) := by decide +kernel
theorem word32 : ∀ i : grid0.Coords,
    Scalar.maxsi (Scalar.shrsi (Scalar.muli (BitVec.ofNat 32 (i 1).val) 640#32) 7#32) 1#32 = BitVec.ofNat 32 (diag0 i) := by decide +kernel
theorem wordIf : ∀ i : grid0.Coords,
    (Scalar.cmpi .ne (Scalar.extui (Scalar.cmpi .eq (BitVec.ofNat 32 (i 1).val) 0#32)) (0#32 : BitVec 32)) = if (i 1).val = 0 then 1#1 else 0#1 := by decide +kernel

theorem words54 : ∀ i : grid0.Coords,
    Scalar.addi 0#32 (Scalar.muli (Scalar.divsi (Scalar.subi (Scalar.maxsi (Scalar.subi (BitVec.ofNat 32 (nblk i)) (BitVec.ofNat 32 (diag0 i))) 0#32) 0#32) 4#32) 4#32) = 4#32
    ∧ Scalar.divsi (Scalar.subi (Scalar.maxsi (Scalar.subi (BitVec.ofNat 32 (nblk i)) (BitVec.ofNat 32 (diag0 i))) 0#32) 4#32) 2#32 = 0#32 := by decide +kernel

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (v6 : FVec F S128x640 .bf16) (v8 : FVec F S64x640 .bf16) (v11 : FVec F S640x128 .bf16) (v14 : FVec F S640x64 .bf16) (v19 v22 : FVec F S640x1 .f32)
  (X : BufTy.Contents (Elt F) arg3.view.ty) (Y : BufTy.Contents (Elt F) arg4.view.ty)

/-- The groups of four, two and one blocks below the diagonal's, and the group of four on it. -/
theorem part54 (v4 v25 : IVec S640x128 32) (v29 v32 v88 v99 v101 v106 : BitVec 32) (v107 : FVec F S640x128 .f32) (s : St F)
    (h29 : v29 = BitVec.ofNat 32 (nblk i)) (h32 : v32 = BitVec.ofNat 32 (diag0 i)) :
  (Own c arg3 arg4 arg11 arg12 X Y s v107 : sProp 𝕄)
    ⊢ wp frame (wpE defs₀ 𝒱 c.tc bd) E (k0_part54 (F := F) i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107)
      (fun r => iprop(⌜r.2.2.1 = 4#32 ∧ Scalar.divsi r.2.2.2.1 r.2.2.2.2 = 0#32⌝ ∗ Own c arg3 arg4 arg11 arg12 X Y (Tile.run (Tile.blk (tile (arg3 := arg3) (arg4 := arg4) v6 v8 v11 v14 v19 v22 X Y v4 v25) true) (diag0 i) 4
        (Tile.run (Tile.blk (tile (arg3 := arg3) (arg4 := arg4) v6 v8 v11 v14 v19 v22 X Y v4 v25) false) (1 + freeN i / 2 * 2) (freeN i % 2)
        (Tile.run (Tile.blk (tile (arg3 := arg3) (arg4 := arg4) v6 v8 v11 v14 v19 v22 X Y v4 v25) false) (1 + freeN i / 4 * 4) (2 * (freeN i % 4 / 2)) s))) r.2.1)) := by
  rw [k0_part54_eq_skeleton]
  unfold k0_part54_skel
  iintro H
  dsimp only
  iapply wp_loop0 𝒱 c bd E (tripsZ i).2.1
  iapply wp_loop5 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y $$ H
  iintro %a1 H
  iapply wp_loop0 𝒱 c bd E (tripsZ i).2.2.1
  iapply wp_loop7 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y $$ H
  iintro %a2 H
  iapply wp_loop0 𝒱 c bd E (tripsZ i).2.2.2.1
  iapply wp_loop9 𝒱 c bd E i arg2 harg2 arg3 harg3 arg4 harg4 arg5 harg5 arg6 harg6 arg7 harg7 arg8 harg8 arg9 harg9 arg10 harg10 arg11 harg11 arg12 harg12 v4 v25 v6 v8 v11 v14 v19 v22 X Y (h32 := h32) $$ H
  iintro %a3 H
  iapply wp_loop0 𝒱 c bd E (tripsZ i).2.2.2.2.1
  rw [wp_pure]
  imodintro
  isplitr [H]
  · ipureintro
    subst h29 h32
    have hw := words54 i
    dsimp only
    rw [hw.1]
    exact ⟨rfl, hw.2⟩
  iexact H

/-- The same at the head of a program. -/
theorem wp_part54 (v4 v25 : IVec S640x128 32) (v29 v32 v88 v99 v101 v106 : BitVec 32) (v107 : FVec F S640x128 .f32) (s : St F)
    (h29 : v29 = BitVec.ofNat 32 (nblk i)) (h32 : v32 = BitVec.ofNat 32 (diag0 i))
    {β : Type} {kk : (Σ' (_ : BitVec 32) (_ : FVec F S640x128 .f32) (_ : BitVec 32) (_ : BitVec 32), BitVec 32) → Prog (TpuEff nD τ sig (Elt F) Λ₀ .tc) β} {Q : β → sProp 𝕄} :
  (Own c arg3 arg4 arg11 arg12 X Y s v107 : sProp 𝕄)
    ⊢ iprop((∀ r, iprop(⌜r.2.2.1 = 4#32 ∧ Scalar.divsi r.2.2.2.1 r.2.2.2.2 = 0#32⌝ ∗ Own c arg3 arg4 arg11 arg12 X Y (Tile.run (Tile.blk (tile (arg3 := arg3) (arg4 := arg4) v6 v8 v11 v14 v19 v22 X Y v4 v25) true) (diag0 i) 4
        (Tile.run (Tile.blk (tile (arg3 := arg3) (arg4 := arg4) v6 v8 v11 v14 v19 v22 X Y v4 v25) false) (1 + freeN i / 2 * 2) (freeN i % 2)
        (Tile.run (Tile.blk (tile (arg3 := arg3) (arg4 := arg4) v6 v8 v11 v14 v19 v22 X Y v4 v25) false) (1 + freeN i / 4 * 4) (2 * (freeN i % 4 / 2)) s))) r.2.1) -∗ wp frame (wpE defs₀ 𝒱 c.tc bd) E (kk r) Q)
      -∗ wp frame (wpE defs₀ 𝒱 c.tc bd) E ((k0_part54 (F := F) i arg2 harg2 arg3 harg3 arg4 harg4 arg5 harg5 arg6 harg6 arg7 harg7 arg8 harg8 arg9 harg9 arg10 harg10 arg11 harg11 arg12 harg12 v4 v6 v8 v11 v14 v19 v22 v25 v29 v32 v88 v99 v101 v106 v107) >>= kk) Q) := by
  rw [wp_bind]
  exact (part54 𝒱 c bd E i arg2 harg2 arg3 harg3 arg4 harg4 arg5 harg5 arg6 harg6 arg7 harg7 arg8 harg8 arg9 harg9 arg10 harg10 arg11 harg11 arg12 harg12 v6 v8 v11 v14 v19 v22 X Y v4 v25 v29 v32 v88 v99 v101 v106 v107 s h29 h32).trans (wp_wand _ _ _)

end Cert.Proof.MlaIdeal
-- ==== Proof.Mla.Body.lean ====
module

public import proofs.«01_k».proof.Proof.Mla.Loop1
public import proofs.«01_k».proof.Proof.Mla.Loop3
public import proofs.«01_k».proof.Proof.Mla.Loop5
public import proofs.«01_k».proof.Proof.Mla.Loop7
public import proofs.«01_k».proof.Proof.Mla.Loop9
public import proofs.«01_k».proof.Proof.Mla.Loop13
public import proofs.«01_k».proof.Proof.Mla.Part54

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A query tile of what its buffers read. -/
def tileI (i : grid0.Coords) (x2 : S1x640x128.Idx → Elt F .f32) (K : S1x8320x128.Idx → Elt F .bf16) (V : S1x8320x64.Idx → Elt F .bf16)
    (x5 : S1x640x64.Idx → Elt F .f32) (x6 : S1x640x128.Idx → Elt F .f32) (x7 : S1x640x64.Idx → Elt F .f32)
    (x8 : S1x128x640.Idx → Elt F .bf16) (x9 : S1x64x640.Idx → Elt F .bf16) : Tile F :=
  ⟨k0_pay336 x2, k0_pay338 x7, k0_pay334 x8, k0_pay335 x9, k0_pay339 x7 x5, k0_pay340 x6, K, V, iota .tc S640x128 32 [1] Facts₀.iota_S640x128_d1_w32, k0_pay341 i⟩

/-- What a run starts from: no query gradient, and the accumulators as they read, on the head's first tile none. -/
def start (i : grid0.Coords) (d11 : S1x128x8320.Idx → Elt F .f32) (d12 : S1x64x8320.Idx → Elt F .f32) : St F :=
  ⟨broadcast S640x128 (Scalar.ofBits .f32 0x00000000#32), if (i 1).val = 0 then k0_pay332 else d11, if (i 1).val = 0 then k0_pay333 else d12⟩

/-- What a run ends with: the first block masked, the blocks below the diagonal in groups, the diagonal's masked. -/
def fin (i : grid0.Coords) (T : Tile F) (s : St F) : St F :=
  Tile.run (T.blk true) (diag0 i + 4) (if (i 1).val = 0 then 0 else 1) (Tile.run (T.blk true) (diag0 i) 4
    (Tile.run (T.blk false) (1 + freeN i / 2 * 2) (freeN i % 2) (Tile.run (T.blk false) (1 + freeN i / 4 * 4) (2 * (freeN i % 4 / 2))
      (Tile.run (T.blk false) (1 + freeN i / 8 * 8) (4 * (freeN i % 8 / 4)) (Tile.run (T.blk false) 1 (8 * (freeN i / 8))
        (Tile.run (T.blk true) 0 1 s))))))

theorem fin_of (i : grid0.Coords) {T' T : Tile F} (hT : T' = T) {T0 : Tile F} (h0 : T0.blk false = T.blk false) {s1 s : St F}
    (h : s1 = Tile.run (T.blk true) 0 1 s) :
    Tile.run (T'.blk true) (diag0 i + 4) (if (i 1).val = 0 then 0 else 1) (Tile.run (T'.blk true) (diag0 i) 4
    (Tile.run (T'.blk false) (1 + freeN i / 2 * 2) (freeN i % 2) (Tile.run (T'.blk false) (1 + freeN i / 4 * 4) (2 * (freeN i % 4 / 2))
      (Tile.run (T0.blk false) (1 + freeN i / 8 * 8) (4 * (freeN i % 8 / 4)) (Tile.run (T0.blk false) 1 (8 * (freeN i / 8)) s1))))) = fin i T s := by
  subst hT h; rw [h0]; rfl

/-- A buffer zeroed on a head's first tile reads so. -/
theorem read_start {S : Shape} (v : View sig .tc .vmem S .f32) (f : v.ty.Contents (Elt F)) {off : Fin S.rank → ℕ} (ho : ∀ a, off a = 0)
    (inb : ∀ a, off a + S.size a ≤ S.size a) (x : S.Idx → Elt F .f32) :
    v.read (Elt F) (v.writes (Elt F) f [⟨Rect.unit off S.size inb, x⟩]) = x := by
  rw [read_over]
  funext y
  have h := (Rect.unit off S.size inb).overlay_emb (v.read (Elt F) (v.writes (Elt F) f [])) x y
  have e : (Rect.unit off S.size inb).emb y = y := funext fun a => Fin.ext (by
    show off a + 1 * (y a).val = (y a).val
    rw [ho]; omega)
  rwa [e] at h

theorem read_if {S : Shape} (v : View sig .tc .vmem S .f32) (f : v.ty.Contents (Elt F)) {off : Fin S.rank → ℕ} (ho : ∀ a, off a = 0)
    (inb : ∀ a, off a + S.size a ≤ S.size a) (x : S.Idx → Elt F .f32) {w : BitVec 1} {n : ℕ} (hw : w = if n = 0 then 1#1 else 0#1) :
    v.read (Elt F) (if hc : w = 1#1 then v.writes (Elt F) f [⟨Rect.unit off S.size inb, x⟩] else f) = if n = 0 then x else Rd v f := by
  by_cases hn : n = 0
  · rw [if_pos hn] at hw ⊢; rw [dif_pos hw]; exact read_start v f ho inb x
  · rw [if_neg hn] at hw ⊢; rw [dif_neg (by rw [hw]; decide), Rd_eq]

/-- A load of a whole buffer is what it reads. -/
theorem readAt_whole' {S : Shape} {e : EltTy} (v : View sig .tc .vmem S e) (f : v.ty.Contents (Elt F)) {off : Fin S.rank → ℕ} (ho : ∀ a, off a = 0)
    (inb : ∀ a, off a + S.size a ≤ S.size a) : v.readAt (Elt F) (Rect.unit off S.size inb).toLoadRect f = v.read (Elt F) f := by
  funext y
  exact congrArg (v.read (Elt F) f) (funext fun a => Fin.ext (by
    show off a + 1 * (y a).val = (y a).val
    rw [ho]; omega))

theorem tile_eq (i : grid0.Coords) {arg3 : Memref sig .tc .vmem S1x8320x128 .bf16} {arg4 : Memref sig .tc .vmem S1x8320x64 .bf16}
    {v6 : FVec F S128x640 .bf16} {v8 : FVec F S64x640 .bf16} {v11 : FVec F S640x128 .bf16} {v14 : FVec F S640x64 .bf16}
    {v19 v22 : FVec F S640x1 .f32} {X : BufTy.Contents (Elt F) arg3.view.ty} {Y : BufTy.Contents (Elt F) arg4.view.ty} {v4 : IVec S640x128 32}
    {x2 : S1x640x128.Idx → Elt F .f32} {x5 : S1x640x64.Idx → Elt F .f32} {x6 : S1x640x128.Idx → Elt F .f32} {x7 : S1x640x64.Idx → Elt F .f32}
    {x8 : S1x128x640.Idx → Elt F .bf16} {x9 : S1x64x640.Idx → Elt F .bf16}
    (h6 : v6 = k0_pay334 x8) (h8 : v8 = k0_pay335 x9) (h11 : v11 = k0_pay336 x2) (h14 : v14 = k0_pay338 x7) (h19 : v19 = k0_pay339 x7 x5)
    (h22 : v22 = k0_pay340 x6) (h4 : v4 = iota .tc S640x128 32 [1] Facts₀.iota_S640x128_d1_w32) :
    tile (arg3 := arg3) (arg4 := arg4) v6 v8 v11 v14 v19 v22 X Y v4 (k0_pay341 i)
      = tileI i x2 (arg3.view.read (Elt F) X) (arg4.view.read (Elt F) Y) x5 x6 x7 x8 x9 := by
  subst h6 h8 h11 h14 h19 h22 h4; rfl

/-- The unmasked step looks at no position. -/
theorem blk_lane {arg3 : Memref sig .tc .vmem S1x8320x128 .bf16} {arg4 : Memref sig .tc .vmem S1x8320x64 .bf16}
    {v6 : FVec F S128x640 .bf16} {v8 : FVec F S64x640 .bf16} {v11 : FVec F S640x128 .bf16} {v14 : FVec F S640x64 .bf16}
    {v19 v22 : FVec F S640x1 .f32} {X : BufTy.Contents (Elt F) arg3.view.ty} {Y : BufTy.Contents (Elt F) arg4.view.ty} {v4 v25 v4' v25' : IVec S640x128 32} :
    (tile (arg3 := arg3) (arg4 := arg4) v6 v8 v11 v14 v19 v22 X Y v4 v25).blk false
      = (tile (arg3 := arg3) (arg4 := arg4) v6 v8 v11 v14 v19 v22 X Y v4' v25').blk false := by
  funext n s
  simp only [Tile.blk, Tile.wt, Tile.step, Tile.dqTo, Tile.dkTo, Tile.dvTo, Tile.ds, Tile.p, Tile.kb, Tile.vb, Bool.false_eq_true, if_false]

theorem own_cast (c : Dev nD) (arg3 : Memref sig .tc .vmem S1x8320x128 .bf16) (arg4 : Memref sig .tc .vmem S1x8320x64 .bf16)
    (arg11 : Memref sig .tc .vmem S1x128x8320 .f32) (arg12 : Memref sig .tc .vmem S1x64x8320 .f32)
    (X : BufTy.Contents (Elt F) arg3.view.ty) (Y : BufTy.Contents (Elt F) arg4.view.ty) {s s' : St F} {acc : FVec F S640x128 .f32} (h : s = s') :
    (Own c arg3 arg4 arg11 arg12 X Y s acc : sProp 𝕄) ⊢ Own c arg3 arg4 arg11 arg12 X Y s' acc := by subst h; exact .rfl

theorem own_intro (c : Dev nD) (arg3 : Memref sig .tc .vmem S1x8320x128 .bf16) (arg4 : Memref sig .tc .vmem S1x8320x64 .bf16)
    (arg11 : Memref sig .tc .vmem S1x128x8320 .f32) (arg12 : Memref sig .tc .vmem S1x64x8320 .f32)
    (X : BufTy.Contents (Elt F) arg3.view.ty) (Y : BufTy.Contents (Elt F) arg4.view.ty) (f : BufTy.Contents (Elt F) arg11.view.ty)
    (g : BufTy.Contents (Elt F) arg12.view.ty) (s : St F) (acc : FVec F S640x128 .f32) (hs : s = st0 (arg11 := arg11) (arg12 := arg12) acc f g) :
    (iprop((arg3.view.loc (c : Thread nD τ) ↦[arg3.view.set]{fullShare} X) ∗ (arg4.view.loc (c : Thread nD τ) ↦[arg4.view.set]{fullShare} Y)
      ∗ (arg11.view.loc (c : Thread nD τ) ↦[arg11.view.set]{fullShare} f) ∗ (arg12.view.loc (c : Thread nD τ) ↦[arg12.view.set]{fullShare} g)) : sProp 𝕄)
      ⊢ Own c arg3 arg4 arg11 arg12 X Y s acc := by
  subst hs
  iintro ⟨H3, H4, Hf, Hg⟩
  isplitl [H3]; · iexact H3
  isplitl [H4]; · iexact H4
  isplitl [Hf]
  · iexists _
    isplitl [Hf]; · iexact Hf
    ipureintro; rfl
  isplitl [Hg]
  · iexists _
    isplitl [Hg]; · iexact Hg
    ipureintro; rfl
  ipureintro; rfl

variable (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
  (x2 : BufTy.Contents (Elt F) arg2.view.ty) (X : BufTy.Contents (Elt F) arg3.view.ty) (Y : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (f0 : BufTy.Contents (Elt F) arg11.view.ty) (g0 : BufTy.Contents (Elt F) arg12.view.ty)

theorem body : (iprop((arg2.view.loc (c : Thread nD τ) ↦[arg2.view.set]{fullShare} x2) ∗ (arg3.view.loc (c : Thread nD τ) ↦[arg3.view.set]{fullShare} X) ∗ (arg4.view.loc (c : Thread nD τ) ↦[arg4.view.set]{fullShare} Y) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} f0) ∗ (arg12.view.loc (c : Thread nD τ) ↦[arg12.view.set]{fullShare} g0)) : sProp 𝕄)
    ⊢ wp frame (wpE defs₀ 𝒱 c.tc bd) E (cc0_mla_bwd (F := F) i arg2 harg2 arg3 harg3 arg4 harg4 arg5 harg5 arg6 harg6 arg7 harg7 arg8 harg8 arg9 harg9 arg10 harg10 arg11 harg11 arg12 harg12) (fun _ => iprop((arg2.view.loc (c : Thread nD τ) ↦[arg2.view.set]{fullShare} x2) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9)
      ∗ ∃ acc, Own c arg3 arg4 arg11 arg12 X Y (fin i (tileI i (arg2.view.read (Elt F) x2) (arg3.view.read (Elt F) X) (arg4.view.read (Elt F) Y) (arg5.view.read (Elt F) x5) (arg6.view.read (Elt F) x6) (arg7.view.read (Elt F) x7) (arg8.view.read (Elt F) x8) (arg9.view.read (Elt F) x9)) (start i (Rd arg11.view f0) (Rd arg12.view g0))) acc
      ∗ ∃ h, (arg10.view.loc (c : Thread nD τ) ↦[arg10.view.set]{fullShare} h) ∗ ⌜Rd arg10.view h = k0_pay13 acc⌝)) := by
  rw [cc0_mla_bwd_eq_skeleton]
  unfold cc0_mla_bwd_skel
  iintro ⟨H2, H3, H4, H5, H6, H7, H8, H9, H10, H11, H12⟩
  sl_exec
  dsimp only
  ihave H := own_intro c arg3 arg4 arg11 arg12 X Y _ _ _ _ rfl $$ [H3 H4 H11 H12]
  · isplitl [H3]; · iexact H3
    isplitl [H4]; · iexact H4
    isplitl [H11]; · iexact H11
    iexact H12
  iapply wp_loop1 𝒱 c bd E i arg2 harg2 arg3 harg3 arg4 harg4 arg5 harg5 arg6 harg6 arg7 harg7 arg8 harg8 arg9 harg9 arg10 harg10 arg11 harg11 arg12 harg12 _ _ _ _ _ _ X Y $$ H
  iintro %a1 H
  iapply wp_loop0 𝒱 c bd E (tripsZ i).1
  iapply wp_loop3 𝒱 c bd E i arg2 harg2 arg3 harg3 arg4 harg4 arg5 harg5 arg6 harg6 arg7 harg7 arg8 harg8 arg9 harg9 arg10 harg10 arg11 harg11 arg12 harg12 _ _ _ _ _ _ X Y $$ H
  iintro %a2 H
  rw [wp_pure]
  imodintro
  dsimp only
  iapply wp_part54 𝒱 c bd E i arg2 harg2 arg3 harg3 arg4 harg4 arg5 harg5 arg6 harg6 arg7 harg7 arg8 harg8 arg9 harg9 arg10 harg10 arg11 harg11 arg12 harg12 _ _ _ _ _ _ X Y _ _ _ _ _ _ _ _ _ _ (word29 i) (word32 i) $$ H
  iintro %r ⟨%hr, H⟩
  obtain ⟨v132, v141, v143, v144, c2⟩ := r
  obtain ⟨rfl, hr⟩ := hr
  dsimp only at hr ⊢
  iapply wp_loop0 𝒱 c bd E (tripsZ i).2.2.2.2.2.1
  iapply wp_loop0 𝒱 c bd E (tripsZ i).2.2.2.2.2.2.1
  iapply wp_loop13 𝒱 c bd E i arg2 harg2 arg3 harg3 arg4 harg4 arg5 harg5 arg6 harg6 arg7 harg7 arg8 harg8 arg9 harg9 arg10 harg10 arg11 harg11 arg12 harg12 _ _ _ _ _ _ _ _ X Y _ _ _ (word32 i) (by rw [hr]; rfl) $$ H
  iintro %a3 H
  iapply wp_loop0 𝒱 c bd E (tripsZ i).2.2.2.2.2.2.2
  sl_exec
  rw [wp_ret]
  imodintro
  isplitl [H2]; · iexact H2
  isplitl [H5]; · iexact H5
  isplitl [H6]; · iexact H6
  isplitl [H7]; · iexact H7
  isplitl [H8]; · iexact H8
  isplitl [H9]; · iexact H9
  iexists a3
  isplitl [H]
  · iapply own_cast c arg3 arg4 arg11 arg12 X Y ?_ $$ H
    have hT := tile_eq (F := F) i (arg3 := arg3) (arg4 := arg4) (X := X) (Y := Y) (congrArg k0_pay334 (readAt_whole' arg8.view x8 (by decide) Facts₀.inb_S1x128x640_S1x128x640_0_0_0))
      (congrArg k0_pay335 (readAt_whole' arg9.view x9 (by decide) Facts₀.inb_S1x64x640_S1x64x640_0_0_0)) (congrArg k0_pay336 (readAt_whole' arg2.view x2 (by decide) Facts₀.inb_S1x640x128_S1x640x128_0_0_0))
      (congrArg k0_pay338 (readAt_whole' arg7.view x7 (by decide) Facts₀.inb_S1x640x64_S1x640x64_0_0_0))
      (congrArg₂ k0_pay339 (readAt_whole' arg7.view x7 (by decide) Facts₀.inb_S1x640x64_S1x640x64_0_0_0) (readAt_whole' arg5.view x5 (by decide) Facts₀.inb_S1x640x64_S1x640x64_0_0_0))
      (congrArg k0_pay340 (readAt_whole' arg6.view x6 (by decide) Facts₀.inb_S1x640x128_S1x640x128_0_0_0)) rfl
    refine fin_of i hT (blk_lane.trans (congrArg (fun T => Tile.blk T false) hT)) ?_
    rw [← hT]
    refine St.ext ?_ ?_ ?_
    · rw [Tile.run_dq (h := by decide)]; rfl
    · refine (Rd_eq _ _).trans (Tile.dk_store (lo := 0) (n := 0) (s := start i (Rd arg11.view f0) (Rd arg12.view g0)) arg11.view _ [] _ _ (by decide) rfl ?_ ?_ _ rfl)
      · exact read_if (n := (i 1).val) _ _ (by decide) _ _ (wordIf i)
      · exact read_if (n := (i 1).val) _ _ (by decide) _ _ (wordIf i)
    · refine (Rd_eq _ _).trans (Tile.dv_store (lo := 0) (n := 0) (s := start i (Rd arg11.view f0) (Rd arg12.view g0)) arg12.view _ [] _ _ (by decide) rfl ?_ ?_ _ rfl)
      · exact read_if (n := (i 1).val) _ _ (by decide) _ _ (wordIf i)
      · exact read_if (n := (i 1).val) _ _ (by decide) _ _ (wordIf i)
  iexists _
  isplitl [H10]; · iexact H10
  ipureintro
  rw [Rd_eq]
  exact read_start _ _ (by decide) _ _

end Cert.Proof.MlaIdeal
-- ==== Proof.Mla.Run.lean ====
/- The run: what the accumulating windows hold at each point, the body at a point, and the launch. -/
module

public import proofs.«01_k».proof.Proof.Mla.Body
public import proofs.«01_k».proof.Proof.Gen.MlaIdeal.Frame
public import Idealize.ShloMosaic.Lib.Claim

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of a point's blocks. -/
def tileAt (c : Dev nD) (t : Fin cfg0.N) : Tile F :=
  tileI (grid0.coords t) (iblk m c 0 t) (iblk m c 1 t) (iblk m c 2 t) (iblk m c 3 t) (iblk m c 4 t) (iblk m c 5 t) (iblk m c 6 t) (iblk m c 7 t)

/-- What the accumulators hold after a point, from what they held before it. -/
def pointSt (c : Dev nD) (t : Fin cfg0.N) (d11 : S1x128x8320.Idx → Elt F .f32) (d12 : S1x64x8320.Idx → Elt F .f32) : St F :=
  fin (grid0.coords t) (tileAt m c t) (start (grid0.coords t) d11 d12)

/-- The state after the point `n`. -/
def stAt (c : Dev nD) : (n : ℕ) → n < cfg0.N → St F
  | 0, h => pointSt m c ⟨0, h⟩ k0_pay332 k0_pay333
  | n + 1, h => pointSt m c ⟨n + 1, h⟩ (stAt c n (Nat.lt_of_succ_lt h)).dk (stAt c n (Nat.lt_of_succ_lt h)).dv

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay13 (stAt m c t.val t.isLt).dq
    | ⟨9, _⟩ => (stAt m c t.val t.isLt).dk
    | ⟨10, _⟩ => (stAt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay13 (stAt m c t.val t.isLt).dq := by dsimp only [dats]
theorem after0_9 (c : Dev nD) (t : Fin cfg0.N) : (dats m 0 c).after 9 t = (stAt m c t.val t.isLt).dk := by dsimp only [dats]
theorem after0_10 (c : Dev nD) (t : Fin cfg0.N) : (dats m 0 c).after 10 t = (stAt m c t.val t.isLt).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A point's tile of its head. -/
theorem coords_tile : ∀ t : Fin cfg0.N, (grid0.coords t 1).val = t.val % 13 := by decide +kernel
/-- A point's head. -/
theorem coords_head : ∀ t : Fin cfg0.N, (grid0.coords t 0).val = t.val / 13 := by decide +kernel

theorem start_reset (i : grid0.Coords) (h : (i 1).val = 0) (a a' : S1x128x8320.Idx → Elt F .f32) (b b' : S1x64x8320.Idx → Elt F .f32) :
    start i a b = start i a' b' := by
  unfold start; rw [if_pos h, if_pos h, if_pos h, if_pos h]

theorem stAt_reset (c : Dev nD) (t : Fin cfg0.N) (h : t.val % 13 = 0) (a : S1x128x8320.Idx → Elt F .f32) (b : S1x64x8320.Idx → Elt F .f32) :
    stAt m c t.val t.isLt = pointSt m c t a b := by
  have h1 : (grid0.coords t 1).val = 0 := (coords_tile t).trans h
  obtain ⟨n, hn⟩ := t
  cases n with
  | zero => show pointSt m c ⟨0, hn⟩ _ _ = _; unfold pointSt; rw [start_reset _ h1]
  | succ n => show pointSt m c ⟨n + 1, hn⟩ _ _ = _; unfold pointSt; rw [start_reset _ h1]

theorem stAt_step (c : Dev nD) (t : Fin cfg0.N) (h : t.val ≠ 0) :
    stAt m c t.val t.isLt = pointSt m c t (stAt m c (t.val - 1) (Nat.lt_of_le_of_lt (Nat.sub_le _ _) t.isLt)).dk
      (stAt m c (t.val - 1) (Nat.lt_of_le_of_lt (Nat.sub_le _ _) t.isLt)).dv := by
  obtain ⟨n, hn⟩ := t
  cases n with
  | zero => exact absurd rfl h
  | succ n => rfl

/-- A point's state from what its buffers hold before it. -/
theorem stAt_before (c : Dev nD) (t : Fin cfg0.N) (d9 d10) :
    pointSt m c t ((dats m 0 c).before 9 t d9) ((dats m 0 c).before 10 t d10) = stAt m c t.val t.isLt := by
  by_cases h : t.val % 13 = 0
  · exact (stAt_reset m c t h _ _).symm
  · have h0 : t.val ≠ 0 := fun e => h (by rw [e])
    have hf (b : Bool) (hb : b = true ↔ (t.val - 1) % 13 = 12) : b = false := by
      cases b with
      | false => rfl
      | true => exact absurd (hb.mp rfl) (by omega)
    rw [(dats m 0 c).before_out_kept 9 rfl t h0 (hf _ (flush0_9 ⟨t.val - 1, _⟩)) (fun _ => rfl) (fun _ _ => rfl) d9,
      (dats m 0 c).before_out_kept 10 rfl t h0 (hf _ (flush0_10 ⟨t.val - 1, _⟩)) (fun _ => rfl) (fun _ _ => rfl) d10,
      after0_9, after0_10]
    exact (stAt_step m c t h0).symm

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
theorem body_owns (𝒱 : Variants) (c : Dev nD) (bd : Option 𝒱.V) (E : Set ℕ) (i : grid0.Coords) (arg2 : Memref sig .tc .vmem S1x640x128 .f32) (harg2 : arg2.IsWhole) (arg3 : Memref sig .tc .vmem S1x8320x128 .bf16) (harg3 : arg3.IsWhole) (arg4 : Memref sig .tc .vmem S1x8320x64 .bf16) (harg4 : arg4.IsWhole) (arg5 : Memref sig .tc .vmem S1x640x64 .f32) (harg5 : arg5.IsWhole) (arg6 : Memref sig .tc .vmem S1x640x128 .f32) (harg6 : arg6.IsWhole) (arg7 : Memref sig .tc .vmem S1x640x64 .f32) (harg7 : arg7.IsWhole) (arg8 : Memref sig .tc .vmem S1x128x640 .bf16) (harg8 : arg8.IsWhole) (arg9 : Memref sig .tc .vmem S1x64x640 .bf16) (harg9 : arg9.IsWhole) (arg10 : Memref sig .tc .vmem S1x640x128 .f32) (harg10 : arg10.IsWhole) (arg11 : Memref sig .tc .vmem S1x128x8320 .f32) (harg11 : arg11.IsWhole) (arg12 : Memref sig .tc .vmem S1x64x8320 .f32) (harg12 : arg12.IsWhole)
    (x2 : S1x640x128.Idx → Elt F .f32) (K : S1x8320x128.Idx → Elt F .bf16) (V : S1x8320x64.Idx → Elt F .bf16)
    (x5 : S1x640x64.Idx → Elt F .f32) (x6 : S1x640x128.Idx → Elt F .f32) (x7 : S1x640x64.Idx → Elt F .f32)
    (x8 : S1x128x640.Idx → Elt F .bf16) (x9 : S1x64x640.Idx → Elt F .bf16) (d10 : S1x640x128.Idx → Elt F .f32)
    (d11 : S1x128x8320.Idx → Elt F .f32) (d12 : S1x64x8320.Idx → Elt F .f32) (s : St F)
    (hs : fin i (tileI i x2 K V x5 x6 x7 x8 x9) (start i d11 d12) = s) :
    (iprop(owns (c : Thread nD τ) arg2 fullShare x2 ∗ owns (c : Thread nD τ) arg3 fullShare K ∗ owns (c : Thread nD τ) arg4 fullShare V ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12) : sProp 𝕄)
    ⊢ wp frame (wpE defs₀ 𝒱 c.tc bd) E (cc0_mla_bwd (F := F) i arg2 harg2 arg3 harg3 arg4 harg4 arg5 harg5 arg6 harg6 arg7 harg7 arg8 harg8 arg9 harg9 arg10 harg10 arg11 harg11 arg12 harg12) (fun _ => iprop(owns (c : Thread nD τ) arg2 fullShare x2 ∗ owns (c : Thread nD τ) arg3 fullShare K ∗ owns (c : Thread nD τ) arg4 fullShare V ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay13 s.dq) ∗ owns (c : Thread nD τ) arg11 fullShare s.dk ∗ owns (c : Thread nD τ) arg12 fullShare s.dv)) := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  subst hf2 hf3 hf4 hf5 hf6 hf7 hf8 hf9 hf11 hf12 hs
  have hb := body 𝒱 c bd E i arg2 harg2 arg3 harg3 arg4 harg4 arg5 harg5 arg6 harg6 arg7 harg7 arg8 harg8 arg9 harg9 arg10 harg10 arg11 harg11 arg12 harg12 f2 f3 f4 f5 f6 f7 f8 f9 f10 f11 f12
  rw [Rd_eq, Rd_eq] at hb
  ihave H := hb $$ [H2 H3 H4 H5 H6 H7 H8 H9 H10 H11 H12]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iapply wp_wand $$ H
  iintro %_ ⟨H2, H5, H6, H7, H8, H9, %acc, ⟨H3, H4, ⟨%f, Hf, %hf⟩, ⟨%g, Hg, %hg⟩, %ha⟩, %h, Hh, %hh⟩
  isplitl [H2]
  · iexists f2
    isplitr
    · ipureintro; rfl
    · iexact H2
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [Hh]
  · iexists h
    isplitr
    · ipureintro; rw [← Rd_eq, hh, ha]
    · iexact Hh
  isplitl [Hf]
  · iexists f
    isplitr
    · ipureintro; rw [← Rd_eq, hf]
    · iexact Hf
  iexists g
  isplitr
  · ipureintro; rw [← Rd_eq, hg]
  · iexact Hg

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hb := body_owns Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) _ (stAt_before m c t d9 d10)
  ihave H := hb $$ [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iapply wp_wand $$ H
  iintro %_ H
  isplitl [HΦ]; · iexact HΦ
  isplitl [Ho]; · iexact Ho
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_main_quiescent m ρ))

end Cert.Proof.MlaIdeal
-- ==== Proof.Mla.Frames.lean ====
/- The frames: of the kernel at its words and at the reals, and of the reference. -/
module

public import proofs.«01_k».proof.Defs
public import proofs.«01_k».proof.Proof.Mla.Run
public import proofs.«01_k».proof.Proof.MlaWords.Run
public import proofs.«01_k».proof.Proof.Gen.Mla
public import proofs.«01_k».proof.Proof.Gen.MlaIdeal
public import proofs.«01_k».proof.Proof.Gen.MlaRefIdeal
public import proofs.«01_k».proof.Proof.Gen.MlaRefIdeal.Run

@[expose] public section

noncomputable section

namespace Cert.Proof

open Idealize.ShloMosaic Idealize.ShloMosaic.TcCoe

theorem frame_kernel : Cert.quiescent_Mla := fun m ρ _ =>
  Mla.frame m ρ

theorem frame_ideal : Cert.quiescent_MlaIdeal := fun m ρ _ => MlaIdeal.frame m ρ

theorem frame_ref : Cert.quiescent_MlaRefIdeal := fun m ρ _ =>
  (θ_run Cert.MlaRefIdeal.defs _ _).mono (fun r h => ⟨fun c => (h c).2.2.2, sem_eq_zero_of_no_sems (by decide) r.2⟩)
    (Cert.MlaRefIdeal.Value.run m ρ)

end Cert.Proof
-- ==== Proof.Mla.HostV.lean ====
/- What the host computes before the launch: the launch's eight arrays, as functions of the four arguments. -/
module

public import proofs.«01_k».proof.Proof.Mla.Run
public import Idealize.ShloMosaic.Lib.Claim
public import Idealize.ShloMosaic.Lib.Pointwise

@[expose] public section

set_option maxRecDepth 16384

noncomputable section

namespace Cert.Proof.MlaIdeal

open Cert.MlaIdeal Cert.MlaIdeal.Gen
open Idealize.ShloMosaic Idealize.ShloMosaic.StableHlo Idealize.ShloMosaic.TcCoe

variable (q k : FVec Ideal S8208x4x96 .f32) (v g : FVec Ideal S8208x4x64 .f32)

/-- The scaled scores, the keys after a row at minus infinity; -/
def hS : FVec Ideal S4x8208x8208 .f32 :=
  select (broadcastInDim S4x8208x8208 ![1, 2] bcast_S8208x8208_S4x8208x8208_1_2
      (cmpi .sle (broadcastInDim S8208x8208 ![0, 1] bcast_S1x8208_S8208x8208_0_1
          (broadcastInDim S1x8208 ![1] bcast_S8208_S1x8208_1 (iotaInDim S8208 32 0)))
        (broadcastInDim S8208x8208 ![0, 1] bcast_S8208x1_S8208x8208_0_1
          (broadcastInDim S8208x1 ![0] bcast_S8208_S8208x1_0 (iotaInDim S8208 32 0)))))
    (mulf (Host.dotGeneral dot_S8208x4x96_S8208x4x96_S4x8208x8208_2_2_0_0_1_1 none q k)
      (broadcastInDim S4x8208x8208 ![] bcast_S_S4x8208x8208 (constant S_ .f32 0x3DD105EC#32)))
    (broadcastInDim S4x8208x8208 ![] bcast_S_S4x8208x8208 (id (constant S_ .f32 0xFF800000#32)))
/-- a row's greatest score; -/
def hM (s : FVec Ideal S4x8208x8208 .f32) : FVec Ideal S4x8208 .f32 :=
  Host.reduce FloatOps.maximumf s (constant S_ .f32 0xFF800000#32) reducesTo_S4x8208x8208_S4x8208_d2 h_S_
/-- the same, once more compared with minus infinity; -/
def hM' (x : FVec Ideal S4x8208 .f32) : FVec Ideal S4x8208 .f32 :=
  maximumf (broadcastInDim S4x8208 ![] bcast_S_S4x8208 (constant S_ .f32 0xFF800000#32)) x
/-- the exponentials below a row's number; -/
def hE (s : FVec Ideal S4x8208x8208 .f32) (x : FVec Ideal S4x8208 .f32) : FVec Ideal S4x8208x8208 .f32 :=
  Host.exp (subf s (broadcastInDim S4x8208x8208 ![0, 1, 2] bcast_S4x8208x1_S4x8208x8208_0_1_2
    (broadcastInDim S4x8208x1 ![0, 1] bcast_S4x8208_S4x8208x1_0_1 x)))
/-- their sum; -/
def hL (e : FVec Ideal S4x8208x8208 .f32) : FVec Ideal S4x8208 .f32 :=
  Host.reduceAdd e (constant S_ .f32 0x00000000#32) reducesTo_S4x8208x8208_S4x8208_d2 h_S_
/-- the weights; -/
def hP (e : FVec Ideal S4x8208x8208 .f32) (l : FVec Ideal S4x8208 .f32) : FVec Ideal S4x8208x8208 .f32 :=
  Host.divf e (broadcastInDim S4x8208x8208 ![0, 1, 2] bcast_S4x8208x1_S4x8208x8208_0_1_2
    (broadcastInDim S4x8208x1 ![0, 1] bcast_S4x8208_S4x8208x1_0_1 l))
/-- the attention's result; -/
def hO (p : FVec Ideal S4x8208x8208 .f32) : FVec Ideal S8208x4x64 .f32 :=
  transpose S8208x4x64 [2, 0, 1] (Host.dotGeneral dot_S8208x4x64_S4x8208x8208_S4x64x8208_0_2_2_1_1_0 none v p)
    transposes_S4x64x8208_S8208x4x64_2_0_1
/-- the logarithm of a row's sum of exponentials. -/
def hLse (x l : FVec Ideal S4x8208 .f32) : FVec Ideal S4x8208 .f32 := addf x (Host.log l)

/-- The paddings of a `96`-lane and of a `64`-lane array, -/
def pad96 : FVec Ideal S4x8320x128 .f32 :=
  transpose S4x8320x128 [1, 0, 2]
    (pad S8320x4x128 ![112, 0, 0] ![0, 0, 32] ![0, 0, 0] q (sitofp .f32 (constantI S_ 32 0#32)) pads_S8208x4x96_S8320x4x128_11200_000_0320 h_S_)
    transposes_S8320x4x128_S4x8320x128_1_0_2
def pad64 : FVec Ideal S4x8320x64 .f32 :=
  transpose S4x8320x64 [1, 0, 2]
    (pad S8320x4x64 ![112, 0, 0] ![0, 0, 0] ![0, 0, 0] v (sitofp .f32 (constantI S_ 32 0#32)) pads_S8208x4x64_S8320x4x64_11200_000_000 h_S_)
    transposes_S8320x4x64_S4x8320x64_1_0_2
/-- and of the rows' logarithms. -/
def padLse (x : FVec Ideal S4x8208 .f32) : FVec Ideal S4x8320x128 .f32 :=
  broadcastInDim S4x8320x128 ![0, 1, 2] bcast_S4x8320x1_S4x8320x128_0_1_2
    (broadcastInDim S4x8320x1 ![0, 1] bcast_S4x8320_S4x8320x1_0_1
      (pad S4x8320 ![0, 112] ![0, 0] ![0, 0] x (sitofp .f32 (constantI S_ 32 0#32)) pads_S4x8208_S4x8320_000_11200 h_S_))

variable (m : (ℓ : Loc nD τ sig) → Buf (Elt Ideal) ℓ) (c : Dev nD)

abbrev aq : FVec Ideal S8208x4x96 .f32 := m (c, Proc.tc.devRef main_arg0)
abbrev ak : FVec Ideal S8208x4x96 .f32 := m (c, Proc.tc.devRef main_arg1)
abbrev av : FVec Ideal S8208x4x64 .f32 := m (c, Proc.tc.devRef main_arg2)
abbrev ag : FVec Ideal S8208x4x64 .f32 := m (c, Proc.tc.devRef main_arg3)

theorem V_q : V m c main_v45 = pad96 (aq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_k : V m c main_v48 = truncf .bf16 (pad96 (ak m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_v : V m c main_v51 = truncf .bf16 (pad64 (av m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_o : V m c main_v53 = pad64 (hO (av m c) (hP (hE (hS (aq m c) (ak m c)) (hM' (hM (hS (aq m c) (ak m c))))) (hL (hE (hS (aq m c) (ak m c)) (hM' (hM (hS (aq m c) (ak m c)))))))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_lse : V m c main_v43 = padLse (hLse (hM (hS (aq m c) (ak m c))) (hL (hE (hS (aq m c) (ak m c)) (hM (hS (aq m c) (ak m c)))))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_g : V m c main_v55 = pad64 (ag m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_qt : V m c main_v57 = truncf .bf16 (transpose S4x128x8320 [0, 2, 1] (pad96 (aq m c)) transposes_S4x8320x128_S4x128x8320_0_2_1) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl
theorem V_gt : V m c main_v59 = truncf .bf16 (transpose S4x64x8320 [0, 2, 1] (pad64 (ag m c)) transposes_S4x8320x64_S4x64x8320_0_2_1) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append,
    List.nil_append, List.append_nil, TRef.binary, TRef.nullary, TRef.ternary, TRef.unary, TRef.toBuf, TRef.ofBuf, cast_eq]
  after_results_simp <;> rfl

end Cert.Proof.MlaIdeal
-- ==== Proof.Mla.Val.lean ====
/- What the blocks compute over the real numbers, element by element: the weights, the gradient of the scores, and what
   one block adds to the three gradients. -/
module

public import proofs.«01_k».proof.Proof.Mla.Body
public import Idealize.ShloMosaic.Lib.Pointwise
public import Idealize.ShloMosaic.Lib.WordCmp
public import Idealize.ShloMosaic.Lib.Pipeline.ValueKit.Tiles

@[expose] public section

set_option maxRecDepth 16384

noncomputable section

namespace Cert.Proof.MlaIdeal

open Cert.MlaIdeal Cert.MlaIdeal.Gen
open Idealize.ShloMosaic Idealize.ShloMosaic.TcCoe

theorem coe_sum {ι : Type} (s : Finset ι) (f : ι → ℝ) : ((∑ x ∈ s, f x : ℝ) : EReal) = ∑ x ∈ s, ((f x : ℝ) : EReal) := by
  induction s using Finset.cons_induction with
  | empty => simp
  | cons a s ha ih => rw [Finset.sum_cons, Finset.sum_cons, EReal.coe_add, ih]

theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

theorem scale_real : ∃ r : ℝ, Ideal.ofBits .f32 0x3DD105EC#32 = (r : EReal) := by
  refine ⟨_, by simp [Ideal.ofBits, Ideal.ieee]; rfl⟩

/-- The scale of the scores. -/
def sc : ℝ := scale_real.choose
theorem sc_eq : Ideal.ofBits .f32 0x3DD105EC#32 = (sc : EReal) := scale_real.choose_spec

/-- One head's numbers, rows counted with the front padding: the queries, keys, values and the outputs' gradient, the
    rows' sums `delta` and the logarithms of the rows' normalisers. -/
structure Head where
  q : ℕ → Fin 128 → ℝ
  k : ℕ → Fin 128 → ℝ
  v : ℕ → Fin 64 → ℝ
  g : ℕ → Fin 64 → ℝ
  del : ℕ → ℝ
  lse : ℕ → ℝ

namespace Head

variable (D : Head)

/-- The weight of key `κ` in row `R`. -/
def w (R κ : ℕ) : ℝ :=
  if 112 ≤ κ ∧ κ ≤ R then Real.exp (min ((∑ d, D.q R d * D.k κ d) * sc - D.lse R) 0) else 0
/-- The gradient of their score. -/
def ds (R κ : ℕ) : ℝ := D.w R κ * ((∑ d, D.g R d * D.v κ d) - D.del R) * sc

theorem ds_zero (R κ : ℕ) (h : R < κ) : D.ds R κ = 0 := by
  unfold ds w; rw [if_neg (by omega)]; ring
theorem w_zero (R κ : ℕ) (h : R < κ) : D.w R κ = 0 := by
  unfold w; rw [if_neg (by omega)]

end Head

/-- The tile `i` holds the head's numbers. -/
structure Fits (i : ℕ) (T : Tile Ideal) (D : Head) : Prop where
  q : ∀ (r : Fin 640) (d : Fin 128), T.q (ix2 r d) = ((D.q (640 * i + r.val) d : ℝ) : EReal)
  g : ∀ (r : Fin 640) (d : Fin 64), T.dob (ix2 r d) = ((D.g (640 * i + r.val) d : ℝ) : EReal)
  qt : ∀ (r : Fin 640) (d : Fin 128), T.qt (ix2 d r) = ((D.q (640 * i + r.val) d : ℝ) : EReal)
  gt : ∀ (r : Fin 640) (d : Fin 64), T.dot (ix2 d r) = ((D.g (640 * i + r.val) d : ℝ) : EReal)
  del : ∀ r : Fin 640, T.delta (ix2 r (0 : Fin 1)) = ((D.del (640 * i + r.val) : ℝ) : EReal)
  lse : ∀ r : Fin 640, T.lse (ix2 r (0 : Fin 1)) = ((D.lse (640 * i + r.val) : ℝ) : EReal)
  k : ∀ (κ : Fin 8320) (d : Fin 128), T.K (ix3 (0 : Fin 1) κ d) = ((D.k κ.val d : ℝ) : EReal)
  v : ∀ (κ : Fin 8320) (d : Fin 64), T.V (ix3 (0 : Fin 1) κ d) = ((D.v κ.val d : ℝ) : EReal)
  lane : ∀ (r : Fin 640) (l : Fin 128), T.lane (ix2 r l) = BitVec.ofNat 32 l.val
  row : ∀ (r : Fin 640) (l : Fin 128), T.row (ix2 r l) = BitVec.ofNat 32 (640 * i + r.val)

/-- The place of lane `l` of block `j` among the keys. -/
def at_ (j : Fin 65) (l : Fin 128) : Fin 8320 := ⟨128 * j.val + l.val, by omega⟩

theorem cast_kb (X : FVec Ideal S1x128x128 .bf16) (h : S1x128x128.ShapeCasts S128x128) (l d : Fin 128) :
    shapeCast S128x128 X h (ix2 l d) = X (ix3 (0 : Fin 1) l d) := by pointwise
theorem cast_vb (X : FVec Ideal S1x128x64 .bf16) (h : S1x128x64.ShapeCasts S128x64) (l : Fin 128) (d : Fin 64) :
    shapeCast S128x64 X h (ix2 l d) = X (ix3 (0 : Fin 1) l d) := by pointwise

theorem kb_apply (T : Tile Ideal) (j : Fin 65) (l : Fin 128) (d : Fin 128) : T.kb j (ix2 l d) = T.K (ix3 (0 : Fin 1) (at_ j l) d) := by
  have e : T.kb j (ix2 l d) = View.ld T.K (kRect j) (ix3 (0 : Fin 1) l d) := by
    exact cast_kb (View.ld T.K (kRect j)) _ l d
  rw [e, View.ld_apply]; congr 1; funext a
  fin_cases a <;> apply Fin.ext <;> simp [Rect.idx_unit_val, at_]

theorem vb_apply (T : Tile Ideal) (j : Fin 65) (l : Fin 128) (d : Fin 64) : T.vb j (ix2 l d) = T.V (ix3 (0 : Fin 1) (at_ j l) d) := by
  have e : T.vb j (ix2 l d) = View.ld T.V (vRect j) (ix3 (0 : Fin 1) l d) := by
    exact cast_vb (View.ld T.V (vRect j)) _ l d
  rw [e, View.ld_apply]; congr 1; funext a
  fin_cases a <;> apply Fin.ext <;> simp [Rect.idx_unit_val, at_]

theorem p_eq (T : Tile Ideal) (j : Fin 65) (r : Fin 640) (l : Fin 128) : T.p j (ix2 r l) =
    Ideal.exp (min ((∑ x : Fin 128, T.q (ix2 r x) * T.kb j (ix2 l x)) * Ideal.ofBits .f32 0x3DD105EC#32 - T.lse (ix2 r (0 : Fin 1))) 0) := by
  pointwise [Tile.p]

theorem ds_eq (T : Tile Ideal) (w : FVec Ideal S640x128 .f32) (j : Fin 65) (r : Fin 640) (l : Fin 128) : T.ds w j (ix2 r l) =
    w (ix2 r l) * ((∑ x : Fin 64, T.dob (ix2 r x) * T.vb j (ix2 l x)) - T.delta (ix2 r (0 : Fin 1))) * Ideal.ofBits .f32 0x3DD105EC#32 := by
  pointwise [Tile.ds]

theorem dq_eq (T : Tile Ideal) (w : FVec Ideal S640x128 .f32) (j : Fin 65) (x : FVec Ideal S640x128 .f32) (r : Fin 640) (d : Fin 128) :
    T.dqTo w j x (ix2 r d) = x (ix2 r d) + ∑ l : Fin 128, T.ds w j (ix2 r l) * T.kb j (ix2 l d) := by
  pointwise [Tile.dqTo]

theorem dk_eq (T : Tile Ideal) (w : FVec Ideal S640x128 .f32) (j : Fin 65) (x : FVec Ideal S1x128x128 .f32) (d l : Fin 128) :
    T.dkTo w j x (ix3 (0 : Fin 1) d l) = x (ix3 (0 : Fin 1) d l) + ∑ r : Fin 640, T.qt (ix2 d r) * T.ds w j (ix2 r l) := by
  pointwise [Tile.dkTo]

theorem dv_eq (T : Tile Ideal) (w : FVec Ideal S640x128 .f32) (x : FVec Ideal S1x64x128 .f32) (d : Fin 64) (l : Fin 128) :
    T.dvTo w x (ix3 (0 : Fin 1) d l) = x (ix3 (0 : Fin 1) d l) + ∑ r : Fin 640, T.dot (ix2 d r) * w (ix2 r l) := by
  pointwise [Tile.dvTo]

variable {i : ℕ} {T : Tile Ideal} {D : Head}

theorem p_coe (hF : Fits i T D) (j : Fin 65) (r : Fin 640) (l : Fin 128) : T.p j (ix2 r l) =
    ((Real.exp (min ((∑ d, D.q (640 * i + r.val) d * D.k (128 * j.val + l.val) d) * sc - D.lse (640 * i + r.val)) 0) : ℝ) : EReal) := by
  rw [p_eq, sc_eq, hF.lse]
  simp only [kb_apply, hF.q, hF.k]
  simp only [at_, ← EReal.coe_mul, ← coe_sum, ← EReal.coe_sub, ← EReal.coe_zero, ← coe_min]
  rfl

/-- Block `j` has the weights `W`. -/
def IsW (i : ℕ) (D : Head) (j : Fin 65) (W : FVec Ideal S640x128 .f32) : Prop :=
  ∀ (r : Fin 640) (l : Fin 128), W (ix2 r l) = ((D.w (640 * i + r.val) (128 * j.val + l.val) : ℝ) : EReal)

theorem isW_p (hF : Fits i T D) (j : Fin 65) (h1 : 1 ≤ j.val) (h2 : j.val < 5 * i) : IsW i D j (T.p j) := fun r l => by
  rw [p_coe hF]; unfold Head.w; rw [if_pos (by omega)]

theorem isW_pm (hi : i < 13) (hF : Fits i T D) (j : Fin 65) : IsW i D j (T.pm j) := fun r l => by
  have e : T.pm j (ix2 r l) = Scalar.select (IntOp.andi
        (IntOp.cmpi CmpIPredicate.sle (IntOp.addi (BitVec.ofNat 32 (128 * j.val)) (T.lane (ix2 r l))) (T.row (ix2 r l)))
        (IntOp.cmpi CmpIPredicate.sge (IntOp.addi (BitVec.ofNat 32 (128 * j.val)) (T.lane (ix2 r l))) 112#32))
      (T.p j (ix2 r l)) 0 := by pointwise [Tile.pm, Tile.mask]
  rw [e, hF.lane, hF.row, p_coe hF]
  have ha : IntOp.addi (BitVec.ofNat 32 (128 * j.val)) (BitVec.ofNat 32 l.val) = BitVec.ofNat 32 (128 * j.val + l.val) := by
    unfold IntOp.addi; rw [BitVec.ofNat_add]
  rw [ha, WordCmp.cmpi_sle_ofNat (by omega) (by omega), WordCmp.cmpi_sge_ofNat (b := 112) (by omega) (by omega)]
  unfold Head.w
  by_cases h1 : 128 * j.val + l.val ≤ 640 * i + r.val <;> by_cases h2 : 112 ≤ 128 * j.val + l.val <;>
    simp [h1, h2, IntOp.andi, Scalar.select]

theorem ds_coe (hF : Fits i T D) (j : Fin 65) (W : FVec Ideal S640x128 .f32) (hW : IsW i D j W) (r : Fin 640) (l : Fin 128) :
    T.ds W j (ix2 r l) = ((D.ds (640 * i + r.val) (128 * j.val + l.val) : ℝ) : EReal) := by
  rw [ds_eq, sc_eq, hF.del, hW]
  simp only [vb_apply, hF.g, hF.v]
  simp only [at_, ← EReal.coe_mul, ← coe_sum, ← EReal.coe_sub]
  rfl

end Cert.Proof.MlaIdeal
-- ==== Proof.Mla.Math.lean ====
/- One head's attention over the real numbers: its gradients row by row, and the numbers a kernel tile is made of. -/
module

public import proofs.«01_k».proof.Proof.Mla.Val

@[expose] public section

set_option maxRecDepth 16384

noncomputable section

namespace Cert.Proof.MlaIdeal

open Cert.MlaIdeal Cert.MlaIdeal.Gen
open Idealize.ShloMosaic Idealize.ShloMosaic.TcCoe

/-- The scores at minus infinity. -/
theorem ninf_eq : Ideal.ofBits .f32 0xFF800000#32 = (⊥ : EReal) := by
  simp [Ideal.ofBits, Ideal.ieee]
/-- The padding's zero. -/
theorem zero_eq : (FloatOps.sitofp .f32 0#32 : Ideal .f32) = (0 : EReal) := by
  show (((0#32 : BitVec 32).toInt : ℝ) : EReal) = 0
  simp

theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]
theorem log_coe (a : ℝ) (ha : 0 < a) : Ideal.log (a : EReal) = (Real.log a : EReal) := by
  show (if a ≤ 0 then ⊥ else (Real.log a : EReal)) = _
  rw [if_neg (not_le.mpr ha)]

theorem sum_lanes {N a : ℕ} (h : a ≤ N) (f : Fin a → ℝ) :
    ∑ d : Fin N, (if H : d.val < a then f ⟨d.val, H⟩ else 0) = ∑ d : Fin a, f d := by
  rw [Fin.sum_univ_eq_sum_range (fun d => if H : d < a then f ⟨d, H⟩ else 0) N,
    ← Finset.sum_subset (Finset.range_subset_range.mpr h) (fun x _ hx => dif_neg (by simpa using hx)), Finset.sum_range]
  exact Finset.sum_congr rfl fun d _ => dif_pos d.isLt

theorem sum_rows (f : Fin 8208 → ℝ) :
    ∑ κ ∈ Finset.range 8320, (if H : 112 ≤ κ ∧ κ - 112 < 8208 then f ⟨κ - 112, H.2⟩ else 0) = ∑ κ : Fin 8208, f κ := by
  rw [Finset.range_eq_Ico, ← Finset.sum_Ico_consecutive _ (show 0 ≤ 112 by omega) (show 112 ≤ 8320 by omega),
    Finset.sum_eq_zero (fun x hx => dif_neg (by rw [Finset.mem_Ico] at hx; omega)), zero_add,
    Finset.sum_Ico_eq_sum_range, show 8320 - 112 = 8208 by omega, Finset.sum_range]
  refine Finset.sum_congr rfl fun κ _ => ?_
  rw [dif_pos (by omega)]
  congr 1
  exact Fin.ext (by show 112 + κ.val - 112 = κ.val; omega)

/-- One head's arguments. -/
structure Args where
  q : Fin 8208 → Fin 96 → ℝ
  k : Fin 8208 → Fin 96 → ℝ
  v : Fin 8208 → Fin 64 → ℝ
  g : Fin 8208 → Fin 64 → ℝ

namespace Args

variable (A : Args)

/-- A score, -/
def s (n κ : Fin 8208) : ℝ := (∑ d, A.q n d * A.k κ d) * sc
/-- the keys after the row at minus infinity, -/
def S (n κ : Fin 8208) : EReal := if κ.val ≤ n.val then (A.s n κ : EReal) else ⊥
/-- a row's greatest, -/
def M (n : Fin 8208) : EReal := Finset.fold max ⊥ (A.S n) Finset.univ
/-- as a real number; -/
def m (n : Fin 8208) : ℝ := (A.M n).toReal
theorem M_eq (n : Fin 8208) : A.M n = (A.m n : EReal) := by
  refine (EReal.coe_toReal ?_ ?_).symm
  · refine ne_of_lt ((Finset.fold_max_lt ⊤).mpr ⟨bot_lt_top, fun κ _ => ?_⟩)
    unfold S
    split
    · exact EReal.coe_lt_top _
    · exact bot_lt_top
  · refine ne_of_gt ((Finset.lt_fold_max ⊥).mpr (.inr ⟨n, Finset.mem_univ _, ?_⟩))
    unfold S
    rw [if_pos le_rfl]
    exact EReal.bot_lt_coe _
/-- an exponential, -/
def e (n κ : Fin 8208) : ℝ := if κ.val ≤ n.val then Real.exp (A.s n κ - A.m n) else 0
theorem exp_eq (n κ : Fin 8208) : Ideal.exp (A.S n κ - (A.m n : EReal)) = (A.e n κ : EReal) := by
  unfold S e
  split
  · rw [← EReal.coe_sub]; rfl
  · rw [EReal.bot_sub, EReal.coe_zero]; rfl
/-- their sum, -/
def l (n : Fin 8208) : ℝ := ∑ κ, A.e n κ
theorem e_nonneg (n κ : Fin 8208) : 0 ≤ A.e n κ := by
  unfold e; split
  · exact (Real.exp_pos _).le
  · exact le_rfl
theorem e_le (n κ : Fin 8208) : A.e n κ ≤ A.l n :=
  Finset.single_le_sum (f := A.e n) (fun x _ => A.e_nonneg n x) (Finset.mem_univ κ)
theorem l_pos (n : Fin 8208) : 0 < A.l n := by
  refine lt_of_lt_of_le ?_ (A.e_le n n)
  unfold e; rw [if_pos le_rfl]; exact Real.exp_pos _
/-- a weight, -/
def p (n κ : Fin 8208) : ℝ := A.e n κ / A.l n
/-- the result, -/
def o (n : Fin 8208) (d : Fin 64) : ℝ := ∑ κ, A.v κ d * A.p n κ
/-- the logarithm of a row's sum, -/
def lse (n : Fin 8208) : ℝ := A.m n + Real.log (A.l n)
/-- a weight's gradient, -/
def dp (n κ : Fin 8208) : ℝ := ∑ d, A.g n d * A.v κ d
/-- a score's. -/
def ds (n κ : Fin 8208) : ℝ := A.p n κ * (A.dp n κ - ∑ x, A.p n x * A.dp n x) * sc

theorem p_zero {n κ : Fin 8208} (h : ¬κ.val ≤ n.val) : A.p n κ = 0 := by
  unfold p e; rw [if_neg h, zero_div]
theorem p_eq {n κ : Fin 8208} (h : κ.val ≤ n.val) : Real.exp (min (A.s n κ - A.lse n) 0) = A.p n κ := by
  have hp : A.p n κ = Real.exp (A.s n κ - A.lse n) := by
    unfold p e lse
    rw [if_pos h, ← sub_sub, Real.exp_sub _ (Real.log _), Real.exp_log (A.l_pos n)]
  have h1 : A.p n κ ≤ 1 := (div_le_one (A.l_pos n)).mpr (A.e_le n κ)
  rw [min_eq_left, hp]
  rw [hp] at h1
  exact Real.exp_le_one_iff.mp h1
theorem delta_eq (n : Fin 8208) : ∑ d, A.g n d * A.o n d = ∑ x, A.p n x * A.dp n x := by
  simp only [o, dp, Finset.mul_sum]
  rw [Finset.sum_comm]
  exact Finset.sum_congr rfl fun x _ => Finset.sum_congr rfl fun d _ => by ring
/-- The reference's own way to a score's gradient. -/
theorem ds_ref {n κ : Fin 8208} :
    (if κ.val ≤ n.val then (A.dp n κ / A.l n + -∑ x, A.dp n x * (1 / (A.l n * A.l n)) * A.e n x) * A.e n κ else 0) * sc = A.ds n κ := by
  have hl := (A.l_pos n).ne'
  by_cases h : κ.val ≤ n.val
  · rw [if_pos h]
    unfold ds
    have : ∑ x, A.dp n x * (1 / (A.l n * A.l n)) * A.e n x = (∑ x, A.p n x * A.dp n x) / A.l n := by
      rw [Finset.sum_div]
      refine Finset.sum_congr rfl fun x _ => ?_
      unfold p
      field_simp
    rw [this]
    unfold p
    ring
  · rw [if_neg h]
    unfold ds
    rw [A.p_zero h]
    ring

/-- The head's numbers as the kernel's tiles hold them. -/
def opad (R : ℕ) (d : Fin 64) : ℝ := if H : 112 ≤ R ∧ R - 112 < 8208 then A.o ⟨R - 112, H.2⟩ d else 0
def head : Head where
  q R d := if H : (112 ≤ R ∧ R - 112 < 8208) ∧ d.val < 96 then A.q ⟨R - 112, H.1.2⟩ ⟨d.val, H.2⟩ else 0
  k R d := if H : (112 ≤ R ∧ R - 112 < 8208) ∧ d.val < 96 then A.k ⟨R - 112, H.1.2⟩ ⟨d.val, H.2⟩ else 0
  v R d := if H : 112 ≤ R ∧ R - 112 < 8208 then A.v ⟨R - 112, H.2⟩ d else 0
  g R d := if H : 112 ≤ R ∧ R - 112 < 8208 then A.g ⟨R - 112, H.2⟩ d else 0
  del R := ∑ d, (if H : 112 ≤ R ∧ R - 112 < 8208 then A.g ⟨R - 112, H.2⟩ d else 0) * A.opad R d
  lse R := if H : 112 ≤ R ∧ R - 112 < 8208 then A.lse ⟨R - 112, H.2⟩ else 0

theorem head_w (R κ : ℕ) (hR : R < 8320) : A.head.w R κ =
    if H : (112 ≤ R ∧ R - 112 < 8208) ∧ (112 ≤ κ ∧ κ - 112 < 8208) then A.p ⟨R - 112, H.1.2⟩ ⟨κ - 112, H.2.2⟩ else 0 := by
  by_cases H : (112 ≤ R ∧ R - 112 < 8208) ∧ (112 ≤ κ ∧ κ - 112 < 8208)
  · rw [dif_pos H]
    unfold Head.w
    by_cases hk : κ ≤ R
    · rw [if_pos ⟨H.2.1, hk⟩, ← A.p_eq (show κ - 112 ≤ R - 112 by omega)]
      congr 3
      · unfold s head
        dsimp only
        congr 1
        rw [← sum_lanes (show 96 ≤ 128 by omega)]
        refine Finset.sum_congr rfl fun d _ => ?_
        by_cases hd : d.val < 96
        · rw [dif_pos ⟨H.1, hd⟩, dif_pos ⟨H.2, hd⟩, dif_pos hd]
        · rw [dif_neg (fun h => hd h.2), dif_neg hd, zero_mul]
      · exact dif_pos H.1
    · rw [if_neg (fun h => hk h.2), A.p_zero (show ¬κ - 112 ≤ R - 112 by omega)]
  · rw [dif_neg H]
    unfold Head.w
    rw [if_neg (by omega)]

theorem head_ds (R κ : ℕ) (hR : R < 8320) : A.head.ds R κ =
    if H : (112 ≤ R ∧ R - 112 < 8208) ∧ (112 ≤ κ ∧ κ - 112 < 8208) then A.ds ⟨R - 112, H.1.2⟩ ⟨κ - 112, H.2.2⟩ else 0 := by
  unfold Head.ds
  rw [A.head_w R κ hR]
  by_cases H : (112 ≤ R ∧ R - 112 < 8208) ∧ (112 ≤ κ ∧ κ - 112 < 8208)
  · rw [dif_pos H, dif_pos H]
    unfold ds
    rw [← A.delta_eq]
    simp only [head, opad, dif_pos H.1, dif_pos H.2, dp]
  · rw [dif_neg H, dif_neg H]; ring

theorem head_dq (R : ℕ) (hR : R < 8320) (d : Fin 128) : ∑ κ ∈ Finset.range 8320, A.head.ds R κ * A.head.k κ d =
    if H : (112 ≤ R ∧ R - 112 < 8208) ∧ d.val < 96 then ∑ x, A.ds ⟨R - 112, H.1.2⟩ x * A.k x ⟨d.val, H.2⟩ else 0 := by
  by_cases H : (112 ≤ R ∧ R - 112 < 8208) ∧ d.val < 96
  · rw [dif_pos H, ← sum_rows]
    refine Finset.sum_congr rfl fun κ _ => ?_
    rw [A.head_ds R κ hR]
    by_cases hk : 112 ≤ κ ∧ κ - 112 < 8208
    · rw [dif_pos ⟨H.1, hk⟩, dif_pos hk]
      congr 1
      exact dif_pos ⟨hk, H.2⟩
    · rw [dif_neg (fun h => hk h.2), dif_neg hk, zero_mul]
  · rw [dif_neg H]
    refine Finset.sum_eq_zero fun κ _ => ?_
    rw [A.head_ds R κ hR]
    by_cases hd : d.val < 96
    · rw [dif_neg (fun h => H ⟨h.1, hd⟩), zero_mul]
    · have : A.head.k κ d = 0 := dif_neg (fun h => hd h.2)
      rw [this, mul_zero]

theorem head_dk (κ : ℕ) (d : Fin 128) : ∑ R ∈ Finset.range 8320, A.head.q R d * A.head.ds R κ =
    if H : (112 ≤ κ ∧ κ - 112 < 8208) ∧ d.val < 96 then ∑ x, A.ds x ⟨κ - 112, H.1.2⟩ * A.q x ⟨d.val, H.2⟩ else 0 := by
  by_cases H : (112 ≤ κ ∧ κ - 112 < 8208) ∧ d.val < 96
  · rw [dif_pos H, ← sum_rows]
    refine Finset.sum_congr rfl fun R hR => ?_
    rw [A.head_ds R κ (Finset.mem_range.mp hR), mul_comm]
    by_cases hk : 112 ≤ R ∧ R - 112 < 8208
    · rw [dif_pos ⟨hk, H.1⟩, dif_pos hk]
      congr 1
      exact dif_pos ⟨hk, H.2⟩
    · rw [dif_neg (fun h => hk h.1), dif_neg hk, zero_mul]
  · rw [dif_neg H]
    refine Finset.sum_eq_zero fun R hR => ?_
    rw [A.head_ds R κ (Finset.mem_range.mp hR)]
    by_cases hd : d.val < 96
    · rw [dif_neg (fun h => H ⟨h.2, hd⟩), mul_zero]
    · have : A.head.q R d = 0 := dif_neg (fun h => hd h.2)
      rw [this, zero_mul]

theorem head_dv (κ : ℕ) (d : Fin 64) : ∑ R ∈ Finset.range 8320, A.head.g R d * A.head.w R κ =
    if H : 112 ≤ κ ∧ κ - 112 < 8208 then ∑ x, A.g x d * A.p x ⟨κ - 112, H.2⟩ else 0 := by
  by_cases H : 112 ≤ κ ∧ κ - 112 < 8208
  · rw [dif_pos H, ← sum_rows]
    refine Finset.sum_congr rfl fun R hR => ?_
    rw [A.head_w R κ (Finset.mem_range.mp hR)]
    by_cases hk : 112 ≤ R ∧ R - 112 < 8208
    · rw [dif_pos ⟨hk, H⟩, dif_pos hk]
      congr 1
      exact dif_pos hk
    · rw [dif_neg (fun h => hk h.1), dif_neg hk, mul_zero]
  · rw [dif_neg H]
    refine Finset.sum_eq_zero fun R hR => ?_
    rw [A.head_w R κ (Finset.mem_range.mp hR), dif_neg (fun h => H h.2), mul_zero]

end Args

end Cert.Proof.MlaIdeal
-- ==== Proof.Mla.HostE.lean ====
/- The host's operations element by element. -/
module

public import proofs.«01_k».proof.Proof.Mla.HostV
public import proofs.«01_k».proof.Proof.Mla.Math
public import Idealize.ShloMosaic.Lib.Pointwise
public import Idealize.ShloMosaic.Lib.WordCmp

@[expose] public section

set_option maxRecDepth 16384

noncomputable section

namespace Cert.Proof.MlaIdeal

open Cert.MlaIdeal Cert.MlaIdeal.Gen
open Idealize.ShloMosaic Idealize.ShloMosaic.TcCoe

variable (q k : FVec Ideal S8208x4x96 .f32) (v g : FVec Ideal S8208x4x64 .f32)

theorem hS_at (h : Fin 4) (n κ : Fin 8208) : hS q k (ix3 h n κ) =
    if κ.val ≤ n.val then (∑ x, q (ix3 n h x) * k (ix3 κ h x)) * Ideal.ofBits .f32 0x3DD105EC#32 else (⊥ : EReal) := by
  pointwise [hS]
  rw [WordCmp.cmpi_sle_ofNat (by omega) (by omega)]
  by_cases hk : κ.val ≤ n.val
  · simp [hk, Scalar.select]
  · simp only [hk, Scalar.select, if_false]
    exact ninf_eq
theorem hM_at (s : FVec Ideal S4x8208x8208 .f32) (h : Fin 4) (n : Fin 8208) :
    hM s (ix2 h n) = Finset.fold max (⊥ : EReal) (fun x => s (ix3 h n x)) Finset.univ := by
  pointwise [hM]
  rw [ninf_eq]
theorem hM'_at (x : FVec Ideal S4x8208 .f32) (h : Fin 4) (n : Fin 8208) : hM' x (ix2 h n) = x (ix2 h n) := by
  pointwise [hM']
  rw [ninf_eq, max_eq_right bot_le]
theorem hE_at (s : FVec Ideal S4x8208x8208 .f32) (x : FVec Ideal S4x8208 .f32) (h : Fin 4) (n κ : Fin 8208) :
    hE s x (ix3 h n κ) = Ideal.exp (s (ix3 h n κ) - x (ix2 h n)) := by
  pointwise [hE]
theorem hP_at (s : FVec Ideal S4x8208x8208 .f32) (x : FVec Ideal S4x8208 .f32) (h : Fin 4) (n κ : Fin 8208) :
    hP s x (ix3 h n κ) = Ideal.div (s (ix3 h n κ)) (x (ix2 h n)) := by
  pointwise [hP]
theorem hL_at (s : FVec Ideal S4x8208x8208 .f32) (h : Fin 4) (n : Fin 8208) : hL s (ix2 h n) = ∑ x, s (ix3 h n x) := by
  pointwise [hL]
theorem hO_at (s : FVec Ideal S4x8208x8208 .f32) (h : Fin 4) (n : Fin 8208) (d : Fin 64) :
    hO v s (ix3 n h d) = ∑ x, v (ix3 x h d) * s (ix3 h n x) := by
  pointwise [hO]
theorem hLse_at (x y : FVec Ideal S4x8208 .f32) (h : Fin 4) (n : Fin 8208) : hLse x y (ix2 h n) = x (ix2 h n) + Ideal.log (y (ix2 h n)) := by
  pointwise [hLse]
theorem pad96_at (h : Fin 4) (n : Fin 8320) (d : Fin 128) : pad96 q (ix3 h n d) =
    if H : (112 ≤ n.val ∧ n.val - 112 < 8208) ∧ d.val < 96 then q (ix3 ⟨n.val - 112, H.1.2⟩ h ⟨d.val, H.2⟩) else (0 : EReal) := by
  pointwise [pad96]
  rw [zero_eq]
theorem pad64_at (h : Fin 4) (n : Fin 8320) (d : Fin 64) : pad64 v (ix3 h n d) =
    if H : 112 ≤ n.val ∧ n.val - 112 < 8208 then v (ix3 ⟨n.val - 112, H.2⟩ h d) else (0 : EReal) := by
  pointwise [pad64]
  rw [zero_eq]
theorem padLse_at (x : FVec Ideal S4x8208 .f32) (h : Fin 4) (n : Fin 8320) (d : Fin 128) : padLse x (ix3 h n d) =
    if H : 112 ≤ n.val ∧ n.val - 112 < 8208 then x (ix2 h ⟨n.val - 112, H.2⟩) else (0 : EReal) := by
  pointwise [padLse]
  rw [zero_eq]
theorem pad96T_at (h : Fin 4) (d : Fin 128) (n : Fin 8320) (X : FVec Ideal S4x8320x128 .f32) :
    truncf .bf16 (transpose S4x128x8320 [0, 2, 1] X transposes_S4x8320x128_S4x128x8320_0_2_1) bitsLt_bf16_f32 (ix3 h d n) = X (ix3 h n d) := by
  pointwise
theorem pad64T_at (h : Fin 4) (d : Fin 64) (n : Fin 8320) (X : FVec Ideal S4x8320x64 .f32) :
    truncf .bf16 (transpose S4x64x8320 [0, 2, 1] X transposes_S4x8320x64_S4x64x8320_0_2_1) bitsLt_bf16_f32 (ix3 h d n) = X (ix3 h n d) := by
  pointwise

end Cert.Proof.MlaIdeal
-- ==== Proof.Mla.HostR.lean ====
/- The host's arrays on real arguments. -/
module

public import proofs.«01_k».proof.Proof.Mla.HostE
public import proofs.«01_k».proof.Proof.Mla.Math

@[expose] public section

set_option maxRecDepth 16384

noncomputable section

namespace Cert.Proof.MlaIdeal

open Cert.MlaIdeal Cert.MlaIdeal.Gen
open Idealize.ShloMosaic Idealize.ShloMosaic.TcCoe

/-- The four arrays hold real numbers, the heads' arguments. -/
structure Reads (q k : FVec Ideal S8208x4x96 .f32) (v g : FVec Ideal S8208x4x64 .f32) (A : Fin 4 → Args) : Prop where
  q : ∀ n h d, q (ix3 n h d) = (((A h).q n d : ℝ) : EReal)
  k : ∀ n h d, k (ix3 n h d) = (((A h).k n d : ℝ) : EReal)
  v : ∀ n h d, v (ix3 n h d) = (((A h).v n d : ℝ) : EReal)
  g : ∀ n h d, g (ix3 n h d) = (((A h).g n d : ℝ) : EReal)

variable {q k : FVec Ideal S8208x4x96 .f32} {v g : FVec Ideal S8208x4x64 .f32} {A : Fin 4 → Args} (R : Reads q k v g A)

include R

theorem hS_real (h : Fin 4) (n κ : Fin 8208) : hS q k (ix3 h n κ) = (A h).S n κ := by
  rw [hS_at, sc_eq]
  simp only [R.q, R.k, ← EReal.coe_mul, ← coe_sum]
  rfl
theorem hM_real (h : Fin 4) (n : Fin 8208) : hM (hS q k) (ix2 h n) = ((A h).m n : EReal) := by
  rw [hM_at, ← Args.M_eq]
  unfold Args.M
  congr 1
  funext x
  exact hS_real R h n x
theorem hM'_real (h : Fin 4) (n : Fin 8208) : hM' (hM (hS q k)) (ix2 h n) = ((A h).m n : EReal) := (hM'_at _ h n).trans (hM_real R h n)
theorem hE_real (h : Fin 4) (n κ : Fin 8208) : hE (hS q k) (hM (hS q k)) (ix3 h n κ) = ((A h).e n κ : EReal) := by
  rw [hE_at, hS_real R, hM_real R, Args.exp_eq]
theorem hL_real (h : Fin 4) (n : Fin 8208) : hL (hE (hS q k) (hM (hS q k))) (ix2 h n) = ((A h).l n : EReal) := by
  rw [hL_at]
  simp only [hE_real R, ← coe_sum]
  rfl
theorem hE'_real (h : Fin 4) (n κ : Fin 8208) : hE (hS q k) (hM' (hM (hS q k))) (ix3 h n κ) = ((A h).e n κ : EReal) := by
  rw [hE_at, hS_real R, hM'_real R, Args.exp_eq]
theorem hL'_real (h : Fin 4) (n : Fin 8208) : hL (hE (hS q k) (hM' (hM (hS q k)))) (ix2 h n) = ((A h).l n : EReal) := by
  rw [hL_at]
  simp only [hE'_real R, ← coe_sum]
  rfl
theorem hP_real (h : Fin 4) (n κ : Fin 8208) :
    hP (hE (hS q k) (hM' (hM (hS q k)))) (hL (hE (hS q k) (hM' (hM (hS q k))))) (ix3 h n κ) = ((A h).p n κ : EReal) := by
  rw [hP_at, hE'_real R, hL'_real R, div_coe _ _ ((A h).l_pos n).ne']
  rfl
theorem hO_real (h : Fin 4) (n : Fin 8208) (d : Fin 64) :
    hO v (hP (hE (hS q k) (hM' (hM (hS q k)))) (hL (hE (hS q k) (hM' (hM (hS q k)))))) (ix3 n h d) = ((A h).o n d : EReal) := by
  rw [hO_at]
  simp only [hP_real R, R.v, ← EReal.coe_mul, ← coe_sum]
  rfl
theorem hLse_real (h : Fin 4) (n : Fin 8208) : hLse (hM (hS q k)) (hL (hE (hS q k) (hM (hS q k)))) (ix2 h n) = ((A h).lse n : EReal) := by
  rw [hLse_at, hM_real R, hL_real R, log_coe _ ((A h).l_pos n), ← EReal.coe_add]
  rfl

/-- The launch's arrays are the heads' numbers. -/
theorem q_real (h : Fin 4) (n : Fin 8320) (d : Fin 128) : pad96 q (ix3 h n d) = ((A h).head.q n.val d : EReal) := by
  rw [pad96_at]; unfold Args.head; dsimp only; split
  · exact R.q _ _ _
  · rfl
theorem k_real (h : Fin 4) (n : Fin 8320) (d : Fin 128) : pad96 k (ix3 h n d) = ((A h).head.k n.val d : EReal) := by
  rw [pad96_at]; unfold Args.head; dsimp only; split
  · exact R.k _ _ _
  · rfl
theorem v_real (h : Fin 4) (n : Fin 8320) (d : Fin 64) : pad64 v (ix3 h n d) = ((A h).head.v n.val d : EReal) := by
  rw [pad64_at]; unfold Args.head; dsimp only; split
  · exact R.v _ _ _
  · rfl
theorem g_real (h : Fin 4) (n : Fin 8320) (d : Fin 64) : pad64 g (ix3 h n d) = ((A h).head.g n.val d : EReal) := by
  rw [pad64_at]; unfold Args.head; dsimp only; split
  · exact R.g _ _ _
  · rfl
theorem o_real (h : Fin 4) (n : Fin 8320) (d : Fin 64) :
    pad64 (hO v (hP (hE (hS q k) (hM' (hM (hS q k)))) (hL (hE (hS q k) (hM' (hM (hS q k))))))) (ix3 h n d) = ((A h).opad n.val d : EReal) := by
  rw [pad64_at]; unfold Args.opad; split
  · exact hO_real R _ _ _
  · rfl
theorem lse_real (h : Fin 4) (n : Fin 8320) (d : Fin 128) :
    padLse (hLse (hM (hS q k)) (hL (hE (hS q k) (hM (hS q k))))) (ix3 h n d) = ((A h).head.lse n.val : EReal) := by
  rw [padLse_at]; unfold Args.head; dsimp only; split
  · exact hLse_real R _ _
  · rfl

end Cert.Proof.MlaIdeal
-- ==== Proof.Mla.Acc.lean ====
/- What the blocks of a tile add up to over the real numbers. -/
module

public import proofs.«01_k».proof.Proof.Mla.Val

@[expose] public section

set_option maxRecDepth 16384

noncomputable section

namespace Cert.Proof.MlaIdeal

open Cert.MlaIdeal Cert.MlaIdeal.Gen
open Idealize.ShloMosaic Idealize.ShloMosaic.TcCoe

open Finset (Ico)

variable {i : ℕ} {T : Tile Ideal} {D : Head}

/-- What the tile adds to the keys' gradient at a place of it, -/
def dkAdd (i : ℕ) (D : Head) (d : Fin 128) (κ : ℕ) : ℝ := ∑ r : Fin 640, D.q (640 * i + r.val) d * D.ds (640 * i + r.val) κ
/-- and to the values'. -/
def dvAdd (i : ℕ) (D : Head) (d : Fin 64) (κ : ℕ) : ℝ := ∑ r : Fin 640, D.g (640 * i + r.val) d * D.w (640 * i + r.val) κ

/-- The blocks from `lo` to `hi` take the state `s` to `s'`. -/
structure Adv (i : ℕ) (D : Head) (lo hi : ℕ) (s s' : St Ideal) : Prop where
  dq : ∀ (r : Fin 640) (d : Fin 128), s'.dq (ix2 r d) =
    s.dq (ix2 r d) + ((∑ κ ∈ Ico (128 * lo) (128 * hi), D.ds (640 * i + r.val) κ * D.k κ d : ℝ) : EReal)
  dk : ∀ (d : Fin 128) (κ : Fin 8320), s'.dk (ix3 (0 : Fin 1) d κ) =
    s.dk (ix3 (0 : Fin 1) d κ) + ((if κ.val ∈ Ico (128 * lo) (128 * hi) then dkAdd i D d κ.val else 0 : ℝ) : EReal)
  dv : ∀ (d : Fin 64) (κ : Fin 8320), s'.dv (ix3 (0 : Fin 1) d κ) =
    s.dv (ix3 (0 : Fin 1) d κ) + ((if κ.val ∈ Ico (128 * lo) (128 * hi) then dvAdd i D d κ.val else 0 : ℝ) : EReal)

theorem Adv.refl (lo : ℕ) (s : St Ideal) : Adv i D lo lo s s := by
  constructor <;> intros <;> simp

theorem ite_join {a b c κ : ℕ} (h1 : a ≤ b) (h2 : b ≤ c) (x : ℝ) :
    ((if κ ∈ Ico a b then x else 0) + (if κ ∈ Ico b c then x else 0) : ℝ) = if κ ∈ Ico a c then x else 0 := by
  simp only [Finset.mem_Ico]
  by_cases ha : κ < b
  · rw [if_neg (show ¬(b ≤ κ ∧ κ < c) by omega), add_zero]
    by_cases h : a ≤ κ
    · rw [if_pos (by omega), if_pos (by omega)]
    · rw [if_neg (by omega), if_neg (by omega)]
  · rw [if_neg (show ¬(a ≤ κ ∧ κ < b) by omega), zero_add]
    by_cases h : κ < c
    · rw [if_pos (by omega), if_pos (by omega)]
    · rw [if_neg (by omega), if_neg (by omega)]

theorem Adv.trans {a b c : ℕ} {s s' s'' : St Ideal} (h1 : a ≤ b) (h2 : b ≤ c) (A : Adv i D a b s s') (B : Adv i D b c s' s'') :
    Adv i D a c s s'' where
  dq r d := by
    rw [B.dq, A.dq, add_assoc, ← EReal.coe_add, Finset.sum_Ico_consecutive _ (by omega) (by omega)]
  dk d κ := by
    rw [B.dk, A.dk, add_assoc, ← EReal.coe_add, ite_join (by omega) (by omega)]
  dv d κ := by
    rw [B.dv, A.dv, add_assoc, ← EReal.coe_add, ite_join (by omega) (by omega)]

theorem sum_block (j : ℕ) (f : ℕ → ℝ) : ∑ κ ∈ Ico (128 * j) (128 * (j + 1)), f κ = ∑ l : Fin 128, f (128 * j + l.val) := by
  rw [Finset.sum_Ico_eq_sum_range, show 128 * (j + 1) - 128 * j = 128 by omega, Finset.sum_range]

theorem dk_in (j : Fin 65) (s : S1x128x8320.Idx → EReal) (f : S1x128x128.Idx → EReal) (d l : Fin 128) :
    (dkRect j).overlay s f (ix3 (0 : Fin 1) d (at_ j l)) = f (ix3 (0 : Fin 1) d l) := by
  have e : (ix3 (0 : Fin 1) d (at_ j l) : S1x128x8320.Idx) = (dkRect j).emb (ix3 (0 : Fin 1) d l : S1x128x128.Idx) := by
    funext a; fin_cases a <;> apply Fin.ext <;> simp [at_]
  rw [e]; exact Rect.overlay_emb (dkRect j) s f _

theorem dk_out (j : Fin 65) (s : S1x128x8320.Idx → EReal) (f : S1x128x128.Idx → EReal) (d : Fin 128) (κ : Fin 8320)
    (h : κ.val ∉ Ico (128 * j.val) (128 * (j.val + 1))) :
    (dkRect j).overlay s f (ix3 (0 : Fin 1) d κ) = s (ix3 (0 : Fin 1) d κ) := by
  refine Rect.overlay_of_not_mem (dkRect j) s f fun hm => h ?_
  have := Rect.mem_set_unit.mp hm 2
  rw [Finset.mem_Ico]
  simp at this
  omega

theorem dv_in (j : Fin 65) (s : S1x64x8320.Idx → EReal) (f : S1x64x128.Idx → EReal) (d : Fin 64) (l : Fin 128) :
    (dvRect j).overlay s f (ix3 (0 : Fin 1) d (at_ j l)) = f (ix3 (0 : Fin 1) d l) := by
  have e : (ix3 (0 : Fin 1) d (at_ j l) : S1x64x8320.Idx) = (dvRect j).emb (ix3 (0 : Fin 1) d l : S1x64x128.Idx) := by
    funext a; fin_cases a <;> apply Fin.ext <;> simp [at_]
  rw [e]; exact Rect.overlay_emb (dvRect j) s f _

theorem dv_out (j : Fin 65) (s : S1x64x8320.Idx → EReal) (f : S1x64x128.Idx → EReal) (d : Fin 64) (κ : Fin 8320)
    (h : κ.val ∉ Ico (128 * j.val) (128 * (j.val + 1))) :
    (dvRect j).overlay s f (ix3 (0 : Fin 1) d κ) = s (ix3 (0 : Fin 1) d κ) := by
  refine Rect.overlay_of_not_mem (dvRect j) s f fun hm => h ?_
  have := Rect.mem_set_unit.mp hm 2
  rw [Finset.mem_Ico]
  simp at this
  omega

theorem ld_dk (j : Fin 65) (s : S1x128x8320.Idx → EReal) (d l : Fin 128) :
    View.ld (Val := Elt Ideal) (e' := .f32) s (dkRect j) (ix3 (0 : Fin 1) d l) = s (ix3 (0 : Fin 1) d (at_ j l)) := by
  rw [View.ld_apply]; congr 1; funext a; fin_cases a <;> apply Fin.ext <;> simp [Rect.idx_unit_val, at_]
theorem ld_dv (j : Fin 65) (s : S1x64x8320.Idx → EReal) (d : Fin 64) (l : Fin 128) :
    View.ld (Val := Elt Ideal) (e' := .f32) s (dvRect j) (ix3 (0 : Fin 1) d l) = s (ix3 (0 : Fin 1) d (at_ j l)) := by
  rw [View.ld_apply]; congr 1; funext a; fin_cases a <;> apply Fin.ext <;> simp [Rect.idx_unit_val, at_]

theorem at_of_mem {j : Fin 65} {κ : Fin 8320} (h : κ.val ∈ Ico (128 * j.val) (128 * (j.val + 1))) : ∃ l, κ = at_ j l := by
  rw [Finset.mem_Ico] at h
  exact ⟨⟨κ.val - 128 * j.val, by omega⟩, Fin.ext (by simp [at_]; omega)⟩

theorem step_dq (W : FVec Ideal S640x128 .f32) (j : Fin 65) (s : St Ideal) : (T.step W j s).dq = T.dqTo W j s.dq := rfl
theorem step_dk (W : FVec Ideal S640x128 .f32) (j : Fin 65) (s : St Ideal) :
    (T.step W j s).dk = (dkRect j).overlay s.dk (T.dkTo W j (View.ld s.dk (dkRect j))) := rfl
theorem step_dv (W : FVec Ideal S640x128 .f32) (j : Fin 65) (s : St Ideal) :
    (T.step W j s).dv = (dvRect j).overlay s.dv (T.dvTo W (View.ld s.dv (dvRect j))) := rfl

theorem adv_step (hF : Fits i T D) (j : Fin 65) (W : FVec Ideal S640x128 .f32) (hW : IsW i D j W) (s : St Ideal) :
    Adv i D j.val (j.val + 1) s (T.step W j s) where
  dq r d := by
    rw [step_dq, dq_eq, sum_block]
    simp only [ds_coe hF j W hW, kb_apply, hF.k, at_, ← EReal.coe_mul, ← coe_sum]
  dk d κ := by
    rw [step_dk]
    by_cases h : κ.val ∈ Ico (128 * j.val) (128 * (j.val + 1))
    · rw [if_pos h]
      obtain ⟨l, rfl⟩ := at_of_mem h
      refine (dk_in j _ _ d l).trans ?_
      refine (dk_eq T W j _ d l).trans ?_
      refine congrArg₂ (· + ·) (ld_dk j _ d l) ?_
      simp only [ds_coe hF j W hW, hF.qt, at_, dkAdd, ← EReal.coe_mul, ← coe_sum]
    · rw [if_neg h, EReal.coe_zero, add_zero]; exact dk_out j _ _ d κ h
  dv d κ := by
    rw [step_dv]
    by_cases h : κ.val ∈ Ico (128 * j.val) (128 * (j.val + 1))
    · rw [if_pos h]
      obtain ⟨l, rfl⟩ := at_of_mem h
      refine (dv_in j _ _ d l).trans ?_
      refine (dv_eq T W _ d l).trans ?_
      refine congrArg₂ (· + ·) (ld_dv j _ d l) ?_
      simp only [hW _ _, hF.gt, at_, dvAdd, ← EReal.coe_mul, ← coe_sum]
    · rw [if_neg h, EReal.coe_zero, add_zero]; exact dv_out j _ _ d κ h

theorem adv_run (hi : i < 13) (hF : Fits i T D) (m : Bool) (lo n hi' : ℕ) (e : hi' = lo + n) (hn : lo + n ≤ 65)
    (hm : m = true ∨ (1 ≤ lo ∧ (n ≠ 0 → lo + n ≤ 5 * i))) (s : St Ideal) : Adv i D lo hi' s (Tile.run (T.blk m) lo n s) := by
  subst e
  induction n with
  | zero => exact Adv.refl lo s
  | succ n ih =>
    have h := ih (by omega) (hm.imp id fun h => ⟨h.1, by omega⟩)
    rw [Tile.run_succ (by omega)]
    refine h.trans (by omega) (by omega) ?_
    refine adv_step hF ⟨lo + n, by omega⟩ _ ?_ _
    rcases hm with rfl | hm
    · exact isW_pm hi hF _
    · cases m
      · exact isW_p hF _ (by show 1 ≤ lo + n; omega) (by show lo + n < 5 * i; omega)
      · exact isW_pm hi hF _

theorem adv_fin (g : grid0.Coords) (hF : Fits (g 1).val T D) (s : St Ideal) : Adv (g 1).val D 0 (5 * ((g 1).val + 1)) s (fin g T s) := by
  have hi : (g 1).val < 13 := (g 1).isLt
  have hd : diag0 g = max (5 * (g 1).val) 1 := rfl
  have hf : freeN g = 5 * (g 1).val - 1 := rfl
  unfold fin
  rw [hd, hf]
  generalize (g 1).val = i at *
  refine Adv.trans (b := max (5 * i) 1 + 4) (by omega) (by omega) ?_
    (adv_run hi hF true _ _ _ (by split <;> omega) (by split <;> omega) (.inl rfl) _)
  refine Adv.trans (b := max (5 * i) 1) (by omega) (by omega) ?_ (adv_run hi hF true _ _ _ (by omega) (by omega) (.inl rfl) _)
  refine Adv.trans (b := 1 + (5 * i - 1) / 2 * 2) (by omega) (by omega) ?_
    (adv_run hi hF false _ _ _ (by omega) (by omega) (.inr (by omega)) _)
  refine Adv.trans (b := 1 + (5 * i - 1) / 4 * 4) (by omega) (by omega) ?_
    (adv_run hi hF false _ _ _ (by omega) (by omega) (.inr (by omega)) _)
  refine Adv.trans (b := 1 + (5 * i - 1) / 8 * 8) (by omega) (by omega) ?_
    (adv_run hi hF false _ _ _ (by omega) (by omega) (.inr (by omega)) _)
  refine Adv.trans (b := 1) (by omega) (by omega) ?_ (adv_run hi hF false _ _ _ (by omega) (by omega) (.inr (by omega)) _)
  exact adv_run hi hF true _ _ _ (by omega) (by omega) (.inl rfl) _

end Cert.Proof.MlaIdeal
-- ==== Proof.Mla.Tile.lean ====
/- The launch's blocks, read off its arrays: a point's tile holds its head's numbers. -/
module

public import proofs.«01_k».proof.Proof.Mla.HostR
public import proofs.«01_k».proof.Proof.Mla.Acc

@[expose] public section

set_option maxRecDepth 16384

noncomputable section

namespace Cert.Proof.MlaIdeal

open Cert.MlaIdeal Cert.MlaIdeal.Gen
open Idealize.ShloMosaic Idealize.ShloMosaic.TcCoe

variable (m : (ℓ : Loc nD τ sig) → Buf (Elt Ideal) ℓ) (c : Dev nD)

theorem lt52 (t : Fin cfg0.N) : t.val < 52 := lt_of_lt_of_eq t.isLt (show cfg0.N = 52 from N_0)
/-- A point's head, -/
def hd (t : Fin cfg0.N) : Fin 4 := ⟨t.val / 13, by have := lt52 t; omega⟩
/-- and the row of its tile's row. -/
def row (t : Fin cfg0.N) (r : Fin 640) : Fin 8320 := ⟨640 * (t.val % 13) + r.val, by omega⟩

theorem idx0 : ∀ t : Fin cfg0.N, win0_0.index t 0 = t.val / 13 ∧ win0_0.index t 1 = t.val % 13 ∧ win0_0.index t 2 = 0 := by decide +kernel
theorem iblk0_at (t : Fin cfg0.N) (a : Fin 640) (b : Fin 128) :
    iblk m c 0 t (ix3 (0 : Fin 1) a b) = V m c main_v45 (ix3 (hd t) (row t a) b) := by
  obtain ⟨h0, h1, h2⟩ := idx0 t
  unfold iblk
  rw [View.read_apply]
  show V m c main_v45 _ = V m c main_v45 _
  congr 1
  funext x
  apply Fin.ext
  match x with
  | ⟨0, _⟩ => show win0_0.index t 0 * 1 + 1 * 0 = t.val / 13; rw [h0]; omega
  | ⟨1, _⟩ => show win0_0.index t 1 * 640 + 1 * a.val = 640 * (t.val % 13) + a.val; rw [h1]; omega
  | ⟨2, _⟩ => show win0_0.index t 2 * 128 + 1 * b.val = b.val; rw [h2]; omega
theorem idx1 : ∀ t : Fin cfg0.N, win0_1.index t 0 = t.val / 13 ∧ win0_1.index t 1 = 0 ∧ win0_1.index t 2 = 0 := by decide +kernel
theorem iblk1_at (t : Fin cfg0.N) (a : Fin 8320) (b : Fin 128) :
    iblk m c 1 t (ix3 (0 : Fin 1) a b) = V m c main_v48 (ix3 (hd t) a b) := by
  obtain ⟨h0, h1, h2⟩ := idx1 t
  unfold iblk
  rw [View.read_apply]
  show V m c main_v48 _ = V m c main_v48 _
  congr 1
  funext x
  apply Fin.ext
  match x with
  | ⟨0, _⟩ => show win0_1.index t 0 * 1 + 1 * 0 = t.val / 13; rw [h0]; omega
  | ⟨1, _⟩ => show win0_1.index t 1 * 8320 + 1 * a.val = a.val; rw [h1]; omega
  | ⟨2, _⟩ => show win0_1.index t 2 * 128 + 1 * b.val = b.val; rw [h2]; omega
theorem idx2 : ∀ t : Fin cfg0.N, win0_2.index t 0 = t.val / 13 ∧ win0_2.index t 1 = 0 ∧ win0_2.index t 2 = 0 := by decide +kernel
theorem iblk2_at (t : Fin cfg0.N) (a : Fin 8320) (b : Fin 64) :
    iblk m c 2 t (ix3 (0 : Fin 1) a b) = V m c main_v51 (ix3 (hd t) a b) := by
  obtain ⟨h0, h1, h2⟩ := idx2 t
  unfold iblk
  rw [View.read_apply]
  show V m c main_v51 _ = V m c main_v51 _
  congr 1
  funext x
  apply Fin.ext
  match x with
  | ⟨0, _⟩ => show win0_2.index t 0 * 1 + 1 * 0 = t.val / 13; rw [h0]; omega
  | ⟨1, _⟩ => show win0_2.index t 1 * 8320 + 1 * a.val = a.val; rw [h1]; omega
  | ⟨2, _⟩ => show win0_2.index t 2 * 64 + 1 * b.val = b.val; rw [h2]; omega
theorem idx3 : ∀ t : Fin cfg0.N, win0_3.index t 0 = t.val / 13 ∧ win0_3.index t 1 = t.val % 13 ∧ win0_3.index t 2 = 0 := by decide +kernel
theorem iblk3_at (t : Fin cfg0.N) (a : Fin 640) (b : Fin 64) :
    iblk m c 3 t (ix3 (0 : Fin 1) a b) = V m c main_v53 (ix3 (hd t) (row t a) b) := by
  obtain ⟨h0, h1, h2⟩ := idx3 t
  unfold iblk
  rw [View.read_apply]
  show V m c main_v53 _ = V m c main_v53 _
  congr 1
  funext x
  apply Fin.ext
  match x with
  | ⟨0, _⟩ => show win0_3.index t 0 * 1 + 1 * 0 = t.val / 13; rw [h0]; omega
  | ⟨1, _⟩ => show win0_3.index t 1 * 640 + 1 * a.val = 640 * (t.val % 13) + a.val; rw [h1]; omega
  | ⟨2, _⟩ => show win0_3.index t 2 * 64 + 1 * b.val = b.val; rw [h2]; omega
theorem idx4 : ∀ t : Fin cfg0.N, win0_4.index t 0 = t.val / 13 ∧ win0_4.index t 1 = t.val % 13 ∧ win0_4.index t 2 = 0 := by decide +kernel
theorem iblk4_at (t : Fin cfg0.N) (a : Fin 640) (b : Fin 128) :
    iblk m c 4 t (ix3 (0 : Fin 1) a b) = V m c main_v43 (ix3 (hd t) (row t a) b) := by
  obtain ⟨h0, h1, h2⟩ := idx4 t
  unfold iblk
  rw [View.read_apply]
  show V m c main_v43 _ = V m c main_v43 _
  congr 1
  funext x
  apply Fin.ext
  match x with
  | ⟨0, _⟩ => show win0_4.index t 0 * 1 + 1 * 0 = t.val / 13; rw [h0]; omega
  | ⟨1, _⟩ => show win0_4.index t 1 * 640 + 1 * a.val = 640 * (t.val % 13) + a.val; rw [h1]; omega
  | ⟨2, _⟩ => show win0_4.index t 2 * 128 + 1 * b.val = b.val; rw [h2]; omega
theorem idx5 : ∀ t : Fin cfg0.N, win0_5.index t 0 = t.val / 13 ∧ win0_5.index t 1 = t.val % 13 ∧ win0_5.index t 2 = 0 := by decide +kernel
theorem iblk5_at (t : Fin cfg0.N) (a : Fin 640) (b : Fin 64) :
    iblk m c 5 t (ix3 (0 : Fin 1) a b) = V m c main_v55 (ix3 (hd t) (row t a) b) := by
  obtain ⟨h0, h1, h2⟩ := idx5 t
  unfold iblk
  rw [View.read_apply]
  show V m c main_v55 _ = V m c main_v55 _
  congr 1
  funext x
  apply Fin.ext
  match x with
  | ⟨0, _⟩ => show win0_5.index t 0 * 1 + 1 * 0 = t.val / 13; rw [h0]; omega
  | ⟨1, _⟩ => show win0_5.index t 1 * 640 + 1 * a.val = 640 * (t.val % 13) + a.val; rw [h1]; omega
  | ⟨2, _⟩ => show win0_5.index t 2 * 64 + 1 * b.val = b.val; rw [h2]; omega
theorem idx6 : ∀ t : Fin cfg0.N, win0_6.index t 0 = t.val / 13 ∧ win0_6.index t 1 = 0 ∧ win0_6.index t 2 = t.val % 13 := by decide +kernel
theorem iblk6_at (t : Fin cfg0.N) (a : Fin 128) (b : Fin 640) :
    iblk m c 6 t (ix3 (0 : Fin 1) a b) = V m c main_v57 (ix3 (hd t) a (row t b)) := by
  obtain ⟨h0, h1, h2⟩ := idx6 t
  unfold iblk
  rw [View.read_apply]
  show V m c main_v57 _ = V m c main_v57 _
  congr 1
  funext x
  apply Fin.ext
  match x with
  | ⟨0, _⟩ => show win0_6.index t 0 * 1 + 1 * 0 = t.val / 13; rw [h0]; omega
  | ⟨1, _⟩ => show win0_6.index t 1 * 128 + 1 * a.val = a.val; rw [h1]; omega
  | ⟨2, _⟩ => show win0_6.index t 2 * 640 + 1 * b.val = 640 * (t.val % 13) + b.val; rw [h2]; omega
theorem idx7 : ∀ t : Fin cfg0.N, win0_7.index t 0 = t.val / 13 ∧ win0_7.index t 1 = 0 ∧ win0_7.index t 2 = t.val % 13 := by decide +kernel
theorem iblk7_at (t : Fin cfg0.N) (a : Fin 64) (b : Fin 640) :
    iblk m c 7 t (ix3 (0 : Fin 1) a b) = V m c main_v59 (ix3 (hd t) a (row t b)) := by
  obtain ⟨h0, h1, h2⟩ := idx7 t
  unfold iblk
  rw [View.read_apply]
  show V m c main_v59 _ = V m c main_v59 _
  congr 1
  funext x
  apply Fin.ext
  match x with
  | ⟨0, _⟩ => show win0_7.index t 0 * 1 + 1 * 0 = t.val / 13; rw [h0]; omega
  | ⟨1, _⟩ => show win0_7.index t 1 * 64 + 1 * a.val = a.val; rw [h1]; omega
  | ⟨2, _⟩ => show win0_7.index t 2 * 640 + 1 * b.val = 640 * (t.val % 13) + b.val; rw [h2]; omega

theorem pay336_at (x : S1x640x128.Idx → EReal) (r : Fin 640) (d : Fin 128) : k0_pay336 (F := Ideal) x (ix2 r d) = x (ix3 (0 : Fin 1) r d) := by
  pointwise [k0_pay336]
theorem pay338_at (x : S1x640x64.Idx → EReal) (r : Fin 640) (d : Fin 64) : k0_pay338 (F := Ideal) x (ix2 r d) = x (ix3 (0 : Fin 1) r d) := by
  pointwise [k0_pay338, k0_pay337]
theorem pay334_at (x : S1x128x640.Idx → EReal) (r : Fin 640) (d : Fin 128) : k0_pay334 (F := Ideal) x (ix2 d r) = x (ix3 (0 : Fin 1) d r) := by
  pointwise [k0_pay334]
theorem pay335_at (x : S1x64x640.Idx → EReal) (r : Fin 640) (d : Fin 64) : k0_pay335 (F := Ideal) x (ix2 d r) = x (ix3 (0 : Fin 1) d r) := by
  pointwise [k0_pay335]
theorem pay339_at (x y : S1x640x64.Idx → EReal) (r : Fin 640) :
    k0_pay339 (F := Ideal) x y (ix2 r (0 : Fin 1)) = ∑ d, x (ix3 (0 : Fin 1) r d) * y (ix3 (0 : Fin 1) r d) := by
  pointwise [k0_pay339, k0_pay337]
theorem pay339_real (x y : S1x640x64.Idx → EReal) (r : Fin 640) (f g : Fin 64 → ℝ) (hx : ∀ d, x (ix3 (0 : Fin 1) r d) = (f d : EReal))
    (hy : ∀ d, y (ix3 (0 : Fin 1) r d) = (g d : EReal)) : k0_pay339 (F := Ideal) x y (ix2 r (0 : Fin 1)) = ((∑ d, f d * g d : ℝ) : EReal) := by
  rw [pay339_at]
  simp only [hx, hy, ← EReal.coe_mul, ← coe_sum]
theorem pay340_at (x : S1x640x128.Idx → EReal) (r : Fin 640) : k0_pay340 (F := Ideal) x (ix2 r (0 : Fin 1)) = x (ix3 (0 : Fin 1) r (127 : Fin 128)) := by
  pointwise [k0_pay340]
theorem lane_at (r : Fin 640) (l : Fin 128) : iota .tc S640x128 32 [1] Facts₀.iota_S640x128_d1_w32 (ix2 r l) = BitVec.ofNat 32 l.val := by
  pointwise
theorem pay341_at (i : grid0.Coords) (r : Fin 640) (l : Fin 128) : k0_pay341 i (ix2 r l) = BitVec.ofNat 32 (640 * (i 1).val + r.val) := by
  pointwise [k0_pay341]
  rw [BitVec.ofNat_add, BitVec.ofNat_mul, mul_comm]
  rfl

variable {m c} {A : Fin 4 → Args} (R : Reads (aq m c) (ak m c) (av m c) (ag m c) A)

include R

variable (t : Fin cfg0.N)

theorem fits_q (r : Fin 640) (d : Fin 128) : (tileAt m c t).q (ix2 r d) = (((A (hd t)).head.q (640 * (t.val % 13) + r.val) d : ℝ) : EReal) := by
  refine (pay336_at (iblk m c 0 t) r d).trans ((iblk0_at m c t r d).trans ?_)
  exact (congrFun (V_q m c) _).trans (q_real R (hd t) (row t r) d)
theorem fits_g (r : Fin 640) (d : Fin 64) : (tileAt m c t).dob (ix2 r d) = (((A (hd t)).head.g (640 * (t.val % 13) + r.val) d : ℝ) : EReal) := by
  refine (pay338_at (iblk m c 5 t) r d).trans ((iblk5_at m c t r d).trans ?_)
  exact (congrFun (V_g m c) _).trans (g_real R (hd t) (row t r) d)
theorem fits_qt (r : Fin 640) (d : Fin 128) : (tileAt m c t).qt (ix2 d r) = (((A (hd t)).head.q (640 * (t.val % 13) + r.val) d : ℝ) : EReal) := by
  refine (pay334_at (iblk m c 6 t) r d).trans ((iblk6_at m c t d r).trans ?_)
  exact (congrFun (V_qt m c) _).trans ((pad96T_at _ _ _ _).trans (q_real R (hd t) (row t r) d))
theorem fits_gt (r : Fin 640) (d : Fin 64) : (tileAt m c t).dot (ix2 d r) = (((A (hd t)).head.g (640 * (t.val % 13) + r.val) d : ℝ) : EReal) := by
  refine (pay335_at (iblk m c 7 t) r d).trans ((iblk7_at m c t d r).trans ?_)
  exact (congrFun (V_gt m c) _).trans ((pad64T_at _ _ _ _).trans (g_real R (hd t) (row t r) d))
theorem fits_del (r : Fin 640) : (tileAt m c t).delta (ix2 r (0 : Fin 1)) = (((A (hd t)).head.del (640 * (t.val % 13) + r.val) : ℝ) : EReal) := by
  have h1 : ∀ d, iblk m c 5 t (ix3 (0 : Fin 1) r d) = (((A (hd t)).head.g (row t r).val d : ℝ) : EReal) := fun d =>
    (iblk5_at m c t r d).trans ((congrFun (V_g m c) _).trans (g_real R (hd t) (row t r) d))
  have h2 : ∀ d, iblk m c 3 t (ix3 (0 : Fin 1) r d) = (((A (hd t)).opad (row t r).val d : ℝ) : EReal) := fun d =>
    (iblk3_at m c t r d).trans ((congrFun (V_o m c) _).trans (o_real R (hd t) (row t r) d))
  exact pay339_real (iblk m c 5 t) (iblk m c 3 t) r _ _ h1 h2
theorem fits_lse (r : Fin 640) : (tileAt m c t).lse (ix2 r (0 : Fin 1)) = (((A (hd t)).head.lse (640 * (t.val % 13) + r.val) : ℝ) : EReal) := by
  refine (pay340_at (iblk m c 4 t) r).trans ((iblk4_at m c t r 127).trans ?_)
  exact (congrFun (V_lse m c) _).trans (lse_real R (hd t) (row t r) 127)
theorem fits_k (κ : Fin 8320) (d : Fin 128) : (tileAt m c t).K (ix3 (0 : Fin 1) κ d) = (((A (hd t)).head.k κ.val d : ℝ) : EReal) := by
  refine (iblk1_at m c t κ d).trans ?_
  exact (congrFun (V_k m c) _).trans (k_real R (hd t) κ d)
theorem fits_v (κ : Fin 8320) (d : Fin 64) : (tileAt m c t).V (ix3 (0 : Fin 1) κ d) = (((A (hd t)).head.v κ.val d : ℝ) : EReal) := by
  refine (iblk2_at m c t κ d).trans ?_
  exact (congrFun (V_v m c) _).trans (v_real R (hd t) κ d)

theorem fits : Fits (t.val % 13) (tileAt m c t) (A (hd t)).head :=
  ⟨fits_q R t, fits_g R t, fits_qt R t, fits_gt R t, fits_del R t, fits_lse R t, fits_k R t, fits_v R t, fun r l => lane_at r l,
    fun r l => (pay341_at (grid0.coords t) r l).trans (by rw [coords_tile])⟩

end Cert.Proof.MlaIdeal
-- ==== Proof.Mla.Points.lean ====
/- What the launch's accumulators hold point by point, over the real numbers. -/
module

public import proofs.«01_k».proof.Proof.Mla.Tile

@[expose] public section

set_option maxRecDepth 16384

noncomputable section

namespace Cert.Proof.MlaIdeal

open Cert.MlaIdeal Cert.MlaIdeal.Gen
open Idealize.ShloMosaic Idealize.ShloMosaic.TcCoe

open Finset (Ico range)

variable {D : Head}

/-- What a tile's rows add to a key's gradient is their part of the sum over all rows. -/
theorem dkAdd_eq (i : ℕ) (d : Fin 128) (κ : ℕ) : ∑ R ∈ range (640 * i), D.q R d * D.ds R κ + dkAdd i D d κ =
    ∑ R ∈ range (640 * (i + 1)), D.q R d * D.ds R κ := by
  rw [show 640 * (i + 1) = 640 * i + 640 by ring, Finset.sum_range_add, dkAdd,
    Fin.sum_univ_eq_sum_range (fun r => D.q (640 * i + r) d * D.ds (640 * i + r) κ) 640]
theorem dvAdd_eq (i : ℕ) (d : Fin 64) (κ : ℕ) : ∑ R ∈ range (640 * i), D.g R d * D.w R κ + dvAdd i D d κ =
    ∑ R ∈ range (640 * (i + 1)), D.g R d * D.w R κ := by
  rw [show 640 * (i + 1) = 640 * i + 640 by ring, Finset.sum_range_add, dvAdd,
    Fin.sum_univ_eq_sum_range (fun r => D.g (640 * i + r) d * D.w (640 * i + r) κ) 640]
theorem dkAdd_if (i : ℕ) (d : Fin 128) (κ : ℕ) :
    (if κ ∈ Ico (128 * 0) (128 * (5 * (i + 1))) then dkAdd i D d κ else 0) = dkAdd i D d κ := by
  split
  · rfl
  · rename_i h
    rw [Finset.mem_Ico] at h
    exact (Finset.sum_eq_zero fun r _ => by rw [D.ds_zero _ _ (show 640 * i + r.val < κ by omega), mul_zero]).symm
theorem dvAdd_if (i : ℕ) (d : Fin 64) (κ : ℕ) :
    (if κ ∈ Ico (128 * 0) (128 * (5 * (i + 1))) then dvAdd i D d κ else 0) = dvAdd i D d κ := by
  split
  · rfl
  · rename_i h
    rw [Finset.mem_Ico] at h
    exact (Finset.sum_eq_zero fun r _ => by rw [D.w_zero _ _ (show 640 * i + r.val < κ by omega), mul_zero]).symm
theorem dqAdd_eq (i : ℕ) (hi : i < 13) (r : Fin 640) (d : Fin 128) :
    ∑ κ ∈ Ico (128 * 0) (128 * (5 * (i + 1))), D.ds (640 * i + r.val) κ * D.k κ d = ∑ κ ∈ range 8320, D.ds (640 * i + r.val) κ * D.k κ d := by
  rw [Finset.range_eq_Ico]
  refine Finset.sum_subset (Finset.Ico_subset_Ico (by omega) (by omega)) fun κ _ h => ?_
  rw [Finset.mem_Ico] at h
  rw [D.ds_zero _ _ (show 640 * i + r.val < κ by omega), zero_mul]

variable {m : (ℓ : Loc nD τ sig) → Buf (Elt Ideal) ℓ} {c : Dev nD} {A : Fin 4 → Args}

theorem pay332_at (d : Fin 128) (κ : Fin 8320) : k0_pay332 (F := Ideal) (ix3 (0 : Fin 1) d κ) = (0 : EReal) := by
  pointwise [k0_pay332]
theorem pay333_at (d : Fin 64) (κ : Fin 8320) : k0_pay333 (F := Ideal) (ix3 (0 : Fin 1) d κ) = (0 : EReal) := by
  pointwise [k0_pay333]
theorem zeroq_at (r : Fin 640) (d : Fin 128) : (broadcast S640x128 (Scalar.ofBits .f32 0x00000000#32) : FVec Ideal S640x128 .f32) (ix2 r d) = (0 : EReal) := by
  pointwise

/-- The state after a point, all but what it started the accumulators from. -/
structure At (A : Fin 4 → Args) (n : ℕ) (h : Fin 4) (s : St Ideal) : Prop where
  dq : ∀ (r : Fin 640) (d : Fin 128), s.dq (ix2 r d) =
    ((∑ κ ∈ range 8320, (A h).head.ds (640 * (n % 13) + r.val) κ * (A h).head.k κ d : ℝ) : EReal)
  dk : ∀ (d : Fin 128) (κ : Fin 8320), s.dk (ix3 (0 : Fin 1) d κ) =
    ((∑ R ∈ range (640 * (n % 13 + 1)), (A h).head.q R d * (A h).head.ds R κ.val : ℝ) : EReal)
  dv : ∀ (d : Fin 64) (κ : Fin 8320), s.dv (ix3 (0 : Fin 1) d κ) =
    ((∑ R ∈ range (640 * (n % 13 + 1)), (A h).head.g R d * (A h).head.w R κ.val : ℝ) : EReal)

variable (R : Reads (aq m c) (ak m c) (av m c) (ag m c) A)

include R

theorem point (t : Fin cfg0.N) (a : S1x128x8320.Idx → EReal) (b : S1x64x8320.Idx → EReal)
    (ha : t.val % 13 ≠ 0 → ∀ (d : Fin 128) (κ : Fin 8320), a (ix3 (0 : Fin 1) d κ) =
      ((∑ R ∈ range (640 * (t.val % 13)), (A (hd t)).head.q R d * (A (hd t)).head.ds R κ.val : ℝ) : EReal))
    (hb : t.val % 13 ≠ 0 → ∀ (d : Fin 64) (κ : Fin 8320), b (ix3 (0 : Fin 1) d κ) =
      ((∑ R ∈ range (640 * (t.val % 13)), (A (hd t)).head.g R d * (A (hd t)).head.w R κ.val : ℝ) : EReal)) :
    At A t.val (hd t) (pointSt m c t a b) := by
  have hc : (grid0.coords t 1).val = t.val % 13 := coords_tile t
  have H : Adv (grid0.coords t 1).val (A (hd t)).head 0 (5 * ((grid0.coords t 1).val + 1)) (start (grid0.coords t) a b) (pointSt m c t a b) :=
    adv_fin (grid0.coords t) (by rw [hc]; exact fits R t) _
  rw [hc] at H
  have hk : ∀ (d : Fin 128) (κ : Fin 8320), (start (F := Ideal) (grid0.coords t) a b).dk (ix3 (0 : Fin 1) d κ) =
      ((∑ R ∈ range (640 * (t.val % 13)), (A (hd t)).head.q R d * (A (hd t)).head.ds R κ.val : ℝ) : EReal) := fun d κ => by
    show (if (grid0.coords t 1).val = 0 then k0_pay332 (F := Ideal) else a) (ix3 (0 : Fin 1) d κ) = _
    rw [hc]
    by_cases h0 : t.val % 13 = 0
    · rw [if_pos h0, h0]; simpa using pay332_at d κ
    · rw [if_neg h0]; exact ha h0 d κ
  have hv : ∀ (d : Fin 64) (κ : Fin 8320), (start (F := Ideal) (grid0.coords t) a b).dv (ix3 (0 : Fin 1) d κ) =
      ((∑ R ∈ range (640 * (t.val % 13)), (A (hd t)).head.g R d * (A (hd t)).head.w R κ.val : ℝ) : EReal) := fun d κ => by
    show (if (grid0.coords t 1).val = 0 then k0_pay333 (F := Ideal) else b) (ix3 (0 : Fin 1) d κ) = _
    rw [hc]
    by_cases h0 : t.val % 13 = 0
    · rw [if_pos h0, h0]; simpa using pay333_at d κ
    · rw [if_neg h0]; exact hb h0 d κ
  refine ⟨fun r d => ?_, fun d κ => ?_, fun d κ => ?_⟩
  · rw [H.dq, dqAdd_eq _ (by omega)]
    refine Eq.trans (congrArg (· + _) (zeroq_at r d)) (zero_add _)
  · rw [H.dk, hk, dkAdd_if, ← EReal.coe_add, dkAdd_eq]
  · rw [H.dv, hv, dvAdd_if, ← EReal.coe_add, dvAdd_eq]

theorem stAt_at : ∀ (n : ℕ) (h : n < cfg0.N), At A n (hd ⟨n, h⟩) (stAt m c n h)
  | 0, h => point R ⟨0, h⟩ _ _ (fun h0 => absurd rfl h0) (fun h0 => absurd rfl h0)
  | n + 1, h => by
    have ih := stAt_at n (Nat.lt_of_succ_lt h)
    have e : (n + 1) % 13 ≠ 0 → hd ⟨n, Nat.lt_of_succ_lt h⟩ = hd ⟨n + 1, h⟩ ∧ n % 13 + 1 = (n + 1) % 13 := fun h0 =>
      ⟨Fin.ext (by show n / 13 = (n + 1) / 13; omega), by omega⟩
    refine point R ⟨n + 1, h⟩ _ _ (fun h0 d κ => ?_) (fun h0 d κ => ?_)
    · have := ih.dk d κ
      rw [(e h0).1, (e h0).2] at this
      exact this
    · have := ih.dv d κ
      rw [(e h0).1, (e h0).2] at this
      exact this

end Cert.Proof.MlaIdeal
-- ==== Proof.Mla.Final.lean ====
/- The arrays the launch ends with. -/
module

public import proofs.«01_k».proof.Proof.Mla.Points

@[expose] public section

set_option maxRecDepth 16384

noncomputable section

namespace Cert.Proof.MlaIdeal

open Cert.MlaIdeal Cert.MlaIdeal.Gen
open Idealize.SL.Sem
open Idealize.ShloMosaic Idealize.ShloMosaic.TcCoe

open Finset (range)

/-- The three results of the heads' numbers. -/
def outQ (A : Fin 4 → Args) : S4x8320x128.Idx → EReal := fun i =>
  ((∑ κ ∈ range 8320, (A (i 0)).head.ds (i 1).val κ * (A (i 0)).head.k κ (i 2) : ℝ) : EReal)
def outK (A : Fin 4 → Args) : S4x128x8320.Idx → EReal := fun i =>
  ((∑ R ∈ range 8320, (A (i 0)).head.q R (i 1) * (A (i 0)).head.ds R (i 2).val : ℝ) : EReal)
def outV (A : Fin 4 → Args) : S4x64x8320.Idx → EReal := fun i =>
  ((∑ R ∈ range 8320, (A (i 0)).head.g R (i 1) * (A (i 0)).head.w R (i 2).val : ℝ) : EReal)

theorem pay13_at (x : S640x128.Idx → EReal) (r : Fin 640) (d : Fin 128) : k0_pay13 (F := Ideal) x (ix3 (0 : Fin 1) r d) = x (ix2 r d) := by
  pointwise [k0_pay13]

theorem ix3_eta {a b c : ℕ} (j : (⟨3, ![a, b, c]⟩ : Shape).Idx) : j = ix3 (j 0) (j 1) (j 2) := by
  funext x; fin_cases x <;> rfl

variable (m : (ℓ : Loc nD τ sig) → Buf (Elt Ideal) ℓ) (ρ : Dev nD → PrngReg)
variable {m} {c : Dev nD} {A : Fin 4 → Args} (R : Reads (aq m c) (ak m c) (av m c) (ag m c) A)

theorem idx8 : ∀ t : Fin cfg0.N, win0_8.index t 0 = t.val / 13 ∧ win0_8.index t 1 = t.val % 13 ∧ win0_8.index t 2 = 0 := by decide +kernel
theorem emb8 (t : Fin cfg0.N) (x : Fin 1) (a : Fin 640) (b : Fin 128) :
    ((cfg0.win 8).blk t).view.read (Elt Ideal) (outQ A) (ix3 x a b) = outQ A (ix3 (hd t) (row t a) b) := by
  obtain ⟨h0, h1, h2⟩ := idx8 t
  rw [View.read_apply]
  show outQ A _ = outQ A _
  congr 1
  funext y
  apply Fin.ext
  match y with
  | ⟨0, _⟩ => show win0_8.index t 0 * 1 + 1 * x.val = t.val / 13; rw [h0]; omega
  | ⟨1, _⟩ => show win0_8.index t 1 * 640 + 1 * a.val = 640 * (t.val % 13) + a.val; rw [h1]; omega
  | ⟨2, _⟩ => show win0_8.index t 2 * 128 + 1 * b.val = b.val; rw [h2]; omega
include R in
theorem flushed8 (t : Fin cfg0.N)  :
    (dats m 0 c).flushed 8 t = ((cfg0.win 8).blk t).view.read (Elt Ideal) (outQ A) := by
  have H := stAt_at R t.val t.isLt
  show (cfg0.win 8).cut (grid0.coords t) ((dats m 0 c).after 8 t) = _
  rw [after0_8]
  funext j
  obtain ⟨x, a, b, rfl⟩ : ∃ (x : Fin 1) (a : Fin 640) (b : Fin 128), j = ix3 x a b := ⟨_, _, _, ix3_eta (a := 1) (b := 640) (c := 128) j⟩
  obtain rfl : x = 0 := Subsingleton.elim _ _
  refine Eq.trans ?_ (emb8 t 0 a b).symm
  exact (pay13_at _ a b).trans (H.dq a b)
theorem cover8 (i : S4x8320x128.Idx) : ∃ t : Fin cfg0.N, (cfg0.win 8).flush t = true ∧ i ∈ ((cfg0.win 8).blk t).view.set := by
  have l0 : (i 0).val < 4 := (i 0).isLt
  have l1 : (i 1).val < 8320 := (i 1).isLt
  have l2 : (i 2).val < 128 := (i 2).isLt
  have hN : cfg0.N = 52 := N_0
  refine ⟨⟨13 * (i 0).val + (i 1).val / 640, by omega⟩, flush0_8 _, ?_⟩
  generalize ht : (⟨13 * (i 0).val + (i 1).val / 640, _⟩ : Fin cfg0.N) = t
  have hv : t.val = 13 * (i 0).val + (i 1).val / 640 := by rw [← ht]
  obtain ⟨h0, h1, h2⟩ := idx8 t
  show i ∈ ((View.whole main_v60_0).slice (win0_8.rect t)).set
  rw [View.set_slice_whole, Rect.mem_set_unit]
  intro y
  match y with
  | ⟨0, _⟩ => show win0_8.index t 0 * 1 ≤ (i 0).val ∧ (i 0).val < win0_8.index t 0 * 1 + 1; rw [h0]; omega
  | ⟨1, _⟩ => show win0_8.index t 1 * 640 ≤ (i 1).val ∧ (i 1).val < win0_8.index t 1 * 640 + 640; rw [h1]; omega
  | ⟨2, _⟩ => show win0_8.index t 2 * 128 ≤ (i 2).val ∧ (i 2).val < win0_8.index t 2 * 128 + 128; rw [h2]; omega
include R in
theorem final8 : (dats m 0 c).arrAt 8 cfg0.N = outQ A :=
  (dats m 0 c).arrAt_eq_of_cover 8 (outQ A) (fun t _ => flushed8 R t) cover8

theorem idx9 : ∀ t : Fin cfg0.N, win0_9.index t 0 = t.val / 13 ∧ win0_9.index t 1 = 0 ∧ win0_9.index t 2 = 0 := by decide +kernel
theorem emb9 (t : Fin cfg0.N) (x : Fin 1) (a : Fin 128) (b : Fin 8320) :
    ((cfg0.win 9).blk t).view.read (Elt Ideal) (outK A) (ix3 x a b) = outK A (ix3 (hd t) a b) := by
  obtain ⟨h0, h1, h2⟩ := idx9 t
  rw [View.read_apply]
  show outK A _ = outK A _
  congr 1
  funext y
  apply Fin.ext
  match y with
  | ⟨0, _⟩ => show win0_9.index t 0 * 1 + 1 * x.val = t.val / 13; rw [h0]; omega
  | ⟨1, _⟩ => show win0_9.index t 1 * 128 + 1 * a.val = a.val; rw [h1]; omega
  | ⟨2, _⟩ => show win0_9.index t 2 * 8320 + 1 * b.val = b.val; rw [h2]; omega
include R in
theorem flushed9 (t : Fin cfg0.N) (hf : (cfg0.win 9).flush t = true) :
    (dats m 0 c).flushed 9 t = ((cfg0.win 9).blk t).view.read (Elt Ideal) (outK A) := by
  have H := stAt_at R t.val t.isLt
  have h12 : t.val % 13 = 12 := (flush0_9 t).mp hf
  show (cfg0.win 9).cut (grid0.coords t) ((dats m 0 c).after 9 t) = _
  rw [after0_9]
  funext j
  obtain ⟨x, a, b, rfl⟩ : ∃ (x : Fin 1) (a : Fin 128) (b : Fin 8320), j = ix3 x a b := ⟨_, _, _, ix3_eta (a := 1) (b := 128) (c := 8320) j⟩
  obtain rfl : x = 0 := Subsingleton.elim _ _
  refine Eq.trans ?_ (emb9 t 0 a b).symm
  refine (H.dk a b).trans ?_
  rw [h12]; rfl
theorem cover9 (i : S4x128x8320.Idx) : ∃ t : Fin cfg0.N, (cfg0.win 9).flush t = true ∧ i ∈ ((cfg0.win 9).blk t).view.set := by
  have l0 : (i 0).val < 4 := (i 0).isLt
  have l1 : (i 1).val < 128 := (i 1).isLt
  have l2 : (i 2).val < 8320 := (i 2).isLt
  have hN : cfg0.N = 52 := N_0
  refine ⟨⟨13 * (i 0).val + 12, by omega⟩, (flush0_9 _).mpr (by dsimp only; omega), ?_⟩
  generalize ht : (⟨13 * (i 0).val + 12, _⟩ : Fin cfg0.N) = t
  have hv : t.val = 13 * (i 0).val + 12 := by rw [← ht]
  obtain ⟨h0, h1, h2⟩ := idx9 t
  show i ∈ ((View.whole main_v60_1).slice (win0_9.rect t)).set
  rw [View.set_slice_whole, Rect.mem_set_unit]
  intro y
  match y with
  | ⟨0, _⟩ => show win0_9.index t 0 * 1 ≤ (i 0).val ∧ (i 0).val < win0_9.index t 0 * 1 + 1; rw [h0]; omega
  | ⟨1, _⟩ => show win0_9.index t 1 * 128 ≤ (i 1).val ∧ (i 1).val < win0_9.index t 1 * 128 + 128; rw [h1]; omega
  | ⟨2, _⟩ => show win0_9.index t 2 * 8320 ≤ (i 2).val ∧ (i 2).val < win0_9.index t 2 * 8320 + 8320; rw [h2]; omega
include R in
theorem final9 : (dats m 0 c).arrAt 9 cfg0.N = outK A :=
  (dats m 0 c).arrAt_eq_of_cover 9 (outK A) (fun t hf => flushed9 R t hf) cover9

theorem idx10 : ∀ t : Fin cfg0.N, win0_10.index t 0 = t.val / 13 ∧ win0_10.index t 1 = 0 ∧ win0_10.index t 2 = 0 := by decide +kernel
theorem emb10 (t : Fin cfg0.N) (x : Fin 1) (a : Fin 64) (b : Fin 8320) :
    ((cfg0.win 10).blk t).view.read (Elt Ideal) (outV A) (ix3 x a b) = outV A (ix3 (hd t) a b) := by
  obtain ⟨h0, h1, h2⟩ := idx10 t
  rw [View.read_apply]
  show outV A _ = outV A _
  congr 1
  funext y
  apply Fin.ext
  match y with
  | ⟨0, _⟩ => show win0_10.index t 0 * 1 + 1 * x.val = t.val / 13; rw [h0]; omega
  | ⟨1, _⟩ => show win0_10.index t 1 * 64 + 1 * a.val = a.val; rw [h1]; omega
  | ⟨2, _⟩ => show win0_10.index t 2 * 8320 + 1 * b.val = b.val; rw [h2]; omega
include R in
theorem flushed10 (t : Fin cfg0.N) (hf : (cfg0.win 10).flush t = true) :
    (dats m 0 c).flushed 10 t = ((cfg0.win 10).blk t).view.read (Elt Ideal) (outV A) := by
  have H := stAt_at R t.val t.isLt
  have h12 : t.val % 13 = 12 := (flush0_10 t).mp hf
  show (cfg0.win 10).cut (grid0.coords t) ((dats m 0 c).after 10 t) = _
  rw [after0_10]
  funext j
  obtain ⟨x, a, b, rfl⟩ : ∃ (x : Fin 1) (a : Fin 64) (b : Fin 8320), j = ix3 x a b := ⟨_, _, _, ix3_eta (a := 1) (b := 64) (c := 8320) j⟩
  obtain rfl : x = 0 := Subsingleton.elim _ _
  refine Eq.trans ?_ (emb10 t 0 a b).symm
  refine (H.dv a b).trans ?_
  rw [h12]; rfl
theorem cover10 (i : S4x64x8320.Idx) : ∃ t : Fin cfg0.N, (cfg0.win 10).flush t = true ∧ i ∈ ((cfg0.win 10).blk t).view.set := by
  have l0 : (i 0).val < 4 := (i 0).isLt
  have l1 : (i 1).val < 64 := (i 1).isLt
  have l2 : (i 2).val < 8320 := (i 2).isLt
  have hN : cfg0.N = 52 := N_0
  refine ⟨⟨13 * (i 0).val + 12, by omega⟩, (flush0_10 _).mpr (by dsimp only; omega), ?_⟩
  generalize ht : (⟨13 * (i 0).val + 12, _⟩ : Fin cfg0.N) = t
  have hv : t.val = 13 * (i 0).val + 12 := by rw [← ht]
  obtain ⟨h0, h1, h2⟩ := idx10 t
  show i ∈ ((View.whole main_v60_2).slice (win0_10.rect t)).set
  rw [View.set_slice_whole, Rect.mem_set_unit]
  intro y
  match y with
  | ⟨0, _⟩ => show win0_10.index t 0 * 1 ≤ (i 0).val ∧ (i 0).val < win0_10.index t 0 * 1 + 1; rw [h0]; omega
  | ⟨1, _⟩ => show win0_10.index t 1 * 64 ≤ (i 1).val ∧ (i 1).val < win0_10.index t 1 * 64 + 64; rw [h1]; omega
  | ⟨2, _⟩ => show win0_10.index t 2 * 8320 ≤ (i 2).val ∧ (i 2).val < win0_10.index t 2 * 8320 + 8320; rw [h2]; omega
include R in
theorem final10 : (dats m 0 c).arrAt 10 cfg0.N = outV A :=
  (dats m 0 c).arrAt_eq_of_cover 10 (outV A) (fun t hf => flushed10 R t hf) cover10

end Cert.Proof.MlaIdeal
-- ==== Proof.Mla.RefV.lean ====
/- The reference's results, as functions of the four arguments. -/
module

public import proofs.«01_k».proof.Proof.Gen.MlaRefIdeal.Run
public import Idealize.ShloMosaic.Lib.Pointwise

@[expose] public section

set_option maxRecDepth 16384

noncomputable section

namespace Cert.Proof.MlaRefIdeal

open Cert.MlaRefIdeal Cert.MlaRefIdeal.Gen
open Idealize.ShloMosaic Idealize.ShloMosaic.TcCoe

variable (q k : FVec Ideal S8208x4x96 .f32) (v g : FVec Ideal S8208x4x64 .f32)

/-- Which keys a row sees; -/
def rMask : IVec S4x8208x8208 1 :=
  broadcastInDim S4x8208x8208 ![1, 2] bcast_S8208x8208_S4x8208x8208_1_2
      (cmpi .sle (broadcastInDim S8208x8208 ![0, 1] bcast_S1x8208_S8208x8208_0_1
          (broadcastInDim S1x8208 ![1] bcast_S8208_S1x8208_1 (iotaInDim S8208 32 0)))
        (broadcastInDim S8208x8208 ![0, 1] bcast_S8208x1_S8208x8208_0_1
          (broadcastInDim S8208x1 ![0] bcast_S8208_S8208x1_0 (iotaInDim S8208 32 0))))
/-- the scaled scores; -/
def rS : FVec Ideal S4x8208x8208 .f32 :=
  select rMask (mulf (Host.dotGeneral dot_S8208x4x96_S8208x4x96_S4x8208x8208_2_2_0_0_1_1 none q k)
      (broadcastInDim S4x8208x8208 ![] bcast_S_S4x8208x8208 (constant S_ .f32 0x3DD105EC#32)))
    (broadcastInDim S4x8208x8208 ![] bcast_S_S4x8208x8208 (id (constant S_ .f32 0xFF800000#32)))
/-- a row's greatest score; -/
def rM (s : FVec Ideal S4x8208x8208 .f32) : FVec Ideal S4x8208 .f32 :=
  Host.reduce FloatOps.maximumf s (constant S_ .f32 0xFF800000#32) reducesTo_S4x8208x8208_S4x8208_d2 h_S_
/-- the same, once more compared with minus infinity; -/
def rM' (x : FVec Ideal S4x8208 .f32) : FVec Ideal S4x8208 .f32 :=
  maximumf (broadcastInDim S4x8208 ![] bcast_S_S4x8208 (constant S_ .f32 0xFF800000#32)) x
/-- the exponentials below a row's number; -/
def rE (s : FVec Ideal S4x8208x8208 .f32) (x : FVec Ideal S4x8208 .f32) : FVec Ideal S4x8208x8208 .f32 :=
  Host.exp (subf s (broadcastInDim S4x8208x8208 ![0, 1, 2] bcast_S4x8208x1_S4x8208x8208_0_1_2
    (broadcastInDim S4x8208x1 ![0, 1] bcast_S4x8208_S4x8208x1_0_1 x)))
/-- their sum; -/
def rL (e : FVec Ideal S4x8208x8208 .f32) : FVec Ideal S4x8208x1 .f32 :=
  broadcastInDim S4x8208x1 ![0, 1] bcast_S4x8208_S4x8208x1_0_1
    (Host.reduceAdd e (constant S_ .f32 0x00000000#32) reducesTo_S4x8208x8208_S4x8208_d2 h_S_)
/-- a row's number at every key of it; -/
def rAll (x : FVec Ideal S4x8208x1 .f32) : FVec Ideal S4x8208x8208 .f32 :=
  broadcastInDim S4x8208x8208 ![0, 1, 2] bcast_S4x8208x1_S4x8208x8208_0_1_2 x
/-- the weights' gradient; -/
def rDp : FVec Ideal S4x8208x8208 .f32 :=
  Host.dotGeneral dot_S4x64x8208_S8208x4x64_S4x8208x8208_1_2_2_0_0_1 none (transpose S4x64x8208 [1, 2, 0] g transposes_S8208x4x64_S4x64x8208_1_2_0) v
/-- the normaliser's gradient; -/
def rNeg (dp e : FVec Ideal S4x8208x8208 .f32) (l : FVec Ideal S4x8208x1 .f32) : FVec Ideal S4x8208x1 .f32 :=
  Host.negf (shapeCast S4x8208x1 (Host.reduceAdd (mulf (mulf dp (rAll
      (Host.divf (broadcastInDim S4x8208x1 ![] bcast_S_S4x8208x1 (constant S_ .f32 0x3F800000#32)) (mulf l l)))) e)
    (constant S_ .f32 0x00000000#32) reducesTo_S4x8208x8208_S4x8208_d2 h_S_) shapeCasts_S4x8208_S4x8208x1)
def rSum (x : FVec Ideal S4x8208x1 .f32) : FVec Ideal S4x8208x8208 .f32 :=
  broadcastInDim S4x8208x8208 ![0, 1] bcast_S4x8208_S4x8208x8208_0_1
    (Host.reduceAdd x (constant S_ .f32 0x00000000#32) reducesTo_S4x8208x1_S4x8208_d2 h_S_)
/-- the scores' gradient. -/
def rDs (dp e : FVec Ideal S4x8208x8208 .f32) (l : FVec Ideal S4x8208x1 .f32) (x : FVec Ideal S4x8208x8208 .f32) : FVec Ideal S4x8208x8208 .f32 :=
  mulf (select rMask (mulf (addf (Host.divf dp (rAll l)) x) e)
      (broadcastInDim S4x8208x8208 ![] bcast_S_S4x8208x8208 (constant S_ .f32 0x00000000#32)))
    (broadcastInDim S4x8208x8208 ![] bcast_S_S4x8208x8208 (constant S_ .f32 0x3DD105EC#32))

/-- The three results from the scores' gradient and the weights. -/
def rDq (ds : FVec Ideal S4x8208x8208 .f32) : FVec Ideal S4x8320x128 .f32 :=
  transpose S4x8320x128 [1, 0, 2] (pad S8320x4x128 ![112, 0, 0] ![0, 0, 32] ![0, 0, 0] (transpose S8208x4x96 [1, 0, 2]
    (Host.dotGeneral dot_S4x8208x8208_S8208x4x96_S4x8208x96_2_0_1_2_0_1 none ds k) transposes_S4x8208x96_S8208x4x96_1_0_2)
    (sitofp .f32 (constantI S_ 32 0#32)) pads_S8208x4x96_S8320x4x128_11200_000_0320 h_S_) transposes_S8320x4x128_S4x8320x128_1_0_2
def rDk (ds : FVec Ideal S4x8208x8208 .f32) : FVec Ideal S4x128x8320 .f32 :=
  transpose S4x128x8320 [1, 2, 0] (pad S8320x4x128 ![112, 0, 0] ![0, 0, 32] ![0, 0, 0] (transpose S8208x4x96 [1, 0, 2]
    (Host.dotGeneral dot_S4x8208x8208_S8208x4x96_S4x8208x96_1_0_2_2_0_1 none ds q) transposes_S4x8208x96_S8208x4x96_1_0_2)
    (sitofp .f32 (constantI S_ 32 0#32)) pads_S8208x4x96_S8320x4x128_11200_000_0320 h_S_) transposes_S8320x4x128_S4x128x8320_1_2_0
def rDv (p : FVec Ideal S4x8208x8208 .f32) : FVec Ideal S4x64x8320 .f32 :=
  transpose S4x64x8320 [1, 2, 0] (pad S8320x4x64 ![112, 0, 0] ![0, 0, 0] ![0, 0, 0] (transpose S8208x4x64 [2, 0, 1]
    (Host.dotGeneral dot_S4x64x8208_S4x8208x8208_S4x64x8208_2_1_1_2_0_0 none (transpose S4x64x8208 [1, 2, 0] g transposes_S8208x4x64_S4x64x8208_1_2_0) p)
    transposes_S4x64x8208_S8208x4x64_2_0_1)
    (sitofp .f32 (constantI S_ 32 0#32)) pads_S8208x4x64_S8320x4x64_11200_000_000 h_S_) transposes_S8320x4x64_S4x64x8320_1_2_0

def rExp : FVec Ideal S4x8208x8208 .f32 := rE (rS q k) (rM' (rM (rS q k)))
def rGrad : FVec Ideal S4x8208x8208 .f32 :=
  rDs (rDp v g) (rExp q k) (rL (rExp q k)) (rSum (rNeg (rDp v g) (rExp q k) (rL (rExp q k))))
def rP : FVec Ideal S4x8208x8208 .f32 := Host.divf (rExp q k) (rAll (rL (rExp q k)))

variable (m : (ℓ : Loc nD τ sig) → Buf (Elt Ideal) ℓ) (c : Dev nD)

abbrev aq : FVec Ideal S8208x4x96 .f32 := m ((c.tc : Thread nD τ).loc main_arg0)
abbrev ak : FVec Ideal S8208x4x96 .f32 := m ((c.tc : Thread nD τ).loc main_arg1)
abbrev av : FVec Ideal S8208x4x64 .f32 := m ((c.tc : Thread nD τ).loc main_arg2)
abbrev ag : FVec Ideal S8208x4x64 .f32 := m ((c.tc : Thread nD τ).loc main_arg3)

theorem res_q : Value.res_main_v64 m c = rDq (ak m c) (rGrad (aq m c) (ak m c) (av m c) (ag m c)) := by
  unfold Value.res_main_v64; rfl
theorem res_k : Value.res_main_v66 m c = rDk (aq m c) (rGrad (aq m c) (ak m c) (av m c) (ag m c)) := by
  unfold Value.res_main_v66; rfl
theorem res_v : Value.res_main_v68 m c = rDv (ag m c) (rP (aq m c) (ak m c)) := by
  unfold Value.res_main_v68; rfl

end Cert.Proof.MlaRefIdeal
-- ==== Proof.Mla.RefE.lean ====
/- The reference's operations element by element. -/
module

public import proofs.«01_k».proof.Proof.Mla.RefV
public import proofs.«01_k».proof.Proof.Mla.Math
public import Idealize.ShloMosaic.Lib.WordCmp

@[expose] public section

set_option maxRecDepth 16384

noncomputable section

namespace Cert.Proof.MlaRefIdeal

open Cert.MlaRefIdeal Cert.MlaRefIdeal.Gen
open Idealize.ShloMosaic Idealize.ShloMosaic.TcCoe

open Cert.Proof.MlaIdeal (ninf_eq zero_eq)

variable (q k : FVec Ideal S8208x4x96 .f32) (v g : FVec Ideal S8208x4x64 .f32)

theorem rMask_at (h : Fin 4) (n κ : Fin 8208) : rMask (ix3 h n κ) = BitVec.ofBool (decide (κ.val ≤ n.val)) := by
  pointwise [rMask]
  rw [WordCmp.cmpi_sle_ofNat (by omega) (by omega)]
theorem rS_at (h : Fin 4) (n κ : Fin 8208) : rS q k (ix3 h n κ) =
    if κ.val ≤ n.val then (∑ x, q (ix3 n h x) * k (ix3 κ h x)) * Ideal.ofBits .f32 0x3DD105EC#32 else (⊥ : EReal) := by
  pointwise [rS]
  rw [rMask_at]
  by_cases hk : κ.val ≤ n.val
  · simp [hk, Scalar.select]
  · simp only [hk, Scalar.select, if_false]
    exact ninf_eq
theorem rM_at (s : FVec Ideal S4x8208x8208 .f32) (h : Fin 4) (n : Fin 8208) :
    rM s (ix2 h n) = Finset.fold max (⊥ : EReal) (fun x => s (ix3 h n x)) Finset.univ := by
  pointwise [rM]
  rw [ninf_eq]
theorem rM'_at (x : FVec Ideal S4x8208 .f32) (h : Fin 4) (n : Fin 8208) : rM' x (ix2 h n) = x (ix2 h n) := by
  pointwise [rM']
  rw [ninf_eq, max_eq_right bot_le]
theorem rE_at (s : FVec Ideal S4x8208x8208 .f32) (x : FVec Ideal S4x8208 .f32) (h : Fin 4) (n κ : Fin 8208) :
    rE s x (ix3 h n κ) = Ideal.exp (s (ix3 h n κ) - x (ix2 h n)) := by
  pointwise [rE]
theorem rL_at (s : FVec Ideal S4x8208x8208 .f32) (h : Fin 4) (n : Fin 8208) : rL s (ix3 h n (0 : Fin 1)) = ∑ x, s (ix3 h n x) := by
  pointwise [rL]
theorem rAll_at (x : FVec Ideal S4x8208x1 .f32) (h : Fin 4) (n κ : Fin 8208) : rAll x (ix3 h n κ) = x (ix3 h n (0 : Fin 1)) := by
  pointwise [rAll]
theorem rDp_at (h : Fin 4) (n κ : Fin 8208) : rDp v g (ix3 h n κ) = ∑ x, g (ix3 n h x) * v (ix3 κ h x) := by
  pointwise [rDp]
theorem rNeg_at (dp e : FVec Ideal S4x8208x8208 .f32) (l : FVec Ideal S4x8208x1 .f32) (h : Fin 4) (n : Fin 8208) :
    rNeg dp e l (ix3 h n (0 : Fin 1)) =
      -(∑ x, dp (ix3 h n x) * Ideal.div 1 (l (ix3 h n (0 : Fin 1)) * l (ix3 h n (0 : Fin 1))) * e (ix3 h n x)) := by
  pointwise [rNeg, rAll]
theorem rSum_at (x : FVec Ideal S4x8208x1 .f32) (h : Fin 4) (n κ : Fin 8208) : rSum x (ix3 h n κ) = x (ix3 h n (0 : Fin 1)) := by
  pointwise [rSum]
  simp
theorem rDs_at (dp e : FVec Ideal S4x8208x8208 .f32) (l : FVec Ideal S4x8208x1 .f32) (x : FVec Ideal S4x8208x8208 .f32) (h : Fin 4) (n κ : Fin 8208) :
    rDs dp e l x (ix3 h n κ) = (if κ.val ≤ n.val then
        (Ideal.div (dp (ix3 h n κ)) (l (ix3 h n (0 : Fin 1))) + x (ix3 h n κ)) * e (ix3 h n κ) else (0 : EReal)) * Ideal.ofBits .f32 0x3DD105EC#32 := by
  pointwise [rDs]
  rw [rMask_at, rAll_at]
  by_cases hk : κ.val ≤ n.val
  · simp [hk, Scalar.select]
  · simp [hk, Scalar.select]
theorem rPdiv_at (e : FVec Ideal S4x8208x8208 .f32) (l : FVec Ideal S4x8208x1 .f32) (h : Fin 4) (n κ : Fin 8208) :
    Host.divf e (rAll l) (ix3 h n κ) = Ideal.div (e (ix3 h n κ)) (l (ix3 h n (0 : Fin 1))) := by
  pointwise [rAll]
theorem rDq_at (ds : FVec Ideal S4x8208x8208 .f32) (h : Fin 4) (n : Fin 8320) (d : Fin 128) : rDq k ds (ix3 h n d) =
    if H : (112 ≤ n.val ∧ n.val - 112 < 8208) ∧ d.val < 96 then
      ∑ x, ds (ix3 h ⟨n.val - 112, H.1.2⟩ x) * k (ix3 x h ⟨d.val, H.2⟩) else (0 : EReal) := by
  pointwise [rDq]
  rw [zero_eq]
theorem rDk_at (ds : FVec Ideal S4x8208x8208 .f32) (h : Fin 4) (n : Fin 8320) (d : Fin 128) : rDk q ds (ix3 h d n) =
    if H : (112 ≤ n.val ∧ n.val - 112 < 8208) ∧ d.val < 96 then
      ∑ x, ds (ix3 h x ⟨n.val - 112, H.1.2⟩) * q (ix3 x h ⟨d.val, H.2⟩) else (0 : EReal) := by
  pointwise [rDk]
  rw [zero_eq]
theorem rDv_at (p : FVec Ideal S4x8208x8208 .f32) (h : Fin 4) (n : Fin 8320) (d : Fin 64) : rDv g p (ix3 h d n) =
    if H : 112 ≤ n.val ∧ n.val - 112 < 8208 then
      ∑ x, g (ix3 x h d) * p (ix3 h x ⟨n.val - 112, H.2⟩) else (0 : EReal) := by
  pointwise [rDv]
  rw [zero_eq]

end Cert.Proof.MlaRefIdeal
-- ==== Proof.Mla.RefR.lean ====
/- The reference's arrays on real arguments. -/
module

public import proofs.«01_k».proof.Proof.Mla.RefE
public import proofs.«01_k».proof.Proof.Mla.Math

@[expose] public section

set_option maxRecDepth 16384

noncomputable section

namespace Cert.Proof.MlaRefIdeal

open Cert.MlaRefIdeal Cert.MlaRefIdeal.Gen
open Idealize.ShloMosaic Idealize.ShloMosaic.TcCoe

open Cert.Proof.MlaIdeal (sc sc_eq coe_sum Args div_coe log_coe)

/-- The four arrays hold real numbers, the heads' arguments. -/
structure Reads (q k : FVec Ideal S8208x4x96 .f32) (v g : FVec Ideal S8208x4x64 .f32) (A : Fin 4 → Args) : Prop where
  q : ∀ n h d, q (ix3 n h d) = (((A h).q n d : ℝ) : EReal)
  k : ∀ n h d, k (ix3 n h d) = (((A h).k n d : ℝ) : EReal)
  v : ∀ n h d, v (ix3 n h d) = (((A h).v n d : ℝ) : EReal)
  g : ∀ n h d, g (ix3 n h d) = (((A h).g n d : ℝ) : EReal)

variable {q k : FVec Ideal S8208x4x96 .f32} {v g : FVec Ideal S8208x4x64 .f32} {A : Fin 4 → Args} (R : Reads q k v g A)

include R

theorem rS_real (h : Fin 4) (n κ : Fin 8208) : rS q k (ix3 h n κ) = (A h).S n κ := by
  rw [rS_at, sc_eq]
  simp only [R.q, R.k, ← EReal.coe_mul, ← coe_sum]
  rfl
theorem rM_real (h : Fin 4) (n : Fin 8208) : rM (rS q k) (ix2 h n) = ((A h).m n : EReal) := by
  rw [rM_at, ← Args.M_eq]
  unfold Args.M
  congr 1
  funext x
  exact rS_real R h n x
theorem rM'_real (h : Fin 4) (n : Fin 8208) : rM' (rM (rS q k)) (ix2 h n) = ((A h).m n : EReal) := (rM'_at _ h n).trans (rM_real R h n)
theorem rExp_real (h : Fin 4) (n κ : Fin 8208) : rExp q k (ix3 h n κ) = ((A h).e n κ : EReal) := by
  unfold rExp
  rw [rE_at, rS_real R, rM'_real R, Args.exp_eq]
theorem rL_real (h : Fin 4) (n : Fin 8208) : rL (rExp q k) (ix3 h n (0 : Fin 1)) = ((A h).l n : EReal) := by
  rw [rL_at]
  simp only [rExp_real R, ← coe_sum]
  rfl
theorem rP_real (h : Fin 4) (n κ : Fin 8208) : rP q k (ix3 h n κ) = ((A h).p n κ : EReal) := by
  unfold rP
  rw [rPdiv_at, rExp_real R, rL_real R, div_coe _ _ ((A h).l_pos n).ne']
  rfl
theorem rDp_real (h : Fin 4) (n κ : Fin 8208) : rDp v g (ix3 h n κ) = ((A h).dp n κ : EReal) := by
  rw [rDp_at]
  simp only [R.g, R.v, ← EReal.coe_mul, ← coe_sum]
  rfl
theorem rNeg_real (h : Fin 4) (n : Fin 8208) : rNeg (rDp v g) (rExp q k) (rL (rExp q k)) (ix3 h n (0 : Fin 1)) =
    ((-∑ x, (A h).dp n x * (1 / ((A h).l n * (A h).l n)) * (A h).e n x : ℝ) : EReal) := by
  rw [rNeg_at, rL_real R, ← EReal.coe_mul, ← EReal.coe_one, div_coe _ _ (mul_pos ((A h).l_pos n) ((A h).l_pos n)).ne']
  simp only [rDp_real R, rExp_real R, ← EReal.coe_mul, ← coe_sum, ← EReal.coe_neg]
theorem rGrad_real (h : Fin 4) (n κ : Fin 8208) : rGrad q k v g (ix3 h n κ) = ((A h).ds n κ : EReal) := by
  unfold rGrad
  rw [rDs_at, rSum_at, rNeg_real R, rL_real R, rDp_real R, rExp_real R, div_coe _ _ ((A h).l_pos n).ne', sc_eq, ← EReal.coe_add,
    ← EReal.coe_mul, ← Args.ds_ref, EReal.coe_mul]
  congr 1
  split
  · rfl
  · rfl

/-- The reference's three results. -/
theorem rDq_real (h : Fin 4) (n : Fin 8320) (d : Fin 128) : rDq k (rGrad q k v g) (ix3 h n d) =
    ((if H : (112 ≤ n.val ∧ n.val - 112 < 8208) ∧ d.val < 96 then
      ∑ x, (A h).ds ⟨n.val - 112, H.1.2⟩ x * (A h).k x ⟨d.val, H.2⟩ else 0 : ℝ) : EReal) := by
  rw [rDq_at]
  split
  · simp only [rGrad_real R, R.k, ← EReal.coe_mul, ← coe_sum]
  · rfl
theorem rDk_real (h : Fin 4) (n : Fin 8320) (d : Fin 128) : rDk q (rGrad q k v g) (ix3 h d n) =
    ((if H : (112 ≤ n.val ∧ n.val - 112 < 8208) ∧ d.val < 96 then
      ∑ x, (A h).ds x ⟨n.val - 112, H.1.2⟩ * (A h).q x ⟨d.val, H.2⟩ else 0 : ℝ) : EReal) := by
  rw [rDk_at]
  split
  · simp only [rGrad_real R, R.q, ← EReal.coe_mul, ← coe_sum]
  · rfl
theorem rDv_real (h : Fin 4) (n : Fin 8320) (d : Fin 64) : rDv g (rP q k) (ix3 h d n) =
    ((if H : 112 ≤ n.val ∧ n.val - 112 < 8208 then ∑ x, (A h).g x d * (A h).p x ⟨n.val - 112, H.2⟩ else 0 : ℝ) : EReal) := by
  rw [rDv_at]
  split
  · simp only [rP_real R, R.g, ← EReal.coe_mul, ← coe_sum]
  · rfl

end Cert.Proof.MlaRefIdeal
-- ==== Proof.Mla.Pre.lean ====
/- The precondition, read: every element of the four arrays is a real number. -/
module

public import proofs.«01_k».proof.Defs
public import proofs.«01_k».proof.Proof.Gen.Pre_real_inputs
public import Idealize.ShloMosaic.Lib.Pointwise
public import Idealize.ShloMosaic.Lib.ReduceAll

@[expose] public section

set_option maxRecDepth 16384

noncomputable section

namespace Cert.Proof

open Idealize.ShloMosaic

theorem inf_eq : Ideal.ofBits .f32 0x7F800000#32 = (⊤ : EReal) := by simp [Ideal.ofBits, Ideal.ieee]

/-- An extended real of absolute value below infinity is a real number. -/
theorem real_of_abs (x : EReal) (h : Ideal.cmp .olt (max x (-x)) (Ideal.ofBits .f32 0x7F800000#32) = 1#1) : x = (x.toReal : EReal) := by
  rw [inf_eq] at h
  have h' : max x (-x) < (⊤ : EReal) := by
    by_contra hn
    simp [Ideal.cmp, hn] at h
  refine (EReal.coe_toReal ?_ ?_).symm
  · rintro rfl; simp at h'
  · rintro rfl; simp at h'

instance : Subsingleton Cert.Pre_real_inputs.S_.Idx := ⟨fun a b => funext fun x => x.elim0⟩

open Cert.Pre_real_inputs in
/-- What the precondition says of each array. -/
theorem pre_real (q k : FVec Ideal S8208x4x96 .f32) (v g : FVec Ideal S8208x4x64 .f32) (h : Cert.Pre_real_inputs.fn (F := Ideal) q k v g = fun _ => 1#1) :
    (∀ i, q i = ((q i).toReal : EReal)) ∧ (∀ i, k i = ((k i).toReal : EReal)) ∧ (∀ i, v i = ((v i).toReal : EReal)) ∧ (∀ i, g i = ((g i).toReal : EReal)) := by
  have h0 := congrFun h (fun x => x.elim0)
  have and1 : ∀ a b : BitVec 1, a &&& b = 1#1 → a = 1#1 ∧ b = 1#1 := by decide
  obtain ⟨h1, hg⟩ := and1 _ _ h0
  obtain ⟨h2, hv⟩ := and1 _ _ h1
  obtain ⟨hq, hk⟩ := and1 _ _ h2
  exact ⟨fun i => real_of_abs _ (Host.reduce_andi_all _ _ _ _ _ hq i), fun i => real_of_abs _ (Host.reduce_andi_all _ _ _ _ _ hk i),
    fun i => real_of_abs _ (Host.reduce_andi_all _ _ _ _ _ hv i), fun i => real_of_abs _ (Host.reduce_andi_all _ _ _ _ _ hg i)⟩

end Cert.Proof
-- ==== Proof.Mla.Algebraic.lean ====
/- The value claim: the launch's three results are the reference's. -/
module

public import proofs.«01_k».proof.Proof.Mla.Final
public import proofs.«01_k».proof.Proof.Mla.RefR
public import proofs.«01_k».proof.Proof.Mla.Pre
public import proofs.«01_k».proof.Proof.Mla.Frames

@[expose] public section

set_option maxRecDepth 16384

noncomputable section

namespace Cert.Proof

open Idealize.ShloMosaic Idealize.ShloMosaic.TcCoe
open MlaIdeal (Args outQ outK outV)

/-- The heads' real numbers. -/
def args (q k : FVec Ideal Cert.MlaIdeal.S8208x4x96 .f32) (v g : FVec Ideal Cert.MlaIdeal.S8208x4x64 .f32) : Fin 4 → Args := fun h =>
  ⟨fun n d => (q (ix3 n h d)).toReal, fun n d => (k (ix3 n h d)).toReal, fun n d => (v (ix3 n h d)).toReal, fun n d => (g (ix3 n h d)).toReal⟩

theorem ref_q {q k : FVec Ideal Cert.MlaRefIdeal.S8208x4x96 .f32} {v g : FVec Ideal Cert.MlaRefIdeal.S8208x4x64 .f32} {A : Fin 4 → Args}
    (R : MlaRefIdeal.Reads q k v g A) : MlaRefIdeal.rDq k (MlaRefIdeal.rGrad q k v g) = outQ A := by
  funext i
  obtain ⟨h, n, d, rfl⟩ : ∃ (h : Fin 4) (n : Fin 8320) (d : Fin 128), i = ix3 h n d := ⟨_, _, _, MlaIdeal.ix3_eta (a := 4) (b := 8320) (c := 128) i⟩
  rw [MlaRefIdeal.rDq_real R]
  exact congrArg _ ((A h).head_dq n.val n.isLt d).symm

theorem ref_k {q k : FVec Ideal Cert.MlaRefIdeal.S8208x4x96 .f32} {v g : FVec Ideal Cert.MlaRefIdeal.S8208x4x64 .f32} {A : Fin 4 → Args}
    (R : MlaRefIdeal.Reads q k v g A) : MlaRefIdeal.rDk q (MlaRefIdeal.rGrad q k v g) = outK A := by
  funext i
  obtain ⟨h, d, n, rfl⟩ : ∃ (h : Fin 4) (d : Fin 128) (n : Fin 8320), i = ix3 h d n := ⟨_, _, _, MlaIdeal.ix3_eta (a := 4) (b := 128) (c := 8320) i⟩
  rw [MlaRefIdeal.rDk_real R]
  exact congrArg _ ((A h).head_dk n.val d).symm

theorem ref_v {q k : FVec Ideal Cert.MlaRefIdeal.S8208x4x96 .f32} {v g : FVec Ideal Cert.MlaRefIdeal.S8208x4x64 .f32} {A : Fin 4 → Args}
    (R : MlaRefIdeal.Reads q k v g A) : MlaRefIdeal.rDv g (MlaRefIdeal.rP q k) = outV A := by
  funext i
  obtain ⟨h, d, n, rfl⟩ : ∃ (h : Fin 4) (d : Fin 64) (n : Fin 8320), i = ix3 h d n := ⟨_, _, _, MlaIdeal.ix3_eta (a := 4) (b := 64) (c := 8320) i⟩
  rw [MlaRefIdeal.rDv_real R]
  exact congrArg _ ((A h).head_dv n.val d).symm

theorem frame_ideal_pre : Cert.quiescent_MlaIdeal_pre_real_inputs := fun m ρ _ => MlaIdeal.frame m ρ

theorem frame_ref_pre : Cert.quiescent_MlaRefIdeal_pre_real_inputs := fun m ρ _ => frame_ref m ρ trivial

theorem algebraic : Cert.algebraic_MlaIdeal_MlaRefIdeal_pre_real_inputs := by
  intro m ρ m' ρ' hpre hag
  let A : Dev Cert.MlaIdeal.nD → Fin 4 → Args := fun c => args (MlaIdeal.aq m c) (MlaIdeal.ak m c) (MlaIdeal.av m c) (MlaIdeal.ag m c)
  have RK : ∀ c, MlaIdeal.Reads (MlaIdeal.aq m c) (MlaIdeal.ak m c) (MlaIdeal.av m c) (MlaIdeal.ag m c) (A c) := fun c => by
    obtain ⟨hq, hk, hv, hg⟩ := pre_real _ _ _ _ (hpre c)
    exact ⟨fun n h d => hq _, fun n h d => hk _, fun n h d => hv _, fun n h d => hg _⟩
  have RR : ∀ c, MlaRefIdeal.Reads (MlaRefIdeal.aq m' c) (MlaRefIdeal.ak m' c) (MlaRefIdeal.av m' c) (MlaRefIdeal.ag m' c) (A c) := fun c => by
    obtain ⟨hq, hk, hv, hg⟩ := hag c
    exact ⟨fun n h d => (congrFun hq _).trans ((RK c).q n h d), fun n h d => (congrFun hk _).trans ((RK c).k n h d),
      fun n h d => (congrFun hv _).trans ((RK c).v n h d), fun n h d => (congrFun hg _).trans ((RK c).g n h d)⟩
  refine ⟨fun c => outQ (A c), fun c => outK (A c), fun c => outV (A c), ?_, ?_⟩
  · refine (θ_run Cert.MlaIdeal.defs _ _).mono (fun _ h c => ?_) (θ_run_and (MlaIdeal.run_main m ρ) (MlaIdeal.frame m ρ))
    exact ⟨((h.1 c).1 8).trans (MlaIdeal.final8 (RK c)), ((h.1 c).1 9).trans (MlaIdeal.final9 (RK c)),
      ((h.1 c).1 10).trans (MlaIdeal.final10 (RK c)), h.2.1 c⟩
  · refine (θ_run Cert.MlaRefIdeal.defs _ _).mono (fun _ h c => ?_) (Cert.MlaRefIdeal.Value.run m' ρ')
    exact ⟨(h c).1.trans ((MlaRefIdeal.res_q m' c).trans (ref_q (RR c))), (h c).2.1.trans ((MlaRefIdeal.res_k m' c).trans (ref_k (RR c))),
      (h c).2.2.1.trans ((MlaRefIdeal.res_v m' c).trans (ref_v (RR c))), (h c).2.2.2⟩

end Cert.Proof
-- ==== Proof.Products.DownDx.lean ====
/- The value of `DownDx`: the product's array, block by block, and the claims. -/
module

public import proofs.«01_k».proof.Defs
public import proofs.«01_k».proof.Proof.Gen.DownDx
public import proofs.«01_k».proof.Proof.Gen.DownDx.Frame
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.DownDx

open Cert.DownDxIdeal Cert.DownDxIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S2816x1024.Idx → EReal) (p : Fin 8320) (q : Fin 2816) (k : ℕ) : EReal :=
  if h : k < 1024 then x0 (ix2 p (⟨k, h⟩ : Fin 1024)) * x1 (ix2 q (⟨k, h⟩ : Fin 1024)) else 0

/-- The product. -/
def prod (x0 : S8320x1024.Idx → EReal) (x1 : S2816x1024.Idx → EReal) : S8320x2816.Idx → EReal := fun i => ∑ k ∈ range 1024, term x0 x1 (i 0) (i 1) k

theorem prod_at (x0 : S8320x1024.Idx → EReal) (x1 : S2816x1024.Idx → EReal) (i : S8320x2816.Idx) :
    prod x0 x1 i = ∑ k : Fin 1024, x0 (ix2 (i 0) k) * x1 (ix2 (i 1) k) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S2816x1024.Idx → EReal := m ((c : Thread nD τ).loc main_arg1)

theorem lt_N (t : Fin cfg0.N) : t.val < 26 := by have := t.isLt; have hN : cfg0.N = 26 := N_0; omega
def rowI (t : Fin cfg0.N) (r : Fin 640) : Fin 8320 := ⟨640 * (t.val / 2) + r.val, by have := lt_N t; omega⟩
def colJ (t : Fin cfg0.N) (s : Fin 1408) : Fin 2816 := ⟨1408 * (t.val / 1 % 2) + s.val, by omega⟩
theorem lt_K (t : Fin cfg0.N) (k : Fin 1024) : 1024 * (t.val % 1) + k.val < 1024 := by omega

theorem idx0 : ∀ t : Fin cfg0.N, win0_0.index t 0 = t.val / 2 ∧ win0_0.index t 1 = t.val % 1 := by decide +kernel
theorem idx1 : ∀ t : Fin cfg0.N, win0_1.index t 0 = t.val / 1 % 2 ∧ win0_1.index t 1 = t.val % 1 := by decide +kernel
theorem idx2 : ∀ t : Fin cfg0.N, win0_2.index t 0 = t.val / 2 ∧ win0_2.index t 1 = t.val / 1 % 2 := by decide +kernel

theorem iblk0_at (t : Fin cfg0.N) (r : Fin 640) (k : Fin 1024) :
    iblk m c 0 t (ix2 r k) = x0 m c (ix2 (rowI t r) (⟨_, lt_K t k⟩ : Fin 1024)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 2) + r.val; rw [h0]; omega
  | ⟨1, _⟩ => show win0_0.index t 1 * 1024 + 1 * k.val = 1024 * (t.val % 1) + k.val; rw [h1]; omega
theorem iblk1_at (t : Fin cfg0.N) (k : Fin 1024) (s : Fin 1408) :
    iblk m c 1 t (ix2 s k) = x1 m c (ix2 (colJ t s) (⟨_, lt_K t k⟩ : Fin 1024)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1408 + 1 * s.val = 1408 * (t.val / 1 % 2) + s.val; rw [h0]; omega
  | ⟨1, _⟩ => show win0_1.index t 1 * 1024 + 1 * k.val = 1024 * (t.val % 1) + k.val; rw [h1]; omega

theorem pay1_at (a : Vec Ideal S640x1024 .f32) (b : Vec Ideal S1408x1024 .bf16) (r : Fin 640) (s : Fin 1408) :
    k0_pay1 (F := Ideal) a b (ix2 r s) = ∑ k : Fin 1024, a (ix2 r k) * b (ix2 s k) := by
  pointwise [k0_pay1]
theorem part_at (t : Fin cfg0.N) (r : Fin 640) (s : Fin 1408) : k0_pay1 (F := Ideal) (iblk m c 0 t) (iblk m c 1 t) (ix2 r s) =
    ∑ k ∈ range 1024, term (x0 m c) (x1 m c) (rowI t r) (colJ t s) (1024 * (t.val % 1) + k) := by
  refine (pay1_at _ _ r s).trans ?_
  rw [Finset.sum_range]
  refine Finset.sum_congr rfl fun k _ => ?_
  rw [iblk0_at, iblk1_at]
  unfold term
  rw [dif_pos (lt_K t k)]
theorem out_eq (a : Vec Ideal S640x1024 .f32) (b : Vec Ideal S1408x1024 .bf16) : out0_2 a b = k0_pay1 (F := Ideal) a b := by
  unfold out0_2
  rw [View.canon_unit_zero hz]
  simp only [View.ld_unit_zero (S := S640x1024) hz, View.ld_unit_zero (S := S1408x1024) hz]

theorem flushed (t : Fin cfg0.N) :
    (dats m 0 c).flushed 2 t = ((cfg0.win 2).blk t).view.read (Elt Ideal) (prod (x0 m c) (x1 m c)) := by
  obtain ⟨h0, h1⟩ := idx2 t
  show (cfg0.win 2).cut (grid0.coords t) ((dats m 0 c).after 2 t) = _
  rw [after0_2]
  funext j
  obtain ⟨r, s, rfl⟩ : ∃ (r : Fin 640) (s : Fin 1408), j = ix2 r s := ⟨_, _, ix2_eta (a := 640) (b := 1408) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 640 + 1 * r.val = 640 * (t.val / 2) + r.val; rw [h0]; omega
    | ⟨1, _⟩ => show win0_2.index t 1 * 1408 + 1 * s.val = 1408 * (t.val / 1 % 2) + s.val; rw [h1]; omega
  refine Eq.trans ?_ hr.symm
  refine (congrFun (out_eq _ _) _).trans ((part_at m c t r s).trans ?_)
  refine Finset.sum_congr rfl fun k _ => ?_
  have e : 1024 * (t.val % 1) + k = k := by omega
  rw [e]
  rfl
theorem cover (i : S8320x2816.Idx) : ∃ t : Fin cfg0.N, (cfg0.win 2).flush t = true ∧ i ∈ ((cfg0.win 2).blk t).view.set := by
  have l0 : (i 0).val < 8320 := (i 0).isLt
  have l1 : (i 1).val < 2816 := (i 1).isLt
  have hN : cfg0.N = 26 := N_0
  refine ⟨⟨2 * ((i 0).val / 640) + 1 * ((i 1).val / 1408) + 0, by omega⟩, flush0_2 _, ?_⟩
  generalize ht : (⟨2 * ((i 0).val / 640) + 1 * ((i 1).val / 1408) + 0, _⟩ : Fin cfg0.N) = t
  have hv : t.val = 2 * ((i 0).val / 640) + 1 * ((i 1).val / 1408) + 0 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 640 ≤ (i 0).val ∧ (i 0).val < win0_2.index t 0 * 640 + 640; rw [h0]; omega
  | ⟨1, _⟩ => show win0_2.index t 1 * 1408 ≤ (i 1).val ∧ (i 1).val < win0_2.index t 1 * 1408 + 1408; rw [h1]; omega
theorem final : (dats m 0 c).arrAt 2 cfg0.N = prod (x0 m c) (x1 m c) :=
  (dats m 0 c).arrAt_eq_of_cover 2 (prod (x0 m c) (x1 m c)) (fun t _ => flushed m c t) cover

/-! ## The reference -/

open Cert.DownDxRefIdeal.Read in
theorem ref (y0 : S8320x1024.Idx → EReal) (y1 : S2816x1024.Idx → EReal) : val_main_v3 (F := Ideal) y0 y1 = prod y0 y1 := by
  funext i
  rw [prod_at]
  rw [val_main_v3_apply]
  refine Finset.sum_congr rfl fun k _ => ?_
  have e0 : lidx_main_v3 i k = ix2 (i 0) k := by funext a; fin_cases a <;> rfl
  have e1 : ridx_main_v3 i k = ix2 (i 1) k := by funext a; fin_cases a <;> rfl
  rw [e0, e1]
  rfl

/-! ## The claims -/

theorem frame_kernel : Cert.quiescent_DownDx := fun m ρ _ => Cert.DownDx.Gen.frame m ρ
theorem frame_ideal : Cert.quiescent_DownDxIdeal := fun m ρ _ => Cert.DownDxIdeal.Gen.frame m ρ
theorem frame_ref : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run m ρ)
theorem algebraic : Cert.algebraic_DownDxIdeal_DownDxRefIdeal := by
  intro m ρ m' ρ' _ hag
  refine ⟨fun c => prod (x0 m c) (x1 m c), ?_, ?_⟩
  · exact (θ_run Cert.DownDxIdeal.defs _ _).mono (fun _ h c => ⟨(h c).1.trans (final m c), (h c).2⟩) (Cert.DownDxIdeal.Value.run_blocks m ρ)
  · refine (θ_run Cert.DownDxRefIdeal.defs _ _).mono (fun _ h c => ⟨(h c).1.trans ?_, (h c).2⟩) (Cert.DownDxRefIdeal.Value.run m' ρ')
    rw [(hag c).1, (hag c).2]
    exact (Cert.DownDxRefIdeal.Read.val_main_v3_eq (F := Ideal) _ _).trans (ref _ _)

end Cert.Proof.DownDx
-- ==== Proof.Products.DownDw.lean ====
/- The value of `DownDw`: the product's array, block by block, and the claims. -/
module

public import proofs.«01_k».proof.Defs
public import proofs.«01_k».proof.Proof.Gen.DownDw
public import proofs.«01_k».proof.Proof.Gen.DownDw.Frame
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.DownDw

open Cert.DownDwIdeal Cert.DownDwIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x2816.Idx → EReal) (x1 : S8320x1024.Idx → EReal) (p : Fin 2816) (q : Fin 1024) (k : ℕ) : EReal :=
  if h : k < 8320 then x0 (ix2 (⟨k, h⟩ : Fin 8320) p) * x1 (ix2 (⟨k, h⟩ : Fin 8320) q) else 0

/-- The product. -/
def prod (x0 : S8320x2816.Idx → EReal) (x1 : S8320x1024.Idx → EReal) : S2816x1024.Idx → EReal := fun i => ∑ k ∈ range 8320, term x0 x1 (i 0) (i 1) k

theorem prod_at (x0 : S8320x2816.Idx → EReal) (x1 : S8320x1024.Idx → EReal) (i : S2816x1024.Idx) :
    prod x0 x1 i = ∑ k : Fin 8320, x0 (ix2 k (i 0)) * x1 (ix2 k (i 1)) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x2816.Idx → EReal := m ((c : Thread nD τ).loc main_arg0)
abbrev x1 : S8320x1024.Idx → EReal := m ((c : Thread nD τ).loc main_arg1)

theorem lt_N (t : Fin cfg0.N) : t.val < 26 := by have := t.isLt; have hN : cfg0.N = 26 := N_0; omega
def rowI (t : Fin cfg0.N) (r : Fin 1408) : Fin 2816 := ⟨1408 * (t.val / 13) + r.val, by have := lt_N t; omega⟩
def colJ (t : Fin cfg0.N) (s : Fin 1024) : Fin 1024 := ⟨1024 * (t.val / 13 % 1) + s.val, by omega⟩
theorem lt_K (t : Fin cfg0.N) (k : Fin 640) : 640 * (t.val % 13) + k.val < 8320 := by omega

theorem idx0 : ∀ t : Fin cfg0.N, win0_0.index t 0 = t.val % 13 ∧ win0_0.index t 1 = t.val / 13 := by decide +kernel
theorem idx1 : ∀ t : Fin cfg0.N, win0_1.index t 0 = t.val % 13 ∧ win0_1.index t 1 = t.val / 13 % 1 := by decide +kernel
theorem idx2 : ∀ t : Fin cfg0.N, win0_2.index t 0 = t.val / 13 ∧ win0_2.index t 1 = t.val / 13 % 1 := by decide +kernel

theorem iblk0_at (t : Fin cfg0.N) (r : Fin 1408) (k : Fin 640) :
    iblk m c 0 t (ix2 k r) = x0 m c (ix2 (⟨_, lt_K t k⟩ : Fin 8320) (rowI t r)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * k.val = 640 * (t.val % 13) + k.val; rw [h0]; omega
  | ⟨1, _⟩ => show win0_0.index t 1 * 1408 + 1 * r.val = 1408 * (t.val / 13) + r.val; rw [h1]; omega
theorem iblk1_at (t : Fin cfg0.N) (k : Fin 640) (s : Fin 1024) :
    iblk m c 1 t (ix2 k s) = x1 m c (ix2 (⟨_, lt_K t k⟩ : Fin 8320) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 640 + 1 * k.val = 640 * (t.val % 13) + k.val; rw [h0]; omega
  | ⟨1, _⟩ => show win0_1.index t 1 * 1024 + 1 * s.val = 1024 * (t.val / 13 % 1) + s.val; rw [h1]; omega

theorem pay1_at (a : Vec Ideal S640x1408 .bf16) (b : Vec Ideal S640x1024 .f32) (r : Fin 1408) (s : Fin 1024) :
    k0_pay1 (F := Ideal) a b (ix2 r s) = ∑ k : Fin 640, a (ix2 k r) * b (ix2 k s) := by
  pointwise [k0_pay1]
theorem part_at (t : Fin cfg0.N) (r : Fin 1408) (s : Fin 1024) : k0_pay1 (F := Ideal) (iblk m c 0 t) (iblk m c 1 t) (ix2 r s) =
    ∑ k ∈ range 640, term (x0 m c) (x1 m c) (rowI t r) (colJ t s) (640 * (t.val % 13) + k) := by
  refine (pay1_at _ _ r s).trans ?_
  rw [Finset.sum_range]
  refine Finset.sum_congr rfl fun k _ => ?_
  rw [iblk0_at, iblk1_at]
  unfold term
  rw [dif_pos (lt_K t k)]
theorem out_A (i : grid0.Coords) (arg3 : Memref sig .tc .vmem S640x1408 .bf16) (h3 : arg3.IsWhole) (arg4 : Memref sig .tc .vmem S640x1024 .f32) (h4 : arg4.IsWhole)
    (arg5 : Memref sig .tc .vmem S1408x1024 .f32) (h5 : arg5.IsWhole) (hc0 : cond0_0 i) (hc1 : ¬cond0_1 i) (hc2 : ¬cond0_2 i) (a : Vec Ideal S640x1408 .bf16) (b : Vec Ideal S640x1024 .f32) :
    out0_A_2 c i arg3 h3 arg4 h4 arg5 h5 hc0 hc1 hc2 a b = k0_pay1 (F := Ideal) a b := by
  unfold out0_A_2
  rw [View.read_writes_eq_canon _ _ _ (cover0_A_2 c i arg3 h3 arg4 h4 arg5 h5 hc0 hc1 hc2 a b)]
  unfold kernelRun0_A
  dsimp only
  sl_unfold_words
  rw [View.canon_unit_zero hz]
  simp only [View.readAt_eq_ld, h3.read_unread, h4.read_unread, h5.read_unread, View.ld_unit_zero (S := S640x1408) hz, View.ld_unit_zero (S := S640x1024) hz, View.ld_unit_zero (S := S1408x1024) hz]
theorem out_B (i : grid0.Coords) (arg3 : Memref sig .tc .vmem S640x1408 .bf16) (h3 : arg3.IsWhole) (arg4 : Memref sig .tc .vmem S640x1024 .f32) (h4 : arg4.IsWhole)
    (arg5 : Memref sig .tc .vmem S1408x1024 .f32) (h5 : arg5.IsWhole) (hc0 : ¬cond0_0 i) (hc1 : cond0_1 i) (hc2 : ¬cond0_2 i) (a : Vec Ideal S640x1408 .bf16) (b : Vec Ideal S640x1024 .f32) (xo : Vec Ideal S1408x1024 .f32) :
    out0_B_2 c i arg3 h3 arg4 h4 arg5 h5 hc0 hc1 hc2 a b xo = k0_pay2 (F := Ideal) a b xo := by
  unfold out0_B_2
  rw [View.read_writes_eq_canon _ _ _ (cover0_B_2 c i arg3 h3 arg4 h4 arg5 h5 hc0 hc1 hc2 a b xo)]
  unfold kernelRun0_B
  dsimp only
  sl_unfold_words
  rw [View.canon_unit_zero hz]
  simp only [View.readAt_eq_ld, h3.read_unread, h4.read_unread, h5.read_unread, View.ld_unit_zero (S := S640x1408) hz, View.ld_unit_zero (S := S640x1024) hz, View.ld_unit_zero (S := S1408x1024) hz]
theorem out_C (i : grid0.Coords) (arg3 : Memref sig .tc .vmem S640x1408 .bf16) (h3 : arg3.IsWhole) (arg4 : Memref sig .tc .vmem S640x1024 .f32) (h4 : arg4.IsWhole)
    (arg5 : Memref sig .tc .vmem S1408x1024 .f32) (h5 : arg5.IsWhole) (hc0 : ¬cond0_0 i) (hc1 : ¬cond0_1 i) (hc2 : cond0_2 i) (a : Vec Ideal S640x1408 .bf16) (b : Vec Ideal S640x1024 .f32) (xo : Vec Ideal S1408x1024 .f32) :
    out0_C_2 c i arg3 h3 arg4 h4 arg5 h5 hc0 hc1 hc2 a b xo = k0_pay3 (F := Ideal) a b xo := by
  unfold out0_C_2
  rw [View.read_writes_eq_canon _ _ _ (cover0_C_2 c i arg3 h3 arg4 h4 arg5 h5 hc0 hc1 hc2 a b xo)]
  unfold kernelRun0_C
  dsimp only
  sl_unfold_words
  rw [View.canon_unit_zero hz]
  simp only [View.readAt_eq_ld, h3.read_unread, h4.read_unread, h5.read_unread, View.ld_unit_zero (S := S640x1408) hz, View.ld_unit_zero (S := S640x1024) hz, View.ld_unit_zero (S := S1408x1024) hz]
theorem pay2_at (a : Vec Ideal S640x1408 .bf16) (b : Vec Ideal S640x1024 .f32) (xo : Vec Ideal S1408x1024 .f32) (j : S1408x1024.Idx) :
    k0_pay2 (F := Ideal) a b xo j = xo j + k0_pay1 (F := Ideal) a b j := by
  unfold k0_pay2
  simp only [shapeCast_self]
  rfl
theorem pay3_at (a : Vec Ideal S640x1408 .bf16) (b : Vec Ideal S640x1024 .f32) (xo : Vec Ideal S1408x1024 .f32) (j : S1408x1024.Idx) :
    k0_pay3 (F := Ideal) a b xo j = xo j + k0_pay1 (F := Ideal) a b j := by
  unfold k0_pay3
  simp only [shapeCast_self]
  rfl

/-- What the output's buffer holds after a point: the terms so far. -/
theorem outs_at : ∀ (n : ℕ) (h : n < cfg0.N) (r : Fin 1408) (s : Fin 1024), outsAt0 m c n h (ix2 r s) =
    ∑ k ∈ range (640 * (n % 13 + 1)), term (x0 m c) (x1 m c) (rowI ⟨n, h⟩ r) (colJ ⟨n, h⟩ s) k := by
  intro n
  induction n with
  | zero =>
    intro h r s
    rw [outsAt0_A m c ⟨0, h⟩ (by dsimp only <;> omega) (by dsimp only <;> omega) (by dsimp only <;> omega), out_A]
    refine (part_at m c ⟨0, h⟩ r s).trans ?_
    simp only [Nat.zero_mod, Nat.mul_zero, Nat.zero_add, Nat.mul_one]
  | succ n ih =>
    intro h r s
    by_cases h0 : (n + 1) % 13 = 0
    · rw [outsAt0_A m c ⟨n + 1, h⟩ (by dsimp only <;> omega) (by dsimp only <;> omega) (by dsimp only <;> omega), out_A]
      refine (part_at m c ⟨n + 1, h⟩ r s).trans ?_
      simp only [h0, Nat.mul_zero, Nat.zero_add, Nat.mul_one]
    · have hp : outsAt0 m c (n + 1) h (ix2 r s) = outsAt0 m c n (Nat.lt_of_succ_lt h) (ix2 r s)
          + k0_pay1 (F := Ideal) (iblk m c 0 ⟨n + 1, h⟩) (iblk m c 1 ⟨n + 1, h⟩) (ix2 r s) := by
        by_cases h2 : (n + 1) % 13 = 12
        · rw [outsAt0_C m c ⟨n + 1, h⟩ (by dsimp only <;> omega) (by dsimp only <;> omega) (by dsimp only <;> omega), out_C]
          exact pay3_at _ _ _ _
        · rw [outsAt0_B m c ⟨n + 1, h⟩ (by dsimp only <;> omega) (by dsimp only <;> omega) (by dsimp only <;> omega), out_B]
          exact pay2_at _ _ _ _
      have e : 640 * ((n + 1) % 13 + 1) = 640 * (n % 13 + 1) + 640 := by omega
      have e' : 640 * ((n + 1) % 13) = 640 * (n % 13 + 1) := by omega
      have er : rowI ⟨n + 1, h⟩ r = rowI ⟨n, Nat.lt_of_succ_lt h⟩ r := Fin.ext (by unfold rowI; dsimp only; omega)
      have ec : colJ ⟨n + 1, h⟩ s = colJ ⟨n, Nat.lt_of_succ_lt h⟩ s := Fin.ext (by unfold colJ; dsimp only; omega)
      rw [hp, ih (Nat.lt_of_succ_lt h) r s, part_at m c ⟨n + 1, h⟩ r s, e, Finset.sum_range_add, er, ec]
      dsimp only
      rw [e']

theorem flushed (t : Fin cfg0.N) (hf : (cfg0.win 2).flush t = true) :
    (dats m 0 c).flushed 2 t = ((cfg0.win 2).blk t).view.read (Elt Ideal) (prod (x0 m c) (x1 m c)) := by
  obtain ⟨h0, h1⟩ := idx2 t
  have hk : t.val % 13 = 12 := (flush0_2 t).mp hf
  show (cfg0.win 2).cut (grid0.coords t) ((dats m 0 c).after 2 t) = _
  rw [after0_2]
  funext j
  obtain ⟨r, s, rfl⟩ : ∃ (r : Fin 1408) (s : Fin 1024), j = ix2 r s := ⟨_, _, ix2_eta (a := 1408) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 1408 + 1 * r.val = 1408 * (t.val / 13) + r.val; rw [h0]; omega
    | ⟨1, _⟩ => show win0_2.index t 1 * 1024 + 1 * s.val = 1024 * (t.val / 13 % 1) + s.val; rw [h1]; omega
  refine Eq.trans ?_ hr.symm
  refine (outs_at m c t.val t.isLt r s).trans ?_
  rw [hk]
  rfl
theorem cover (i : S2816x1024.Idx) : ∃ t : Fin cfg0.N, (cfg0.win 2).flush t = true ∧ i ∈ ((cfg0.win 2).blk t).view.set := by
  have l0 : (i 0).val < 2816 := (i 0).isLt
  have l1 : (i 1).val < 1024 := (i 1).isLt
  have hN : cfg0.N = 26 := N_0
  refine ⟨⟨13 * ((i 0).val / 1408) + 13 * ((i 1).val / 1024) + 12, by omega⟩, (flush0_2 _).mpr (by dsimp only; omega), ?_⟩
  generalize ht : (⟨13 * ((i 0).val / 1408) + 13 * ((i 1).val / 1024) + 12, _⟩ : Fin cfg0.N) = t
  have hv : t.val = 13 * ((i 0).val / 1408) + 13 * ((i 1).val / 1024) + 12 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 1408 ≤ (i 0).val ∧ (i 0).val < win0_2.index t 0 * 1408 + 1408; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t hf => flushed m c t hf) cover

/-! ## The reference -/

open Cert.DownDwRefIdeal.Read in
theorem ref (y0 : S8320x2816.Idx → EReal) (y1 : S8320x1024.Idx → EReal) : val_main_v4 (F := Ideal) y0 y1 = prod y0 y1 := by
  funext i
  rw [prod_at]
  rw [val_main_v4_apply, val_main_v3_apply]
  refine Finset.sum_congr rfl fun k _ => ?_
  have e0 : ridx_main_v3 (idx_main_v4 i) k = ix2 k (i 0) := by funext a; fin_cases a <;> rfl
  have e1 : lidx_main_v3 (idx_main_v4 i) k = ix2 k (i 1) := by funext a; fin_cases a <;> rfl
  rw [e0, e1, mul_comm]
  rfl

/-! ## The claims -/

theorem frame_kernel : Cert.quiescent_DownDw := fun m ρ _ => Cert.DownDw.Gen.frame m ρ
theorem frame_ideal : Cert.quiescent_DownDwIdeal := fun m ρ _ => Cert.DownDwIdeal.Gen.frame m ρ
theorem frame_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run m ρ)
theorem algebraic : Cert.algebraic_DownDwIdeal_DownDwRefIdeal := by
  intro m ρ m' ρ' _ hag
  refine ⟨fun c => prod (x0 m c) (x1 m c), ?_, ?_⟩
  · exact (θ_run Cert.DownDwIdeal.defs _ _).mono (fun _ h c => ⟨(h c).1.trans (final m c), (h c).2⟩) (Cert.DownDwIdeal.Value.run_blocks m ρ)
  · refine (θ_run Cert.DownDwRefIdeal.defs _ _).mono (fun _ h c => ⟨(h c).1.trans ?_, (h c).2⟩) (Cert.DownDwRefIdeal.Value.run m' ρ')
    rw [(hag c).1, (hag c).2]
    exact (Cert.DownDwRefIdeal.Read.val_main_v4_eq (F := Ideal) _ _).trans (ref _ _)

end Cert.Proof.DownDw
-- ==== Proof.Products.UpDx.lean ====
/- The value of `UpDx`: the product's array, block by block, and the claims. -/
module

public import proofs.«01_k».proof.Defs
public import proofs.«01_k».proof.Proof.Gen.UpDx
public import proofs.«01_k».proof.Proof.Gen.UpDx.Frame
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.UpDx

open Cert.UpDxIdeal Cert.UpDxIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x2816.Idx → EReal) (x1 : S1024x2816.Idx → EReal) (p : Fin 8320) (q : Fin 1024) (k : ℕ) : EReal :=
  if h : k < 2816 then x0 (ix2 p (⟨k, h⟩ : Fin 2816)) * x1 (ix2 q (⟨k, h⟩ : Fin 2816)) else 0

/-- The product. -/
def prod (x0 : S8320x2816.Idx → EReal) (x1 : S1024x2816.Idx → EReal) : S8320x1024.Idx → EReal := fun i => ∑ k ∈ range 2816, term x0 x1 (i 0) (i 1) k

theorem prod_at (x0 : S8320x2816.Idx → EReal) (x1 : S1024x2816.Idx → EReal) (i : S8320x1024.Idx) :
    prod x0 x1 i = ∑ k : Fin 2816, x0 (ix2 (i 0) k) * x1 (ix2 (i 1) k) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x2816.Idx → EReal := m ((c : Thread nD τ).loc main_arg0)
abbrev x1 : S1024x2816.Idx → EReal := m ((c : Thread nD τ).loc main_arg1)

theorem lt_N (t : Fin cfg0.N) : t.val < 26 := by have := t.isLt; have hN : cfg0.N = 26 := N_0; omega
def rowI (t : Fin cfg0.N) (r : Fin 640) : Fin 8320 := ⟨640 * (t.val / 2) + r.val, by have := lt_N t; omega⟩
def colJ (t : Fin cfg0.N) (s : Fin 1024) : Fin 1024 := ⟨1024 * (t.val / 2 % 1) + s.val, by omega⟩
theorem lt_K (t : Fin cfg0.N) (k : Fin 1408) : 1408 * (t.val % 2) + k.val < 2816 := by omega

theorem idx0 : ∀ t : Fin cfg0.N, win0_0.index t 0 = t.val / 2 ∧ win0_0.index t 1 = t.val % 2 := by decide +kernel
theorem idx1 : ∀ t : Fin cfg0.N, win0_1.index t 0 = t.val / 2 % 1 ∧ win0_1.index t 1 = t.val % 2 := by decide +kernel
theorem idx2 : ∀ t : Fin cfg0.N, win0_2.index t 0 = t.val / 2 ∧ win0_2.index t 1 = t.val / 2 % 1 := by decide +kernel

theorem iblk0_at (t : Fin cfg0.N) (r : Fin 640) (k : Fin 1408) :
    iblk m c 0 t (ix2 r k) = x0 m c (ix2 (rowI t r) (⟨_, lt_K t k⟩ : Fin 2816)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 2) + r.val; rw [h0]; omega
  | ⟨1, _⟩ => show win0_0.index t 1 * 1408 + 1 * k.val = 1408 * (t.val % 2) + k.val; rw [h1]; omega
theorem iblk1_at (t : Fin cfg0.N) (k : Fin 1408) (s : Fin 1024) :
    iblk m c 1 t (ix2 s k) = x1 m c (ix2 (colJ t s) (⟨_, lt_K t k⟩ : Fin 2816)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * s.val = 1024 * (t.val / 2 % 1) + s.val; rw [h0]; omega
  | ⟨1, _⟩ => show win0_1.index t 1 * 1408 + 1 * k.val = 1408 * (t.val % 2) + k.val; rw [h1]; omega

theorem pay1_at (a : Vec Ideal S640x1408 .bf16) (b : Vec Ideal S1024x1408 .bf16) (r : Fin 640) (s : Fin 1024) :
    k0_pay1 (F := Ideal) a b (ix2 r s) = ∑ k : Fin 1408, a (ix2 r k) * b (ix2 s k) := by
  pointwise [k0_pay1]
theorem part_at (t : Fin cfg0.N) (r : Fin 640) (s : Fin 1024) : k0_pay1 (F := Ideal) (iblk m c 0 t) (iblk m c 1 t) (ix2 r s) =
    ∑ k ∈ range 1408, term (x0 m c) (x1 m c) (rowI t r) (colJ t s) (1408 * (t.val % 2) + k) := by
  refine (pay1_at _ _ r s).trans ?_
  rw [Finset.sum_range]
  refine Finset.sum_congr rfl fun k _ => ?_
  rw [iblk0_at, iblk1_at]
  unfold term
  rw [dif_pos (lt_K t k)]
theorem out_A (i : grid0.Coords) (arg3 : Memref sig .tc .vmem S640x1408 .bf16) (h3 : arg3.IsWhole) (arg4 : Memref sig .tc .vmem S1024x1408 .bf16) (h4 : arg4.IsWhole)
    (arg5 : Memref sig .tc .vmem S640x1024 .f32) (h5 : arg5.IsWhole) (hc0 : cond0_0 i) (hc1 : ¬cond0_1 i) (hc2 : ¬cond0_2 i) (a : Vec Ideal S640x1408 .bf16) (b : Vec Ideal S1024x1408 .bf16) :
    out0_A_2 c i arg3 h3 arg4 h4 arg5 h5 hc0 hc1 hc2 a b = k0_pay1 (F := Ideal) a b := by
  unfold out0_A_2
  rw [View.read_writes_eq_canon _ _ _ (cover0_A_2 c i arg3 h3 arg4 h4 arg5 h5 hc0 hc1 hc2 a b)]
  unfold kernelRun0_A
  dsimp only
  sl_unfold_words
  rw [View.canon_unit_zero hz]
  simp only [View.readAt_eq_ld, h3.read_unread, h4.read_unread, h5.read_unread, View.ld_unit_zero (S := S640x1408) hz, View.ld_unit_zero (S := S1024x1408) hz, View.ld_unit_zero (S := S640x1024) hz]
theorem out_B (i : grid0.Coords) (arg3 : Memref sig .tc .vmem S640x1408 .bf16) (h3 : arg3.IsWhole) (arg4 : Memref sig .tc .vmem S1024x1408 .bf16) (h4 : arg4.IsWhole)
    (arg5 : Memref sig .tc .vmem S640x1024 .f32) (h5 : arg5.IsWhole) (hc0 : ¬cond0_0 i) (hc1 : ¬cond0_1 i) (hc2 : cond0_2 i) (a : Vec Ideal S640x1408 .bf16) (b : Vec Ideal S1024x1408 .bf16) (xo : Vec Ideal S640x1024 .f32) :
    out0_B_2 c i arg3 h3 arg4 h4 arg5 h5 hc0 hc1 hc2 a b xo = k0_pay3 (F := Ideal) a b xo := by
  unfold out0_B_2
  rw [View.read_writes_eq_canon _ _ _ (cover0_B_2 c i arg3 h3 arg4 h4 arg5 h5 hc0 hc1 hc2 a b xo)]
  unfold kernelRun0_B
  dsimp only
  sl_unfold_words
  rw [View.canon_unit_zero hz]
  simp only [View.readAt_eq_ld, h3.read_unread, h4.read_unread, h5.read_unread, View.ld_unit_zero (S := S640x1408) hz, View.ld_unit_zero (S := S1024x1408) hz, View.ld_unit_zero (S := S640x1024) hz]
theorem pay3_at (a : Vec Ideal S640x1408 .bf16) (b : Vec Ideal S1024x1408 .bf16) (xo : Vec Ideal S640x1024 .f32) (j : S640x1024.Idx) :
    k0_pay3 (F := Ideal) a b xo j = xo j + k0_pay1 (F := Ideal) a b j := by
  unfold k0_pay3
  simp only [shapeCast_self]
  rfl

/-- What the output's buffer holds after a point: the terms so far. -/
theorem outs_at : ∀ (n : ℕ) (h : n < cfg0.N) (r : Fin 640) (s : Fin 1024), outsAt0 m c n h (ix2 r s) =
    ∑ k ∈ range (1408 * (n % 2 + 1)), term (x0 m c) (x1 m c) (rowI ⟨n, h⟩ r) (colJ ⟨n, h⟩ s) k := by
  intro n
  induction n with
  | zero =>
    intro h r s
    rw [outsAt0_A m c ⟨0, h⟩ (by dsimp only <;> omega) (by dsimp only <;> omega), out_A]
    refine (part_at m c ⟨0, h⟩ r s).trans ?_
    simp only [Nat.zero_mod, Nat.mul_zero, Nat.zero_add, Nat.mul_one]
  | succ n ih =>
    intro h r s
    by_cases h0 : (n + 1) % 2 = 0
    · rw [outsAt0_A m c ⟨n + 1, h⟩ (by dsimp only <;> omega) (by dsimp only <;> omega), out_A]
      refine (part_at m c ⟨n + 1, h⟩ r s).trans ?_
      simp only [h0, Nat.mul_zero, Nat.zero_add, Nat.mul_one]
    · have hp : outsAt0 m c (n + 1) h (ix2 r s) = outsAt0 m c n (Nat.lt_of_succ_lt h) (ix2 r s)
          + k0_pay1 (F := Ideal) (iblk m c 0 ⟨n + 1, h⟩) (iblk m c 1 ⟨n + 1, h⟩) (ix2 r s) := by
        rw [outsAt0_B m c ⟨n + 1, h⟩ (by dsimp only <;> omega) (by dsimp only <;> omega), out_B]
        exact pay3_at _ _ _ _
      have e : 1408 * ((n + 1) % 2 + 1) = 1408 * (n % 2 + 1) + 1408 := by omega
      have e' : 1408 * ((n + 1) % 2) = 1408 * (n % 2 + 1) := by omega
      have er : rowI ⟨n + 1, h⟩ r = rowI ⟨n, Nat.lt_of_succ_lt h⟩ r := Fin.ext (by unfold rowI; dsimp only; omega)
      have ec : colJ ⟨n + 1, h⟩ s = colJ ⟨n, Nat.lt_of_succ_lt h⟩ s := Fin.ext (by unfold colJ; dsimp only; omega)
      rw [hp, ih (Nat.lt_of_succ_lt h) r s, part_at m c ⟨n + 1, h⟩ r s, e, Finset.sum_range_add, er, ec]
      dsimp only
      rw [e']

theorem flushed (t : Fin cfg0.N) (hf : (cfg0.win 2).flush t = true) :
    (dats m 0 c).flushed 2 t = ((cfg0.win 2).blk t).view.read (Elt Ideal) (prod (x0 m c) (x1 m c)) := by
  obtain ⟨h0, h1⟩ := idx2 t
  have hk : t.val % 2 = 1 := (flush0_2 t).mp hf
  show (cfg0.win 2).cut (grid0.coords t) ((dats m 0 c).after 2 t) = _
  rw [after0_2]
  funext j
  obtain ⟨r, s, rfl⟩ : ∃ (r : Fin 640) (s : Fin 1024), j = ix2 r s := ⟨_, _, ix2_eta (a := 640) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 640 + 1 * r.val = 640 * (t.val / 2) + r.val; rw [h0]; omega
    | ⟨1, _⟩ => show win0_2.index t 1 * 1024 + 1 * s.val = 1024 * (t.val / 2 % 1) + s.val; rw [h1]; omega
  refine Eq.trans ?_ hr.symm
  refine (outs_at m c t.val t.isLt r s).trans ?_
  rw [hk]
  rfl
theorem cover (i : S8320x1024.Idx) : ∃ t : Fin cfg0.N, (cfg0.win 2).flush t = true ∧ i ∈ ((cfg0.win 2).blk t).view.set := by
  have l0 : (i 0).val < 8320 := (i 0).isLt
  have l1 : (i 1).val < 1024 := (i 1).isLt
  have hN : cfg0.N = 26 := N_0
  refine ⟨⟨2 * ((i 0).val / 640) + 2 * ((i 1).val / 1024) + 1, by omega⟩, (flush0_2 _).mpr (by dsimp only; omega), ?_⟩
  generalize ht : (⟨2 * ((i 0).val / 640) + 2 * ((i 1).val / 1024) + 1, _⟩ : Fin cfg0.N) = t
  have hv : t.val = 2 * ((i 0).val / 640) + 2 * ((i 1).val / 1024) + 1 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 640 ≤ (i 0).val ∧ (i 0).val < win0_2.index t 0 * 640 + 640; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t hf => flushed m c t hf) cover

/-! ## The reference -/

open Cert.UpDxRefIdeal.Read in
theorem ref (y0 : S8320x2816.Idx → EReal) (y1 : S1024x2816.Idx → EReal) : val_main_v4 (F := Ideal) y0 y1 = prod y0 y1 := by
  funext i
  rw [prod_at]
  rw [val_main_v4_apply]
  refine Finset.sum_congr rfl fun k _ => ?_
  have e0 : lidx_main_v4 i k = ix2 (i 0) k := by funext a; fin_cases a <;> rfl
  have e1 : ridx_main_v4 i k = ix2 (i 1) k := by funext a; fin_cases a <;> rfl
  rw [e0, e1]
  rfl

/-! ## The claims -/

theorem frame_kernel : Cert.quiescent_UpDx := fun m ρ _ => Cert.UpDx.Gen.frame m ρ
theorem frame_ideal : Cert.quiescent_UpDxIdeal := fun m ρ _ => Cert.UpDxIdeal.Gen.frame m ρ
theorem frame_ref : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run m ρ)
theorem algebraic : Cert.algebraic_UpDxIdeal_UpDxRefIdeal := by
  intro m ρ m' ρ' _ hag
  refine ⟨fun c => prod (x0 m c) (x1 m c), ?_, ?_⟩
  · exact (θ_run Cert.UpDxIdeal.defs _ _).mono (fun _ h c => ⟨(h c).1.trans (final m c), (h c).2⟩) (Cert.UpDxIdeal.Value.run_blocks m ρ)
  · refine (θ_run Cert.UpDxRefIdeal.defs _ _).mono (fun _ h c => ⟨(h c).1.trans ?_, (h c).2⟩) (Cert.UpDxRefIdeal.Value.run m' ρ')
    rw [(hag c).1, (hag c).2]
    exact (Cert.UpDxRefIdeal.Read.val_main_v4_eq (F := Ideal) _ _).trans (ref _ _)

end Cert.Proof.UpDx
-- ==== Proof.Products.UpDw.lean ====
/- The value of `UpDw`: the product's array, block by block, and the claims. -/
module

public import proofs.«01_k».proof.Defs
public import proofs.«01_k».proof.Proof.Gen.UpDw
public import proofs.«01_k».proof.Proof.Gen.UpDw.Frame
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.UpDw

open Cert.UpDwIdeal Cert.UpDwIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S8320x2816.Idx → EReal) (p : Fin 1024) (q : Fin 2816) (k : ℕ) : EReal :=
  if h : k < 8320 then x0 (ix2 (⟨k, h⟩ : Fin 8320) p) * x1 (ix2 (⟨k, h⟩ : Fin 8320) q) else 0

/-- The product. -/
def prod (x0 : S8320x1024.Idx → EReal) (x1 : S8320x2816.Idx → EReal) : S1024x2816.Idx → EReal := fun i => ∑ k ∈ range 8320, term x0 x1 (i 0) (i 1) k

theorem prod_at (x0 : S8320x1024.Idx → EReal) (x1 : S8320x2816.Idx → EReal) (i : S1024x2816.Idx) :
    prod x0 x1 i = ∑ k : Fin 8320, x0 (ix2 k (i 0)) * x1 (ix2 k (i 1)) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S8320x2816.Idx → EReal := m ((c : Thread nD τ).loc main_arg1)

theorem lt_N (t : Fin cfg0.N) : t.val < 52 := by have := t.isLt; have hN : cfg0.N = 52 := N_0; omega
def rowI (t : Fin cfg0.N) (r : Fin 512) : Fin 1024 := ⟨512 * (t.val / 26) + r.val, by have := lt_N t; omega⟩
def colJ (t : Fin cfg0.N) (s : Fin 1408) : Fin 2816 := ⟨1408 * (t.val / 13 % 2) + s.val, by omega⟩
theorem lt_K (t : Fin cfg0.N) (k : Fin 640) : 640 * (t.val % 13) + k.val < 8320 := by omega

theorem idx0 : ∀ t : Fin cfg0.N, win0_0.index t 0 = t.val % 13 ∧ win0_0.index t 1 = t.val / 26 := by decide +kernel
theorem idx1 : ∀ t : Fin cfg0.N, win0_1.index t 0 = t.val % 13 ∧ win0_1.index t 1 = t.val / 13 % 2 := by decide +kernel
theorem idx2 : ∀ t : Fin cfg0.N, win0_2.index t 0 = t.val / 26 ∧ win0_2.index t 1 = t.val / 13 % 2 := by decide +kernel

theorem iblk0_at (t : Fin cfg0.N) (r : Fin 512) (k : Fin 640) :
    iblk m c 0 t (ix2 k r) = x0 m c (ix2 (⟨_, lt_K t k⟩ : Fin 8320) (rowI t r)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * k.val = 640 * (t.val % 13) + k.val; rw [h0]; omega
  | ⟨1, _⟩ => show win0_0.index t 1 * 512 + 1 * r.val = 512 * (t.val / 26) + r.val; rw [h1]; omega
theorem iblk1_at (t : Fin cfg0.N) (k : Fin 640) (s : Fin 1408) :
    iblk m c 1 t (ix2 k s) = x1 m c (ix2 (⟨_, lt_K t k⟩ : Fin 8320) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 640 + 1 * k.val = 640 * (t.val % 13) + k.val; rw [h0]; omega
  | ⟨1, _⟩ => show win0_1.index t 1 * 1408 + 1 * s.val = 1408 * (t.val / 13 % 2) + s.val; rw [h1]; omega

theorem pay1_at (a : Vec Ideal S640x512 .bf16) (b : Vec Ideal S640x1408 .bf16) (r : Fin 512) (s : Fin 1408) :
    k0_pay1 (F := Ideal) a b (ix2 r s) = ∑ k : Fin 640, a (ix2 k r) * b (ix2 k s) := by
  pointwise [k0_pay1]
theorem part_at (t : Fin cfg0.N) (r : Fin 512) (s : Fin 1408) : k0_pay1 (F := Ideal) (iblk m c 0 t) (iblk m c 1 t) (ix2 r s) =
    ∑ k ∈ range 640, term (x0 m c) (x1 m c) (rowI t r) (colJ t s) (640 * (t.val % 13) + k) := by
  refine (pay1_at _ _ r s).trans ?_
  rw [Finset.sum_range]
  refine Finset.sum_congr rfl fun k _ => ?_
  rw [iblk0_at, iblk1_at]
  unfold term
  rw [dif_pos (lt_K t k)]
theorem out_A (i : grid0.Coords) (arg3 : Memref sig .tc .vmem S640x512 .bf16) (h3 : arg3.IsWhole) (arg4 : Memref sig .tc .vmem S640x1408 .bf16) (h4 : arg4.IsWhole)
    (arg5 : Memref sig .tc .vmem S512x1408 .f32) (h5 : arg5.IsWhole) (hc0 : cond0_0 i) (hc1 : ¬cond0_1 i) (hc2 : ¬cond0_2 i) (a : Vec Ideal S640x512 .bf16) (b : Vec Ideal S640x1408 .bf16) :
    out0_A_2 c i arg3 h3 arg4 h4 arg5 h5 hc0 hc1 hc2 a b = k0_pay1 (F := Ideal) a b := by
  unfold out0_A_2
  rw [View.read_writes_eq_canon _ _ _ (cover0_A_2 c i arg3 h3 arg4 h4 arg5 h5 hc0 hc1 hc2 a b)]
  unfold kernelRun0_A
  dsimp only
  sl_unfold_words
  rw [View.canon_unit_zero hz]
  simp only [View.readAt_eq_ld, h3.read_unread, h4.read_unread, h5.read_unread, View.ld_unit_zero (S := S640x512) hz, View.ld_unit_zero (S := S640x1408) hz, View.ld_unit_zero (S := S512x1408) hz]
theorem out_B (i : grid0.Coords) (arg3 : Memref sig .tc .vmem S640x512 .bf16) (h3 : arg3.IsWhole) (arg4 : Memref sig .tc .vmem S640x1408 .bf16) (h4 : arg4.IsWhole)
    (arg5 : Memref sig .tc .vmem S512x1408 .f32) (h5 : arg5.IsWhole) (hc0 : ¬cond0_0 i) (hc1 : cond0_1 i) (hc2 : ¬cond0_2 i) (a : Vec Ideal S640x512 .bf16) (b : Vec Ideal S640x1408 .bf16) (xo : Vec Ideal S512x1408 .f32) :
    out0_B_2 c i arg3 h3 arg4 h4 arg5 h5 hc0 hc1 hc2 a b xo = k0_pay2 (F := Ideal) a b xo := by
  unfold out0_B_2
  rw [View.read_writes_eq_canon _ _ _ (cover0_B_2 c i arg3 h3 arg4 h4 arg5 h5 hc0 hc1 hc2 a b xo)]
  unfold kernelRun0_B
  dsimp only
  sl_unfold_words
  rw [View.canon_unit_zero hz]
  simp only [View.readAt_eq_ld, h3.read_unread, h4.read_unread, h5.read_unread, View.ld_unit_zero (S := S640x512) hz, View.ld_unit_zero (S := S640x1408) hz, View.ld_unit_zero (S := S512x1408) hz]
theorem out_C (i : grid0.Coords) (arg3 : Memref sig .tc .vmem S640x512 .bf16) (h3 : arg3.IsWhole) (arg4 : Memref sig .tc .vmem S640x1408 .bf16) (h4 : arg4.IsWhole)
    (arg5 : Memref sig .tc .vmem S512x1408 .f32) (h5 : arg5.IsWhole) (hc0 : ¬cond0_0 i) (hc1 : ¬cond0_1 i) (hc2 : cond0_2 i) (a : Vec Ideal S640x512 .bf16) (b : Vec Ideal S640x1408 .bf16) (xo : Vec Ideal S512x1408 .f32) :
    out0_C_2 c i arg3 h3 arg4 h4 arg5 h5 hc0 hc1 hc2 a b xo = k0_pay3 (F := Ideal) a b xo := by
  unfold out0_C_2
  rw [View.read_writes_eq_canon _ _ _ (cover0_C_2 c i arg3 h3 arg4 h4 arg5 h5 hc0 hc1 hc2 a b xo)]
  unfold kernelRun0_C
  dsimp only
  sl_unfold_words
  rw [View.canon_unit_zero hz]
  simp only [View.readAt_eq_ld, h3.read_unread, h4.read_unread, h5.read_unread, View.ld_unit_zero (S := S640x512) hz, View.ld_unit_zero (S := S640x1408) hz, View.ld_unit_zero (S := S512x1408) hz]
theorem pay2_at (a : Vec Ideal S640x512 .bf16) (b : Vec Ideal S640x1408 .bf16) (xo : Vec Ideal S512x1408 .f32) (j : S512x1408.Idx) :
    k0_pay2 (F := Ideal) a b xo j = xo j + k0_pay1 (F := Ideal) a b j := by
  unfold k0_pay2
  simp only [shapeCast_self]
  rfl
theorem pay3_at (a : Vec Ideal S640x512 .bf16) (b : Vec Ideal S640x1408 .bf16) (xo : Vec Ideal S512x1408 .f32) (j : S512x1408.Idx) :
    k0_pay3 (F := Ideal) a b xo j = xo j + k0_pay1 (F := Ideal) a b j := by
  unfold k0_pay3
  simp only [shapeCast_self]
  rfl

/-- What the output's buffer holds after a point: the terms so far. -/
theorem outs_at : ∀ (n : ℕ) (h : n < cfg0.N) (r : Fin 512) (s : Fin 1408), outsAt0 m c n h (ix2 r s) =
    ∑ k ∈ range (640 * (n % 13 + 1)), term (x0 m c) (x1 m c) (rowI ⟨n, h⟩ r) (colJ ⟨n, h⟩ s) k := by
  intro n
  induction n with
  | zero =>
    intro h r s
    rw [outsAt0_A m c ⟨0, h⟩ (by dsimp only <;> omega) (by dsimp only <;> omega) (by dsimp only <;> omega), out_A]
    refine (part_at m c ⟨0, h⟩ r s).trans ?_
    simp only [Nat.zero_mod, Nat.mul_zero, Nat.zero_add, Nat.mul_one]
  | succ n ih =>
    intro h r s
    by_cases h0 : (n + 1) % 13 = 0
    · rw [outsAt0_A m c ⟨n + 1, h⟩ (by dsimp only <;> omega) (by dsimp only <;> omega) (by dsimp only <;> omega), out_A]
      refine (part_at m c ⟨n + 1, h⟩ r s).trans ?_
      simp only [h0, Nat.mul_zero, Nat.zero_add, Nat.mul_one]
    · have hp : outsAt0 m c (n + 1) h (ix2 r s) = outsAt0 m c n (Nat.lt_of_succ_lt h) (ix2 r s)
          + k0_pay1 (F := Ideal) (iblk m c 0 ⟨n + 1, h⟩) (iblk m c 1 ⟨n + 1, h⟩) (ix2 r s) := by
        by_cases h2 : (n + 1) % 13 = 12
        · rw [outsAt0_C m c ⟨n + 1, h⟩ (by dsimp only <;> omega) (by dsimp only <;> omega) (by dsimp only <;> omega), out_C]
          exact pay3_at _ _ _ _
        · rw [outsAt0_B m c ⟨n + 1, h⟩ (by dsimp only <;> omega) (by dsimp only <;> omega) (by dsimp only <;> omega), out_B]
          exact pay2_at _ _ _ _
      have e : 640 * ((n + 1) % 13 + 1) = 640 * (n % 13 + 1) + 640 := by omega
      have e' : 640 * ((n + 1) % 13) = 640 * (n % 13 + 1) := by omega
      have er : rowI ⟨n + 1, h⟩ r = rowI ⟨n, Nat.lt_of_succ_lt h⟩ r := Fin.ext (by unfold rowI; dsimp only; omega)
      have ec : colJ ⟨n + 1, h⟩ s = colJ ⟨n, Nat.lt_of_succ_lt h⟩ s := Fin.ext (by unfold colJ; dsimp only; omega)
      rw [hp, ih (Nat.lt_of_succ_lt h) r s, part_at m c ⟨n + 1, h⟩ r s, e, Finset.sum_range_add, er, ec]
      dsimp only
      rw [e']

theorem flushed (t : Fin cfg0.N) (hf : (cfg0.win 2).flush t = true) :
    (dats m 0 c).flushed 2 t = ((cfg0.win 2).blk t).view.read (Elt Ideal) (prod (x0 m c) (x1 m c)) := by
  obtain ⟨h0, h1⟩ := idx2 t
  have hk : t.val % 13 = 12 := (flush0_2 t).mp hf
  show (cfg0.win 2).cut (grid0.coords t) ((dats m 0 c).after 2 t) = _
  rw [after0_2]
  funext j
  obtain ⟨r, s, rfl⟩ : ∃ (r : Fin 512) (s : Fin 1408), j = ix2 r s := ⟨_, _, ix2_eta (a := 512) (b := 1408) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 512 + 1 * r.val = 512 * (t.val / 26) + r.val; rw [h0]; omega
    | ⟨1, _⟩ => show win0_2.index t 1 * 1408 + 1 * s.val = 1408 * (t.val / 13 % 2) + s.val; rw [h1]; omega
  refine Eq.trans ?_ hr.symm
  refine (outs_at m c t.val t.isLt r s).trans ?_
  rw [hk]
  rfl
theorem cover (i : S1024x2816.Idx) : ∃ t : Fin cfg0.N, (cfg0.win 2).flush t = true ∧ i ∈ ((cfg0.win 2).blk t).view.set := by
  have l0 : (i 0).val < 1024 := (i 0).isLt
  have l1 : (i 1).val < 2816 := (i 1).isLt
  have hN : cfg0.N = 52 := N_0
  refine ⟨⟨26 * ((i 0).val / 512) + 13 * ((i 1).val / 1408) + 12, by omega⟩, (flush0_2 _).mpr (by dsimp only; omega), ?_⟩
  generalize ht : (⟨26 * ((i 0).val / 512) + 13 * ((i 1).val / 1408) + 12, _⟩ : Fin cfg0.N) = t
  have hv : t.val = 26 * ((i 0).val / 512) + 13 * ((i 1).val / 1408) + 12 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 512 ≤ (i 0).val ∧ (i 0).val < win0_2.index t 0 * 512 + 512; rw [h0]; omega
  | ⟨1, _⟩ => show win0_2.index t 1 * 1408 ≤ (i 1).val ∧ (i 1).val < win0_2.index t 1 * 1408 + 1408; rw [h1]; omega
theorem final : (dats m 0 c).arrAt 2 cfg0.N = prod (x0 m c) (x1 m c) :=
  (dats m 0 c).arrAt_eq_of_cover 2 (prod (x0 m c) (x1 m c)) (fun t hf => flushed m c t hf) cover

/-! ## The reference -/

open Cert.UpDwRefIdeal.Read in
theorem ref (y0 : S8320x1024.Idx → EReal) (y1 : S8320x2816.Idx → EReal) : val_main_v5 (F := Ideal) y0 y1 = prod y0 y1 := by
  funext i
  rw [prod_at]
  rw [val_main_v5_apply, val_main_v4_apply]
  refine Finset.sum_congr rfl fun k _ => ?_
  have e0 : ridx_main_v4 (idx_main_v5 i) k = ix2 k (i 0) := by funext a; fin_cases a <;> rfl
  have e1 : lidx_main_v4 (idx_main_v5 i) k = ix2 k (i 1) := by funext a; fin_cases a <;> rfl
  rw [e0, e1, mul_comm]
  rfl

/-! ## The claims -/

theorem frame_kernel : Cert.quiescent_UpDw := fun m ρ _ => Cert.UpDw.Gen.frame m ρ
theorem frame_ideal : Cert.quiescent_UpDwIdeal := fun m ρ _ => Cert.UpDwIdeal.Gen.frame m ρ
theorem frame_ref : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run m ρ)
theorem algebraic : Cert.algebraic_UpDwIdeal_UpDwRefIdeal := by
  intro m ρ m' ρ' _ hag
  refine ⟨fun c => prod (x0 m c) (x1 m c), ?_, ?_⟩
  · exact (θ_run Cert.UpDwIdeal.defs _ _).mono (fun _ h c => ⟨(h c).1.trans (final m c), (h c).2⟩) (Cert.UpDwIdeal.Value.run_blocks m ρ)
  · refine (θ_run Cert.UpDwRefIdeal.defs _ _).mono (fun _ h c => ⟨(h c).1.trans ?_, (h c).2⟩) (Cert.UpDwRefIdeal.Value.run m' ρ')
    rw [(hag c).1, (hag c).2]
    exact (Cert.UpDwRefIdeal.Read.val_main_v5_eq (F := Ideal) _ _).trans (ref _ _)

end Cert.Proof.UpDw
-- ==== Proof.Products.OutDx.lean ====
/- The value of `OutDx`: the product's array, block by block, and the claims. -/
module

public import proofs.«01_k».proof.Defs
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.OutDx

open Cert.OutDxIdeal Cert.OutDxIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S1024x1024.Idx → EReal) (p : Fin 8320) (q : Fin 1024) (k : ℕ) : EReal :=
  if h : k < 1024 then x0 (ix2 p (⟨k, h⟩ : Fin 1024)) * x1 (ix2 q (⟨k, h⟩ : Fin 1024)) else 0

/-- The product. -/
def prod (x0 : S8320x1024.Idx → EReal) (x1 : S1024x1024.Idx → EReal) : S8320x1024.Idx → EReal := fun i => ∑ k ∈ range 1024, term x0 x1 (i 0) (i 1) k

theorem prod_at (x0 : S8320x1024.Idx → EReal) (x1 : S1024x1024.Idx → EReal) (i : S8320x1024.Idx) :
    prod x0 x1 i = ∑ k : Fin 1024, x0 (ix2 (i 0) k) * x1 (ix2 (i 1) k) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S1024x1024.Idx → EReal := m ((c : Thread nD τ).loc main_arg1)

theorem lt_N (t : Fin cfg0.N) : t.val < 13 := by have := t.isLt; have hN : cfg0.N = 13 := N_0; omega
def rowI (t : Fin cfg0.N) (r : Fin 640) : Fin 8320 := ⟨640 * (t.val / 1) + r.val, by have := lt_N t; omega⟩
def colJ (t : Fin cfg0.N) (s : Fin 1024) : Fin 1024 := ⟨1024 * (t.val / 1 % 1) + s.val, by omega⟩
theorem lt_K (t : Fin cfg0.N) (k : Fin 1024) : 1024 * (t.val % 1) + k.val < 1024 := by omega

theorem idx0 : ∀ t : Fin cfg0.N, win0_0.index t 0 = t.val / 1 ∧ win0_0.index t 1 = t.val % 1 := by decide +kernel
theorem idx1 : ∀ t : Fin cfg0.N, win0_1.index t 0 = t.val / 1 % 1 ∧ win0_1.index t 1 = t.val % 1 := by decide +kernel
theorem idx2 : ∀ t : Fin cfg0.N, win0_2.index t 0 = t.val / 1 ∧ win0_2.index t 1 = t.val / 1 % 1 := by decide +kernel

theorem iblk0_at (t : Fin cfg0.N) (r : Fin 640) (k : Fin 1024) :
    iblk m c 0 t (ix2 r k) = x0 m c (ix2 (rowI t r) (⟨_, lt_K t k⟩ : Fin 1024)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 1) + r.val; rw [h0]; omega
  | ⟨1, _⟩ => show win0_0.index t 1 * 1024 + 1 * k.val = 1024 * (t.val % 1) + k.val; rw [h1]; omega
theorem iblk1_at (t : Fin cfg0.N) (k : Fin 1024) (s : Fin 1024) :
    iblk m c 1 t (ix2 s k) = x1 m c (ix2 (colJ t s) (⟨_, lt_K t k⟩ : Fin 1024)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * s.val = 1024 * (t.val / 1 % 1) + s.val; rw [h0]; omega
  | ⟨1, _⟩ => show win0_1.index t 1 * 1024 + 1 * k.val = 1024 * (t.val % 1) + k.val; rw [h1]; omega

theorem pay1_at (a : Vec Ideal S640x1024 .f32) (b : Vec Ideal S1024x1024 .bf16) (r : Fin 640) (s : Fin 1024) :
    k0_pay1 (F := Ideal) a b (ix2 r s) = ∑ k : Fin 1024, a (ix2 r k) * b (ix2 s k) := by
  pointwise [k0_pay1]
theorem part_at (t : Fin cfg0.N) (r : Fin 640) (s : Fin 1024) : k0_pay1 (F := Ideal) (iblk m c 0 t) (iblk m c 1 t) (ix2 r s) =
    ∑ k ∈ range 1024, term (x0 m c) (x1 m c) (rowI t r) (colJ t s) (1024 * (t.val % 1) + k) := by
  refine (pay1_at _ _ r s).trans ?_
  rw [Finset.sum_range]
  refine Finset.sum_congr rfl fun k _ => ?_
  rw [iblk0_at, iblk1_at]
  unfold term
  rw [dif_pos (lt_K t k)]
theorem out_eq (a : Vec Ideal S640x1024 .f32) (b : Vec Ideal S1024x1024 .bf16) : out0_2 a b = k0_pay1 (F := Ideal) a b := by
  unfold out0_2
  rw [View.canon_unit_zero hz]
  simp only [View.ld_unit_zero (S := S640x1024) hz, View.ld_unit_zero (S := S1024x1024) hz]

theorem flushed (t : Fin cfg0.N) :
    (dats m 0 c).flushed 2 t = ((cfg0.win 2).blk t).view.read (Elt Ideal) (prod (x0 m c) (x1 m c)) := by
  obtain ⟨h0, h1⟩ := idx2 t
  show (cfg0.win 2).cut (grid0.coords t) ((dats m 0 c).after 2 t) = _
  rw [after0_2]
  funext j
  obtain ⟨r, s, rfl⟩ : ∃ (r : Fin 640) (s : Fin 1024), j = ix2 r s := ⟨_, _, ix2_eta (a := 640) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 640 + 1 * r.val = 640 * (t.val / 1) + r.val; rw [h0]; omega
    | ⟨1, _⟩ => show win0_2.index t 1 * 1024 + 1 * s.val = 1024 * (t.val / 1 % 1) + s.val; rw [h1]; omega
  refine Eq.trans ?_ hr.symm
  refine (congrFun (out_eq _ _) _).trans ((part_at m c t r s).trans ?_)
  refine Finset.sum_congr rfl fun k _ => ?_
  have e : 1024 * (t.val % 1) + k = k := by omega
  rw [e]
  rfl
theorem cover (i : S8320x1024.Idx) : ∃ t : Fin cfg0.N, (cfg0.win 2).flush t = true ∧ i ∈ ((cfg0.win 2).blk t).view.set := by
  have l0 : (i 0).val < 8320 := (i 0).isLt
  have l1 : (i 1).val < 1024 := (i 1).isLt
  have hN : cfg0.N = 13 := N_0
  refine ⟨⟨1 * ((i 0).val / 640) + 1 * ((i 1).val / 1024) + 0, by omega⟩, flush0_2 _, ?_⟩
  generalize ht : (⟨1 * ((i 0).val / 640) + 1 * ((i 1).val / 1024) + 0, _⟩ : Fin cfg0.N) = t
  have hv : t.val = 1 * ((i 0).val / 640) + 1 * ((i 1).val / 1024) + 0 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 640 ≤ (i 0).val ∧ (i 0).val < win0_2.index t 0 * 640 + 640; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t _ => flushed m c t) cover

/-! ## The reference -/

open Cert.OutDxRefIdeal.Read in
theorem ref (y0 : S8320x1024.Idx → EReal) (y1 : S1024x1024.Idx → EReal) : val_main_v3 (F := Ideal) y0 y1 = prod y0 y1 := by
  funext i
  rw [prod_at]
  rw [val_main_v3_apply]
  refine Finset.sum_congr rfl fun k _ => ?_
  have e0 : lidx_main_v3 i k = ix2 (i 0) k := by funext a; fin_cases a <;> rfl
  have e1 : ridx_main_v3 i k = ix2 (i 1) k := by funext a; fin_cases a <;> rfl
  rw [e0, e1]
  rfl

/-! ## The claims -/

theorem frame_kernel : Cert.quiescent_OutDx := fun m ρ _ => Cert.OutDx.Gen.frame m ρ
theorem frame_ideal : Cert.quiescent_OutDxIdeal := fun m ρ _ => Cert.OutDxIdeal.Gen.frame m ρ
theorem frame_ref : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run m ρ)
theorem algebraic : Cert.algebraic_OutDxIdeal_OutDxRefIdeal := by
  intro m ρ m' ρ' _ hag
  refine ⟨fun c => prod (x0 m c) (x1 m c), ?_, ?_⟩
  · exact (θ_run Cert.OutDxIdeal.defs _ _).mono (fun _ h c => ⟨(h c).1.trans (final m c), (h c).2⟩) (Cert.OutDxIdeal.Value.run_blocks m ρ)
  · refine (θ_run Cert.OutDxRefIdeal.defs _ _).mono (fun _ h c => ⟨(h c).1.trans ?_, (h c).2⟩) (Cert.OutDxRefIdeal.Value.run m' ρ')
    rw [(hag c).1, (hag c).2]
    exact (Cert.OutDxRefIdeal.Read.val_main_v3_eq (F := Ideal) _ _).trans (ref _ _)

end Cert.Proof.OutDx
-- ==== Proof.Products.OutDw.lean ====
/- The value of `OutDw`: the product's array, block by block, and the claims. -/
module

public import proofs.«01_k».proof.Defs
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.OutDw

open Cert.OutDwIdeal Cert.OutDwIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S8320x1024.Idx → EReal) (p : Fin 1024) (q : Fin 1024) (k : ℕ) : EReal :=
  if h : k < 8320 then x0 (ix2 (⟨k, h⟩ : Fin 8320) p) * x1 (ix2 (⟨k, h⟩ : Fin 8320) q) else 0

/-- The product. -/
def prod (x0 : S8320x1024.Idx → EReal) (x1 : S8320x1024.Idx → EReal) : S1024x1024.Idx → EReal := fun i => ∑ k ∈ range 8320, term x0 x1 (i 0) (i 1) k

theorem prod_at (x0 : S8320x1024.Idx → EReal) (x1 : S8320x1024.Idx → EReal) (i : S1024x1024.Idx) :
    prod x0 x1 i = ∑ k : Fin 8320, x0 (ix2 k (i 0)) * x1 (ix2 k (i 1)) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S8320x1024.Idx → EReal := m ((c : Thread nD τ).loc main_arg1)

theorem lt_N (t : Fin cfg0.N) : t.val < 26 := by have := t.isLt; have hN : cfg0.N = 26 := N_0; omega
def rowI (t : Fin cfg0.N) (r : Fin 512) : Fin 1024 := ⟨512 * (t.val / 13) + r.val, by have := lt_N t; omega⟩
def colJ (t : Fin cfg0.N) (s : Fin 1024) : Fin 1024 := ⟨1024 * (t.val / 13 % 1) + s.val, by omega⟩
theorem lt_K (t : Fin cfg0.N) (k : Fin 640) : 640 * (t.val % 13) + k.val < 8320 := by omega

theorem idx0 : ∀ t : Fin cfg0.N, win0_0.index t 0 = t.val % 13 ∧ win0_0.index t 1 = t.val / 13 := by decide +kernel
theorem idx1 : ∀ t : Fin cfg0.N, win0_1.index t 0 = t.val % 13 ∧ win0_1.index t 1 = t.val / 13 % 1 := by decide +kernel
theorem idx2 : ∀ t : Fin cfg0.N, win0_2.index t 0 = t.val / 13 ∧ win0_2.index t 1 = t.val / 13 % 1 := by decide +kernel

theorem iblk0_at (t : Fin cfg0.N) (r : Fin 512) (k : Fin 640) :
    iblk m c 0 t (ix2 k r) = x0 m c (ix2 (⟨_, lt_K t k⟩ : Fin 8320) (rowI t r)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * k.val = 640 * (t.val % 13) + k.val; rw [h0]; omega
  | ⟨1, _⟩ => show win0_0.index t 1 * 512 + 1 * r.val = 512 * (t.val / 13) + r.val; rw [h1]; omega
theorem iblk1_at (t : Fin cfg0.N) (k : Fin 640) (s : Fin 1024) :
    iblk m c 1 t (ix2 k s) = x1 m c (ix2 (⟨_, lt_K t k⟩ : Fin 8320) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 640 + 1 * k.val = 640 * (t.val % 13) + k.val; rw [h0]; omega
  | ⟨1, _⟩ => show win0_1.index t 1 * 1024 + 1 * s.val = 1024 * (t.val / 13 % 1) + s.val; rw [h1]; omega

theorem pay1_at (a : Vec Ideal S640x512 .bf16) (b : Vec Ideal S640x1024 .f32) (r : Fin 512) (s : Fin 1024) :
    k0_pay1 (F := Ideal) a b (ix2 r s) = ∑ k : Fin 640, a (ix2 k r) * b (ix2 k s) := by
  pointwise [k0_pay1]
theorem part_at (t : Fin cfg0.N) (r : Fin 512) (s : Fin 1024) : k0_pay1 (F := Ideal) (iblk m c 0 t) (iblk m c 1 t) (ix2 r s) =
    ∑ k ∈ range 640, term (x0 m c) (x1 m c) (rowI t r) (colJ t s) (640 * (t.val % 13) + k) := by
  refine (pay1_at _ _ r s).trans ?_
  rw [Finset.sum_range]
  refine Finset.sum_congr rfl fun k _ => ?_
  rw [iblk0_at, iblk1_at]
  unfold term
  rw [dif_pos (lt_K t k)]
theorem out_A (i : grid0.Coords) (arg3 : Memref sig .tc .vmem S640x512 .bf16) (h3 : arg3.IsWhole) (arg4 : Memref sig .tc .vmem S640x1024 .f32) (h4 : arg4.IsWhole)
    (arg5 : Memref sig .tc .vmem S512x1024 .f32) (h5 : arg5.IsWhole) (hc0 : cond0_0 i) (hc1 : ¬cond0_1 i) (hc2 : ¬cond0_2 i) (a : Vec Ideal S640x512 .bf16) (b : Vec Ideal S640x1024 .f32) :
    out0_A_2 c i arg3 h3 arg4 h4 arg5 h5 hc0 hc1 hc2 a b = k0_pay1 (F := Ideal) a b := by
  unfold out0_A_2
  rw [View.read_writes_eq_canon _ _ _ (cover0_A_2 c i arg3 h3 arg4 h4 arg5 h5 hc0 hc1 hc2 a b)]
  unfold kernelRun0_A
  dsimp only
  sl_unfold_words
  rw [View.canon_unit_zero hz]
  simp only [View.readAt_eq_ld, h3.read_unread, h4.read_unread, h5.read_unread, View.ld_unit_zero (S := S640x512) hz, View.ld_unit_zero (S := S640x1024) hz, View.ld_unit_zero (S := S512x1024) hz]
theorem out_B (i : grid0.Coords) (arg3 : Memref sig .tc .vmem S640x512 .bf16) (h3 : arg3.IsWhole) (arg4 : Memref sig .tc .vmem S640x1024 .f32) (h4 : arg4.IsWhole)
    (arg5 : Memref sig .tc .vmem S512x1024 .f32) (h5 : arg5.IsWhole) (hc0 : ¬cond0_0 i) (hc1 : cond0_1 i) (hc2 : ¬cond0_2 i) (a : Vec Ideal S640x512 .bf16) (b : Vec Ideal S640x1024 .f32) (xo : Vec Ideal S512x1024 .f32) :
    out0_B_2 c i arg3 h3 arg4 h4 arg5 h5 hc0 hc1 hc2 a b xo = k0_pay2 (F := Ideal) a b xo := by
  unfold out0_B_2
  rw [View.read_writes_eq_canon _ _ _ (cover0_B_2 c i arg3 h3 arg4 h4 arg5 h5 hc0 hc1 hc2 a b xo)]
  unfold kernelRun0_B
  dsimp only
  sl_unfold_words
  rw [View.canon_unit_zero hz]
  simp only [View.readAt_eq_ld, h3.read_unread, h4.read_unread, h5.read_unread, View.ld_unit_zero (S := S640x512) hz, View.ld_unit_zero (S := S640x1024) hz, View.ld_unit_zero (S := S512x1024) hz]
theorem out_C (i : grid0.Coords) (arg3 : Memref sig .tc .vmem S640x512 .bf16) (h3 : arg3.IsWhole) (arg4 : Memref sig .tc .vmem S640x1024 .f32) (h4 : arg4.IsWhole)
    (arg5 : Memref sig .tc .vmem S512x1024 .f32) (h5 : arg5.IsWhole) (hc0 : ¬cond0_0 i) (hc1 : ¬cond0_1 i) (hc2 : cond0_2 i) (a : Vec Ideal S640x512 .bf16) (b : Vec Ideal S640x1024 .f32) (xo : Vec Ideal S512x1024 .f32) :
    out0_C_2 c i arg3 h3 arg4 h4 arg5 h5 hc0 hc1 hc2 a b xo = k0_pay3 (F := Ideal) a b xo := by
  unfold out0_C_2
  rw [View.read_writes_eq_canon _ _ _ (cover0_C_2 c i arg3 h3 arg4 h4 arg5 h5 hc0 hc1 hc2 a b xo)]
  unfold kernelRun0_C
  dsimp only
  sl_unfold_words
  rw [View.canon_unit_zero hz]
  simp only [View.readAt_eq_ld, h3.read_unread, h4.read_unread, h5.read_unread, View.ld_unit_zero (S := S640x512) hz, View.ld_unit_zero (S := S640x1024) hz, View.ld_unit_zero (S := S512x1024) hz]
theorem pay2_at (a : Vec Ideal S640x512 .bf16) (b : Vec Ideal S640x1024 .f32) (xo : Vec Ideal S512x1024 .f32) (j : S512x1024.Idx) :
    k0_pay2 (F := Ideal) a b xo j = xo j + k0_pay1 (F := Ideal) a b j := by
  unfold k0_pay2
  simp only [shapeCast_self]
  rfl
theorem pay3_at (a : Vec Ideal S640x512 .bf16) (b : Vec Ideal S640x1024 .f32) (xo : Vec Ideal S512x1024 .f32) (j : S512x1024.Idx) :
    k0_pay3 (F := Ideal) a b xo j = xo j + k0_pay1 (F := Ideal) a b j := by
  unfold k0_pay3
  simp only [shapeCast_self]
  rfl

/-- What the output's buffer holds after a point: the terms so far. -/
theorem outs_at : ∀ (n : ℕ) (h : n < cfg0.N) (r : Fin 512) (s : Fin 1024), outsAt0 m c n h (ix2 r s) =
    ∑ k ∈ range (640 * (n % 13 + 1)), term (x0 m c) (x1 m c) (rowI ⟨n, h⟩ r) (colJ ⟨n, h⟩ s) k := by
  intro n
  induction n with
  | zero =>
    intro h r s
    rw [outsAt0_A m c ⟨0, h⟩ (by dsimp only <;> omega) (by dsimp only <;> omega) (by dsimp only <;> omega), out_A]
    refine (part_at m c ⟨0, h⟩ r s).trans ?_
    simp only [Nat.zero_mod, Nat.mul_zero, Nat.zero_add, Nat.mul_one]
  | succ n ih =>
    intro h r s
    by_cases h0 : (n + 1) % 13 = 0
    · rw [outsAt0_A m c ⟨n + 1, h⟩ (by dsimp only <;> omega) (by dsimp only <;> omega) (by dsimp only <;> omega), out_A]
      refine (part_at m c ⟨n + 1, h⟩ r s).trans ?_
      simp only [h0, Nat.mul_zero, Nat.zero_add, Nat.mul_one]
    · have hp : outsAt0 m c (n + 1) h (ix2 r s) = outsAt0 m c n (Nat.lt_of_succ_lt h) (ix2 r s)
          + k0_pay1 (F := Ideal) (iblk m c 0 ⟨n + 1, h⟩) (iblk m c 1 ⟨n + 1, h⟩) (ix2 r s) := by
        by_cases h2 : (n + 1) % 13 = 12
        · rw [outsAt0_C m c ⟨n + 1, h⟩ (by dsimp only <;> omega) (by dsimp only <;> omega) (by dsimp only <;> omega), out_C]
          exact pay3_at _ _ _ _
        · rw [outsAt0_B m c ⟨n + 1, h⟩ (by dsimp only <;> omega) (by dsimp only <;> omega) (by dsimp only <;> omega), out_B]
          exact pay2_at _ _ _ _
      have e : 640 * ((n + 1) % 13 + 1) = 640 * (n % 13 + 1) + 640 := by omega
      have e' : 640 * ((n + 1) % 13) = 640 * (n % 13 + 1) := by omega
      have er : rowI ⟨n + 1, h⟩ r = rowI ⟨n, Nat.lt_of_succ_lt h⟩ r := Fin.ext (by unfold rowI; dsimp only; omega)
      have ec : colJ ⟨n + 1, h⟩ s = colJ ⟨n, Nat.lt_of_succ_lt h⟩ s := Fin.ext (by unfold colJ; dsimp only; omega)
      rw [hp, ih (Nat.lt_of_succ_lt h) r s, part_at m c ⟨n + 1, h⟩ r s, e, Finset.sum_range_add, er, ec]
      dsimp only
      rw [e']

theorem flushed (t : Fin cfg0.N) (hf : (cfg0.win 2).flush t = true) :
    (dats m 0 c).flushed 2 t = ((cfg0.win 2).blk t).view.read (Elt Ideal) (prod (x0 m c) (x1 m c)) := by
  obtain ⟨h0, h1⟩ := idx2 t
  have hk : t.val % 13 = 12 := (flush0_2 t).mp hf
  show (cfg0.win 2).cut (grid0.coords t) ((dats m 0 c).after 2 t) = _
  rw [after0_2]
  funext j
  obtain ⟨r, s, rfl⟩ : ∃ (r : Fin 512) (s : Fin 1024), j = ix2 r s := ⟨_, _, ix2_eta (a := 512) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 512 + 1 * r.val = 512 * (t.val / 13) + r.val; rw [h0]; omega
    | ⟨1, _⟩ => show win0_2.index t 1 * 1024 + 1 * s.val = 1024 * (t.val / 13 % 1) + s.val; rw [h1]; omega
  refine Eq.trans ?_ hr.symm
  refine (outs_at m c t.val t.isLt r s).trans ?_
  rw [hk]
  rfl
theorem cover (i : S1024x1024.Idx) : ∃ t : Fin cfg0.N, (cfg0.win 2).flush t = true ∧ i ∈ ((cfg0.win 2).blk t).view.set := by
  have l0 : (i 0).val < 1024 := (i 0).isLt
  have l1 : (i 1).val < 1024 := (i 1).isLt
  have hN : cfg0.N = 26 := N_0
  refine ⟨⟨13 * ((i 0).val / 512) + 13 * ((i 1).val / 1024) + 12, by omega⟩, (flush0_2 _).mpr (by dsimp only; omega), ?_⟩
  generalize ht : (⟨13 * ((i 0).val / 512) + 13 * ((i 1).val / 1024) + 12, _⟩ : Fin cfg0.N) = t
  have hv : t.val = 13 * ((i 0).val / 512) + 13 * ((i 1).val / 1024) + 12 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 512 ≤ (i 0).val ∧ (i 0).val < win0_2.index t 0 * 512 + 512; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t hf => flushed m c t hf) cover

/-! ## The reference -/

open Cert.OutDwRefIdeal.Read in
theorem ref (y0 : S8320x1024.Idx → EReal) (y1 : S8320x1024.Idx → EReal) : val_main_v4 (F := Ideal) y0 y1 = prod y0 y1 := by
  funext i
  rw [prod_at]
  rw [val_main_v4_apply, val_main_v3_apply]
  refine Finset.sum_congr rfl fun k _ => ?_
  have e0 : ridx_main_v3 (idx_main_v4 i) k = ix2 k (i 0) := by funext a; fin_cases a <;> rfl
  have e1 : lidx_main_v3 (idx_main_v4 i) k = ix2 k (i 1) := by funext a; fin_cases a <;> rfl
  rw [e0, e1, mul_comm]
  rfl

/-! ## The claims -/

theorem frame_kernel : Cert.quiescent_OutDw := fun m ρ _ => Cert.OutDw.Gen.frame m ρ
theorem frame_ideal : Cert.quiescent_OutDwIdeal := fun m ρ _ => Cert.OutDwIdeal.Gen.frame m ρ
theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run m ρ)
theorem algebraic : Cert.algebraic_OutDwIdeal_OutDwRefIdeal := by
  intro m ρ m' ρ' _ hag
  refine ⟨fun c => prod (x0 m c) (x1 m c), ?_, ?_⟩
  · exact (θ_run Cert.OutDwIdeal.defs _ _).mono (fun _ h c => ⟨(h c).1.trans (final m c), (h c).2⟩) (Cert.OutDwIdeal.Value.run_blocks m ρ)
  · refine (θ_run Cert.OutDwRefIdeal.defs _ _).mono (fun _ h c => ⟨(h c).1.trans ?_, (h c).2⟩) (Cert.OutDwRefIdeal.Value.run m' ρ')
    rw [(hag c).1, (hag c).2]
    exact (Cert.OutDwRefIdeal.Read.val_main_v4_eq (F := Ideal) _ _).trans (ref _ _)

end Cert.Proof.OutDw
-- ==== Proof.Products.InDx.lean ====
/- The value of `InDx`: the product's array, block by block, and the claims. -/
module

public import proofs.«01_k».proof.Defs
public import proofs.«01_k».proof.Proof.Gen.InDx
public import proofs.«01_k».proof.Proof.Gen.InDx.Frame
public import proofs.«01_k».proof.Proof.Gen.InDxIdeal
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.InDx

open Cert.InDxIdeal Cert.InDxIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x3072.Idx → EReal) (x1 : S1024x3072.Idx → EReal) (p : Fin 8320) (q : Fin 1024) (k : ℕ) : EReal :=
  if h : k < 3072 then x0 (ix2 p (⟨k, h⟩ : Fin 3072)) * x1 (ix2 q (⟨k, h⟩ : Fin 3072)) else 0

/-- The product. -/
def prod (x0 : S8320x3072.Idx → EReal) (x1 : S1024x3072.Idx → EReal) : S8320x1024.Idx → EReal := fun i => ∑ k ∈ range 3072, term x0 x1 (i 0) (i 1) k

theorem prod_at (x0 : S8320x3072.Idx → EReal) (x1 : S1024x3072.Idx → EReal) (i : S8320x1024.Idx) :
    prod x0 x1 i = ∑ k : Fin 3072, x0 (ix2 (i 0) k) * x1 (ix2 (i 1) k) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x3072.Idx → EReal := m ((c : Thread nD τ).loc main_arg0)
abbrev x1 : S1024x3072.Idx → EReal := m ((c : Thread nD τ).loc main_arg1)

theorem lt_N (t : Fin cfg0.N) : t.val < 39 := by have := t.isLt; have hN : cfg0.N = 39 := N_0; omega
def rowI (t : Fin cfg0.N) (r : Fin 640) : Fin 8320 := ⟨640 * (t.val / 3) + r.val, by have := lt_N t; omega⟩
def colJ (t : Fin cfg0.N) (s : Fin 1024) : Fin 1024 := ⟨1024 * (t.val / 3 % 1) + s.val, by omega⟩
theorem lt_K (t : Fin cfg0.N) (k : Fin 1024) : 1024 * (t.val % 3) + k.val < 3072 := by omega

theorem idx0 : ∀ t : Fin cfg0.N, win0_0.index t 0 = t.val / 3 ∧ win0_0.index t 1 = t.val % 3 := by decide +kernel
theorem idx1 : ∀ t : Fin cfg0.N, win0_1.index t 0 = t.val / 3 % 1 ∧ win0_1.index t 1 = t.val % 3 := by decide +kernel
theorem idx2 : ∀ t : Fin cfg0.N, win0_2.index t 0 = t.val / 3 ∧ win0_2.index t 1 = t.val / 3 % 1 := by decide +kernel

theorem iblk0_at (t : Fin cfg0.N) (r : Fin 640) (k : Fin 1024) :
    iblk m c 0 t (ix2 r k) = x0 m c (ix2 (rowI t r) (⟨_, lt_K t k⟩ : Fin 3072)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 3) + r.val; rw [h0]; omega
  | ⟨1, _⟩ => show win0_0.index t 1 * 1024 + 1 * k.val = 1024 * (t.val % 3) + k.val; rw [h1]; omega
theorem iblk1_at (t : Fin cfg0.N) (k : Fin 1024) (s : Fin 1024) :
    iblk m c 1 t (ix2 s k) = x1 m c (ix2 (colJ t s) (⟨_, lt_K t k⟩ : Fin 3072)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * s.val = 1024 * (t.val / 3 % 1) + s.val; rw [h0]; omega
  | ⟨1, _⟩ => show win0_1.index t 1 * 1024 + 1 * k.val = 1024 * (t.val % 3) + k.val; rw [h1]; omega

theorem pay1_at (a : Vec Ideal S640x1024 .f32) (b : Vec Ideal S1024x1024 .bf16) (r : Fin 640) (s : Fin 1024) :
    k0_pay1 (F := Ideal) a b (ix2 r s) = ∑ k : Fin 1024, a (ix2 r k) * b (ix2 s k) := by
  pointwise [k0_pay1]
theorem part_at (t : Fin cfg0.N) (r : Fin 640) (s : Fin 1024) : k0_pay1 (F := Ideal) (iblk m c 0 t) (iblk m c 1 t) (ix2 r s) =
    ∑ k ∈ range 1024, term (x0 m c) (x1 m c) (rowI t r) (colJ t s) (1024 * (t.val % 3) + k) := by
  refine (pay1_at _ _ r s).trans ?_
  rw [Finset.sum_range]
  refine Finset.sum_congr rfl fun k _ => ?_
  rw [iblk0_at, iblk1_at]
  unfold term
  rw [dif_pos (lt_K t k)]
theorem out_A (i : grid0.Coords) (arg3 : Memref sig .tc .vmem S640x1024 .f32) (h3 : arg3.IsWhole) (arg4 : Memref sig .tc .vmem S1024x1024 .bf16) (h4 : arg4.IsWhole)
    (arg5 : Memref sig .tc .vmem S640x1024 .f32) (h5 : arg5.IsWhole) (hc0 : cond0_0 i) (hc1 : ¬cond0_1 i) (hc2 : ¬cond0_2 i) (a : Vec Ideal S640x1024 .f32) (b : Vec Ideal S1024x1024 .bf16) :
    out0_A_2 c i arg3 h3 arg4 h4 arg5 h5 hc0 hc1 hc2 a b = k0_pay1 (F := Ideal) a b := by
  unfold out0_A_2
  rw [View.read_writes_eq_canon _ _ _ (cover0_A_2 c i arg3 h3 arg4 h4 arg5 h5 hc0 hc1 hc2 a b)]
  unfold kernelRun0_A
  dsimp only
  sl_unfold_words
  rw [View.canon_unit_zero hz]
  simp only [View.readAt_eq_ld, h3.read_unread, h4.read_unread, h5.read_unread, View.ld_unit_zero (S := S640x1024) hz, View.ld_unit_zero (S := S1024x1024) hz, View.ld_unit_zero (S := S640x1024) hz]
theorem out_B (i : grid0.Coords) (arg3 : Memref sig .tc .vmem S640x1024 .f32) (h3 : arg3.IsWhole) (arg4 : Memref sig .tc .vmem S1024x1024 .bf16) (h4 : arg4.IsWhole)
    (arg5 : Memref sig .tc .vmem S640x1024 .f32) (h5 : arg5.IsWhole) (hc0 : ¬cond0_0 i) (hc1 : cond0_1 i) (hc2 : ¬cond0_2 i) (a : Vec Ideal S640x1024 .f32) (b : Vec Ideal S1024x1024 .bf16) (xo : Vec Ideal S640x1024 .f32) :
    out0_B_2 c i arg3 h3 arg4 h4 arg5 h5 hc0 hc1 hc2 a b xo = k0_pay2 (F := Ideal) a b xo := by
  unfold out0_B_2
  rw [View.read_writes_eq_canon _ _ _ (cover0_B_2 c i arg3 h3 arg4 h4 arg5 h5 hc0 hc1 hc2 a b xo)]
  unfold kernelRun0_B
  dsimp only
  sl_unfold_words
  rw [View.canon_unit_zero hz]
  simp only [View.readAt_eq_ld, h3.read_unread, h4.read_unread, h5.read_unread, View.ld_unit_zero (S := S640x1024) hz, View.ld_unit_zero (S := S1024x1024) hz, View.ld_unit_zero (S := S640x1024) hz]
theorem out_C (i : grid0.Coords) (arg3 : Memref sig .tc .vmem S640x1024 .f32) (h3 : arg3.IsWhole) (arg4 : Memref sig .tc .vmem S1024x1024 .bf16) (h4 : arg4.IsWhole)
    (arg5 : Memref sig .tc .vmem S640x1024 .f32) (h5 : arg5.IsWhole) (hc0 : ¬cond0_0 i) (hc1 : ¬cond0_1 i) (hc2 : cond0_2 i) (a : Vec Ideal S640x1024 .f32) (b : Vec Ideal S1024x1024 .bf16) (xo : Vec Ideal S640x1024 .f32) :
    out0_C_2 c i arg3 h3 arg4 h4 arg5 h5 hc0 hc1 hc2 a b xo = k0_pay3 (F := Ideal) a b xo := by
  unfold out0_C_2
  rw [View.read_writes_eq_canon _ _ _ (cover0_C_2 c i arg3 h3 arg4 h4 arg5 h5 hc0 hc1 hc2 a b xo)]
  unfold kernelRun0_C
  dsimp only
  sl_unfold_words
  rw [View.canon_unit_zero hz]
  simp only [View.readAt_eq_ld, h3.read_unread, h4.read_unread, h5.read_unread, View.ld_unit_zero (S := S640x1024) hz, View.ld_unit_zero (S := S1024x1024) hz, View.ld_unit_zero (S := S640x1024) hz]
theorem pay2_at (a : Vec Ideal S640x1024 .f32) (b : Vec Ideal S1024x1024 .bf16) (xo : Vec Ideal S640x1024 .f32) (j : S640x1024.Idx) :
    k0_pay2 (F := Ideal) a b xo j = xo j + k0_pay1 (F := Ideal) a b j := by
  unfold k0_pay2
  simp only [shapeCast_self]
  rfl
theorem pay3_at (a : Vec Ideal S640x1024 .f32) (b : Vec Ideal S1024x1024 .bf16) (xo : Vec Ideal S640x1024 .f32) (j : S640x1024.Idx) :
    k0_pay3 (F := Ideal) a b xo j = xo j + k0_pay1 (F := Ideal) a b j := by
  unfold k0_pay3
  simp only [shapeCast_self]
  rfl

/-- What the output's buffer holds after a point: the terms so far. -/
theorem outs_at : ∀ (n : ℕ) (h : n < cfg0.N) (r : Fin 640) (s : Fin 1024), outsAt0 m c n h (ix2 r s) =
    ∑ k ∈ range (1024 * (n % 3 + 1)), term (x0 m c) (x1 m c) (rowI ⟨n, h⟩ r) (colJ ⟨n, h⟩ s) k := by
  intro n
  induction n with
  | zero =>
    intro h r s
    rw [outsAt0_A m c ⟨0, h⟩ (by dsimp only <;> omega) (by dsimp only <;> omega) (by dsimp only <;> omega), out_A]
    refine (part_at m c ⟨0, h⟩ r s).trans ?_
    simp only [Nat.zero_mod, Nat.mul_zero, Nat.zero_add, Nat.mul_one]
  | succ n ih =>
    intro h r s
    by_cases h0 : (n + 1) % 3 = 0
    · rw [outsAt0_A m c ⟨n + 1, h⟩ (by dsimp only <;> omega) (by dsimp only <;> omega) (by dsimp only <;> omega), out_A]
      refine (part_at m c ⟨n + 1, h⟩ r s).trans ?_
      simp only [h0, Nat.mul_zero, Nat.zero_add, Nat.mul_one]
    · have hp : outsAt0 m c (n + 1) h (ix2 r s) = outsAt0 m c n (Nat.lt_of_succ_lt h) (ix2 r s)
          + k0_pay1 (F := Ideal) (iblk m c 0 ⟨n + 1, h⟩) (iblk m c 1 ⟨n + 1, h⟩) (ix2 r s) := by
        by_cases h2 : (n + 1) % 3 = 2
        · rw [outsAt0_C m c ⟨n + 1, h⟩ (by dsimp only <;> omega) (by dsimp only <;> omega) (by dsimp only <;> omega), out_C]
          exact pay3_at _ _ _ _
        · rw [outsAt0_B m c ⟨n + 1, h⟩ (by dsimp only <;> omega) (by dsimp only <;> omega) (by dsimp only <;> omega), out_B]
          exact pay2_at _ _ _ _
      have e : 1024 * ((n + 1) % 3 + 1) = 1024 * (n % 3 + 1) + 1024 := by omega
      have e' : 1024 * ((n + 1) % 3) = 1024 * (n % 3 + 1) := by omega
      have er : rowI ⟨n + 1, h⟩ r = rowI ⟨n, Nat.lt_of_succ_lt h⟩ r := Fin.ext (by unfold rowI; dsimp only; omega)
      have ec : colJ ⟨n + 1, h⟩ s = colJ ⟨n, Nat.lt_of_succ_lt h⟩ s := Fin.ext (by unfold colJ; dsimp only; omega)
      rw [hp, ih (Nat.lt_of_succ_lt h) r s, part_at m c ⟨n + 1, h⟩ r s, e, Finset.sum_range_add, er, ec]
      dsimp only
      rw [e']

theorem flushed (t : Fin cfg0.N) (hf : (cfg0.win 2).flush t = true) :
    (dats m 0 c).flushed 2 t = ((cfg0.win 2).blk t).view.read (Elt Ideal) (prod (x0 m c) (x1 m c)) := by
  obtain ⟨h0, h1⟩ := idx2 t
  have hk : t.val % 3 = 2 := (flush0_2 t).mp hf
  show (cfg0.win 2).cut (grid0.coords t) ((dats m 0 c).after 2 t) = _
  rw [after0_2]
  funext j
  obtain ⟨r, s, rfl⟩ : ∃ (r : Fin 640) (s : Fin 1024), j = ix2 r s := ⟨_, _, ix2_eta (a := 640) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 640 + 1 * r.val = 640 * (t.val / 3) + r.val; rw [h0]; omega
    | ⟨1, _⟩ => show win0_2.index t 1 * 1024 + 1 * s.val = 1024 * (t.val / 3 % 1) + s.val; rw [h1]; omega
  refine Eq.trans ?_ hr.symm
  refine (outs_at m c t.val t.isLt r s).trans ?_
  rw [hk]
  rfl
theorem cover (i : S8320x1024.Idx) : ∃ t : Fin cfg0.N, (cfg0.win 2).flush t = true ∧ i ∈ ((cfg0.win 2).blk t).view.set := by
  have l0 : (i 0).val < 8320 := (i 0).isLt
  have l1 : (i 1).val < 1024 := (i 1).isLt
  have hN : cfg0.N = 39 := N_0
  refine ⟨⟨3 * ((i 0).val / 640) + 3 * ((i 1).val / 1024) + 2, by omega⟩, (flush0_2 _).mpr (by dsimp only; omega), ?_⟩
  generalize ht : (⟨3 * ((i 0).val / 640) + 3 * ((i 1).val / 1024) + 2, _⟩ : Fin cfg0.N) = t
  have hv : t.val = 3 * ((i 0).val / 640) + 3 * ((i 1).val / 1024) + 2 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 640 ≤ (i 0).val ∧ (i 0).val < win0_2.index t 0 * 640 + 640; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t hf => flushed m c t hf) cover

/-! ## The reference -/

open Cert.InDxRefIdeal.Read in
theorem ref (y0 : S8320x3072.Idx → EReal) (y1 : S1024x3072.Idx → EReal) : val_main_v3 (F := Ideal) y0 y1 = prod y0 y1 := by
  funext i
  rw [prod_at]
  rw [val_main_v3_apply]
  refine Finset.sum_congr rfl fun k _ => ?_
  have e0 : lidx_main_v3 i k = ix2 (i 0) k := by funext a; fin_cases a <;> rfl
  have e1 : ridx_main_v3 i k = ix2 (i 1) k := by funext a; fin_cases a <;> rfl
  rw [e0, e1]
  rfl

/-! ## The claims -/

theorem frame_kernel : Cert.quiescent_InDx := fun m ρ _ => Cert.InDx.Gen.frame m ρ
theorem frame_ideal : Cert.quiescent_InDxIdeal := fun m ρ _ => Cert.InDxIdeal.Gen.frame m ρ
theorem frame_ref : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run m ρ)
theorem algebraic : Cert.algebraic_InDxIdeal_InDxRefIdeal := by
  intro m ρ m' ρ' _ hag
  refine ⟨fun c => prod (x0 m c) (x1 m c), ?_, ?_⟩
  · exact (θ_run Cert.InDxIdeal.defs _ _).mono (fun _ h c => ⟨(h c).1.trans (final m c), (h c).2⟩) (Cert.InDxIdeal.Value.run_blocks m ρ)
  · refine (θ_run Cert.InDxRefIdeal.defs _ _).mono (fun _ h c => ⟨(h c).1.trans ?_, (h c).2⟩) (Cert.InDxRefIdeal.Value.run m' ρ')
    rw [(hag c).1, (hag c).2]
    exact (Cert.InDxRefIdeal.Read.val_main_v3_eq (F := Ideal) _ _).trans (ref _ _)

end Cert.Proof.InDx
-- ==== Proof.Products.InDw.lean ====
/- The value of `InDw`: the product's array, block by block, and the claims. -/
module

public import proofs.«01_k».proof.Defs
public import proofs.«01_k».proof.Proof.Gen.InDw
public import proofs.«01_k».proof.Proof.Gen.InDw.Frame
public import proofs.«01_k».proof.Proof.Gen.InDwIdeal
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.InDw

open Cert.InDwIdeal Cert.InDwIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S8320x3072.Idx → EReal) (p : Fin 1024) (q : Fin 3072) (k : ℕ) : EReal :=
  if h : k < 8320 then x0 (ix2 (⟨k, h⟩ : Fin 8320) p) * x1 (ix2 (⟨k, h⟩ : Fin 8320) q) else 0

/-- The product. -/
def prod (x0 : S8320x1024.Idx → EReal) (x1 : S8320x3072.Idx → EReal) : S1024x3072.Idx → EReal := fun i => ∑ k ∈ range 8320, term x0 x1 (i 0) (i 1) k

theorem prod_at (x0 : S8320x1024.Idx → EReal) (x1 : S8320x3072.Idx → EReal) (i : S1024x3072.Idx) :
    prod x0 x1 i = ∑ k : Fin 8320, x0 (ix2 k (i 0)) * x1 (ix2 k (i 1)) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S8320x3072.Idx → EReal := m ((c : Thread nD τ).loc main_arg1)

theorem lt_N (t : Fin cfg0.N) : t.val < 78 := by have := t.isLt; have hN : cfg0.N = 78 := N_0; omega
def rowI (t : Fin cfg0.N) (r : Fin 512) : Fin 1024 := ⟨512 * (t.val / 39) + r.val, by have := lt_N t; omega⟩
def colJ (t : Fin cfg0.N) (s : Fin 1024) : Fin 3072 := ⟨1024 * (t.val / 13 % 3) + s.val, by omega⟩
theorem lt_K (t : Fin cfg0.N) (k : Fin 640) : 640 * (t.val % 13) + k.val < 8320 := by omega

theorem idx0 : ∀ t : Fin cfg0.N, win0_0.index t 0 = t.val % 13 ∧ win0_0.index t 1 = t.val / 39 := by decide +kernel
theorem idx1 : ∀ t : Fin cfg0.N, win0_1.index t 0 = t.val % 13 ∧ win0_1.index t 1 = t.val / 13 % 3 := by decide +kernel
theorem idx2 : ∀ t : Fin cfg0.N, win0_2.index t 0 = t.val / 39 ∧ win0_2.index t 1 = t.val / 13 % 3 := by decide +kernel

theorem iblk0_at (t : Fin cfg0.N) (r : Fin 512) (k : Fin 640) :
    iblk m c 0 t (ix2 k r) = x0 m c (ix2 (⟨_, lt_K t k⟩ : Fin 8320) (rowI t r)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * k.val = 640 * (t.val % 13) + k.val; rw [h0]; omega
  | ⟨1, _⟩ => show win0_0.index t 1 * 512 + 1 * r.val = 512 * (t.val / 39) + r.val; rw [h1]; omega
theorem iblk1_at (t : Fin cfg0.N) (k : Fin 640) (s : Fin 1024) :
    iblk m c 1 t (ix2 k s) = x1 m c (ix2 (⟨_, lt_K t k⟩ : Fin 8320) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 640 + 1 * k.val = 640 * (t.val % 13) + k.val; rw [h0]; omega
  | ⟨1, _⟩ => show win0_1.index t 1 * 1024 + 1 * s.val = 1024 * (t.val / 13 % 3) + s.val; rw [h1]; omega

theorem pay1_at (a : Vec Ideal S640x512 .bf16) (b : Vec Ideal S640x1024 .f32) (r : Fin 512) (s : Fin 1024) :
    k0_pay1 (F := Ideal) a b (ix2 r s) = ∑ k : Fin 640, a (ix2 k r) * b (ix2 k s) := by
  pointwise [k0_pay1]
theorem part_at (t : Fin cfg0.N) (r : Fin 512) (s : Fin 1024) : k0_pay1 (F := Ideal) (iblk m c 0 t) (iblk m c 1 t) (ix2 r s) =
    ∑ k ∈ range 640, term (x0 m c) (x1 m c) (rowI t r) (colJ t s) (640 * (t.val % 13) + k) := by
  refine (pay1_at _ _ r s).trans ?_
  rw [Finset.sum_range]
  refine Finset.sum_congr rfl fun k _ => ?_
  rw [iblk0_at, iblk1_at]
  unfold term
  rw [dif_pos (lt_K t k)]
theorem out_A (i : grid0.Coords) (arg3 : Memref sig .tc .vmem S640x512 .bf16) (h3 : arg3.IsWhole) (arg4 : Memref sig .tc .vmem S640x1024 .f32) (h4 : arg4.IsWhole)
    (arg5 : Memref sig .tc .vmem S512x1024 .f32) (h5 : arg5.IsWhole) (hc0 : cond0_0 i) (hc1 : ¬cond0_1 i) (hc2 : ¬cond0_2 i) (a : Vec Ideal S640x512 .bf16) (b : Vec Ideal S640x1024 .f32) :
    out0_A_2 c i arg3 h3 arg4 h4 arg5 h5 hc0 hc1 hc2 a b = k0_pay1 (F := Ideal) a b := by
  unfold out0_A_2
  rw [View.read_writes_eq_canon _ _ _ (cover0_A_2 c i arg3 h3 arg4 h4 arg5 h5 hc0 hc1 hc2 a b)]
  unfold kernelRun0_A
  dsimp only
  sl_unfold_words
  rw [View.canon_unit_zero hz]
  simp only [View.readAt_eq_ld, h3.read_unread, h4.read_unread, h5.read_unread, View.ld_unit_zero (S := S640x512) hz, View.ld_unit_zero (S := S640x1024) hz, View.ld_unit_zero (S := S512x1024) hz]
theorem out_B (i : grid0.Coords) (arg3 : Memref sig .tc .vmem S640x512 .bf16) (h3 : arg3.IsWhole) (arg4 : Memref sig .tc .vmem S640x1024 .f32) (h4 : arg4.IsWhole)
    (arg5 : Memref sig .tc .vmem S512x1024 .f32) (h5 : arg5.IsWhole) (hc0 : ¬cond0_0 i) (hc1 : cond0_1 i) (hc2 : ¬cond0_2 i) (a : Vec Ideal S640x512 .bf16) (b : Vec Ideal S640x1024 .f32) (xo : Vec Ideal S512x1024 .f32) :
    out0_B_2 c i arg3 h3 arg4 h4 arg5 h5 hc0 hc1 hc2 a b xo = k0_pay2 (F := Ideal) a b xo := by
  unfold out0_B_2
  rw [View.read_writes_eq_canon _ _ _ (cover0_B_2 c i arg3 h3 arg4 h4 arg5 h5 hc0 hc1 hc2 a b xo)]
  unfold kernelRun0_B
  dsimp only
  sl_unfold_words
  rw [View.canon_unit_zero hz]
  simp only [View.readAt_eq_ld, h3.read_unread, h4.read_unread, h5.read_unread, View.ld_unit_zero (S := S640x512) hz, View.ld_unit_zero (S := S640x1024) hz, View.ld_unit_zero (S := S512x1024) hz]
theorem out_C (i : grid0.Coords) (arg3 : Memref sig .tc .vmem S640x512 .bf16) (h3 : arg3.IsWhole) (arg4 : Memref sig .tc .vmem S640x1024 .f32) (h4 : arg4.IsWhole)
    (arg5 : Memref sig .tc .vmem S512x1024 .f32) (h5 : arg5.IsWhole) (hc0 : ¬cond0_0 i) (hc1 : ¬cond0_1 i) (hc2 : cond0_2 i) (a : Vec Ideal S640x512 .bf16) (b : Vec Ideal S640x1024 .f32) (xo : Vec Ideal S512x1024 .f32) :
    out0_C_2 c i arg3 h3 arg4 h4 arg5 h5 hc0 hc1 hc2 a b xo = k0_pay3 (F := Ideal) a b xo := by
  unfold out0_C_2
  rw [View.read_writes_eq_canon _ _ _ (cover0_C_2 c i arg3 h3 arg4 h4 arg5 h5 hc0 hc1 hc2 a b xo)]
  unfold kernelRun0_C
  dsimp only
  sl_unfold_words
  rw [View.canon_unit_zero hz]
  simp only [View.readAt_eq_ld, h3.read_unread, h4.read_unread, h5.read_unread, View.ld_unit_zero (S := S640x512) hz, View.ld_unit_zero (S := S640x1024) hz, View.ld_unit_zero (S := S512x1024) hz]
theorem pay2_at (a : Vec Ideal S640x512 .bf16) (b : Vec Ideal S640x1024 .f32) (xo : Vec Ideal S512x1024 .f32) (j : S512x1024.Idx) :
    k0_pay2 (F := Ideal) a b xo j = xo j + k0_pay1 (F := Ideal) a b j := by
  unfold k0_pay2
  simp only [shapeCast_self]
  rfl
theorem pay3_at (a : Vec Ideal S640x512 .bf16) (b : Vec Ideal S640x1024 .f32) (xo : Vec Ideal S512x1024 .f32) (j : S512x1024.Idx) :
    k0_pay3 (F := Ideal) a b xo j = xo j + k0_pay1 (F := Ideal) a b j := by
  unfold k0_pay3
  simp only [shapeCast_self]
  rfl

/-- What the output's buffer holds after a point: the terms so far. -/
theorem outs_at : ∀ (n : ℕ) (h : n < cfg0.N) (r : Fin 512) (s : Fin 1024), outsAt0 m c n h (ix2 r s) =
    ∑ k ∈ range (640 * (n % 13 + 1)), term (x0 m c) (x1 m c) (rowI ⟨n, h⟩ r) (colJ ⟨n, h⟩ s) k := by
  intro n
  induction n with
  | zero =>
    intro h r s
    rw [outsAt0_A m c ⟨0, h⟩ (by dsimp only <;> omega) (by dsimp only <;> omega) (by dsimp only <;> omega), out_A]
    refine (part_at m c ⟨0, h⟩ r s).trans ?_
    simp only [Nat.zero_mod, Nat.mul_zero, Nat.zero_add, Nat.mul_one]
  | succ n ih =>
    intro h r s
    by_cases h0 : (n + 1) % 13 = 0
    · rw [outsAt0_A m c ⟨n + 1, h⟩ (by dsimp only <;> omega) (by dsimp only <;> omega) (by dsimp only <;> omega), out_A]
      refine (part_at m c ⟨n + 1, h⟩ r s).trans ?_
      simp only [h0, Nat.mul_zero, Nat.zero_add, Nat.mul_one]
    · have hp : outsAt0 m c (n + 1) h (ix2 r s) = outsAt0 m c n (Nat.lt_of_succ_lt h) (ix2 r s)
          + k0_pay1 (F := Ideal) (iblk m c 0 ⟨n + 1, h⟩) (iblk m c 1 ⟨n + 1, h⟩) (ix2 r s) := by
        by_cases h2 : (n + 1) % 13 = 12
        · rw [outsAt0_C m c ⟨n + 1, h⟩ (by dsimp only <;> omega) (by dsimp only <;> omega) (by dsimp only <;> omega), out_C]
          exact pay3_at _ _ _ _
        · rw [outsAt0_B m c ⟨n + 1, h⟩ (by dsimp only <;> omega) (by dsimp only <;> omega) (by dsimp only <;> omega), out_B]
          exact pay2_at _ _ _ _
      have e : 640 * ((n + 1) % 13 + 1) = 640 * (n % 13 + 1) + 640 := by omega
      have e' : 640 * ((n + 1) % 13) = 640 * (n % 13 + 1) := by omega
      have er : rowI ⟨n + 1, h⟩ r = rowI ⟨n, Nat.lt_of_succ_lt h⟩ r := Fin.ext (by unfold rowI; dsimp only; omega)
      have ec : colJ ⟨n + 1, h⟩ s = colJ ⟨n, Nat.lt_of_succ_lt h⟩ s := Fin.ext (by unfold colJ; dsimp only; omega)
      rw [hp, ih (Nat.lt_of_succ_lt h) r s, part_at m c ⟨n + 1, h⟩ r s, e, Finset.sum_range_add, er, ec]
      dsimp only
      rw [e']

theorem flushed (t : Fin cfg0.N) (hf : (cfg0.win 2).flush t = true) :
    (dats m 0 c).flushed 2 t = ((cfg0.win 2).blk t).view.read (Elt Ideal) (prod (x0 m c) (x1 m c)) := by
  obtain ⟨h0, h1⟩ := idx2 t
  have hk : t.val % 13 = 12 := (flush0_2 t).mp hf
  show (cfg0.win 2).cut (grid0.coords t) ((dats m 0 c).after 2 t) = _
  rw [after0_2]
  funext j
  obtain ⟨r, s, rfl⟩ : ∃ (r : Fin 512) (s : Fin 1024), j = ix2 r s := ⟨_, _, ix2_eta (a := 512) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 512 + 1 * r.val = 512 * (t.val / 39) + r.val; rw [h0]; omega
    | ⟨1, _⟩ => show win0_2.index t 1 * 1024 + 1 * s.val = 1024 * (t.val / 13 % 3) + s.val; rw [h1]; omega
  refine Eq.trans ?_ hr.symm
  refine (outs_at m c t.val t.isLt r s).trans ?_
  rw [hk]
  rfl
theorem cover (i : S1024x3072.Idx) : ∃ t : Fin cfg0.N, (cfg0.win 2).flush t = true ∧ i ∈ ((cfg0.win 2).blk t).view.set := by
  have l0 : (i 0).val < 1024 := (i 0).isLt
  have l1 : (i 1).val < 3072 := (i 1).isLt
  have hN : cfg0.N = 78 := N_0
  refine ⟨⟨39 * ((i 0).val / 512) + 13 * ((i 1).val / 1024) + 12, by omega⟩, (flush0_2 _).mpr (by dsimp only; omega), ?_⟩
  generalize ht : (⟨39 * ((i 0).val / 512) + 13 * ((i 1).val / 1024) + 12, _⟩ : Fin cfg0.N) = t
  have hv : t.val = 39 * ((i 0).val / 512) + 13 * ((i 1).val / 1024) + 12 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 512 ≤ (i 0).val ∧ (i 0).val < win0_2.index t 0 * 512 + 512; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t hf => flushed m c t hf) cover

/-! ## The reference -/

open Cert.InDwRefIdeal.Read in
theorem ref (y0 : S8320x1024.Idx → EReal) (y1 : S8320x3072.Idx → EReal) : val_main_v4 (F := Ideal) y0 y1 = prod y0 y1 := by
  funext i
  rw [prod_at]
  rw [val_main_v4_apply, val_main_v3_apply]
  refine Finset.sum_congr rfl fun k _ => ?_
  have e0 : ridx_main_v3 (idx_main_v4 i) k = ix2 k (i 0) := by funext a; fin_cases a <;> rfl
  have e1 : lidx_main_v3 (idx_main_v4 i) k = ix2 k (i 1) := by funext a; fin_cases a <;> rfl
  rw [e0, e1, mul_comm]
  rfl

/-! ## The claims -/

theorem frame_kernel : Cert.quiescent_InDw := fun m ρ _ => Cert.InDw.Gen.frame m ρ
theorem frame_ideal : Cert.quiescent_InDwIdeal := fun m ρ _ => Cert.InDwIdeal.Gen.frame m ρ
theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run m ρ)
theorem algebraic : Cert.algebraic_InDwIdeal_InDwRefIdeal := by
  intro m ρ m' ρ' _ hag
  refine ⟨fun c => prod (x0 m c) (x1 m c), ?_, ?_⟩
  · exact (θ_run Cert.InDwIdeal.defs _ _).mono (fun _ h c => ⟨(h c).1.trans (final m c), (h c).2⟩) (Cert.InDwIdeal.Value.run_blocks m ρ)
  · refine (θ_run Cert.InDwRefIdeal.defs _ _).mono (fun _ h c => ⟨(h c).1.trans ?_, (h c).2⟩) (Cert.InDwRefIdeal.Value.run m' ρ')
    rw [(hag c).1, (hag c).2]
    exact (Cert.InDwRefIdeal.Read.val_main_v4_eq (F := Ideal) _ _).trans (ref _ _)

end Cert.Proof.InDw
-- ==== Proof.Products.FfnUp.lean ====
/- The value of `FfnUp`: the product's array, block by block, and the claims. -/
module

public import proofs.«01_k».proof.Defs
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.FfnUp

open Cert.FfnUpIdeal Cert.FfnUpIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S1024x5632.Idx → EReal) (p : Fin 8320) (q : Fin 5632) (k : ℕ) : EReal :=
  if h : k < 1024 then x0 (ix2 p (⟨k, h⟩ : Fin 1024)) * x1 (ix2 (⟨k, h⟩ : Fin 1024) q) else 0

/-- The product. -/
def prod (x0 : S8320x1024.Idx → EReal) (x1 : S1024x5632.Idx → EReal) : S8320x5632.Idx → EReal := fun i => ∑ k ∈ range 1024, term x0 x1 (i 0) (i 1) k

theorem prod_at (x0 : S8320x1024.Idx → EReal) (x1 : S1024x5632.Idx → EReal) (i : S8320x5632.Idx) :
    prod x0 x1 i = ∑ k : Fin 1024, x0 (ix2 (i 0) k) * x1 (ix2 k (i 1)) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S1024x5632.Idx → EReal := m ((c : Thread nD τ).loc main_arg1)

theorem lt_N (t : Fin cfg0.N) : t.val < 52 := by have := t.isLt; have hN : cfg0.N = 52 := N_0; omega
def rowI (t : Fin cfg0.N) (r : Fin 640) : Fin 8320 := ⟨640 * (t.val / 4) + r.val, by have := lt_N t; omega⟩
def colJ (t : Fin cfg0.N) (s : Fin 1408) : Fin 5632 := ⟨1408 * (t.val / 1 % 4) + s.val, by omega⟩
theorem lt_K (t : Fin cfg0.N) (k : Fin 1024) : 1024 * (t.val % 1) + k.val < 1024 := by omega

theorem idx0 : ∀ t : Fin cfg0.N, win0_0.index t 0 = t.val / 4 ∧ win0_0.index t 1 = t.val % 1 := by decide +kernel
theorem idx1 : ∀ t : Fin cfg0.N, win0_1.index t 0 = t.val % 1 ∧ win0_1.index t 1 = t.val / 1 % 4 := by decide +kernel
theorem idx2 : ∀ t : Fin cfg0.N, win0_2.index t 0 = t.val / 4 ∧ win0_2.index t 1 = t.val / 1 % 4 := by decide +kernel

theorem iblk0_at (t : Fin cfg0.N) (r : Fin 640) (k : Fin 1024) :
    iblk m c 0 t (ix2 r k) = x0 m c (ix2 (rowI t r) (⟨_, lt_K t k⟩ : Fin 1024)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 4) + r.val; rw [h0]; omega
  | ⟨1, _⟩ => show win0_0.index t 1 * 1024 + 1 * k.val = 1024 * (t.val % 1) + k.val; rw [h1]; omega
theorem iblk1_at (t : Fin cfg0.N) (k : Fin 1024) (s : Fin 1408) :
    iblk m c 1 t (ix2 k s) = x1 m c (ix2 (⟨_, lt_K t k⟩ : Fin 1024) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * k.val = 1024 * (t.val % 1) + k.val; rw [h0]; omega
  | ⟨1, _⟩ => show win0_1.index t 1 * 1408 + 1 * s.val = 1408 * (t.val / 1 % 4) + s.val; rw [h1]; omega

theorem pay1_at (a : Vec Ideal S640x1024 .bf16) (b : Vec Ideal S1024x1408 .bf16) (r : Fin 640) (s : Fin 1408) :
    k0_pay1 (F := Ideal) a b (ix2 r s) = ∑ k : Fin 1024, a (ix2 r k) * b (ix2 k s) := by
  pointwise [k0_pay1]
theorem part_at (t : Fin cfg0.N) (r : Fin 640) (s : Fin 1408) : k0_pay1 (F := Ideal) (iblk m c 0 t) (iblk m c 1 t) (ix2 r s) =
    ∑ k ∈ range 1024, term (x0 m c) (x1 m c) (rowI t r) (colJ t s) (1024 * (t.val % 1) + k) := by
  refine (pay1_at _ _ r s).trans ?_
  rw [Finset.sum_range]
  refine Finset.sum_congr rfl fun k _ => ?_
  rw [iblk0_at, iblk1_at]
  unfold term
  rw [dif_pos (lt_K t k)]
theorem out_eq (a : Vec Ideal S640x1024 .bf16) (b : Vec Ideal S1024x1408 .bf16) : out0_2 a b = k0_pay1 (F := Ideal) a b := by
  unfold out0_2
  rw [View.canon_unit_zero hz]
  simp only [View.ld_unit_zero (S := S640x1024) hz, View.ld_unit_zero (S := S1024x1408) hz]

theorem flushed (t : Fin cfg0.N) :
    (dats m 0 c).flushed 2 t = ((cfg0.win 2).blk t).view.read (Elt Ideal) (prod (x0 m c) (x1 m c)) := by
  obtain ⟨h0, h1⟩ := idx2 t
  show (cfg0.win 2).cut (grid0.coords t) ((dats m 0 c).after 2 t) = _
  rw [after0_2]
  funext j
  obtain ⟨r, s, rfl⟩ : ∃ (r : Fin 640) (s : Fin 1408), j = ix2 r s := ⟨_, _, ix2_eta (a := 640) (b := 1408) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 640 + 1 * r.val = 640 * (t.val / 4) + r.val; rw [h0]; omega
    | ⟨1, _⟩ => show win0_2.index t 1 * 1408 + 1 * s.val = 1408 * (t.val / 1 % 4) + s.val; rw [h1]; omega
  refine Eq.trans ?_ hr.symm
  refine (congrFun (out_eq _ _) _).trans ((part_at m c t r s).trans ?_)
  refine Finset.sum_congr rfl fun k _ => ?_
  have e : 1024 * (t.val % 1) + k = k := by omega
  rw [e]
  rfl
theorem cover (i : S8320x5632.Idx) : ∃ t : Fin cfg0.N, (cfg0.win 2).flush t = true ∧ i ∈ ((cfg0.win 2).blk t).view.set := by
  have l0 : (i 0).val < 8320 := (i 0).isLt
  have l1 : (i 1).val < 5632 := (i 1).isLt
  have hN : cfg0.N = 52 := N_0
  refine ⟨⟨4 * ((i 0).val / 640) + 1 * ((i 1).val / 1408) + 0, by omega⟩, flush0_2 _, ?_⟩
  generalize ht : (⟨4 * ((i 0).val / 640) + 1 * ((i 1).val / 1408) + 0, _⟩ : Fin cfg0.N) = t
  have hv : t.val = 4 * ((i 0).val / 640) + 1 * ((i 1).val / 1408) + 0 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 640 ≤ (i 0).val ∧ (i 0).val < win0_2.index t 0 * 640 + 640; rw [h0]; omega
  | ⟨1, _⟩ => show win0_2.index t 1 * 1408 ≤ (i 1).val ∧ (i 1).val < win0_2.index t 1 * 1408 + 1408; rw [h1]; omega
theorem final : (dats m 0 c).arrAt 2 cfg0.N = prod (x0 m c) (x1 m c) :=
  (dats m 0 c).arrAt_eq_of_cover 2 (prod (x0 m c) (x1 m c)) (fun t _ => flushed m c t) cover

/-! ## The reference -/

open Cert.FfnUpRefIdeal.Read in
theorem ref (y0 : S8320x1024.Idx → EReal) (y1 : S1024x5632.Idx → EReal) : val_main_v2 (F := Ideal) y0 y1 = prod y0 y1 := by
  funext i
  rw [prod_at]
  rw [val_main_v2_apply]
  refine Finset.sum_congr rfl fun k _ => ?_
  have e0 : lidx_main_v2 i k = ix2 (i 0) k := by funext a; fin_cases a <;> rfl
  have e1 : ridx_main_v2 i k = ix2 k (i 1) := by funext a; fin_cases a <;> rfl
  rw [e0, e1]
  rfl

/-! ## The claims -/

theorem frame_kernel : Cert.quiescent_FfnUp := fun m ρ _ => Cert.FfnUp.Gen.frame m ρ
theorem frame_ideal : Cert.quiescent_FfnUpIdeal := fun m ρ _ => Cert.FfnUpIdeal.Gen.frame m ρ
theorem frame_ref : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run m ρ)
theorem algebraic : Cert.algebraic_FfnUpIdeal_FfnUpRefIdeal := by
  intro m ρ m' ρ' _ hag
  refine ⟨fun c => prod (x0 m c) (x1 m c), ?_, ?_⟩
  · exact (θ_run Cert.FfnUpIdeal.defs _ _).mono (fun _ h c => ⟨(h c).1.trans (final m c), (h c).2⟩) (Cert.FfnUpIdeal.Value.run_blocks m ρ)
  · refine (θ_run Cert.FfnUpRefIdeal.defs _ _).mono (fun _ h c => ⟨(h c).1.trans ?_, (h c).2⟩) (Cert.FfnUpRefIdeal.Value.run m' ρ')
    rw [(hag c).1, (hag c).2]
    exact (Cert.FfnUpRefIdeal.Read.val_main_v2_eq (F := Ideal) _ _).trans (ref _ _)

end Cert.Proof.FfnUp
-- ==== Proof.Products.InProj.lean ====
/- The value of `InProj`: the product's array, block by block, and the claims. -/
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.InProj

open Cert.InProjIdeal Cert.InProjIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S1024x3072.Idx → EReal) (p : Fin 8320) (q : Fin 3072) (k : ℕ) : EReal :=
  if h : k < 1024 then x0 (ix2 p (⟨k, h⟩ : Fin 1024)) * x1 (ix2 (⟨k, h⟩ : Fin 1024) q) else 0

/-- The product. -/
def prod (x0 : S8320x1024.Idx → EReal) (x1 : S1024x3072.Idx → EReal) : S8320x3072.Idx → EReal := fun i => ∑ k ∈ range 1024, term x0 x1 (i 0) (i 1) k

theorem prod_at (x0 : S8320x1024.Idx → EReal) (x1 : S1024x3072.Idx → EReal) (i : S8320x3072.Idx) :
    prod x0 x1 i = ∑ k : Fin 1024, x0 (ix2 (i 0) k) * x1 (ix2 k (i 1)) := by
  unfold prod
  rw [Finset.sum_range]
  exact Finset.sum_congr rfl fun k _ => by unfold term; rw [dif_pos k.isLt]

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S1024x3072.Idx → EReal := m ((c : Thread nD τ).loc main_arg1)

theorem lt_N (t : Fin cfg0.N) : t.val < 39 := by have := t.isLt; have hN : cfg0.N = 39 := N_0; omega
def rowI (t : Fin cfg0.N) (r : Fin 640) : Fin 8320 := ⟨640 * (t.val / 3) + r.val, by have := lt_N t; omega⟩
def colJ (t : Fin cfg0.N) (s : Fin 1024) : Fin 3072 := ⟨1024 * (t.val / 1 % 3) + s.val, by omega⟩
theorem lt_K (t : Fin cfg0.N) (k : Fin 1024) : 1024 * (t.val % 1) + k.val < 1024 := by omega

theorem idx0 : ∀ t : Fin cfg0.N, win0_0.index t 0 = t.val / 3 ∧ win0_0.index t 1 = t.val % 1 := by decide +kernel
theorem idx1 : ∀ t : Fin cfg0.N, win0_1.index t 0 = t.val % 1 ∧ win0_1.index t 1 = t.val / 1 % 3 := by decide +kernel
theorem idx2 : ∀ t : Fin cfg0.N, win0_2.index t 0 = t.val / 3 ∧ win0_2.index t 1 = t.val / 1 % 3 := by decide +kernel

theorem iblk0_at (t : Fin cfg0.N) (r : Fin 640) (k : Fin 1024) :
    iblk m c 0 t (ix2 r k) = x0 m c (ix2 (rowI t r) (⟨_, lt_K t k⟩ : Fin 1024)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 3) + r.val; rw [h0]; omega
  | ⟨1, _⟩ => show win0_0.index t 1 * 1024 + 1 * k.val = 1024 * (t.val % 1) + k.val; rw [h1]; omega
theorem iblk1_at (t : Fin cfg0.N) (k : Fin 1024) (s : Fin 1024) :
    iblk m c 1 t (ix2 k s) = x1 m c (ix2 (⟨_, lt_K t k⟩ : Fin 1024) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * k.val = 1024 * (t.val % 1) + k.val; rw [h0]; omega
  | ⟨1, _⟩ => show win0_1.index t 1 * 1024 + 1 * s.val = 1024 * (t.val / 1 % 3) + s.val; rw [h1]; omega

theorem pay1_at (a : Vec Ideal S640x1024 .bf16) (b : Vec Ideal S1024x1024 .bf16) (r : Fin 640) (s : Fin 1024) :
    k0_pay1 (F := Ideal) a b (ix2 r s) = ∑ k : Fin 1024, a (ix2 r k) * b (ix2 k s) := by
  pointwise [k0_pay1]
theorem part_at (t : Fin cfg0.N) (r : Fin 640) (s : Fin 1024) : k0_pay1 (F := Ideal) (iblk m c 0 t) (iblk m c 1 t) (ix2 r s) =
    ∑ k ∈ range 1024, term (x0 m c) (x1 m c) (rowI t r) (colJ t s) (1024 * (t.val % 1) + k) := by
  refine (pay1_at _ _ r s).trans ?_
  rw [Finset.sum_range]
  refine Finset.sum_congr rfl fun k _ => ?_
  rw [iblk0_at, iblk1_at]
  unfold term
  rw [dif_pos (lt_K t k)]
theorem out_eq (a : Vec Ideal S640x1024 .bf16) (b : Vec Ideal S1024x1024 .bf16) : out0_2 a b = k0_pay1 (F := Ideal) a b := by
  unfold out0_2
  rw [View.canon_unit_zero hz]
  simp only [View.ld_unit_zero (S := S640x1024) hz, View.ld_unit_zero (S := S1024x1024) hz]

theorem flushed (t : Fin cfg0.N) :
    (dats m 0 c).flushed 2 t = ((cfg0.win 2).blk t).view.read (Elt Ideal) (prod (x0 m c) (x1 m c)) := by
  obtain ⟨h0, h1⟩ := idx2 t
  show (cfg0.win 2).cut (grid0.coords t) ((dats m 0 c).after 2 t) = _
  rw [after0_2]
  funext j
  obtain ⟨r, s, rfl⟩ : ∃ (r : Fin 640) (s : Fin 1024), j = ix2 r s := ⟨_, _, ix2_eta (a := 640) (b := 1024) j⟩
  have hr : ((cfg0.win 2).blk t).view.read (Elt Ideal) (prod (x0 m c) (x1 m c)) (ix2 r s) = prod (x0 m c) (x1 m c) (ix2 (rowI t r) (colJ t s)) := by
    rw [View.read_apply]
    show prod (x0 m c) (x1 m c) _ = prod (x0 m c) (x1 m c) _
    congr 1
    funext y
    apply Fin.ext
    match y with
    | ⟨0, _⟩ => show win0_2.index t 0 * 640 + 1 * r.val = 640 * (t.val / 3) + r.val; rw [h0]; omega
    | ⟨1, _⟩ => show win0_2.index t 1 * 1024 + 1 * s.val = 1024 * (t.val / 1 % 3) + s.val; rw [h1]; omega
  refine Eq.trans ?_ hr.symm
  refine (congrFun (out_eq _ _) _).trans ((part_at m c t r s).trans ?_)
  refine Finset.sum_congr rfl fun k _ => ?_
  have e : 1024 * (t.val % 1) + k = k := by omega
  rw [e]
  rfl
theorem cover (i : S8320x3072.Idx) : ∃ t : Fin cfg0.N, (cfg0.win 2).flush t = true ∧ i ∈ ((cfg0.win 2).blk t).view.set := by
  have l0 : (i 0).val < 8320 := (i 0).isLt
  have l1 : (i 1).val < 3072 := (i 1).isLt
  have hN : cfg0.N = 39 := N_0
  refine ⟨⟨3 * ((i 0).val / 640) + 1 * ((i 1).val / 1024) + 0, by omega⟩, flush0_2 _, ?_⟩
  generalize ht : (⟨3 * ((i 0).val / 640) + 1 * ((i 1).val / 1024) + 0, _⟩ : Fin cfg0.N) = t
  have hv : t.val = 3 * ((i 0).val / 640) + 1 * ((i 1).val / 1024) + 0 := by rw [← ht]
  obtain ⟨h0, h1⟩ := idx2 t
  show i ∈ ((View.whole main_v0).slice (win0_2.rect t)).set
  rw [View.set_slice_whole, Rect.mem_set_unit]
  intro y
  match y with
  | ⟨0, _⟩ => show win0_2.index t 0 * 640 ≤ (i 0).val ∧ (i 0).val < win0_2.index t 0 * 640 + 640; rw [h0]; omega
  | ⟨1, _⟩ => show win0_2.index t 1 * 1024 ≤ (i 1).val ∧ (i 1).val < win0_2.index t 1 * 1024 + 1024; rw [h1]; omega
theorem final : (dats m 0 c).arrAt 2 cfg0.N = prod (x0 m c) (x1 m c) :=
  (dats m 0 c).arrAt_eq_of_cover 2 (prod (x0 m c) (x1 m c)) (fun t _ => flushed m c t) cover

/-! ## The reference -/

open Cert.InProjRefIdeal.Read in
theorem ref (y0 : S8320x1024.Idx → EReal) (y1 : S1024x3072.Idx → EReal) : val_main_v2 (F := Ideal) y0 y1 = prod y0 y1 := by
  funext i
  rw [prod_at]
  rw [val_main_v2_apply]
  refine Finset.sum_congr rfl fun k _ => ?_
  have e0 : lidx_main_v2 i k = ix2 (i 0) k := by funext a; fin_cases a <;> rfl
  have e1 : ridx_main_v2 i k = ix2 k (i 1) := by funext a; fin_cases a <;> rfl
  rw [e0, e1]
  rfl

/-! ## The claims -/

theorem frame_kernel : Cert.quiescent_InProj := fun m ρ _ => Cert.InProj.Gen.frame m ρ
theorem frame_ideal : Cert.quiescent_InProjIdeal := fun m ρ _ => Cert.InProjIdeal.Gen.frame m ρ
theorem frame_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)
theorem algebraic : Cert.algebraic_InProjIdeal_InProjRefIdeal := by
  intro m ρ m' ρ' _ hag
  refine ⟨fun c => prod (x0 m c) (x1 m c), ?_, ?_⟩
  · exact (θ_run Cert.InProjIdeal.defs _ _).mono (fun _ h c => ⟨(h c).1.trans (final m c), (h c).2⟩) (Cert.InProjIdeal.Value.run_blocks m ρ)
  · refine (θ_run Cert.InProjRefIdeal.defs _ _).mono (fun _ h c => ⟨(h c).1.trans ?_, (h c).2⟩) (Cert.InProjRefIdeal.Value.run m' ρ')
    rw [(hag c).1, (hag c).2]
    exact (Cert.InProjRefIdeal.Read.val_main_v2_eq (F := Ideal) _ _).trans (ref _ _)

end Cert.Proof.InProj
-- ==== Proof.Products.UpDxRes.lean ====
/- The value of `UpDxRes`: the product's array, block by block, and the claims. -/
module

public import proofs.«01_k».proof.Defs
public import proofs.«01_k».proof.Proof.Gen.UpDxRes
public import proofs.«01_k».proof.Proof.Gen.UpDxRes.Frame
public import proofs.«01_k».proof.Proof.Gen.UpDxResIdeal
public import proofs.«01_k».proof.Proof.Gen.UpDxResIdeal.Value
public import proofs.«01_k».proof.Proof.Gen.UpDxResRefIdeal
public import proofs.«01_k».proof.Proof.Gen.UpDxResRefIdeal.Run
public import proofs.«01_k».proof.Proof.Gen.UpDxResRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.UpDxRes

open Cert.UpDxResIdeal Cert.UpDxResIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x2816.Idx → EReal) (x1 : S1024x2816.Idx → EReal) (p : Fin 8320) (q : Fin 1024) (k : ℕ) : EReal :=
  if h : k < 2816 then x0 (ix2 p (⟨k, h⟩ : Fin 2816)) * x1 (ix2 q (⟨k, h⟩ : Fin 2816)) else 0

/-- The product. -/
def prod (x0 : S8320x2816.Idx → EReal) (x1 : S1024x2816.Idx → EReal) : S8320x1024.Idx → EReal := fun i => ∑ k ∈ range 2816, term x0 x1 (i 0) (i 1) k

theorem prod_at (x0 : S8320x2816.Idx → EReal) (x1 : S1024x2816.Idx → EReal) (i : S8320x1024.Idx) :
    prod x0 x1 i = ∑ k : Fin 2816, x0 (ix2 (i 0) k) * x1 (ix2 (i 1) k) := by
  unfold prod
  rw [Finset.sum_range]
  exact Finset.sum_congr rfl fun k _ => by unfold term; rw [dif_pos k.isLt]

/-- The result: the product and the given array. -/
def full (x0 : S8320x2816.Idx → EReal) (x1 : S1024x2816.Idx → EReal) (x2 : S8320x1024.Idx → EReal) : S8320x1024.Idx → EReal := fun i => (prod x0 x1 i + x2 i)

/-! ## The kernel -/

variable (m : (ℓ : Loc nD τ sig) → Buf (Elt Ideal) ℓ) (ρ : Dev nD → PrngReg) (c : Dev nD)

abbrev x0 : S8320x2816.Idx → EReal := m ((c : Thread nD τ).loc main_arg0)
abbrev x1 : S1024x2816.Idx → EReal := m ((c : Thread nD τ).loc main_arg1)

abbrev x2 : S8320x1024.Idx → EReal := m ((c : Thread nD τ).loc main_arg2)

theorem lt_N (t : Fin cfg0.N) : t.val < 26 := by have := t.isLt; have hN : cfg0.N = 26 := N_0; omega
def rowI (t : Fin cfg0.N) (r : Fin 640) : Fin 8320 := ⟨640 * (t.val / 2) + r.val, by have := lt_N t; omega⟩
def colJ (t : Fin cfg0.N) (s : Fin 1024) : Fin 1024 := ⟨1024 * (t.val / 2 % 1) + s.val, by omega⟩
theorem lt_K (t : Fin cfg0.N) (k : Fin 1408) : 1408 * (t.val % 2) + k.val < 2816 := by omega

theorem idx0 : ∀ t : Fin cfg0.N, win0_0.index t 0 = t.val / 2 ∧ win0_0.index t 1 = t.val % 2 := by decide +kernel
theorem idx1 : ∀ t : Fin cfg0.N, win0_1.index t 0 = t.val / 2 % 1 ∧ win0_1.index t 1 = t.val % 2 := by decide +kernel
theorem idx2 : ∀ t : Fin cfg0.N, win0_2.index t 0 = t.val / 2 ∧ win0_2.index t 1 = t.val / 2 % 1 := by decide +kernel

theorem iblk0_at (t : Fin cfg0.N) (r : Fin 640) (k : Fin 1408) :
    iblk m c 0 t (ix2 r k) = x0 m c (ix2 (rowI t r) (⟨_, lt_K t k⟩ : Fin 2816)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 2) + r.val; rw [h0]; omega
  | ⟨1, _⟩ => show win0_0.index t 1 * 1408 + 1 * k.val = 1408 * (t.val % 2) + k.val; rw [h1]; omega
theorem iblk1_at (t : Fin cfg0.N) (k : Fin 1408) (s : Fin 1024) :
    iblk m c 1 t (ix2 s k) = x1 m c (ix2 (colJ t s) (⟨_, lt_K t k⟩ : Fin 2816)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * s.val = 1024 * (t.val / 2 % 1) + s.val; rw [h0]; omega
  | ⟨1, _⟩ => show win0_1.index t 1 * 1408 + 1 * k.val = 1408 * (t.val % 2) + k.val; rw [h1]; omega
theorem idx3 : ∀ t : Fin cfg0.N, win0_3.index t 0 = t.val / 2 ∧ win0_3.index t 1 = t.val / 2 % 1 := by decide +kernel
theorem crd : ∀ t : Fin cfg0.N, (grid0.coords t 0).val = t.val / 2 := by decide +kernel
theorem iblk2_at (t : Fin cfg0.N) (r : Fin 640) (s : Fin 1024) :
    iblk m c 2 t (ix2 r s) = x2 m c (ix2 (rowI t r) (colJ t s)) := by
  obtain ⟨h0, h1⟩ := idx2 t
  refine Eq.trans ?_ (congrFun (V_main_arg2 m c) _)
  unfold iblk
  rw [View.read_apply]
  show V m c main_arg2 _ = V m c main_arg2 _
  congr 1
  funext x
  apply Fin.ext
  match x with
  | ⟨0, _⟩ => show win0_2.index t 0 * 640 + 1 * r.val = 640 * (t.val / 2) + r.val; rw [h0]; omega
  | ⟨1, _⟩ => show win0_2.index t 1 * 1024 + 1 * s.val = 1024 * (t.val / 2 % 1) + s.val; rw [h1]; omega
/-- An element of a block's product. -/
def dot (a : S640x1408.Idx → EReal) (b : S1024x1408.Idx → EReal) (r : Fin 640) (s : Fin 1024) : EReal := ∑ k : Fin 1408, a (ix2 r k) * b (ix2 s k)
theorem pay1_at (a : Vec Ideal S640x1408 .bf16) (b : Vec Ideal S1024x1408 .bf16) (r : Fin 640) (s : Fin 1024) :
    k0_pay1 (F := Ideal) a b (ix2 r s) = dot a b r s := by
  unfold dot
  pointwise [k0_pay1]
theorem pay_at (a : Vec Ideal S640x1408 .bf16) (b : Vec Ideal S1024x1408 .bf16) (xo x : Vec Ideal S640x1024 .f32) (r : Fin 640) (s : Fin 1024) :
    k0_pay3 (F := Ideal) a b xo x (ix2 r s) = (xo (ix2 r s) + k0_pay1 (F := Ideal) a b (ix2 r s) + x (ix2 r s)) := by
  unfold k0_pay3
  simp only [shapeCast_self]
  rfl
theorem part_at (t : Fin cfg0.N) (r : Fin 640) (s : Fin 1024) : dot (iblk m c 0 t) (iblk m c 1 t) r s =
    ∑ k ∈ range 1408, term (x0 m c) (x1 m c) (rowI t r) (colJ t s) (1408 * (t.val % 2) + k) := by
  unfold dot
  rw [Finset.sum_range]
  refine Finset.sum_congr rfl fun k _ => ?_
  rw [iblk0_at, iblk1_at]
  unfold term
  rw [dif_pos (lt_K t k)]
theorem out_A (i : grid0.Coords) (arg3 : Memref sig .tc .vmem S640x1408 .bf16) (h3 : arg3.IsWhole) (arg4 : Memref sig .tc .vmem S1024x1408 .bf16) (h4 : arg4.IsWhole)
    (arg5 : Memref sig .tc .vmem S640x1024 .f32) (h5 : arg5.IsWhole) (arg6 : Memref sig .tc .vmem S640x1024 .f32) (h6 : arg6.IsWhole) (hc0 : cond0_0 i) (hc1 : ¬cond0_1 i) (hc2 : ¬cond0_2 i) (a : Vec Ideal S640x1408 .bf16) (b : Vec Ideal S1024x1408 .bf16) (x : Vec Ideal S640x1024 .f32) :
    out0_A_3 c i arg3 h3 arg4 h4 arg5 h5 arg6 h6 hc0 hc1 hc2 a b x = k0_pay1 (F := Ideal) a b := by
  unfold out0_A_3
  rw [View.read_writes_eq_canon _ _ _ (cover0_A_3 c i arg3 h3 arg4 h4 arg5 h5 arg6 h6 hc0 hc1 hc2 a b x)]
  unfold kernelRun0_A
  dsimp only
  sl_unfold_words
  rw [View.canon_unit_zero hz]
  simp only [View.readAt_eq_ld, h3.read_unread, h4.read_unread, h5.read_unread, h6.read_unread, View.ld_unit_zero (S := S640x1408) hz, View.ld_unit_zero (S := S1024x1408) hz, View.ld_unit_zero (S := S640x1024) hz]
theorem out_B (i : grid0.Coords) (arg3 : Memref sig .tc .vmem S640x1408 .bf16) (h3 : arg3.IsWhole) (arg4 : Memref sig .tc .vmem S1024x1408 .bf16) (h4 : arg4.IsWhole)
    (arg5 : Memref sig .tc .vmem S640x1024 .f32) (h5 : arg5.IsWhole) (arg6 : Memref sig .tc .vmem S640x1024 .f32) (h6 : arg6.IsWhole) (hc0 : ¬cond0_0 i) (hc1 : ¬cond0_1 i) (hc2 : cond0_2 i) (a : Vec Ideal S640x1408 .bf16) (b : Vec Ideal S1024x1408 .bf16) (x : Vec Ideal S640x1024 .f32) (xo : Vec Ideal S640x1024 .f32) :
    out0_B_3 c i arg3 h3 arg4 h4 arg5 h5 arg6 h6 hc0 hc1 hc2 a b x xo = k0_pay3 (F := Ideal) a b xo x := by
  unfold out0_B_3
  rw [View.read_writes_eq_canon _ _ _ (cover0_B_3 c i arg3 h3 arg4 h4 arg5 h5 arg6 h6 hc0 hc1 hc2 a b x xo)]
  unfold kernelRun0_B
  dsimp only
  sl_unfold_words
  rw [View.canon_unit_zero hz]
  simp only [View.readAt_eq_ld, h3.read_unread, h4.read_unread, h5.read_unread, h6.read_unread, View.ld_unit_zero (S := S640x1408) hz, View.ld_unit_zero (S := S1024x1408) hz, View.ld_unit_zero (S := S640x1024) hz]

/-- The output's buffer after the second of a tile's two points. -/
theorem outs_at (t : Fin cfg0.N) (ht : t.val % 2 = 1) (r : Fin 640) (s : Fin 1024) : outsAt0 m c t.val t.isLt (ix2 r s) =
    full (x0 m c) (x1 m c) (x2 m c) (ix2 (rowI t r) (colJ t s)) := by
  obtain ⟨n, h⟩ := t
  obtain ⟨n, rfl⟩ : ∃ n', n = n' + 1 := ⟨n - 1, by dsimp only at ht; omega⟩
  dsimp only at ht
  have h' : n < cfg0.N := Nat.lt_of_succ_lt h
  have er : rowI ⟨n, h'⟩ r = rowI ⟨n + 1, h⟩ r := Fin.ext (by unfold rowI; dsimp only; omega)
  have ec : colJ ⟨n, h'⟩ s = colJ ⟨n + 1, h⟩ s := Fin.ext (by unfold colJ; dsimp only; omega)
  have e0 : outsAt0 m c n h' (ix2 r s) = ∑ k ∈ range 1408, term (x0 m c) (x1 m c) (rowI ⟨n + 1, h⟩ r) (colJ ⟨n + 1, h⟩ s) k := by
    rw [outsAt0_A m c ⟨n, h'⟩ (by dsimp only; omega) (by dsimp only; omega), out_A]
    refine (pay1_at _ _ r s).trans ((part_at m c ⟨n, h'⟩ r s).trans ?_)
    rw [er, ec]
    have e : n % 2 = 0 := by omega
    simp only [e, Nat.mul_zero, Nat.zero_add]
  have e1 : k0_pay1 (F := Ideal) (iblk m c 0 ⟨n + 1, h⟩) (iblk m c 1 ⟨n + 1, h⟩) (ix2 r s) =
      ∑ k ∈ range 1408, term (x0 m c) (x1 m c) (rowI ⟨n + 1, h⟩ r) (colJ ⟨n + 1, h⟩ s) (1408 + k) := by
    refine (pay1_at _ _ r s).trans ((part_at m c ⟨n + 1, h⟩ r s).trans ?_)
    simp only [ht, Nat.mul_one]
  have e2 : prod (x0 m c) (x1 m c) (ix2 (rowI ⟨n + 1, h⟩ r) (colJ ⟨n + 1, h⟩ s)) =
      (∑ k ∈ range 1408, term (x0 m c) (x1 m c) (rowI ⟨n + 1, h⟩ r) (colJ ⟨n + 1, h⟩ s) k)
        + ∑ k ∈ range 1408, term (x0 m c) (x1 m c) (rowI ⟨n + 1, h⟩ r) (colJ ⟨n + 1, h⟩ s) (1408 + k) := Finset.sum_range_add _ 1408 1408
  rw [outsAt0_B m c ⟨n + 1, h⟩ (by dsimp only; omega) (by dsimp only; omega), out_B]
  refine (pay_at _ _ _ _ r s).trans ?_
  show (outsAt0 m c n h' (ix2 r s) + k0_pay1 (F := Ideal) (iblk m c 0 ⟨n + 1, h⟩) (iblk m c 1 ⟨n + 1, h⟩) (ix2 r s) + iblk m c 2 ⟨n + 1, h⟩ (ix2 r s)) = (prod (x0 m c) (x1 m c) (ix2 (rowI ⟨n + 1, h⟩ r) (colJ ⟨n + 1, h⟩ s)) + x2 m c (ix2 (rowI ⟨n + 1, h⟩ r) (colJ ⟨n + 1, h⟩ s)))
  rw [e0, e1, e2, iblk2_at]

theorem flushed (t : Fin cfg0.N) (hf : (cfg0.win 3).flush t = true) :
    (dats m 0 c).flushed 3 t = ((cfg0.win 3).blk t).view.read (Elt Ideal) (full (x0 m c) (x1 m c) (x2 m c)) := by
  obtain ⟨h0, h1⟩ := idx3 t
  show (cfg0.win 3).cut (grid0.coords t) ((dats m 0 c).after 3 t) = _
  rw [after0_3]
  funext j
  obtain ⟨r, s, rfl⟩ : ∃ (r : Fin 640) (s : Fin 1024), j = ix2 r s := ⟨_, _, ix2_eta (a := 640) (b := 1024) j⟩
  have hr : ((cfg0.win 3).blk t).view.read (Elt Ideal) (full (x0 m c) (x1 m c) (x2 m c)) (ix2 r s) = (full (x0 m c) (x1 m c) (x2 m c)) (ix2 (rowI t r) (colJ t s)) := by
    rw [View.read_apply]
    show (full (x0 m c) (x1 m c) (x2 m c)) _ = (full (x0 m c) (x1 m c) (x2 m c)) _
    congr 1
    funext y
    apply Fin.ext
    match y with
    | ⟨0, _⟩ => show win0_3.index t 0 * 640 + 1 * r.val = 640 * (t.val / 2) + r.val; rw [h0]; omega
    | ⟨1, _⟩ => show win0_3.index t 1 * 1024 + 1 * s.val = 1024 * (t.val / 2 % 1) + s.val; rw [h1]; omega
  refine Eq.trans ?_ hr.symm
  exact outs_at m c t ((flush0_3 t).mp hf) r s
theorem cover (i : S8320x1024.Idx) : ∃ t : Fin cfg0.N, (cfg0.win 3).flush t = true ∧ i ∈ ((cfg0.win 3).blk t).view.set := by
  have l0 : (i 0).val < 8320 := (i 0).isLt
  have l1 : (i 1).val < 1024 := (i 1).isLt
  have hN : cfg0.N = 26 := N_0
  refine ⟨⟨2 * ((i 0).val / 640) + 2 * ((i 1).val / 1024) + 1, by omega⟩, (flush0_3 _).mpr (by dsimp only; omega), ?_⟩
  generalize ht : (⟨2 * ((i 0).val / 640) + 2 * ((i 1).val / 1024) + 1, _⟩ : Fin cfg0.N) = t
  have hv : t.val = 2 * ((i 0).val / 640) + 2 * ((i 1).val / 1024) + 1 := by rw [← ht]
  obtain ⟨h0, h1⟩ := idx3 t
  show i ∈ ((View.whole main_v0).slice (win0_3.rect t)).set
  rw [View.set_slice_whole, Rect.mem_set_unit]
  intro y
  match y with
  | ⟨0, _⟩ => show win0_3.index t 0 * 640 ≤ (i 0).val ∧ (i 0).val < win0_3.index t 0 * 640 + 640; rw [h0]; omega
  | ⟨1, _⟩ => show win0_3.index t 1 * 1024 ≤ (i 1).val ∧ (i 1).val < win0_3.index t 1 * 1024 + 1024; rw [h1]; omega
theorem final : (dats m 0 c).arrAt 3 cfg0.N = full (x0 m c) (x1 m c) (x2 m c) :=
  (dats m 0 c).arrAt_eq_of_cover 3 (full (x0 m c) (x1 m c) (x2 m c)) (fun t hf => flushed m c t hf) cover

/-! ## The reference -/

open Cert.UpDxResRefIdeal.Read in
theorem ref_prod (y0 : S8320x2816.Idx → EReal) (y1 : S1024x2816.Idx → EReal) (i : S8320x1024.Idx) : val_main_v4 (F := Ideal) y0 y1 i = prod y0 y1 i := by
  rw [prod_at, val_main_v4_apply]
  refine Finset.sum_congr rfl fun k _ => ?_
  have e0 : lidx_main_v4 i k = ix2 (i 0) k := by funext a; fin_cases a <;> rfl
  have e1 : ridx_main_v4 i k = ix2 (i 1) k := by funext a; fin_cases a <;> rfl
  rw [e0, e1]
  rfl
open Cert.UpDxResRefIdeal.Read in
theorem ref (y0 : S8320x2816.Idx → EReal) (y1 : S1024x2816.Idx → EReal) (y2 : S8320x1024.Idx → EReal) : val_main_v5 (F := Ideal) y0 y1 y2 = full y0 y1 y2 := by
  funext i
  rw [val_main_v5_apply, ref_prod]
  exact add_comm _ _

/-! ## The claims -/

theorem frame_kernel : Cert.quiescent_UpDxRes := fun m ρ _ => Cert.UpDxRes.Gen.frame m ρ
theorem frame_ideal : Cert.quiescent_UpDxResIdeal := fun m ρ _ => Cert.UpDxResIdeal.Gen.frame m ρ
theorem frame_ref : Cert.quiescent_UpDxResRefIdeal := fun m ρ _ =>
  (θ_run Cert.UpDxResRefIdeal.defs _ _).mono (fun r h => ⟨fun c => (h c).2, sem_eq_zero_of_no_sems (by decide) r.2⟩)
    (Cert.UpDxResRefIdeal.Value.run m ρ)
theorem algebraic : Cert.algebraic_UpDxResIdeal_UpDxResRefIdeal := by
  intro m ρ m' ρ' _ hag
  refine ⟨fun c => full (x0 m c) (x1 m c) (x2 m c), ?_, ?_⟩
  · exact (θ_run Cert.UpDxResIdeal.defs _ _).mono (fun _ h c => ⟨(h c).1.trans (final m c), (h c).2⟩) (Cert.UpDxResIdeal.Value.run_blocks m ρ)
  · refine (θ_run Cert.UpDxResRefIdeal.defs _ _).mono (fun _ h c => ⟨(h c).1.trans ?_, (h c).2⟩) (Cert.UpDxResRefIdeal.Value.run m' ρ')
    rw [(hag c).1, (hag c).2.1, (hag c).2.2]
    exact (Cert.UpDxResRefIdeal.Read.val_main_v5_eq (F := Ideal) _ _ _).trans (ref _ _ _)

end Cert.Proof.UpDxRes
-- ==== Proof.Products.OutProj.lean ====
/- The value of `OutProj`: the product's array, block by block, and the claims. -/
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.OutProj

open Cert.OutProjIdeal Cert.OutProjIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x1024.Idx → EReal) (x1 : S1024x1024.Idx → EReal) (p : Fin 8320) (q : Fin 1024) (k : ℕ) : EReal :=
  if h : k < 1024 then x0 (ix2 p (⟨k, h⟩ : Fin 1024)) * x1 (ix2 (⟨k, h⟩ : Fin 1024) q) else 0

/-- The product. -/
def prod (x0 : S8320x1024.Idx → EReal) (x1 : S1024x1024.Idx → EReal) : S8320x1024.Idx → EReal := fun i => ∑ k ∈ range 1024, term x0 x1 (i 0) (i 1) k

theorem prod_at (x0 : S8320x1024.Idx → EReal) (x1 : S1024x1024.Idx → EReal) (i : S8320x1024.Idx) :
    prod x0 x1 i = ∑ k : Fin 1024, x0 (ix2 (i 0) k) * x1 (ix2 k (i 1)) := by
  unfold prod
  rw [Finset.sum_range]
  exact Finset.sum_congr rfl fun k _ => by unfold term; rw [dif_pos k.isLt]

/-- The result: the product and the given array, zero on the padding rows. -/
def full (x0 : S8320x1024.Idx → EReal) (x1 : S1024x1024.Idx → EReal) (x2 : S8320x1024.Idx → EReal) : S8320x1024.Idx → EReal := fun i => (if 112 ≤ (i 0).val then prod x0 x1 i + x2 i else 0)

/-! ## The kernel -/

variable (m : (ℓ : Loc nD τ sig) → Buf (Elt Ideal) ℓ) (ρ : Dev nD → PrngReg) (c : Dev nD)

abbrev x0 : S8320x1024.Idx → EReal := m ((c : Thread nD τ).loc main_arg0)
abbrev x1 : S1024x1024.Idx → EReal := m ((c : Thread nD τ).loc main_arg1)

abbrev x2 : S8320x1024.Idx → EReal := m ((c : Thread nD τ).loc main_arg2)

theorem lt_N (t : Fin cfg0.N) : t.val < 13 := by have := t.isLt; have hN : cfg0.N = 13 := N_0; omega
def rowI (t : Fin cfg0.N) (r : Fin 640) : Fin 8320 := ⟨640 * (t.val / 1) + r.val, by have := lt_N t; omega⟩
def colJ (t : Fin cfg0.N) (s : Fin 1024) : Fin 1024 := ⟨1024 * (t.val / 1 % 1) + s.val, by omega⟩
theorem lt_K (t : Fin cfg0.N) (k : Fin 1024) : 1024 * (t.val % 1) + k.val < 1024 := by omega

theorem idx0 : ∀ t : Fin cfg0.N, win0_0.index t 0 = t.val / 1 ∧ win0_0.index t 1 = t.val % 1 := by decide +kernel
theorem idx1 : ∀ t : Fin cfg0.N, win0_1.index t 0 = t.val % 1 ∧ win0_1.index t 1 = t.val / 1 % 1 := by decide +kernel
theorem idx2 : ∀ t : Fin cfg0.N, win0_2.index t 0 = t.val / 1 ∧ win0_2.index t 1 = t.val / 1 % 1 := by decide +kernel

theorem iblk0_at (t : Fin cfg0.N) (r : Fin 640) (k : Fin 1024) :
    iblk m c 0 t (ix2 r k) = x0 m c (ix2 (rowI t r) (⟨_, lt_K t k⟩ : Fin 1024)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 1) + r.val; rw [h0]; omega
  | ⟨1, _⟩ => show win0_0.index t 1 * 1024 + 1 * k.val = 1024 * (t.val % 1) + k.val; rw [h1]; omega
theorem iblk1_at (t : Fin cfg0.N) (k : Fin 1024) (s : Fin 1024) :
    iblk m c 1 t (ix2 k s) = x1 m c (ix2 (⟨_, lt_K t k⟩ : Fin 1024) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1024 + 1 * k.val = 1024 * (t.val % 1) + k.val; rw [h0]; omega
  | ⟨1, _⟩ => show win0_1.index t 1 * 1024 + 1 * s.val = 1024 * (t.val / 1 % 1) + s.val; rw [h1]; omega
theorem idx3 : ∀ t : Fin cfg0.N, win0_3.index t 0 = t.val / 1 ∧ win0_3.index t 1 = t.val / 1 % 1 := by decide +kernel
theorem crd : ∀ t : Fin cfg0.N, (grid0.coords t 0).val = t.val / 1 := by decide +kernel
theorem iblk2_at (t : Fin cfg0.N) (r : Fin 640) (s : Fin 1024) :
    iblk m c 2 t (ix2 r s) = x2 m c (ix2 (rowI t r) (colJ t s)) := by
  obtain ⟨h0, h1⟩ := idx2 t
  refine Eq.trans ?_ (congrFun (V_main_arg2 m c) _)
  unfold iblk
  rw [View.read_apply]
  show V m c main_arg2 _ = V m c main_arg2 _
  congr 1
  funext x
  apply Fin.ext
  match x with
  | ⟨0, _⟩ => show win0_2.index t 0 * 640 + 1 * r.val = 640 * (t.val / 1) + r.val; rw [h0]; omega
  | ⟨1, _⟩ => show win0_2.index t 1 * 1024 + 1 * s.val = 1024 * (t.val / 1 % 1) + s.val; rw [h1]; omega
theorem mask_at (p r : ℕ) (hp : p < 13) (hr : r < 640) (v : EReal) :
    Scalar.select (IntOp.cmpi .sge (IntOp.addi (Scalar.muli (BitVec.ofNat 32 p) 640#32) (BitVec.ofNat 32 r)) 112#32) v 0 =
      if 112 ≤ 640 * p + r then v else 0 := by
  have ha : IntOp.addi (Scalar.muli (BitVec.ofNat 32 p) 640#32) (BitVec.ofNat 32 r) = BitVec.ofNat 32 (640 * p + r) := by
    rw [mul_comm 640 p, BitVec.ofNat_add, BitVec.ofNat_mul]
    rfl
  rw [ha, WordCmp.cmpi_sge_ofNat (b := 112) (by omega) (by omega)]
  by_cases h : 112 ≤ 640 * p + r <;> simp [h, Scalar.select]
/-- An element of a block's product. -/
def dot (a : S640x1024.Idx → EReal) (b : S1024x1024.Idx → EReal) (r : Fin 640) (s : Fin 1024) : EReal := ∑ k : Fin 1024, a (ix2 r k) * b (ix2 k s)
theorem pay_at (i : grid0.Coords) (a : Vec Ideal S640x1024 .bf16) (b : Vec Ideal S1024x1024 .bf16) (x : Vec Ideal S640x1024 .f32) (r : Fin 640) (s : Fin 1024) :
    k0_pay1 (F := Ideal) i a b x (ix2 r s) = if 112 ≤ 640 * (i 0).val + r.val then dot a b r s + x (ix2 r s) else 0 := by
  rw [← mask_at (i 0).val r.val (i 0).isLt r.isLt]
  unfold dot
  pointwise [k0_pay1]
theorem part_at (t : Fin cfg0.N) (r : Fin 640) (s : Fin 1024) : dot (iblk m c 0 t) (iblk m c 1 t) r s =
    ∑ k ∈ range 1024, term (x0 m c) (x1 m c) (rowI t r) (colJ t s) (1024 * (t.val % 1) + k) := by
  unfold dot
  rw [Finset.sum_range]
  refine Finset.sum_congr rfl fun k _ => ?_
  rw [iblk0_at, iblk1_at]
  unfold term
  rw [dif_pos (lt_K t k)]
theorem out_eq (i : grid0.Coords) (a : Vec Ideal S640x1024 .bf16) (b : Vec Ideal S1024x1024 .bf16) (x : Vec Ideal S640x1024 .f32) : out0_3 i a b x = k0_pay1 (F := Ideal) i a b x := by
  unfold out0_3
  rw [View.canon_unit_zero hz]
  simp only [View.ld_unit_zero (S := S640x1024) hz, View.ld_unit_zero (S := S1024x1024) hz, View.ld_unit_zero (S := S640x1024) hz]

theorem flushed (t : Fin cfg0.N) :
    (dats m 0 c).flushed 3 t = ((cfg0.win 3).blk t).view.read (Elt Ideal) (full (x0 m c) (x1 m c) (x2 m c)) := by
  obtain ⟨h0, h1⟩ := idx3 t
  show (cfg0.win 3).cut (grid0.coords t) ((dats m 0 c).after 3 t) = _
  rw [after0_3]
  funext j
  obtain ⟨r, s, rfl⟩ : ∃ (r : Fin 640) (s : Fin 1024), j = ix2 r s := ⟨_, _, ix2_eta (a := 640) (b := 1024) j⟩
  have hr : ((cfg0.win 3).blk t).view.read (Elt Ideal) (full (x0 m c) (x1 m c) (x2 m c)) (ix2 r s) = (full (x0 m c) (x1 m c) (x2 m c)) (ix2 (rowI t r) (colJ t s)) := by
    rw [View.read_apply]
    show (full (x0 m c) (x1 m c) (x2 m c)) _ = (full (x0 m c) (x1 m c) (x2 m c)) _
    congr 1
    funext y
    apply Fin.ext
    match y with
    | ⟨0, _⟩ => show win0_3.index t 0 * 640 + 1 * r.val = 640 * (t.val / 1) + r.val; rw [h0]; omega
    | ⟨1, _⟩ => show win0_3.index t 1 * 1024 + 1 * s.val = 1024 * (t.val / 1 % 1) + s.val; rw [h1]; omega
  refine Eq.trans ?_ hr.symm
  refine (congrFun (out_eq _ _ _ _) _).trans ((pay_at _ _ _ _ r s).trans ?_)
  rw [crd, part_at m c t r s, iblk2_at]
  have e : t.val % 1 = 0 := by omega
  simp only [e, Nat.mul_zero, Nat.zero_add]
  rfl
theorem cover (i : S8320x1024.Idx) : ∃ t : Fin cfg0.N, (cfg0.win 3).flush t = true ∧ i ∈ ((cfg0.win 3).blk t).view.set := by
  have l0 : (i 0).val < 8320 := (i 0).isLt
  have l1 : (i 1).val < 1024 := (i 1).isLt
  have hN : cfg0.N = 13 := N_0
  refine ⟨⟨1 * ((i 0).val / 640) + 1 * ((i 1).val / 1024) + 0, by omega⟩, flush0_3 _, ?_⟩
  generalize ht : (⟨1 * ((i 0).val / 640) + 1 * ((i 1).val / 1024) + 0, _⟩ : Fin cfg0.N) = t
  have hv : t.val = 1 * ((i 0).val / 640) + 1 * ((i 1).val / 1024) + 0 := by rw [← ht]
  obtain ⟨h0, h1⟩ := idx3 t
  show i ∈ ((View.whole main_v0).slice (win0_3.rect t)).set
  rw [View.set_slice_whole, Rect.mem_set_unit]
  intro y
  match y with
  | ⟨0, _⟩ => show win0_3.index t 0 * 640 ≤ (i 0).val ∧ (i 0).val < win0_3.index t 0 * 640 + 640; rw [h0]; omega
  | ⟨1, _⟩ => show win0_3.index t 1 * 1024 ≤ (i 1).val ∧ (i 1).val < win0_3.index t 1 * 1024 + 1024; rw [h1]; omega
theorem final : (dats m 0 c).arrAt 3 cfg0.N = full (x0 m c) (x1 m c) (x2 m c) :=
  (dats m 0 c).arrAt_eq_of_cover 3 (full (x0 m c) (x1 m c) (x2 m c)) (fun t _ => flushed m c t) cover

/-! ## The reference -/

open Cert.OutProjRefIdeal.Read in
theorem ref_prod (y0 : S8320x1024.Idx → EReal) (y1 : S1024x1024.Idx → EReal) (i : S8320x1024.Idx) : val_main_v6 (F := Ideal) y0 y1 i = prod y0 y1 i := by
  rw [prod_at, val_main_v6_apply]
  refine Finset.sum_congr rfl fun k _ => ?_
  have e0 : lidx_main_v6 i k = ix2 (i 0) k := by funext a; fin_cases a <;> rfl
  have e1 : ridx_main_v6 i k = ix2 k (i 1) := by funext a; fin_cases a <;> rfl
  rw [e0, e1]
  rfl
open Cert.OutProjRefIdeal.Read in
theorem ref_mask (i : S8320x1024.Idx) : val_main_call0_v1 (F := Ideal) i = BitVec.ofBool (decide (112 ≤ (i 0).val)) := by
  have l0 : (i 0).val < 8320 := (i 0).isLt
  rw [val_main_call0_v1_apply, val_main_v3_apply, val_main_v2_apply, val_main_v0_apply, val_main_v1_apply, val_main_c_apply]
  exact WordCmp.cmpi_sge_ofNat (w := 32) (a := (i 0).val) (b := 112) (by omega) (by omega)
open Cert.OutProjRefIdeal.Read in
theorem ref_zero (i : S8320x1024.Idx) : val_main_call0_v2 (F := Ideal) i = (0 : EReal) := by
  rw [val_main_call0_v2_apply, val_main_call0_v0_apply, val_main_cst_apply]
  exact Ideal.ofBits_zero .f32
open Cert.OutProjRefIdeal.Read in
theorem ref (y0 : S8320x1024.Idx → EReal) (y1 : S1024x1024.Idx → EReal) (y2 : S8320x1024.Idx → EReal) : val_main_v8 (F := Ideal) y0 y1 y2 = full y0 y1 y2 := by
  funext i
  rw [val_main_v8_apply, ref_mask, ref_zero, val_main_v7_apply, ref_prod]
  show Scalar.select _ (y2 i + prod y0 y1 i) 0 = if 112 ≤ (i 0).val then prod y0 y1 i + y2 i else 0
  rw [add_comm]
  by_cases h : 112 ≤ (i 0).val <;> simp [h, Scalar.select]

/-! ## The claims -/

theorem frame_kernel : Cert.quiescent_OutProj := fun m ρ _ => Cert.OutProj.Gen.frame m ρ
theorem frame_ideal : Cert.quiescent_OutProjIdeal := fun m ρ _ => Cert.OutProjIdeal.Gen.frame m ρ
theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)
theorem algebraic : Cert.algebraic_OutProjIdeal_OutProjRefIdeal := by
  intro m ρ m' ρ' _ hag
  refine ⟨fun c => full (x0 m c) (x1 m c) (x2 m c), ?_, ?_⟩
  · exact (θ_run Cert.OutProjIdeal.defs _ _).mono (fun _ h c => ⟨(h c).1.trans (final m c), (h c).2⟩) (Cert.OutProjIdeal.Value.run_blocks m ρ)
  · refine (θ_run Cert.OutProjRefIdeal.defs _ _).mono (fun _ h c => ⟨(h c).1.trans ?_, (h c).2⟩) (Cert.OutProjRefIdeal.Value.run m' ρ')
    rw [(hag c).1, (hag c).2.1, (hag c).2.2]
    exact (Cert.OutProjRefIdeal.Read.val_main_v8_eq (F := Ideal) _ _ _).trans (ref _ _ _)

end Cert.Proof.OutProj
-- ==== Proof.Products.FfnDown.lean ====
/- The value of `FfnDown`: the product's array, block by block, and the claims. -/
module

public import proofs.«01_k».proof.Defs
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.FfnDown

open Cert.FfnDownIdeal Cert.FfnDownIdeal.Gen
open Idealize.SL.Sem Idealize.ShloMosaic Idealize.ShloMosaic.TcCoe
open Finset (range)

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl

/-! ## The product -/

/-- One term of an element of the product. -/
def term (x0 : S8320x2816.Idx → EReal) (x1 : S2816x1024.Idx → EReal) (p : Fin 8320) (q : Fin 1024) (k : ℕ) : EReal :=
  if h : k < 2816 then x0 (ix2 p (⟨k, h⟩ : Fin 2816)) * x1 (ix2 (⟨k, h⟩ : Fin 2816) q) else 0

/-- The product. -/
def prod (x0 : S8320x2816.Idx → EReal) (x1 : S2816x1024.Idx → EReal) : S8320x1024.Idx → EReal := fun i => ∑ k ∈ range 2816, term x0 x1 (i 0) (i 1) k

theorem prod_at (x0 : S8320x2816.Idx → EReal) (x1 : S2816x1024.Idx → EReal) (i : S8320x1024.Idx) :
    prod x0 x1 i = ∑ k : Fin 2816, x0 (ix2 (i 0) k) * x1 (ix2 k (i 1)) := by
  unfold prod
  rw [Finset.sum_range]
  exact Finset.sum_congr rfl fun k _ => by unfold term; rw [dif_pos k.isLt]

/-- The result: the product and the given array, zero on the padding rows. -/
def full (x0 : S8320x2816.Idx → EReal) (x1 : S2816x1024.Idx → EReal) (x2 : S8320x1024.Idx → EReal) : S8320x1024.Idx → EReal := fun i => (if 112 ≤ (i 0).val then prod x0 x1 i + x2 i else 0)

/-! ## The kernel -/

variable (m : (ℓ : Loc nD τ sig) → Buf (Elt Ideal) ℓ) (ρ : Dev nD → PrngReg) (c : Dev nD)

abbrev x0 : S8320x2816.Idx → EReal := m ((c : Thread nD τ).loc main_arg0)
abbrev x1 : S2816x1024.Idx → EReal := m ((c : Thread nD τ).loc main_arg1)

abbrev x2 : S8320x1024.Idx → EReal := m ((c : Thread nD τ).loc main_arg2)

theorem lt_N (t : Fin cfg0.N) : t.val < 26 := by have := t.isLt; have hN : cfg0.N = 26 := N_0; omega
def rowI (t : Fin cfg0.N) (r : Fin 640) : Fin 8320 := ⟨640 * (t.val / 2) + r.val, by have := lt_N t; omega⟩
def colJ (t : Fin cfg0.N) (s : Fin 1024) : Fin 1024 := ⟨1024 * (t.val / 2 % 1) + s.val, by omega⟩
theorem lt_K (t : Fin cfg0.N) (k : Fin 1408) : 1408 * (t.val % 2) + k.val < 2816 := by omega

theorem idx0 : ∀ t : Fin cfg0.N, win0_0.index t 0 = t.val / 2 ∧ win0_0.index t 1 = t.val % 2 := by decide +kernel
theorem idx1 : ∀ t : Fin cfg0.N, win0_1.index t 0 = t.val % 2 ∧ win0_1.index t 1 = t.val / 2 % 1 := by decide +kernel
theorem idx2 : ∀ t : Fin cfg0.N, win0_2.index t 0 = t.val / 2 ∧ win0_2.index t 1 = t.val / 2 % 1 := by decide +kernel

theorem iblk0_at (t : Fin cfg0.N) (r : Fin 640) (k : Fin 1408) :
    iblk m c 0 t (ix2 r k) = x0 m c (ix2 (rowI t r) (⟨_, lt_K t k⟩ : Fin 2816)) := by
  obtain ⟨h0, h1⟩ := idx0 t
  refine Eq.trans ?_ (congrFun (V_main_arg0 m c) _)
  unfold iblk
  rw [View.read_apply]
  show V m c main_arg0 _ = V m c main_arg0 _
  congr 1
  funext x
  apply Fin.ext
  match x with
  | ⟨0, _⟩ => show win0_0.index t 0 * 640 + 1 * r.val = 640 * (t.val / 2) + r.val; rw [h0]; omega
  | ⟨1, _⟩ => show win0_0.index t 1 * 1408 + 1 * k.val = 1408 * (t.val % 2) + k.val; rw [h1]; omega
theorem iblk1_at (t : Fin cfg0.N) (k : Fin 1408) (s : Fin 1024) :
    iblk m c 1 t (ix2 k s) = x1 m c (ix2 (⟨_, lt_K t k⟩ : Fin 2816) (colJ t s)) := by
  obtain ⟨h0, h1⟩ := idx1 t
  refine Eq.trans ?_ (congrFun (V_main_arg1 m c) _)
  unfold iblk
  rw [View.read_apply]
  show V m c main_arg1 _ = V m c main_arg1 _
  congr 1
  funext x
  apply Fin.ext
  match x with
  | ⟨0, _⟩ => show win0_1.index t 0 * 1408 + 1 * k.val = 1408 * (t.val % 2) + k.val; rw [h0]; omega
  | ⟨1, _⟩ => show win0_1.index t 1 * 1024 + 1 * s.val = 1024 * (t.val / 2 % 1) + s.val; rw [h1]; omega
theorem idx3 : ∀ t : Fin cfg0.N, win0_3.index t 0 = t.val / 2 ∧ win0_3.index t 1 = t.val / 2 % 1 := by decide +kernel
theorem crd : ∀ t : Fin cfg0.N, (grid0.coords t 0).val = t.val / 2 := by decide +kernel
theorem iblk2_at (t : Fin cfg0.N) (r : Fin 640) (s : Fin 1024) :
    iblk m c 2 t (ix2 r s) = x2 m c (ix2 (rowI t r) (colJ t s)) := by
  obtain ⟨h0, h1⟩ := idx2 t
  refine Eq.trans ?_ (congrFun (V_main_arg2 m c) _)
  unfold iblk
  rw [View.read_apply]
  show V m c main_arg2 _ = V m c main_arg2 _
  congr 1
  funext x
  apply Fin.ext
  match x with
  | ⟨0, _⟩ => show win0_2.index t 0 * 640 + 1 * r.val = 640 * (t.val / 2) + r.val; rw [h0]; omega
  | ⟨1, _⟩ => show win0_2.index t 1 * 1024 + 1 * s.val = 1024 * (t.val / 2 % 1) + s.val; rw [h1]; omega
theorem mask_at (p r : ℕ) (hp : p < 13) (hr : r < 640) (v : EReal) :
    Scalar.select (IntOp.cmpi .sge (IntOp.addi (Scalar.muli (BitVec.ofNat 32 p) 640#32) (BitVec.ofNat 32 r)) 112#32) v 0 =
      if 112 ≤ 640 * p + r then v else 0 := by
  have ha : IntOp.addi (Scalar.muli (BitVec.ofNat 32 p) 640#32) (BitVec.ofNat 32 r) = BitVec.ofNat 32 (640 * p + r) := by
    rw [mul_comm 640 p, BitVec.ofNat_add, BitVec.ofNat_mul]
    rfl
  rw [ha, WordCmp.cmpi_sge_ofNat (b := 112) (by omega) (by omega)]
  by_cases h : 112 ≤ 640 * p + r <;> simp [h, Scalar.select]
/-- An element of a block's product. -/
def dot (a : S640x1408.Idx → EReal) (b : S1408x1024.Idx → EReal) (r : Fin 640) (s : Fin 1024) : EReal := ∑ k : Fin 1408, a (ix2 r k) * b (ix2 k s)
theorem pay1_at (a : Vec Ideal S640x1408 .bf16) (b : Vec Ideal S1408x1024 .bf16) (r : Fin 640) (s : Fin 1024) :
    k0_pay1 (F := Ideal) a b (ix2 r s) = dot a b r s := by
  unfold dot
  pointwise [k0_pay1]
theorem pay_at (i : grid0.Coords) (a : Vec Ideal S640x1408 .bf16) (b : Vec Ideal S1408x1024 .bf16) (xo x : Vec Ideal S640x1024 .f32) (r : Fin 640) (s : Fin 1024) :
    k0_pay3 (F := Ideal) i a b xo x (ix2 r s) = (if 112 ≤ 640 * (i 0).val + r.val then xo (ix2 r s) + k0_pay1 (F := Ideal) a b (ix2 r s) + x (ix2 r s) else 0) := by
  rw [← mask_at (i 0).val r.val (i 0).isLt r.isLt]
  generalize hg : k0_pay1 (F := Ideal) a b = g
  unfold k0_pay3
  rw [hg]
  pointwise []
theorem part_at (t : Fin cfg0.N) (r : Fin 640) (s : Fin 1024) : dot (iblk m c 0 t) (iblk m c 1 t) r s =
    ∑ k ∈ range 1408, term (x0 m c) (x1 m c) (rowI t r) (colJ t s) (1408 * (t.val % 2) + k) := by
  unfold dot
  rw [Finset.sum_range]
  refine Finset.sum_congr rfl fun k _ => ?_
  rw [iblk0_at, iblk1_at]
  unfold term
  rw [dif_pos (lt_K t k)]
theorem out_A (i : grid0.Coords) (arg3 : Memref sig .tc .vmem S640x1408 .bf16) (h3 : arg3.IsWhole) (arg4 : Memref sig .tc .vmem S1408x1024 .bf16) (h4 : arg4.IsWhole)
    (arg5 : Memref sig .tc .vmem S640x1024 .f32) (h5 : arg5.IsWhole) (arg6 : Memref sig .tc .vmem S640x1024 .f32) (h6 : arg6.IsWhole) (hc0 : cond0_0 i) (hc1 : ¬cond0_1 i) (hc2 : ¬cond0_2 i) (a : Vec Ideal S640x1408 .bf16) (b : Vec Ideal S1408x1024 .bf16) (x : Vec Ideal S640x1024 .f32) :
    out0_A_3 c i arg3 h3 arg4 h4 arg5 h5 arg6 h6 hc0 hc1 hc2 a b x = k0_pay1 (F := Ideal) a b := by
  unfold out0_A_3
  rw [View.read_writes_eq_canon _ _ _ (cover0_A_3 c i arg3 h3 arg4 h4 arg5 h5 arg6 h6 hc0 hc1 hc2 a b x)]
  unfold kernelRun0_A
  dsimp only
  sl_unfold_words
  rw [View.canon_unit_zero hz]
  simp only [View.readAt_eq_ld, h3.read_unread, h4.read_unread, h5.read_unread, h6.read_unread, View.ld_unit_zero (S := S640x1408) hz, View.ld_unit_zero (S := S1408x1024) hz, View.ld_unit_zero (S := S640x1024) hz]
theorem out_B (i : grid0.Coords) (arg3 : Memref sig .tc .vmem S640x1408 .bf16) (h3 : arg3.IsWhole) (arg4 : Memref sig .tc .vmem S1408x1024 .bf16) (h4 : arg4.IsWhole)
    (arg5 : Memref sig .tc .vmem S640x1024 .f32) (h5 : arg5.IsWhole) (arg6 : Memref sig .tc .vmem S640x1024 .f32) (h6 : arg6.IsWhole) (hc0 : ¬cond0_0 i) (hc1 : ¬cond0_1 i) (hc2 : cond0_2 i) (a : Vec Ideal S640x1408 .bf16) (b : Vec Ideal S1408x1024 .bf16) (x : Vec Ideal S640x1024 .f32) (xo : Vec Ideal S640x1024 .f32) :
    out0_B_3 c i arg3 h3 arg4 h4 arg5 h5 arg6 h6 hc0 hc1 hc2 a b x xo = k0_pay3 (F := Ideal) i a b xo x := by
  unfold out0_B_3
  rw [View.read_writes_eq_canon _ _ _ (cover0_B_3 c i arg3 h3 arg4 h4 arg5 h5 arg6 h6 hc0 hc1 hc2 a b x xo)]
  unfold kernelRun0_B
  dsimp only
  sl_unfold_words
  rw [View.canon_unit_zero hz]
  simp only [View.readAt_eq_ld, h3.read_unread, h4.read_unread, h5.read_unread, h6.read_unread, View.ld_unit_zero (S := S640x1408) hz, View.ld_unit_zero (S := S1408x1024) hz, View.ld_unit_zero (S := S640x1024) hz]

/-- The output's buffer after the second of a tile's two points. -/
theorem outs_at (t : Fin cfg0.N) (ht : t.val % 2 = 1) (r : Fin 640) (s : Fin 1024) : outsAt0 m c t.val t.isLt (ix2 r s) =
    full (x0 m c) (x1 m c) (x2 m c) (ix2 (rowI t r) (colJ t s)) := by
  obtain ⟨n, h⟩ := t
  obtain ⟨n, rfl⟩ : ∃ n', n = n' + 1 := ⟨n - 1, by dsimp only at ht; omega⟩
  dsimp only at ht
  have h' : n < cfg0.N := Nat.lt_of_succ_lt h
  have er : rowI ⟨n, h'⟩ r = rowI ⟨n + 1, h⟩ r := Fin.ext (by unfold rowI; dsimp only; omega)
  have ec : colJ ⟨n, h'⟩ s = colJ ⟨n + 1, h⟩ s := Fin.ext (by unfold colJ; dsimp only; omega)
  have e0 : outsAt0 m c n h' (ix2 r s) = ∑ k ∈ range 1408, term (x0 m c) (x1 m c) (rowI ⟨n + 1, h⟩ r) (colJ ⟨n + 1, h⟩ s) k := by
    rw [outsAt0_A m c ⟨n, h'⟩ (by dsimp only; omega) (by dsimp only; omega), out_A]
    refine (pay1_at _ _ r s).trans ((part_at m c ⟨n, h'⟩ r s).trans ?_)
    rw [er, ec]
    have e : n % 2 = 0 := by omega
    simp only [e, Nat.mul_zero, Nat.zero_add]
  have e1 : k0_pay1 (F := Ideal) (iblk m c 0 ⟨n + 1, h⟩) (iblk m c 1 ⟨n + 1, h⟩) (ix2 r s) =
      ∑ k ∈ range 1408, term (x0 m c) (x1 m c) (rowI ⟨n + 1, h⟩ r) (colJ ⟨n + 1, h⟩ s) (1408 + k) := by
    refine (pay1_at _ _ r s).trans ((part_at m c ⟨n + 1, h⟩ r s).trans ?_)
    simp only [ht, Nat.mul_one]
  have e2 : prod (x0 m c) (x1 m c) (ix2 (rowI ⟨n + 1, h⟩ r) (colJ ⟨n + 1, h⟩ s)) =
      (∑ k ∈ range 1408, term (x0 m c) (x1 m c) (rowI ⟨n + 1, h⟩ r) (colJ ⟨n + 1, h⟩ s) k)
        + ∑ k ∈ range 1408, term (x0 m c) (x1 m c) (rowI ⟨n + 1, h⟩ r) (colJ ⟨n + 1, h⟩ s) (1408 + k) := Finset.sum_range_add _ 1408 1408
  rw [outsAt0_B m c ⟨n + 1, h⟩ (by dsimp only; omega) (by dsimp only; omega), out_B]
  refine (pay_at _ _ _ _ _ r s).trans ?_
  show (if 112 ≤ 640 * (grid0.coords ⟨n + 1, h⟩ 0).val + r.val then outsAt0 m c n h' (ix2 r s) + k0_pay1 (F := Ideal) (iblk m c 0 ⟨n + 1, h⟩) (iblk m c 1 ⟨n + 1, h⟩) (ix2 r s) + iblk m c 2 ⟨n + 1, h⟩ (ix2 r s) else 0) = (if 112 ≤ 640 * ((n + 1) / 2) + r.val then prod (x0 m c) (x1 m c) (ix2 (rowI ⟨n + 1, h⟩ r) (colJ ⟨n + 1, h⟩ s)) + x2 m c (ix2 (rowI ⟨n + 1, h⟩ r) (colJ ⟨n + 1, h⟩ s)) else 0)
  rw [e0, e1, e2, iblk2_at, crd]

theorem flushed (t : Fin cfg0.N) (hf : (cfg0.win 3).flush t = true) :
    (dats m 0 c).flushed 3 t = ((cfg0.win 3).blk t).view.read (Elt Ideal) (full (x0 m c) (x1 m c) (x2 m c)) := by
  obtain ⟨h0, h1⟩ := idx3 t
  show (cfg0.win 3).cut (grid0.coords t) ((dats m 0 c).after 3 t) = _
  rw [after0_3]
  funext j
  obtain ⟨r, s, rfl⟩ : ∃ (r : Fin 640) (s : Fin 1024), j = ix2 r s := ⟨_, _, ix2_eta (a := 640) (b := 1024) j⟩
  have hr : ((cfg0.win 3).blk t).view.read (Elt Ideal) (full (x0 m c) (x1 m c) (x2 m c)) (ix2 r s) = (full (x0 m c) (x1 m c) (x2 m c)) (ix2 (rowI t r) (colJ t s)) := by
    rw [View.read_apply]
    show (full (x0 m c) (x1 m c) (x2 m c)) _ = (full (x0 m c) (x1 m c) (x2 m c)) _
    congr 1
    funext y
    apply Fin.ext
    match y with
    | ⟨0, _⟩ => show win0_3.index t 0 * 640 + 1 * r.val = 640 * (t.val / 2) + r.val; rw [h0]; omega
    | ⟨1, _⟩ => show win0_3.index t 1 * 1024 + 1 * s.val = 1024 * (t.val / 2 % 1) + s.val; rw [h1]; omega
  refine Eq.trans ?_ hr.symm
  exact outs_at m c t ((flush0_3 t).mp hf) r s
theorem cover (i : S8320x1024.Idx) : ∃ t : Fin cfg0.N, (cfg0.win 3).flush t = true ∧ i ∈ ((cfg0.win 3).blk t).view.set := by
  have l0 : (i 0).val < 8320 := (i 0).isLt
  have l1 : (i 1).val < 1024 := (i 1).isLt
  have hN : cfg0.N = 26 := N_0
  refine ⟨⟨2 * ((i 0).val / 640) + 2 * ((i 1).val / 1024) + 1, by omega⟩, (flush0_3 _).mpr (by dsimp only; omega), ?_⟩
  generalize ht : (⟨2 * ((i 0).val / 640) + 2 * ((i 1).val / 1024) + 1, _⟩ : Fin cfg0.N) = t
  have hv : t.val = 2 * ((i 0).val / 640) + 2 * ((i 1).val / 1024) + 1 := by rw [← ht]
  obtain ⟨h0, h1⟩ := idx3 t
  show i ∈ ((View.whole main_v0).slice (win0_3.rect t)).set
  rw [View.set_slice_whole, Rect.mem_set_unit]
  intro y
  match y with
  | ⟨0, _⟩ => show win0_3.index t 0 * 640 ≤ (i 0).val ∧ (i 0).val < win0_3.index t 0 * 640 + 640; rw [h0]; omega
  | ⟨1, _⟩ => show win0_3.index t 1 * 1024 ≤ (i 1).val ∧ (i 1).val < win0_3.index t 1 * 1024 + 1024; rw [h1]; omega
theorem final : (dats m 0 c).arrAt 3 cfg0.N = full (x0 m c) (x1 m c) (x2 m c) :=
  (dats m 0 c).arrAt_eq_of_cover 3 (full (x0 m c) (x1 m c) (x2 m c)) (fun t hf => flushed m c t hf) cover

/-! ## The reference -/

open Cert.FfnDownRefIdeal.Read in
theorem ref_prod (y0 : S8320x2816.Idx → EReal) (y1 : S2816x1024.Idx → EReal) (i : S8320x1024.Idx) : val_main_v6 (F := Ideal) y0 y1 i = prod y0 y1 i := by
  rw [prod_at, val_main_v6_apply]
  refine Finset.sum_congr rfl fun k _ => ?_
  have e0 : lidx_main_v6 i k = ix2 (i 0) k := by funext a; fin_cases a <;> rfl
  have e1 : ridx_main_v6 i k = ix2 k (i 1) := by funext a; fin_cases a <;> rfl
  rw [e0, e1]
  rfl
open Cert.FfnDownRefIdeal.Read in
theorem ref_mask (i : S8320x1024.Idx) : val_main_call0_v1 (F := Ideal) i = BitVec.ofBool (decide (112 ≤ (i 0).val)) := by
  have l0 : (i 0).val < 8320 := (i 0).isLt
  rw [val_main_call0_v1_apply, val_main_v3_apply, val_main_v2_apply, val_main_v0_apply, val_main_v1_apply, val_main_c_apply]
  exact WordCmp.cmpi_sge_ofNat (w := 32) (a := (i 0).val) (b := 112) (by omega) (by omega)
open Cert.FfnDownRefIdeal.Read in
theorem ref_zero (i : S8320x1024.Idx) : val_main_call0_v2 (F := Ideal) i = (0 : EReal) := by
  rw [val_main_call0_v2_apply, val_main_call0_v0_apply, val_main_cst_apply]
  exact Ideal.ofBits_zero .f32
open Cert.FfnDownRefIdeal.Read in
theorem ref (y0 : S8320x2816.Idx → EReal) (y1 : S2816x1024.Idx → EReal) (y2 : S8320x1024.Idx → EReal) : val_main_v8 (F := Ideal) y0 y1 y2 = full y0 y1 y2 := by
  funext i
  rw [val_main_v8_apply, ref_mask, ref_zero, val_main_v7_apply, ref_prod]
  show Scalar.select _ (y2 i + prod y0 y1 i) 0 = if 112 ≤ (i 0).val then prod y0 y1 i + y2 i else 0
  rw [add_comm]
  by_cases h : 112 ≤ (i 0).val <;> simp [h, Scalar.select]

/-! ## The claims -/

theorem frame_kernel : Cert.quiescent_FfnDown := fun m ρ _ => Cert.FfnDown.Gen.frame m ρ
theorem frame_ideal : Cert.quiescent_FfnDownIdeal := fun m ρ _ => Cert.FfnDownIdeal.Gen.frame m ρ
theorem frame_ref : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run m ρ)
theorem algebraic : Cert.algebraic_FfnDownIdeal_FfnDownRefIdeal := by
  intro m ρ m' ρ' _ hag
  refine ⟨fun c => full (x0 m c) (x1 m c) (x2 m c), ?_, ?_⟩
  · exact (θ_run Cert.FfnDownIdeal.defs _ _).mono (fun _ h c => ⟨(h c).1.trans (final m c), (h c).2⟩) (Cert.FfnDownIdeal.Value.run_blocks m ρ)
  · refine (θ_run Cert.FfnDownRefIdeal.defs _ _).mono (fun _ h c => ⟨(h c).1.trans ?_, (h c).2⟩) (Cert.FfnDownRefIdeal.Value.run m' ρ')
    rw [(hag c).1, (hag c).2.1, (hag c).2.2]
    exact (Cert.FfnDownRefIdeal.Read.val_main_v8_eq (F := Ideal) _ _ _).trans (ref _ _ _)

end Cert.Proof.FfnDown
-- ==== Proof.AdamW.Step.lean ====
/- The AdamW step on one number: the moments and the update from the gradient, the weight and the old moments. -/
module

public import proofs.«01_k».proof.Defs
public import Idealize.ShloMosaic.Lib.Pointwise

@[expose] public section

noncomputable section

namespace Cert.Proof.AdamW

open Idealize.ShloMosaic

theorem hz : (![0, 0] : Fin 2 → Nat) = fun _ => 0 := funext fun a => by fin_cases a <;> rfl
theorem ix2_eta {a b : ℕ} (j : (⟨2, ![a, b]⟩ : Shape).Idx) : j = ix2 (j 0) (j 1) := by
  funext x; fin_cases x <;> rfl
theorem ext2 {a b : ℕ} {i j : (⟨2, ![a, b]⟩ : Shape).Idx} (h0 : (i 0).val = (j 0).val) (h1 : (i 1).val = (j 1).val) :
    i = j := by
  funext x
  apply Fin.ext
  match x with
  | ⟨0, _⟩ => exact h0
  | ⟨1, _⟩ => exact h1
theorem ext3 {a b c : ℕ} {i j : (⟨3, ![a, b, c]⟩ : Shape).Idx} (h0 : (i 0).val = (j 0).val)
    (h1 : (i 1).val = (j 1).val) (h2 : (i 2).val = (j 2).val) : i = j := by
  funext x
  apply Fin.ext
  match x with
  | ⟨0, _⟩ => exact h0
  | ⟨1, _⟩ => exact h1
  | ⟨2, _⟩ => exact h2
theorem at0 (n : ℕ) : 0 + 1 * n = n := by omega
theorem row {q t a r : ℕ} (h : q = t) : q * a + 1 * r = a * t + r := by subst h; rw [Nat.mul_comm, Nat.one_mul]
theorem col {q a s : ℕ} (h : q = 0) : q * a + 1 * s = s := by subst h; omega
theorem rows {q t a i : ℕ} (h : q = t) (k : t = i / a) (ha : 0 < a) : q * a ≤ i ∧ i < q * a + a := by
  subst h
  subst k
  exact ⟨Nat.div_mul_le_self i a, Nat.lt_div_mul_add ha⟩
theorem cols {q a i : ℕ} (h : q = 0) (k : i < a) : q * a ≤ i ∧ i < q * a + a := by subst h; omega

def m2 (g m : EReal) : EReal :=
  Ideal.ofBits .f32 0x3F666666#32 * m + Ideal.ofBits .f32 0x3DCCCCCD#32 * g
def v2 (g v : EReal) : EReal :=
  Ideal.ofBits .f32 0x3F7FBE77#32 * v + Ideal.ofBits .f32 0x3A83126F#32 * (g * g)
def delta (g w m v : EReal) : EReal :=
  FloatOps.mulf (F := Ideal) (φ := .f32) (Ideal.ofBits .f32 0xBA83126F#32) (FloatOps.addf (F := Ideal) (φ := .f32)
    (FloatOps.divf (F := Ideal) (φ := .f32) (FloatOps.divf (F := Ideal) (φ := .f32) (m2 g m) (Ideal.ofBits .f32 0x3F26BD02#32))
      (FloatOps.addf (F := Ideal) (φ := .f32) (FloatOps.hostUnary (F := Ideal) (φ := .f32) .sqrt
        (FloatOps.divf (F := Ideal) (φ := .f32) (v2 g v) (Ideal.ofBits .f32 0x3C231ACC#32))) (Ideal.ofBits .f32 0x322BCC77#32)))
    (FloatOps.mulf (F := Ideal) (φ := .f32) (Ideal.ofBits .f32 0x3C23D70A#32) w))

end Cert.Proof.AdamW
-- ==== Proof.AdamW.AdamWIn.lean ====
/- The values of `AdamWIn`: the four arrays, block by block, and the claims. -/
module

public import proofs.«01_k».proof.Defs
public import proofs.«01_k».proof.Proof.AdamW.Step
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.Gen.AdamWInRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.AdamWIn

open Cert.AdamWInIdeal Cert.AdamWInIdeal.Gen
open Cert.Proof.AdamW (hz ix2_eta)
open Idealize.SL.Sem Idealize.ShloMosaic Idealize.ShloMosaic.TcCoe

/-! ## The four arrays -/

/-- The sum of the gradient's pieces. -/
def grad (x0 : S4x2048x333.Idx → EReal) (p : Fin 2048) (q : Fin 333) : EReal := x0 (ix3 (0 : Fin 4) p q) + x0 (ix3 (1 : Fin 4) p q) + x0 (ix3 (2 : Fin 4) p q) + x0 (ix3 (3 : Fin 4) p q)
def T4 (x0 : S4x2048x333.Idx → EReal) (x1 x2 x3 : S2048x333.Idx → EReal) : S2048x333.Idx → EReal := fun i => grad x0 (i 0) (i 1)
def T5 (x0 : S4x2048x333.Idx → EReal) (x1 x2 x3 : S2048x333.Idx → EReal) : S2048x333.Idx → EReal := fun i => AdamW.delta (grad x0 (i 0) (i 1)) (x1 i) (x2 i) (x3 i)
def T6 (x0 : S4x2048x333.Idx → EReal) (x1 x2 x3 : S2048x333.Idx → EReal) : S2048x333.Idx → EReal := fun i => AdamW.m2 (grad x0 (i 0) (i 1)) (x2 i)
def T7 (x0 : S4x2048x333.Idx → EReal) (x1 x2 x3 : S2048x333.Idx → EReal) : S2048x333.Idx → EReal := fun i => AdamW.v2 (grad x0 (i 0) (i 1)) (x3 i)

/-! ## The kernel -/

variable (m : (ℓ : Loc nD τ sig) → Buf (Elt Ideal) ℓ) (ρ : Dev nD → PrngReg) (c : Dev nD)

abbrev X0 : S4x2048x333.Idx → EReal := m ((c : Thread nD τ).loc main_arg0)
abbrev X1 : S2048x333.Idx → EReal := m ((c : Thread nD τ).loc main_arg1)
abbrev X2 : S2048x333.Idx → EReal := m ((c : Thread nD τ).loc main_arg2)
abbrev X3 : S2048x333.Idx → EReal := m ((c : Thread nD τ).loc main_arg3)

def gradB (x0 : S4x256x333.Idx → EReal) (r : Fin 256) (s : Fin 333) : EReal := x0 (ix3 (0 : Fin 4) r s) + x0 (ix3 (1 : Fin 4) r s) + x0 (ix3 (2 : Fin 4) r s) + x0 (ix3 (3 : Fin 4) r s)
theorem pay_at (a0 a1 a2 a3 : Vec Ideal S1x256x333 .bf16) (r : Fin 256) (s : Fin 333) : k0_pay2 (F := Ideal) a0 a1 a2 a3 (ix2 r s) =
    a0 (ix3 (0 : Fin 1) r s) + a1 (ix3 (0 : Fin 1) r s) + a2 (ix3 (0 : Fin 1) r s) + a3 (ix3 (0 : Fin 1) r s) := by
  pointwise [k0_pay2]
theorem ld0 (x0 : Vec Ideal S4x256x333 .bf16) (r : Fin 256) (s : Fin 333) : View.ld x0 r0_0 (ix3 (0 : Fin 1) r s) = x0 (ix3 (0 : Fin 4) r s) :=
  congrArg x0 (AdamW.ext3 rfl (AdamW.at0 _) (AdamW.at0 _))
theorem ld1 (x0 : Vec Ideal S4x256x333 .bf16) (r : Fin 256) (s : Fin 333) : View.ld x0 r0_1 (ix3 (0 : Fin 1) r s) = x0 (ix3 (1 : Fin 4) r s) :=
  congrArg x0 (AdamW.ext3 rfl (AdamW.at0 _) (AdamW.at0 _))
theorem ld2 (x0 : Vec Ideal S4x256x333 .bf16) (r : Fin 256) (s : Fin 333) : View.ld x0 r0_2 (ix3 (0 : Fin 1) r s) = x0 (ix3 (2 : Fin 4) r s) :=
  congrArg x0 (AdamW.ext3 rfl (AdamW.at0 _) (AdamW.at0 _))
theorem ld3 (x0 : Vec Ideal S4x256x333 .bf16) (r : Fin 256) (s : Fin 333) : View.ld x0 r0_3 (ix3 (0 : Fin 1) r s) = x0 (ix3 (3 : Fin 4) r s) :=
  congrArg x0 (AdamW.ext3 rfl (AdamW.at0 _) (AdamW.at0 _))
theorem grad_at (x0 : Vec Ideal S4x256x333 .bf16) (x1 x2 x3 : Vec Ideal S256x333 .f32) (r : Fin 256) (s : Fin 333) : k0_pay2 (F := Ideal) (View.ld x0 r0_0) (View.ld x0 r0_1) (View.ld x0 r0_2) (View.ld x0 r0_3) (ix2 r s) = gradB x0 r s := by
  refine (pay_at _ _ _ _ r s).trans ?_
  rw [ld0, ld1, ld2, ld3]
  rfl
theorem out4_at (x0 : Vec Ideal S4x256x333 .bf16) (x1 x2 x3 : Vec Ideal S256x333 .f32) (r : Fin 256) (s : Fin 333) : out0_4 x0 x1 x2 x3 (ix2 r s) = gradB x0 r s := by
  unfold out0_4
  rw [View.canon_unit_zero hz]
  rw [← grad_at x0 x1 x2 x3 r s]
theorem out5_at (x0 : Vec Ideal S4x256x333 .bf16) (x1 x2 x3 : Vec Ideal S256x333 .f32) (r : Fin 256) (s : Fin 333) : out0_5 x0 x1 x2 x3 (ix2 r s) = AdamW.delta (gradB x0 r s) (x1 (ix2 r s)) (x2 (ix2 r s)) (x3 (ix2 r s)) := by
  unfold out0_5
  rw [View.canon_unit_zero hz]
  simp only [View.ld_unit_zero (S := S256x333) hz]
  rw [← grad_at x0 x1 x2 x3 r s]
  rfl
theorem out6_at (x0 : Vec Ideal S4x256x333 .bf16) (x1 x2 x3 : Vec Ideal S256x333 .f32) (r : Fin 256) (s : Fin 333) : out0_6 x0 x1 x2 x3 (ix2 r s) = AdamW.m2 (gradB x0 r s) (x2 (ix2 r s)) := by
  unfold out0_6
  rw [View.canon_unit_zero hz]
  simp only [View.ld_unit_zero (S := S256x333) hz]
  rw [← grad_at x0 x1 x2 x3 r s]
  rfl
theorem out7_at (x0 : Vec Ideal S4x256x333 .bf16) (x1 x2 x3 : Vec Ideal S256x333 .f32) (r : Fin 256) (s : Fin 333) : out0_7 x0 x1 x2 x3 (ix2 r s) = AdamW.v2 (gradB x0 r s) (x3 (ix2 r s)) := by
  unfold out0_7
  rw [View.canon_unit_zero hz]
  simp only [View.ld_unit_zero (S := S256x333) hz]
  rw [← grad_at x0 x1 x2 x3 r s]
  rfl

theorem lt_N (t : Fin cfg0.N) : t.val < 8 := by have := t.isLt; have hN : cfg0.N = 8 := N_0; omega
def rowI (t : Fin cfg0.N) (r : Fin 256) : Fin 2048 := ⟨256 * t.val + r.val, by have := lt_N t; omega⟩
theorem idx0 : ∀ t : Fin cfg0.N, win0_0.index t 0 = 0 ∧ win0_0.index t 1 = t.val ∧ win0_0.index t 2 = 0 := by decide +kernel
theorem iblk0_at (t : Fin cfg0.N) (k : Fin 4) (r : Fin 256) (s : Fin 333) : iblk m c 0 t (ix3 k r s) = X0 m c (ix3 k (rowI t r) s) := by
  refine Eq.trans ?_ (congrFun (V_main_arg0 m c) _)
  unfold iblk
  rw [View.read_apply]
  exact congrArg (V m c main_arg0) (AdamW.ext3 (AdamW.col (idx0 t).1) (AdamW.row (idx0 t).2.1) (AdamW.col (idx0 t).2.2))
theorem step_of (i : S2048x333.Idx) : ∃ t : Fin cfg0.N, t.val = (i 0).val / 256 := by
  have l0 : (i 0).val < 2048 := (i 0).isLt
  have hN : cfg0.N = 8 := N_0
  exact ⟨⟨(i 0).val / 256, by omega⟩, rfl⟩
theorem grad_blk (t : Fin cfg0.N) (r : Fin 256) (s : Fin 333) : gradB (iblk m c 0 t) r s = grad (X0 m c) (rowI t r) s := by
  unfold gradB grad
  rw [iblk0_at m c t 0 r s, iblk0_at m c t 1 r s, iblk0_at m c t 2 r s, iblk0_at m c t 3 r s]
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem iblk1_at (t : Fin cfg0.N) (r : Fin 256) (s : Fin 333) : iblk m c 1 t (ix2 r s) = X1 m c (ix2 (rowI t r) s) := by
  refine Eq.trans ?_ (congrFun (V_main_arg1 m c) _)
  unfold iblk
  rw [View.read_apply]
  exact congrArg (V m c main_arg1) (AdamW.ext2 (AdamW.row (idx1 t).1) (AdamW.col (idx1 t).2))
theorem iblk2_at (t : Fin cfg0.N) (r : Fin 256) (s : Fin 333) : iblk m c 2 t (ix2 r s) = X2 m c (ix2 (rowI t r) s) := by
  refine Eq.trans ?_ (congrFun (V_main_arg2 m c) _)
  unfold iblk
  rw [View.read_apply]
  exact congrArg (V m c main_arg2) (AdamW.ext2 (AdamW.row (idx2 t).1) (AdamW.col (idx2 t).2))
theorem iblk3_at (t : Fin cfg0.N) (r : Fin 256) (s : Fin 333) : iblk m c 3 t (ix2 r s) = X3 m c (ix2 (rowI t r) s) := by
  refine Eq.trans ?_ (congrFun (V_main_arg3 m c) _)
  unfold iblk
  rw [View.read_apply]
  exact congrArg (V m c main_arg3) (AdamW.ext2 (AdamW.row (idx3 t).1) (AdamW.col (idx3 t).2))

abbrev R4 : S2048x333.Idx → EReal := T4 (X0 m c) (X1 m c) (X2 m c) (X3 m c)
theorem flushed4 (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  obtain ⟨r, s, rfl⟩ : ∃ (r : Fin 256) (s : Fin 333), j = ix2 r s := ⟨_, _, ix2_eta (a := 256) (b := 333) j⟩
  have hr : ((cfg0.win 4).blk t).view.read (Elt Ideal) (R4 m c) (ix2 r s) = R4 m c (ix2 (rowI t r) s) := by
    rw [View.read_apply]
    exact congrArg (R4 m c) (AdamW.ext2 (AdamW.row (idx4 t).1) (AdamW.col (idx4 t).2))
  refine Eq.trans ?_ hr.symm
  refine (out4_at _ _ _ _ r s).trans ?_
  rw [grad_blk]
  rfl
theorem cover4 (i : S2048x333.Idx) : ∃ t : Fin cfg0.N, (cfg0.win 4).flush t = true ∧ i ∈ ((cfg0.win 4).blk t).view.set := by
  obtain ⟨t, ht⟩ := step_of i
  refine ⟨t, flush0_4 t, ?_⟩
  show i ∈ ((View.whole main_v0_0).slice (win0_4.rect t)).set
  rw [View.set_slice_whole, Rect.mem_set_unit]
  exact Fin.forall_fin_two.2 ⟨AdamW.rows (idx4 t).1 ht (by decide), AdamW.cols (idx4 t).2 (i 1).isLt⟩
theorem final4 : (dats m 0 c).arrAt 4 cfg0.N = R4 m c := (dats m 0 c).arrAt_eq_of_cover 4 (R4 m c) (fun t _ => flushed4 m c t) cover4

abbrev R5 : S2048x333.Idx → EReal := T5 (X0 m c) (X1 m c) (X2 m c) (X3 m c)
theorem flushed5 (t : Fin cfg0.N) : (dats m 0 c).flushed 5 t = ((cfg0.win 5).blk t).view.read (Elt Ideal) (R5 m c) := by
  show (cfg0.win 5).cut (grid0.coords t) ((dats m 0 c).after 5 t) = _
  rw [after0_5]
  funext j
  obtain ⟨r, s, rfl⟩ : ∃ (r : Fin 256) (s : Fin 333), j = ix2 r s := ⟨_, _, ix2_eta (a := 256) (b := 333) j⟩
  have hr : ((cfg0.win 5).blk t).view.read (Elt Ideal) (R5 m c) (ix2 r s) = R5 m c (ix2 (rowI t r) s) := by
    rw [View.read_apply]
    exact congrArg (R5 m c) (AdamW.ext2 (AdamW.row (idx5 t).1) (AdamW.col (idx5 t).2))
  refine Eq.trans ?_ hr.symm
  refine (out5_at _ _ _ _ r s).trans ?_
  rw [grad_blk, iblk1_at, iblk2_at, iblk3_at]
  rfl
theorem cover5 (i : S2048x333.Idx) : ∃ t : Fin cfg0.N, (cfg0.win 5).flush t = true ∧ i ∈ ((cfg0.win 5).blk t).view.set := by
  obtain ⟨t, ht⟩ := step_of i
  refine ⟨t, flush0_5 t, ?_⟩
  show i ∈ ((View.whole main_v0_1).slice (win0_5.rect t)).set
  rw [View.set_slice_whole, Rect.mem_set_unit]
  exact Fin.forall_fin_two.2 ⟨AdamW.rows (idx5 t).1 ht (by decide), AdamW.cols (idx5 t).2 (i 1).isLt⟩
theorem final5 : (dats m 0 c).arrAt 5 cfg0.N = R5 m c := (dats m 0 c).arrAt_eq_of_cover 5 (R5 m c) (fun t _ => flushed5 m c t) cover5

abbrev R6 : S2048x333.Idx → EReal := T6 (X0 m c) (X1 m c) (X2 m c) (X3 m c)
theorem flushed6 (t : Fin cfg0.N) : (dats m 0 c).flushed 6 t = ((cfg0.win 6).blk t).view.read (Elt Ideal) (R6 m c) := by
  show (cfg0.win 6).cut (grid0.coords t) ((dats m 0 c).after 6 t) = _
  rw [after0_6]
  funext j
  obtain ⟨r, s, rfl⟩ : ∃ (r : Fin 256) (s : Fin 333), j = ix2 r s := ⟨_, _, ix2_eta (a := 256) (b := 333) j⟩
  have hr : ((cfg0.win 6).blk t).view.read (Elt Ideal) (R6 m c) (ix2 r s) = R6 m c (ix2 (rowI t r) s) := by
    rw [View.read_apply]
    exact congrArg (R6 m c) (AdamW.ext2 (AdamW.row (idx6 t).1) (AdamW.col (idx6 t).2))
  refine Eq.trans ?_ hr.symm
  refine (out6_at _ _ _ _ r s).trans ?_
  rw [grad_blk, iblk2_at]
  rfl
theorem cover6 (i : S2048x333.Idx) : ∃ t : Fin cfg0.N, (cfg0.win 6).flush t = true ∧ i ∈ ((cfg0.win 6).blk t).view.set := by
  obtain ⟨t, ht⟩ := step_of i
  refine ⟨t, flush0_6 t, ?_⟩
  show i ∈ ((View.whole main_v0_2).slice (win0_6.rect t)).set
  rw [View.set_slice_whole, Rect.mem_set_unit]
  exact Fin.forall_fin_two.2 ⟨AdamW.rows (idx6 t).1 ht (by decide), AdamW.cols (idx6 t).2 (i 1).isLt⟩
theorem final6 : (dats m 0 c).arrAt 6 cfg0.N = R6 m c := (dats m 0 c).arrAt_eq_of_cover 6 (R6 m c) (fun t _ => flushed6 m c t) cover6

abbrev R7 : S2048x333.Idx → EReal := T7 (X0 m c) (X1 m c) (X2 m c) (X3 m c)
theorem flushed7 (t : Fin cfg0.N) : (dats m 0 c).flushed 7 t = ((cfg0.win 7).blk t).view.read (Elt Ideal) (R7 m c) := by
  show (cfg0.win 7).cut (grid0.coords t) ((dats m 0 c).after 7 t) = _
  rw [after0_7]
  funext j
  obtain ⟨r, s, rfl⟩ : ∃ (r : Fin 256) (s : Fin 333), j = ix2 r s := ⟨_, _, ix2_eta (a := 256) (b := 333) j⟩
  have hr : ((cfg0.win 7).blk t).view.read (Elt Ideal) (R7 m c) (ix2 r s) = R7 m c (ix2 (rowI t r) s) := by
    rw [View.read_apply]
    exact congrArg (R7 m c) (AdamW.ext2 (AdamW.row (idx7 t).1) (AdamW.col (idx7 t).2))
  refine Eq.trans ?_ hr.symm
  refine (out7_at _ _ _ _ r s).trans ?_
  rw [grad_blk, iblk3_at]
  rfl
theorem cover7 (i : S2048x333.Idx) : ∃ t : Fin cfg0.N, (cfg0.win 7).flush t = true ∧ i ∈ ((cfg0.win 7).blk t).view.set := by
  obtain ⟨t, ht⟩ := step_of i
  refine ⟨t, flush0_7 t, ?_⟩
  show i ∈ ((View.whole main_v0_3).slice (win0_7.rect t)).set
  rw [View.set_slice_whole, Rect.mem_set_unit]
  exact Fin.forall_fin_two.2 ⟨AdamW.rows (idx7 t).1 ht (by decide), AdamW.cols (idx7 t).2 (i 1).isLt⟩
theorem final7 : (dats m 0 c).arrAt 7 cfg0.N = R7 m c := (dats m 0 c).arrAt_eq_of_cover 7 (R7 m c) (fun t _ => flushed7 m c t) cover7

/-! ## The reference -/

open Cert.AdamWInRefIdeal.Read

variable (y0 : S4x2048x333.Idx → EReal) (y1 y2 y3 : S2048x333.Idx → EReal)

theorem ref_grad (i : S2048x333.Idx) : val_main_v1 (F := Ideal) y0 i = grad y0 (i 0) (i 1) := by
  rw [val_main_v1_apply, Fin.sum_univ_four]
  have z (j) : val_main_cst (F := Ideal) j = (0 : EReal) := Ideal.ofBits_zero .f32
  have e (k : Fin 4) : idx_main_v1 i k = ix3 k (i 0) (i 1) := by funext a; fin_cases a <;> rfl
  rw [z, zero_add, e 0, e 1, e 2, e 3]
  rfl
theorem ref4 : val_main_v1 (F := Ideal) y0 = T4 y0 y1 y2 y3 := by
  funext i
  exact ref_grad y0 i
theorem ref5 : val_main_v25 (F := Ideal) y0 y1 y2 y3 = T5 y0 y1 y2 y3 := by
  funext i
  unfold T5
  rw [← ref_grad y0 i]
  rfl
theorem ref6 : val_main_v6 (F := Ideal) y0 y2 = T6 y0 y1 y2 y3 := by
  funext i
  unfold T6
  rw [← ref_grad y0 i]
  rfl
theorem ref7 : val_main_v12 (F := Ideal) y0 y3 = T7 y0 y1 y2 y3 := by
  funext i
  unfold T7
  rw [← ref_grad y0 i]
  rfl

/-! ## The claims -/

theorem frame_kernel : Cert.quiescent_AdamWIn := fun m ρ _ => Cert.AdamWIn.Gen.frame m ρ
theorem frame_ideal : Cert.quiescent_AdamWInIdeal := fun m ρ _ => Cert.AdamWInIdeal.Gen.frame m ρ
theorem frame_ref : Cert.quiescent_AdamWInRefIdeal := fun m ρ _ =>
  (θ_run Cert.AdamWInRefIdeal.defs _ _).mono (fun r h => ⟨fun c => (h c).2.2.2.2, sem_eq_zero_of_no_sems (by decide) r.2⟩)
    (Cert.AdamWInRefIdeal.Value.run m ρ)
theorem algebraic : Cert.algebraic_AdamWInIdeal_AdamWInRefIdeal := by
  intro m ρ m' ρ' _ hag
  refine ⟨R4 m, R5 m, R6 m, R7 m, ?_, ?_⟩
  · exact (θ_run Cert.AdamWInIdeal.defs _ _).mono (fun _ h c => ⟨(h c).1.trans (final4 m c), (h c).2.1.trans (final5 m c),
      (h c).2.2.1.trans (final6 m c), (h c).2.2.2.1.trans (final7 m c), (h c).2.2.2.2⟩) (Cert.AdamWInIdeal.Value.run_blocks m ρ)
  · refine (θ_run Cert.AdamWInRefIdeal.defs _ _).mono (fun _ h c => ⟨(h c).1.trans ?_, (h c).2.1.trans ?_, (h c).2.2.1.trans ?_,
      (h c).2.2.2.1.trans ?_, (h c).2.2.2.2⟩) (Cert.AdamWInRefIdeal.Value.run m' ρ')
    · rw [(hag c).1]
      exact (val_main_v1_eq (F := Ideal) _).trans (ref4 (X0 m c) (X1 m c) (X2 m c) (X3 m c))
    · rw [(hag c).1, (hag c).2.1, (hag c).2.2.1, (hag c).2.2.2]
      exact (val_main_v25_eq (F := Ideal) _ _ _ _).trans (ref5 (X0 m c) (X1 m c) (X2 m c) (X3 m c))
    · rw [(hag c).1, (hag c).2.2.1]
      exact (val_main_v6_eq (F := Ideal) _ _).trans (ref6 (X0 m c) (X1 m c) (X2 m c) (X3 m c))
    · rw [(hag c).1, (hag c).2.2.2]
      exact (val_main_v12_eq (F := Ideal) _ _).trans (ref7 (X0 m c) (X1 m c) (X2 m c) (X3 m c))

end Cert.Proof.AdamWIn
-- ==== Proof.AdamW.AdamWOut.lean ====
/- The values of `AdamWOut`: the four arrays, block by block, and the claims. -/
module

public import proofs.«01_k».proof.Defs
public import proofs.«01_k».proof.Proof.AdamW.Step
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.Gen.AdamWOutRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.AdamWOut

open Cert.AdamWOutIdeal Cert.AdamWOutIdeal.Gen
open Cert.Proof.AdamW (hz ix2_eta)
open Idealize.SL.Sem Idealize.ShloMosaic Idealize.ShloMosaic.TcCoe

/-! ## The four arrays -/

/-- The sum of the gradient's pieces. -/
def grad (x0 : S4x256x1024.Idx → EReal) (p : Fin 256) (q : Fin 1024) : EReal := x0 (ix3 (0 : Fin 4) p q) + x0 (ix3 (1 : Fin 4) p q) + x0 (ix3 (2 : Fin 4) p q) + x0 (ix3 (3 : Fin 4) p q)
def T4 (x0 : S4x256x1024.Idx → EReal) (x1 x2 x3 : S256x1024.Idx → EReal) : S256x1024.Idx → EReal := fun i => grad x0 (i 0) (i 1)
def T5 (x0 : S4x256x1024.Idx → EReal) (x1 x2 x3 : S256x1024.Idx → EReal) : S256x1024.Idx → EReal := fun i => AdamW.delta (grad x0 (i 0) (i 1)) (x1 i) (x2 i) (x3 i)
def T6 (x0 : S4x256x1024.Idx → EReal) (x1 x2 x3 : S256x1024.Idx → EReal) : S256x1024.Idx → EReal := fun i => AdamW.m2 (grad x0 (i 0) (i 1)) (x2 i)
def T7 (x0 : S4x256x1024.Idx → EReal) (x1 x2 x3 : S256x1024.Idx → EReal) : S256x1024.Idx → EReal := fun i => AdamW.v2 (grad x0 (i 0) (i 1)) (x3 i)

/-! ## The kernel -/

variable (m : (ℓ : Loc nD τ sig) → Buf (Elt Ideal) ℓ) (ρ : Dev nD → PrngReg) (c : Dev nD)

abbrev X0 : S4x256x1024.Idx → EReal := m ((c : Thread nD τ).loc main_arg0)
abbrev X1 : S256x1024.Idx → EReal := m ((c : Thread nD τ).loc main_arg1)
abbrev X2 : S256x1024.Idx → EReal := m ((c : Thread nD τ).loc main_arg2)
abbrev X3 : S256x1024.Idx → EReal := m ((c : Thread nD τ).loc main_arg3)

def gradB (x0 : S4x128x1024.Idx → EReal) (r : Fin 128) (s : Fin 1024) : EReal := x0 (ix3 (0 : Fin 4) r s) + x0 (ix3 (1 : Fin 4) r s) + x0 (ix3 (2 : Fin 4) r s) + x0 (ix3 (3 : Fin 4) r s)
theorem pay_at (a0 a1 a2 a3 : Vec Ideal S1x128x1024 .bf16) (r : Fin 128) (s : Fin 1024) : k0_pay2 (F := Ideal) a0 a1 a2 a3 (ix2 r s) =
    a0 (ix3 (0 : Fin 1) r s) + a1 (ix3 (0 : Fin 1) r s) + a2 (ix3 (0 : Fin 1) r s) + a3 (ix3 (0 : Fin 1) r s) := by
  pointwise [k0_pay2]
theorem ld0 (x0 : Vec Ideal S4x128x1024 .bf16) (r : Fin 128) (s : Fin 1024) : View.ld x0 r0_0 (ix3 (0 : Fin 1) r s) = x0 (ix3 (0 : Fin 4) r s) :=
  congrArg x0 (AdamW.ext3 rfl (AdamW.at0 _) (AdamW.at0 _))
theorem ld1 (x0 : Vec Ideal S4x128x1024 .bf16) (r : Fin 128) (s : Fin 1024) : View.ld x0 r0_1 (ix3 (0 : Fin 1) r s) = x0 (ix3 (1 : Fin 4) r s) :=
  congrArg x0 (AdamW.ext3 rfl (AdamW.at0 _) (AdamW.at0 _))
theorem ld2 (x0 : Vec Ideal S4x128x1024 .bf16) (r : Fin 128) (s : Fin 1024) : View.ld x0 r0_2 (ix3 (0 : Fin 1) r s) = x0 (ix3 (2 : Fin 4) r s) :=
  congrArg x0 (AdamW.ext3 rfl (AdamW.at0 _) (AdamW.at0 _))
theorem ld3 (x0 : Vec Ideal S4x128x1024 .bf16) (r : Fin 128) (s : Fin 1024) : View.ld x0 r0_3 (ix3 (0 : Fin 1) r s) = x0 (ix3 (3 : Fin 4) r s) :=
  congrArg x0 (AdamW.ext3 rfl (AdamW.at0 _) (AdamW.at0 _))
theorem grad_at (x0 : Vec Ideal S4x128x1024 .bf16) (x1 x2 x3 : Vec Ideal S128x1024 .f32) (r : Fin 128) (s : Fin 1024) : k0_pay2 (F := Ideal) (View.ld x0 r0_0) (View.ld x0 r0_1) (View.ld x0 r0_2) (View.ld x0 r0_3) (ix2 r s) = gradB x0 r s := by
  refine (pay_at _ _ _ _ r s).trans ?_
  rw [ld0, ld1, ld2, ld3]
  rfl
theorem out4_at (x0 : Vec Ideal S4x128x1024 .bf16) (x1 x2 x3 : Vec Ideal S128x1024 .f32) (r : Fin 128) (s : Fin 1024) : out0_4 x0 x1 x2 x3 (ix2 r s) = gradB x0 r s := by
  unfold out0_4
  rw [View.canon_unit_zero hz]
  rw [← grad_at x0 x1 x2 x3 r s]
theorem out5_at (x0 : Vec Ideal S4x128x1024 .bf16) (x1 x2 x3 : Vec Ideal S128x1024 .f32) (r : Fin 128) (s : Fin 1024) : out0_5 x0 x1 x2 x3 (ix2 r s) = AdamW.delta (gradB x0 r s) (x1 (ix2 r s)) (x2 (ix2 r s)) (x3 (ix2 r s)) := by
  unfold out0_5
  rw [View.canon_unit_zero hz]
  simp only [View.ld_unit_zero (S := S128x1024) hz]
  rw [← grad_at x0 x1 x2 x3 r s]
  rfl
theorem out6_at (x0 : Vec Ideal S4x128x1024 .bf16) (x1 x2 x3 : Vec Ideal S128x1024 .f32) (r : Fin 128) (s : Fin 1024) : out0_6 x0 x1 x2 x3 (ix2 r s) = AdamW.m2 (gradB x0 r s) (x2 (ix2 r s)) := by
  unfold out0_6
  rw [View.canon_unit_zero hz]
  simp only [View.ld_unit_zero (S := S128x1024) hz]
  rw [← grad_at x0 x1 x2 x3 r s]
  rfl
theorem out7_at (x0 : Vec Ideal S4x128x1024 .bf16) (x1 x2 x3 : Vec Ideal S128x1024 .f32) (r : Fin 128) (s : Fin 1024) : out0_7 x0 x1 x2 x3 (ix2 r s) = AdamW.v2 (gradB x0 r s) (x3 (ix2 r s)) := by
  unfold out0_7
  rw [View.canon_unit_zero hz]
  simp only [View.ld_unit_zero (S := S128x1024) hz]
  rw [← grad_at x0 x1 x2 x3 r s]
  rfl

theorem lt_N (t : Fin cfg0.N) : t.val < 2 := by have := t.isLt; have hN : cfg0.N = 2 := N_0; omega
def rowI (t : Fin cfg0.N) (r : Fin 128) : Fin 256 := ⟨128 * t.val + r.val, by have := lt_N t; omega⟩
theorem idx0 : ∀ t : Fin cfg0.N, win0_0.index t 0 = 0 ∧ win0_0.index t 1 = t.val ∧ win0_0.index t 2 = 0 := by decide +kernel
theorem iblk0_at (t : Fin cfg0.N) (k : Fin 4) (r : Fin 128) (s : Fin 1024) : iblk m c 0 t (ix3 k r s) = X0 m c (ix3 k (rowI t r) s) := by
  refine Eq.trans ?_ (congrFun (V_main_arg0 m c) _)
  unfold iblk
  rw [View.read_apply]
  exact congrArg (V m c main_arg0) (AdamW.ext3 (AdamW.col (idx0 t).1) (AdamW.row (idx0 t).2.1) (AdamW.col (idx0 t).2.2))
theorem step_of (i : S256x1024.Idx) : ∃ t : Fin cfg0.N, t.val = (i 0).val / 128 := by
  have l0 : (i 0).val < 256 := (i 0).isLt
  have hN : cfg0.N = 2 := N_0
  exact ⟨⟨(i 0).val / 128, by omega⟩, rfl⟩
theorem grad_blk (t : Fin cfg0.N) (r : Fin 128) (s : Fin 1024) : gradB (iblk m c 0 t) r s = grad (X0 m c) (rowI t r) s := by
  unfold gradB grad
  rw [iblk0_at m c t 0 r s, iblk0_at m c t 1 r s, iblk0_at m c t 2 r s, iblk0_at m c t 3 r s]
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem iblk1_at (t : Fin cfg0.N) (r : Fin 128) (s : Fin 1024) : iblk m c 1 t (ix2 r s) = X1 m c (ix2 (rowI t r) s) := by
  refine Eq.trans ?_ (congrFun (V_main_arg1 m c) _)
  unfold iblk
  rw [View.read_apply]
  exact congrArg (V m c main_arg1) (AdamW.ext2 (AdamW.row (idx1 t).1) (AdamW.col (idx1 t).2))
theorem iblk2_at (t : Fin cfg0.N) (r : Fin 128) (s : Fin 1024) : iblk m c 2 t (ix2 r s) = X2 m c (ix2 (rowI t r) s) := by
  refine Eq.trans ?_ (congrFun (V_main_arg2 m c) _)
  unfold iblk
  rw [View.read_apply]
  exact congrArg (V m c main_arg2) (AdamW.ext2 (AdamW.row (idx2 t).1) (AdamW.col (idx2 t).2))
theorem iblk3_at (t : Fin cfg0.N) (r : Fin 128) (s : Fin 1024) : iblk m c 3 t (ix2 r s) = X3 m c (ix2 (rowI t r) s) := by
  refine Eq.trans ?_ (congrFun (V_main_arg3 m c) _)
  unfold iblk
  rw [View.read_apply]
  exact congrArg (V m c main_arg3) (AdamW.ext2 (AdamW.row (idx3 t).1) (AdamW.col (idx3 t).2))

abbrev R4 : S256x1024.Idx → EReal := T4 (X0 m c) (X1 m c) (X2 m c) (X3 m c)
theorem flushed4 (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  obtain ⟨r, s, rfl⟩ : ∃ (r : Fin 128) (s : Fin 1024), j = ix2 r s := ⟨_, _, ix2_eta (a := 128) (b := 1024) j⟩
  have hr : ((cfg0.win 4).blk t).view.read (Elt Ideal) (R4 m c) (ix2 r s) = R4 m c (ix2 (rowI t r) s) := by
    rw [View.read_apply]
    exact congrArg (R4 m c) (AdamW.ext2 (AdamW.row (idx4 t).1) (AdamW.col (idx4 t).2))
  refine Eq.trans ?_ hr.symm
  refine (out4_at _ _ _ _ r s).trans ?_
  rw [grad_blk]
  rfl
theorem cover4 (i : S256x1024.Idx) : ∃ t : Fin cfg0.N, (cfg0.win 4).flush t = true ∧ i ∈ ((cfg0.win 4).blk t).view.set := by
  obtain ⟨t, ht⟩ := step_of i
  refine ⟨t, flush0_4 t, ?_⟩
  show i ∈ ((View.whole main_v0_0).slice (win0_4.rect t)).set
  rw [View.set_slice_whole, Rect.mem_set_unit]
  exact Fin.forall_fin_two.2 ⟨AdamW.rows (idx4 t).1 ht (by decide), AdamW.cols (idx4 t).2 (i 1).isLt⟩
theorem final4 : (dats m 0 c).arrAt 4 cfg0.N = R4 m c := (dats m 0 c).arrAt_eq_of_cover 4 (R4 m c) (fun t _ => flushed4 m c t) cover4

abbrev R5 : S256x1024.Idx → EReal := T5 (X0 m c) (X1 m c) (X2 m c) (X3 m c)
theorem flushed5 (t : Fin cfg0.N) : (dats m 0 c).flushed 5 t = ((cfg0.win 5).blk t).view.read (Elt Ideal) (R5 m c) := by
  show (cfg0.win 5).cut (grid0.coords t) ((dats m 0 c).after 5 t) = _
  rw [after0_5]
  funext j
  obtain ⟨r, s, rfl⟩ : ∃ (r : Fin 128) (s : Fin 1024), j = ix2 r s := ⟨_, _, ix2_eta (a := 128) (b := 1024) j⟩
  have hr : ((cfg0.win 5).blk t).view.read (Elt Ideal) (R5 m c) (ix2 r s) = R5 m c (ix2 (rowI t r) s) := by
    rw [View.read_apply]
    exact congrArg (R5 m c) (AdamW.ext2 (AdamW.row (idx5 t).1) (AdamW.col (idx5 t).2))
  refine Eq.trans ?_ hr.symm
  refine (out5_at _ _ _ _ r s).trans ?_
  rw [grad_blk, iblk1_at, iblk2_at, iblk3_at]
  rfl
theorem cover5 (i : S256x1024.Idx) : ∃ t : Fin cfg0.N, (cfg0.win 5).flush t = true ∧ i ∈ ((cfg0.win 5).blk t).view.set := by
  obtain ⟨t, ht⟩ := step_of i
  refine ⟨t, flush0_5 t, ?_⟩
  show i ∈ ((View.whole main_v0_1).slice (win0_5.rect t)).set
  rw [View.set_slice_whole, Rect.mem_set_unit]
  exact Fin.forall_fin_two.2 ⟨AdamW.rows (idx5 t).1 ht (by decide), AdamW.cols (idx5 t).2 (i 1).isLt⟩
theorem final5 : (dats m 0 c).arrAt 5 cfg0.N = R5 m c := (dats m 0 c).arrAt_eq_of_cover 5 (R5 m c) (fun t _ => flushed5 m c t) cover5

abbrev R6 : S256x1024.Idx → EReal := T6 (X0 m c) (X1 m c) (X2 m c) (X3 m c)
theorem flushed6 (t : Fin cfg0.N) : (dats m 0 c).flushed 6 t = ((cfg0.win 6).blk t).view.read (Elt Ideal) (R6 m c) := by
  show (cfg0.win 6).cut (grid0.coords t) ((dats m 0 c).after 6 t) = _
  rw [after0_6]
  funext j
  obtain ⟨r, s, rfl⟩ : ∃ (r : Fin 128) (s : Fin 1024), j = ix2 r s := ⟨_, _, ix2_eta (a := 128) (b := 1024) j⟩
  have hr : ((cfg0.win 6).blk t).view.read (Elt Ideal) (R6 m c) (ix2 r s) = R6 m c (ix2 (rowI t r) s) := by
    rw [View.read_apply]
    exact congrArg (R6 m c) (AdamW.ext2 (AdamW.row (idx6 t).1) (AdamW.col (idx6 t).2))
  refine Eq.trans ?_ hr.symm
  refine (out6_at _ _ _ _ r s).trans ?_
  rw [grad_blk, iblk2_at]
  rfl
theorem cover6 (i : S256x1024.Idx) : ∃ t : Fin cfg0.N, (cfg0.win 6).flush t = true ∧ i ∈ ((cfg0.win 6).blk t).view.set := by
  obtain ⟨t, ht⟩ := step_of i
  refine ⟨t, flush0_6 t, ?_⟩
  show i ∈ ((View.whole main_v0_2).slice (win0_6.rect t)).set
  rw [View.set_slice_whole, Rect.mem_set_unit]
  exact Fin.forall_fin_two.2 ⟨AdamW.rows (idx6 t).1 ht (by decide), AdamW.cols (idx6 t).2 (i 1).isLt⟩
theorem final6 : (dats m 0 c).arrAt 6 cfg0.N = R6 m c := (dats m 0 c).arrAt_eq_of_cover 6 (R6 m c) (fun t _ => flushed6 m c t) cover6

abbrev R7 : S256x1024.Idx → EReal := T7 (X0 m c) (X1 m c) (X2 m c) (X3 m c)
theorem flushed7 (t : Fin cfg0.N) : (dats m 0 c).flushed 7 t = ((cfg0.win 7).blk t).view.read (Elt Ideal) (R7 m c) := by
  show (cfg0.win 7).cut (grid0.coords t) ((dats m 0 c).after 7 t) = _
  rw [after0_7]
  funext j
  obtain ⟨r, s, rfl⟩ : ∃ (r : Fin 128) (s : Fin 1024), j = ix2 r s := ⟨_, _, ix2_eta (a := 128) (b := 1024) j⟩
  have hr : ((cfg0.win 7).blk t).view.read (Elt Ideal) (R7 m c) (ix2 r s) = R7 m c (ix2 (rowI t r) s) := by
    rw [View.read_apply]
    exact congrArg (R7 m c) (AdamW.ext2 (AdamW.row (idx7 t).1) (AdamW.col (idx7 t).2))
  refine Eq.trans ?_ hr.symm
  refine (out7_at _ _ _ _ r s).trans ?_
  rw [grad_blk, iblk3_at]
  rfl
theorem cover7 (i : S256x1024.Idx) : ∃ t : Fin cfg0.N, (cfg0.win 7).flush t = true ∧ i ∈ ((cfg0.win 7).blk t).view.set := by
  obtain ⟨t, ht⟩ := step_of i
  refine ⟨t, flush0_7 t, ?_⟩
  show i ∈ ((View.whole main_v0_3).slice (win0_7.rect t)).set
  rw [View.set_slice_whole, Rect.mem_set_unit]
  exact Fin.forall_fin_two.2 ⟨AdamW.rows (idx7 t).1 ht (by decide), AdamW.cols (idx7 t).2 (i 1).isLt⟩
theorem final7 : (dats m 0 c).arrAt 7 cfg0.N = R7 m c := (dats m 0 c).arrAt_eq_of_cover 7 (R7 m c) (fun t _ => flushed7 m c t) cover7

/-! ## The reference -/

open Cert.AdamWOutRefIdeal.Read

variable (y0 : S4x256x1024.Idx → EReal) (y1 y2 y3 : S256x1024.Idx → EReal)

theorem ref_grad (i : S256x1024.Idx) : val_main_v1 (F := Ideal) y0 i = grad y0 (i 0) (i 1) := by
  rw [val_main_v1_apply, Fin.sum_univ_four]
  have z (j) : val_main_cst (F := Ideal) j = (0 : EReal) := Ideal.ofBits_zero .f32
  have e (k : Fin 4) : idx_main_v1 i k = ix3 k (i 0) (i 1) := by funext a; fin_cases a <;> rfl
  rw [z, zero_add, e 0, e 1, e 2, e 3]
  rfl
theorem ref4 : val_main_v1 (F := Ideal) y0 = T4 y0 y1 y2 y3 := by
  funext i
  exact ref_grad y0 i
theorem ref5 : val_main_v25 (F := Ideal) y0 y1 y2 y3 = T5 y0 y1 y2 y3 := by
  funext i
  unfold T5
  rw [← ref_grad y0 i]
  rfl
theorem ref6 : val_main_v6 (F := Ideal) y0 y2 = T6 y0 y1 y2 y3 := by
  funext i
  unfold T6
  rw [← ref_grad y0 i]
  rfl
theorem ref7 : val_main_v12 (F := Ideal) y0 y3 = T7 y0 y1 y2 y3 := by
  funext i
  unfold T7
  rw [← ref_grad y0 i]
  rfl

/-! ## The claims -/

theorem frame_kernel : Cert.quiescent_AdamWOut := fun m ρ _ => Cert.AdamWOut.Gen.frame m ρ
theorem frame_ideal : Cert.quiescent_AdamWOutIdeal := fun m ρ _ => Cert.AdamWOutIdeal.Gen.frame m ρ
theorem frame_ref : Cert.quiescent_AdamWOutRefIdeal := fun m ρ _ =>
  (θ_run Cert.AdamWOutRefIdeal.defs _ _).mono (fun r h => ⟨fun c => (h c).2.2.2.2, sem_eq_zero_of_no_sems (by decide) r.2⟩)
    (Cert.AdamWOutRefIdeal.Value.run m ρ)
theorem algebraic : Cert.algebraic_AdamWOutIdeal_AdamWOutRefIdeal := by
  intro m ρ m' ρ' _ hag
  refine ⟨R4 m, R5 m, R6 m, R7 m, ?_, ?_⟩
  · exact (θ_run Cert.AdamWOutIdeal.defs _ _).mono (fun _ h c => ⟨(h c).1.trans (final4 m c), (h c).2.1.trans (final5 m c),
      (h c).2.2.1.trans (final6 m c), (h c).2.2.2.1.trans (final7 m c), (h c).2.2.2.2⟩) (Cert.AdamWOutIdeal.Value.run_blocks m ρ)
  · refine (θ_run Cert.AdamWOutRefIdeal.defs _ _).mono (fun _ h c => ⟨(h c).1.trans ?_, (h c).2.1.trans ?_, (h c).2.2.1.trans ?_,
      (h c).2.2.2.1.trans ?_, (h c).2.2.2.2⟩) (Cert.AdamWOutRefIdeal.Value.run m' ρ')
    · rw [(hag c).1]
      exact (val_main_v1_eq (F := Ideal) _).trans (ref4 (X0 m c) (X1 m c) (X2 m c) (X3 m c))
    · rw [(hag c).1, (hag c).2.1, (hag c).2.2.1, (hag c).2.2.2]
      exact (val_main_v25_eq (F := Ideal) _ _ _ _).trans (ref5 (X0 m c) (X1 m c) (X2 m c) (X3 m c))
    · rw [(hag c).1, (hag c).2.2.1]
      exact (val_main_v6_eq (F := Ideal) _ _).trans (ref6 (X0 m c) (X1 m c) (X2 m c) (X3 m c))
    · rw [(hag c).1, (hag c).2.2.2]
      exact (val_main_v12_eq (F := Ideal) _ _).trans (ref7 (X0 m c) (X1 m c) (X2 m c) (X3 m c))

end Cert.Proof.AdamWOut
-- ==== Proof.AdamW.AdamWUp.lean ====
/- The values of `AdamWUp`: the four arrays, block by block, and the claims. -/
module

public import proofs.«01_k».proof.Defs
public import proofs.«01_k».proof.Proof.AdamW.Step
public import proofs.«01_k».proof.Proof.Gen.AdamWUp
public import proofs.«01_k».proof.Proof.Gen.AdamWUp.Frame
public import proofs.«01_k».proof.Proof.Gen.AdamWUpIdeal
public import proofs.«01_k».proof.Proof.Gen.AdamWUpIdeal.Value
public import proofs.«01_k».proof.Proof.Gen.AdamWUpRefIdeal
public import proofs.«01_k».proof.Proof.Gen.AdamWUpRefIdeal.Run
public import proofs.«01_k».proof.Proof.Gen.AdamWUpRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.AdamWUp

open Cert.AdamWUpIdeal Cert.AdamWUpIdeal.Gen
open Cert.Proof.AdamW (hz ix2_eta)
open Idealize.SL.Sem Idealize.ShloMosaic Idealize.ShloMosaic.TcCoe

/-! ## The four arrays -/

/-- The sum of the gradient's pieces. -/
def grad (x0 : S4x2048x704.Idx → EReal) (p : Fin 2048) (q : Fin 704) : EReal := x0 (ix3 (0 : Fin 4) p q) + x0 (ix3 (1 : Fin 4) p q) + x0 (ix3 (2 : Fin 4) p q) + x0 (ix3 (3 : Fin 4) p q)
def T4 (x0 : S4x2048x704.Idx → EReal) (x1 x2 x3 : S2048x704.Idx → EReal) : S2048x704.Idx → EReal := fun i => grad x0 (i 0) (i 1)
def T5 (x0 : S4x2048x704.Idx → EReal) (x1 x2 x3 : S2048x704.Idx → EReal) : S2048x704.Idx → EReal := fun i => AdamW.delta (grad x0 (i 0) (i 1)) (x1 i) (x2 i) (x3 i)
def T6 (x0 : S4x2048x704.Idx → EReal) (x1 x2 x3 : S2048x704.Idx → EReal) : S2048x704.Idx → EReal := fun i => AdamW.m2 (grad x0 (i 0) (i 1)) (x2 i)
def T7 (x0 : S4x2048x704.Idx → EReal) (x1 x2 x3 : S2048x704.Idx → EReal) : S2048x704.Idx → EReal := fun i => AdamW.v2 (grad x0 (i 0) (i 1)) (x3 i)

/-! ## The kernel -/

variable (m : (ℓ : Loc nD τ sig) → Buf (Elt Ideal) ℓ) (ρ : Dev nD → PrngReg) (c : Dev nD)

abbrev X0 : S4x2048x704.Idx → EReal := m ((c : Thread nD τ).loc main_arg0)
abbrev X1 : S2048x704.Idx → EReal := m ((c : Thread nD τ).loc main_arg1)
abbrev X2 : S2048x704.Idx → EReal := m ((c : Thread nD τ).loc main_arg2)
abbrev X3 : S2048x704.Idx → EReal := m ((c : Thread nD τ).loc main_arg3)

def gradB (x0 : S4x128x704.Idx → EReal) (r : Fin 128) (s : Fin 704) : EReal := x0 (ix3 (0 : Fin 4) r s) + x0 (ix3 (1 : Fin 4) r s) + x0 (ix3 (2 : Fin 4) r s) + x0 (ix3 (3 : Fin 4) r s)
theorem pay_at (a0 a1 a2 a3 : Vec Ideal S1x128x704 .bf16) (r : Fin 128) (s : Fin 704) : k0_pay2 (F := Ideal) a0 a1 a2 a3 (ix2 r s) =
    a0 (ix3 (0 : Fin 1) r s) + a1 (ix3 (0 : Fin 1) r s) + a2 (ix3 (0 : Fin 1) r s) + a3 (ix3 (0 : Fin 1) r s) := by
  pointwise [k0_pay2]
theorem ld0 (x0 : Vec Ideal S4x128x704 .bf16) (r : Fin 128) (s : Fin 704) : View.ld x0 r0_0 (ix3 (0 : Fin 1) r s) = x0 (ix3 (0 : Fin 4) r s) :=
  congrArg x0 (AdamW.ext3 rfl (AdamW.at0 _) (AdamW.at0 _))
theorem ld1 (x0 : Vec Ideal S4x128x704 .bf16) (r : Fin 128) (s : Fin 704) : View.ld x0 r0_1 (ix3 (0 : Fin 1) r s) = x0 (ix3 (1 : Fin 4) r s) :=
  congrArg x0 (AdamW.ext3 rfl (AdamW.at0 _) (AdamW.at0 _))
theorem ld2 (x0 : Vec Ideal S4x128x704 .bf16) (r : Fin 128) (s : Fin 704) : View.ld x0 r0_2 (ix3 (0 : Fin 1) r s) = x0 (ix3 (2 : Fin 4) r s) :=
  congrArg x0 (AdamW.ext3 rfl (AdamW.at0 _) (AdamW.at0 _))
theorem ld3 (x0 : Vec Ideal S4x128x704 .bf16) (r : Fin 128) (s : Fin 704) : View.ld x0 r0_3 (ix3 (0 : Fin 1) r s) = x0 (ix3 (3 : Fin 4) r s) :=
  congrArg x0 (AdamW.ext3 rfl (AdamW.at0 _) (AdamW.at0 _))
theorem grad_at (x0 : Vec Ideal S4x128x704 .bf16) (x1 x2 x3 : Vec Ideal S128x704 .f32) (r : Fin 128) (s : Fin 704) : k0_pay2 (F := Ideal) (View.ld x0 r0_0) (View.ld x0 r0_1) (View.ld x0 r0_2) (View.ld x0 r0_3) (ix2 r s) = gradB x0 r s := by
  refine (pay_at _ _ _ _ r s).trans ?_
  rw [ld0, ld1, ld2, ld3]
  rfl
theorem out4_at (x0 : Vec Ideal S4x128x704 .bf16) (x1 x2 x3 : Vec Ideal S128x704 .f32) (r : Fin 128) (s : Fin 704) : out0_4 x0 x1 x2 x3 (ix2 r s) = gradB x0 r s := by
  unfold out0_4
  rw [View.canon_unit_zero hz]
  rw [← grad_at x0 x1 x2 x3 r s]
theorem out5_at (x0 : Vec Ideal S4x128x704 .bf16) (x1 x2 x3 : Vec Ideal S128x704 .f32) (r : Fin 128) (s : Fin 704) : out0_5 x0 x1 x2 x3 (ix2 r s) = AdamW.delta (gradB x0 r s) (x1 (ix2 r s)) (x2 (ix2 r s)) (x3 (ix2 r s)) := by
  unfold out0_5
  rw [View.canon_unit_zero hz]
  simp only [View.ld_unit_zero (S := S128x704) hz]
  rw [← grad_at x0 x1 x2 x3 r s]
  rfl
theorem out6_at (x0 : Vec Ideal S4x128x704 .bf16) (x1 x2 x3 : Vec Ideal S128x704 .f32) (r : Fin 128) (s : Fin 704) : out0_6 x0 x1 x2 x3 (ix2 r s) = AdamW.m2 (gradB x0 r s) (x2 (ix2 r s)) := by
  unfold out0_6
  rw [View.canon_unit_zero hz]
  simp only [View.ld_unit_zero (S := S128x704) hz]
  rw [← grad_at x0 x1 x2 x3 r s]
  rfl
theorem out7_at (x0 : Vec Ideal S4x128x704 .bf16) (x1 x2 x3 : Vec Ideal S128x704 .f32) (r : Fin 128) (s : Fin 704) : out0_7 x0 x1 x2 x3 (ix2 r s) = AdamW.v2 (gradB x0 r s) (x3 (ix2 r s)) := by
  unfold out0_7
  rw [View.canon_unit_zero hz]
  simp only [View.ld_unit_zero (S := S128x704) hz]
  rw [← grad_at x0 x1 x2 x3 r s]
  rfl

theorem lt_N (t : Fin cfg0.N) : t.val < 16 := by have := t.isLt; have hN : cfg0.N = 16 := N_0; omega
def rowI (t : Fin cfg0.N) (r : Fin 128) : Fin 2048 := ⟨128 * t.val + r.val, by have := lt_N t; omega⟩
theorem idx0 : ∀ t : Fin cfg0.N, win0_0.index t 0 = 0 ∧ win0_0.index t 1 = t.val ∧ win0_0.index t 2 = 0 := by decide +kernel
theorem iblk0_at (t : Fin cfg0.N) (k : Fin 4) (r : Fin 128) (s : Fin 704) : iblk m c 0 t (ix3 k r s) = X0 m c (ix3 k (rowI t r) s) := by
  refine Eq.trans ?_ (congrFun (V_main_arg0 m c) _)
  unfold iblk
  rw [View.read_apply]
  exact congrArg (V m c main_arg0) (AdamW.ext3 (AdamW.col (idx0 t).1) (AdamW.row (idx0 t).2.1) (AdamW.col (idx0 t).2.2))
theorem step_of (i : S2048x704.Idx) : ∃ t : Fin cfg0.N, t.val = (i 0).val / 128 := by
  have l0 : (i 0).val < 2048 := (i 0).isLt
  have hN : cfg0.N = 16 := N_0
  exact ⟨⟨(i 0).val / 128, by omega⟩, rfl⟩
theorem grad_blk (t : Fin cfg0.N) (r : Fin 128) (s : Fin 704) : gradB (iblk m c 0 t) r s = grad (X0 m c) (rowI t r) s := by
  unfold gradB grad
  rw [iblk0_at m c t 0 r s, iblk0_at m c t 1 r s, iblk0_at m c t 2 r s, iblk0_at m c t 3 r s]
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem iblk1_at (t : Fin cfg0.N) (r : Fin 128) (s : Fin 704) : iblk m c 1 t (ix2 r s) = X1 m c (ix2 (rowI t r) s) := by
  refine Eq.trans ?_ (congrFun (V_main_arg1 m c) _)
  unfold iblk
  rw [View.read_apply]
  exact congrArg (V m c main_arg1) (AdamW.ext2 (AdamW.row (idx1 t).1) (AdamW.col (idx1 t).2))
theorem iblk2_at (t : Fin cfg0.N) (r : Fin 128) (s : Fin 704) : iblk m c 2 t (ix2 r s) = X2 m c (ix2 (rowI t r) s) := by
  refine Eq.trans ?_ (congrFun (V_main_arg2 m c) _)
  unfold iblk
  rw [View.read_apply]
  exact congrArg (V m c main_arg2) (AdamW.ext2 (AdamW.row (idx2 t).1) (AdamW.col (idx2 t).2))
theorem iblk3_at (t : Fin cfg0.N) (r : Fin 128) (s : Fin 704) : iblk m c 3 t (ix2 r s) = X3 m c (ix2 (rowI t r) s) := by
  refine Eq.trans ?_ (congrFun (V_main_arg3 m c) _)
  unfold iblk
  rw [View.read_apply]
  exact congrArg (V m c main_arg3) (AdamW.ext2 (AdamW.row (idx3 t).1) (AdamW.col (idx3 t).2))

abbrev R4 : S2048x704.Idx → EReal := T4 (X0 m c) (X1 m c) (X2 m c) (X3 m c)
theorem flushed4 (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  obtain ⟨r, s, rfl⟩ : ∃ (r : Fin 128) (s : Fin 704), j = ix2 r s := ⟨_, _, ix2_eta (a := 128) (b := 704) j⟩
  have hr : ((cfg0.win 4).blk t).view.read (Elt Ideal) (R4 m c) (ix2 r s) = R4 m c (ix2 (rowI t r) s) := by
    rw [View.read_apply]
    exact congrArg (R4 m c) (AdamW.ext2 (AdamW.row (idx4 t).1) (AdamW.col (idx4 t).2))
  refine Eq.trans ?_ hr.symm
  refine (out4_at _ _ _ _ r s).trans ?_
  rw [grad_blk]
  rfl
theorem cover4 (i : S2048x704.Idx) : ∃ t : Fin cfg0.N, (cfg0.win 4).flush t = true ∧ i ∈ ((cfg0.win 4).blk t).view.set := by
  obtain ⟨t, ht⟩ := step_of i
  refine ⟨t, flush0_4 t, ?_⟩
  show i ∈ ((View.whole main_v0_0).slice (win0_4.rect t)).set
  rw [View.set_slice_whole, Rect.mem_set_unit]
  exact Fin.forall_fin_two.2 ⟨AdamW.rows (idx4 t).1 ht (by decide), AdamW.cols (idx4 t).2 (i 1).isLt⟩
theorem final4 : (dats m 0 c).arrAt 4 cfg0.N = R4 m c := (dats m 0 c).arrAt_eq_of_cover 4 (R4 m c) (fun t _ => flushed4 m c t) cover4

abbrev R5 : S2048x704.Idx → EReal := T5 (X0 m c) (X1 m c) (X2 m c) (X3 m c)
theorem flushed5 (t : Fin cfg0.N) : (dats m 0 c).flushed 5 t = ((cfg0.win 5).blk t).view.read (Elt Ideal) (R5 m c) := by
  show (cfg0.win 5).cut (grid0.coords t) ((dats m 0 c).after 5 t) = _
  rw [after0_5]
  funext j
  obtain ⟨r, s, rfl⟩ : ∃ (r : Fin 128) (s : Fin 704), j = ix2 r s := ⟨_, _, ix2_eta (a := 128) (b := 704) j⟩
  have hr : ((cfg0.win 5).blk t).view.read (Elt Ideal) (R5 m c) (ix2 r s) = R5 m c (ix2 (rowI t r) s) := by
    rw [View.read_apply]
    exact congrArg (R5 m c) (AdamW.ext2 (AdamW.row (idx5 t).1) (AdamW.col (idx5 t).2))
  refine Eq.trans ?_ hr.symm
  refine (out5_at _ _ _ _ r s).trans ?_
  rw [grad_blk, iblk1_at, iblk2_at, iblk3_at]
  rfl
theorem cover5 (i : S2048x704.Idx) : ∃ t : Fin cfg0.N, (cfg0.win 5).flush t = true ∧ i ∈ ((cfg0.win 5).blk t).view.set := by
  obtain ⟨t, ht⟩ := step_of i
  refine ⟨t, flush0_5 t, ?_⟩
  show i ∈ ((View.whole main_v0_1).slice (win0_5.rect t)).set
  rw [View.set_slice_whole, Rect.mem_set_unit]
  exact Fin.forall_fin_two.2 ⟨AdamW.rows (idx5 t).1 ht (by decide), AdamW.cols (idx5 t).2 (i 1).isLt⟩
theorem final5 : (dats m 0 c).arrAt 5 cfg0.N = R5 m c := (dats m 0 c).arrAt_eq_of_cover 5 (R5 m c) (fun t _ => flushed5 m c t) cover5

abbrev R6 : S2048x704.Idx → EReal := T6 (X0 m c) (X1 m c) (X2 m c) (X3 m c)
theorem flushed6 (t : Fin cfg0.N) : (dats m 0 c).flushed 6 t = ((cfg0.win 6).blk t).view.read (Elt Ideal) (R6 m c) := by
  show (cfg0.win 6).cut (grid0.coords t) ((dats m 0 c).after 6 t) = _
  rw [after0_6]
  funext j
  obtain ⟨r, s, rfl⟩ : ∃ (r : Fin 128) (s : Fin 704), j = ix2 r s := ⟨_, _, ix2_eta (a := 128) (b := 704) j⟩
  have hr : ((cfg0.win 6).blk t).view.read (Elt Ideal) (R6 m c) (ix2 r s) = R6 m c (ix2 (rowI t r) s) := by
    rw [View.read_apply]
    exact congrArg (R6 m c) (AdamW.ext2 (AdamW.row (idx6 t).1) (AdamW.col (idx6 t).2))
  refine Eq.trans ?_ hr.symm
  refine (out6_at _ _ _ _ r s).trans ?_
  rw [grad_blk, iblk2_at]
  rfl
theorem cover6 (i : S2048x704.Idx) : ∃ t : Fin cfg0.N, (cfg0.win 6).flush t = true ∧ i ∈ ((cfg0.win 6).blk t).view.set := by
  obtain ⟨t, ht⟩ := step_of i
  refine ⟨t, flush0_6 t, ?_⟩
  show i ∈ ((View.whole main_v0_2).slice (win0_6.rect t)).set
  rw [View.set_slice_whole, Rect.mem_set_unit]
  exact Fin.forall_fin_two.2 ⟨AdamW.rows (idx6 t).1 ht (by decide), AdamW.cols (idx6 t).2 (i 1).isLt⟩
theorem final6 : (dats m 0 c).arrAt 6 cfg0.N = R6 m c := (dats m 0 c).arrAt_eq_of_cover 6 (R6 m c) (fun t _ => flushed6 m c t) cover6

abbrev R7 : S2048x704.Idx → EReal := T7 (X0 m c) (X1 m c) (X2 m c) (X3 m c)
theorem flushed7 (t : Fin cfg0.N) : (dats m 0 c).flushed 7 t = ((cfg0.win 7).blk t).view.read (Elt Ideal) (R7 m c) := by
  show (cfg0.win 7).cut (grid0.coords t) ((dats m 0 c).after 7 t) = _
  rw [after0_7]
  funext j
  obtain ⟨r, s, rfl⟩ : ∃ (r : Fin 128) (s : Fin 704), j = ix2 r s := ⟨_, _, ix2_eta (a := 128) (b := 704) j⟩
  have hr : ((cfg0.win 7).blk t).view.read (Elt Ideal) (R7 m c) (ix2 r s) = R7 m c (ix2 (rowI t r) s) := by
    rw [View.read_apply]
    exact congrArg (R7 m c) (AdamW.ext2 (AdamW.row (idx7 t).1) (AdamW.col (idx7 t).2))
  refine Eq.trans ?_ hr.symm
  refine (out7_at _ _ _ _ r s).trans ?_
  rw [grad_blk, iblk3_at]
  rfl
theorem cover7 (i : S2048x704.Idx) : ∃ t : Fin cfg0.N, (cfg0.win 7).flush t = true ∧ i ∈ ((cfg0.win 7).blk t).view.set := by
  obtain ⟨t, ht⟩ := step_of i
  refine ⟨t, flush0_7 t, ?_⟩
  show i ∈ ((View.whole main_v0_3).slice (win0_7.rect t)).set
  rw [View.set_slice_whole, Rect.mem_set_unit]
  exact Fin.forall_fin_two.2 ⟨AdamW.rows (idx7 t).1 ht (by decide), AdamW.cols (idx7 t).2 (i 1).isLt⟩
theorem final7 : (dats m 0 c).arrAt 7 cfg0.N = R7 m c := (dats m 0 c).arrAt_eq_of_cover 7 (R7 m c) (fun t _ => flushed7 m c t) cover7

/-! ## The reference -/

open Cert.AdamWUpRefIdeal.Read

variable (y0 : S4x2048x704.Idx → EReal) (y1 y2 y3 : S2048x704.Idx → EReal)

theorem ref_grad (i : S2048x704.Idx) : val_main_v1 (F := Ideal) y0 i = grad y0 (i 0) (i 1) := by
  rw [val_main_v1_apply, Fin.sum_univ_four]
  have z (j) : val_main_cst (F := Ideal) j = (0 : EReal) := Ideal.ofBits_zero .f32
  have e (k : Fin 4) : idx_main_v1 i k = ix3 k (i 0) (i 1) := by funext a; fin_cases a <;> rfl
  rw [z, zero_add, e 0, e 1, e 2, e 3]
  rfl
theorem ref4 : val_main_v1 (F := Ideal) y0 = T4 y0 y1 y2 y3 := by
  funext i
  exact ref_grad y0 i
theorem ref5 : val_main_v25 (F := Ideal) y0 y1 y2 y3 = T5 y0 y1 y2 y3 := by
  funext i
  unfold T5
  rw [← ref_grad y0 i]
  rfl
theorem ref6 : val_main_v6 (F := Ideal) y0 y2 = T6 y0 y1 y2 y3 := by
  funext i
  unfold T6
  rw [← ref_grad y0 i]
  rfl
theorem ref7 : val_main_v12 (F := Ideal) y0 y3 = T7 y0 y1 y2 y3 := by
  funext i
  unfold T7
  rw [← ref_grad y0 i]
  rfl

/-! ## The claims -/

theorem frame_kernel : Cert.quiescent_AdamWUp := fun m ρ _ => Cert.AdamWUp.Gen.frame m ρ
theorem frame_ideal : Cert.quiescent_AdamWUpIdeal := fun m ρ _ => Cert.AdamWUpIdeal.Gen.frame m ρ
theorem frame_ref : Cert.quiescent_AdamWUpRefIdeal := fun m ρ _ =>
  (θ_run Cert.AdamWUpRefIdeal.defs _ _).mono (fun r h => ⟨fun c => (h c).2.2.2.2, sem_eq_zero_of_no_sems (by decide) r.2⟩)
    (Cert.AdamWUpRefIdeal.Value.run m ρ)
theorem algebraic : Cert.algebraic_AdamWUpIdeal_AdamWUpRefIdeal := by
  intro m ρ m' ρ' _ hag
  refine ⟨R4 m, R5 m, R6 m, R7 m, ?_, ?_⟩
  · exact (θ_run Cert.AdamWUpIdeal.defs _ _).mono (fun _ h c => ⟨(h c).1.trans (final4 m c), (h c).2.1.trans (final5 m c),
      (h c).2.2.1.trans (final6 m c), (h c).2.2.2.1.trans (final7 m c), (h c).2.2.2.2⟩) (Cert.AdamWUpIdeal.Value.run_blocks m ρ)
  · refine (θ_run Cert.AdamWUpRefIdeal.defs _ _).mono (fun _ h c => ⟨(h c).1.trans ?_, (h c).2.1.trans ?_, (h c).2.2.1.trans ?_,
      (h c).2.2.2.1.trans ?_, (h c).2.2.2.2⟩) (Cert.AdamWUpRefIdeal.Value.run m' ρ')
    · rw [(hag c).1]
      exact (val_main_v1_eq (F := Ideal) _).trans (ref4 (X0 m c) (X1 m c) (X2 m c) (X3 m c))
    · rw [(hag c).1, (hag c).2.1, (hag c).2.2.1, (hag c).2.2.2]
      exact (val_main_v25_eq (F := Ideal) _ _ _ _).trans (ref5 (X0 m c) (X1 m c) (X2 m c) (X3 m c))
    · rw [(hag c).1, (hag c).2.2.1]
      exact (val_main_v6_eq (F := Ideal) _ _).trans (ref6 (X0 m c) (X1 m c) (X2 m c) (X3 m c))
    · rw [(hag c).1, (hag c).2.2.2]
      exact (val_main_v12_eq (F := Ideal) _ _).trans (ref7 (X0 m c) (X1 m c) (X2 m c) (X3 m c))

end Cert.Proof.AdamWUp
-- ==== Proof.AdamW.AdamWDown.lean ====
/- The values of `AdamWDown`: the four arrays, block by block, and the claims. -/
module

public import proofs.«01_k».proof.Defs
public import proofs.«01_k».proof.Proof.AdamW.Step
public import proofs.«01_k».proof.Proof.Gen.AdamWDown
public import proofs.«01_k».proof.Proof.Gen.AdamWDown.Frame
public import proofs.«01_k».proof.Proof.Gen.AdamWDownIdeal
public import proofs.«01_k».proof.Proof.Gen.AdamWDownIdeal.Value
public import proofs.«01_k».proof.Proof.Gen.AdamWDownRefIdeal
public import proofs.«01_k».proof.Proof.Gen.AdamWDownRefIdeal.Run
public import proofs.«01_k».proof.Proof.Gen.AdamWDownRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.AdamWDown

open Cert.AdamWDownIdeal Cert.AdamWDownIdeal.Gen
open Cert.Proof.AdamW (hz ix2_eta)
open Idealize.SL.Sem Idealize.ShloMosaic Idealize.ShloMosaic.TcCoe

/-! ## The four arrays -/

/-- The sum of the gradient's pieces. -/
def grad (x0 : S4x704x1024.Idx → EReal) (p : Fin 704) (q : Fin 1024) : EReal := x0 (ix3 (0 : Fin 4) p q) + x0 (ix3 (1 : Fin 4) p q) + x0 (ix3 (2 : Fin 4) p q) + x0 (ix3 (3 : Fin 4) p q)
def T4 (x0 : S4x704x1024.Idx → EReal) (x1 x2 x3 : S704x1024.Idx → EReal) : S704x1024.Idx → EReal := fun i => grad x0 (i 0) (i 1)
def T5 (x0 : S4x704x1024.Idx → EReal) (x1 x2 x3 : S704x1024.Idx → EReal) : S704x1024.Idx → EReal := fun i => AdamW.delta (grad x0 (i 0) (i 1)) (x1 i) (x2 i) (x3 i)
def T6 (x0 : S4x704x1024.Idx → EReal) (x1 x2 x3 : S704x1024.Idx → EReal) : S704x1024.Idx → EReal := fun i => AdamW.m2 (grad x0 (i 0) (i 1)) (x2 i)
def T7 (x0 : S4x704x1024.Idx → EReal) (x1 x2 x3 : S704x1024.Idx → EReal) : S704x1024.Idx → EReal := fun i => AdamW.v2 (grad x0 (i 0) (i 1)) (x3 i)

/-! ## The kernel -/

variable (m : (ℓ : Loc nD τ sig) → Buf (Elt Ideal) ℓ) (ρ : Dev nD → PrngReg) (c : Dev nD)

abbrev X0 : S4x704x1024.Idx → EReal := m ((c : Thread nD τ).loc main_arg0)
abbrev X1 : S704x1024.Idx → EReal := m ((c : Thread nD τ).loc main_arg1)
abbrev X2 : S704x1024.Idx → EReal := m ((c : Thread nD τ).loc main_arg2)
abbrev X3 : S704x1024.Idx → EReal := m ((c : Thread nD τ).loc main_arg3)

def gradB (x0 : S4x64x1024.Idx → EReal) (r : Fin 64) (s : Fin 1024) : EReal := x0 (ix3 (0 : Fin 4) r s) + x0 (ix3 (1 : Fin 4) r s) + x0 (ix3 (2 : Fin 4) r s) + x0 (ix3 (3 : Fin 4) r s)
theorem pay_at (a0 a1 a2 a3 : Vec Ideal S1x64x1024 .bf16) (r : Fin 64) (s : Fin 1024) : k0_pay2 (F := Ideal) a0 a1 a2 a3 (ix2 r s) =
    a0 (ix3 (0 : Fin 1) r s) + a1 (ix3 (0 : Fin 1) r s) + a2 (ix3 (0 : Fin 1) r s) + a3 (ix3 (0 : Fin 1) r s) := by
  pointwise [k0_pay2]
theorem ld0 (x0 : Vec Ideal S4x64x1024 .bf16) (r : Fin 64) (s : Fin 1024) : View.ld x0 r0_0 (ix3 (0 : Fin 1) r s) = x0 (ix3 (0 : Fin 4) r s) :=
  congrArg x0 (AdamW.ext3 rfl (AdamW.at0 _) (AdamW.at0 _))
theorem ld1 (x0 : Vec Ideal S4x64x1024 .bf16) (r : Fin 64) (s : Fin 1024) : View.ld x0 r0_1 (ix3 (0 : Fin 1) r s) = x0 (ix3 (1 : Fin 4) r s) :=
  congrArg x0 (AdamW.ext3 rfl (AdamW.at0 _) (AdamW.at0 _))
theorem ld2 (x0 : Vec Ideal S4x64x1024 .bf16) (r : Fin 64) (s : Fin 1024) : View.ld x0 r0_2 (ix3 (0 : Fin 1) r s) = x0 (ix3 (2 : Fin 4) r s) :=
  congrArg x0 (AdamW.ext3 rfl (AdamW.at0 _) (AdamW.at0 _))
theorem ld3 (x0 : Vec Ideal S4x64x1024 .bf16) (r : Fin 64) (s : Fin 1024) : View.ld x0 r0_3 (ix3 (0 : Fin 1) r s) = x0 (ix3 (3 : Fin 4) r s) :=
  congrArg x0 (AdamW.ext3 rfl (AdamW.at0 _) (AdamW.at0 _))
theorem grad_at (x0 : Vec Ideal S4x64x1024 .bf16) (x1 x2 x3 : Vec Ideal S64x1024 .f32) (r : Fin 64) (s : Fin 1024) : k0_pay2 (F := Ideal) (View.ld x0 r0_0) (View.ld x0 r0_1) (View.ld x0 r0_2) (View.ld x0 r0_3) (ix2 r s) = gradB x0 r s := by
  refine (pay_at _ _ _ _ r s).trans ?_
  rw [ld0, ld1, ld2, ld3]
  rfl
theorem out4_at (x0 : Vec Ideal S4x64x1024 .bf16) (x1 x2 x3 : Vec Ideal S64x1024 .f32) (r : Fin 64) (s : Fin 1024) : out0_4 x0 x1 x2 x3 (ix2 r s) = gradB x0 r s := by
  unfold out0_4
  rw [View.canon_unit_zero hz]
  rw [← grad_at x0 x1 x2 x3 r s]
theorem out5_at (x0 : Vec Ideal S4x64x1024 .bf16) (x1 x2 x3 : Vec Ideal S64x1024 .f32) (r : Fin 64) (s : Fin 1024) : out0_5 x0 x1 x2 x3 (ix2 r s) = AdamW.delta (gradB x0 r s) (x1 (ix2 r s)) (x2 (ix2 r s)) (x3 (ix2 r s)) := by
  unfold out0_5
  rw [View.canon_unit_zero hz]
  simp only [View.ld_unit_zero (S := S64x1024) hz]
  rw [← grad_at x0 x1 x2 x3 r s]
  rfl
theorem out6_at (x0 : Vec Ideal S4x64x1024 .bf16) (x1 x2 x3 : Vec Ideal S64x1024 .f32) (r : Fin 64) (s : Fin 1024) : out0_6 x0 x1 x2 x3 (ix2 r s) = AdamW.m2 (gradB x0 r s) (x2 (ix2 r s)) := by
  unfold out0_6
  rw [View.canon_unit_zero hz]
  simp only [View.ld_unit_zero (S := S64x1024) hz]
  rw [← grad_at x0 x1 x2 x3 r s]
  rfl
theorem out7_at (x0 : Vec Ideal S4x64x1024 .bf16) (x1 x2 x3 : Vec Ideal S64x1024 .f32) (r : Fin 64) (s : Fin 1024) : out0_7 x0 x1 x2 x3 (ix2 r s) = AdamW.v2 (gradB x0 r s) (x3 (ix2 r s)) := by
  unfold out0_7
  rw [View.canon_unit_zero hz]
  simp only [View.ld_unit_zero (S := S64x1024) hz]
  rw [← grad_at x0 x1 x2 x3 r s]
  rfl

theorem lt_N (t : Fin cfg0.N) : t.val < 11 := by have := t.isLt; have hN : cfg0.N = 11 := N_0; omega
def rowI (t : Fin cfg0.N) (r : Fin 64) : Fin 704 := ⟨64 * t.val + r.val, by have := lt_N t; omega⟩
theorem idx0 : ∀ t : Fin cfg0.N, win0_0.index t 0 = 0 ∧ win0_0.index t 1 = t.val ∧ win0_0.index t 2 = 0 := by decide +kernel
theorem iblk0_at (t : Fin cfg0.N) (k : Fin 4) (r : Fin 64) (s : Fin 1024) : iblk m c 0 t (ix3 k r s) = X0 m c (ix3 k (rowI t r) s) := by
  refine Eq.trans ?_ (congrFun (V_main_arg0 m c) _)
  unfold iblk
  rw [View.read_apply]
  exact congrArg (V m c main_arg0) (AdamW.ext3 (AdamW.col (idx0 t).1) (AdamW.row (idx0 t).2.1) (AdamW.col (idx0 t).2.2))
theorem step_of (i : S704x1024.Idx) : ∃ t : Fin cfg0.N, t.val = (i 0).val / 64 := by
  have l0 : (i 0).val < 704 := (i 0).isLt
  have hN : cfg0.N = 11 := N_0
  exact ⟨⟨(i 0).val / 64, by omega⟩, rfl⟩
theorem grad_blk (t : Fin cfg0.N) (r : Fin 64) (s : Fin 1024) : gradB (iblk m c 0 t) r s = grad (X0 m c) (rowI t r) s := by
  unfold gradB grad
  rw [iblk0_at m c t 0 r s, iblk0_at m c t 1 r s, iblk0_at m c t 2 r s, iblk0_at m c t 3 r s]
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem iblk1_at (t : Fin cfg0.N) (r : Fin 64) (s : Fin 1024) : iblk m c 1 t (ix2 r s) = X1 m c (ix2 (rowI t r) s) := by
  refine Eq.trans ?_ (congrFun (V_main_arg1 m c) _)
  unfold iblk
  rw [View.read_apply]
  exact congrArg (V m c main_arg1) (AdamW.ext2 (AdamW.row (idx1 t).1) (AdamW.col (idx1 t).2))
theorem iblk2_at (t : Fin cfg0.N) (r : Fin 64) (s : Fin 1024) : iblk m c 2 t (ix2 r s) = X2 m c (ix2 (rowI t r) s) := by
  refine Eq.trans ?_ (congrFun (V_main_arg2 m c) _)
  unfold iblk
  rw [View.read_apply]
  exact congrArg (V m c main_arg2) (AdamW.ext2 (AdamW.row (idx2 t).1) (AdamW.col (idx2 t).2))
theorem iblk3_at (t : Fin cfg0.N) (r : Fin 64) (s : Fin 1024) : iblk m c 3 t (ix2 r s) = X3 m c (ix2 (rowI t r) s) := by
  refine Eq.trans ?_ (congrFun (V_main_arg3 m c) _)
  unfold iblk
  rw [View.read_apply]
  exact congrArg (V m c main_arg3) (AdamW.ext2 (AdamW.row (idx3 t).1) (AdamW.col (idx3 t).2))

abbrev R4 : S704x1024.Idx → EReal := T4 (X0 m c) (X1 m c) (X2 m c) (X3 m c)
theorem flushed4 (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  obtain ⟨r, s, rfl⟩ : ∃ (r : Fin 64) (s : Fin 1024), j = ix2 r s := ⟨_, _, ix2_eta (a := 64) (b := 1024) j⟩
  have hr : ((cfg0.win 4).blk t).view.read (Elt Ideal) (R4 m c) (ix2 r s) = R4 m c (ix2 (rowI t r) s) := by
    rw [View.read_apply]
    exact congrArg (R4 m c) (AdamW.ext2 (AdamW.row (idx4 t).1) (AdamW.col (idx4 t).2))
  refine Eq.trans ?_ hr.symm
  refine (out4_at _ _ _ _ r s).trans ?_
  rw [grad_blk]
  rfl
theorem cover4 (i : S704x1024.Idx) : ∃ t : Fin cfg0.N, (cfg0.win 4).flush t = true ∧ i ∈ ((cfg0.win 4).blk t).view.set := by
  obtain ⟨t, ht⟩ := step_of i
  refine ⟨t, flush0_4 t, ?_⟩
  show i ∈ ((View.whole main_v0_0).slice (win0_4.rect t)).set
  rw [View.set_slice_whole, Rect.mem_set_unit]
  exact Fin.forall_fin_two.2 ⟨AdamW.rows (idx4 t).1 ht (by decide), AdamW.cols (idx4 t).2 (i 1).isLt⟩
theorem final4 : (dats m 0 c).arrAt 4 cfg0.N = R4 m c := (dats m 0 c).arrAt_eq_of_cover 4 (R4 m c) (fun t _ => flushed4 m c t) cover4

abbrev R5 : S704x1024.Idx → EReal := T5 (X0 m c) (X1 m c) (X2 m c) (X3 m c)
theorem flushed5 (t : Fin cfg0.N) : (dats m 0 c).flushed 5 t = ((cfg0.win 5).blk t).view.read (Elt Ideal) (R5 m c) := by
  show (cfg0.win 5).cut (grid0.coords t) ((dats m 0 c).after 5 t) = _
  rw [after0_5]
  funext j
  obtain ⟨r, s, rfl⟩ : ∃ (r : Fin 64) (s : Fin 1024), j = ix2 r s := ⟨_, _, ix2_eta (a := 64) (b := 1024) j⟩
  have hr : ((cfg0.win 5).blk t).view.read (Elt Ideal) (R5 m c) (ix2 r s) = R5 m c (ix2 (rowI t r) s) := by
    rw [View.read_apply]
    exact congrArg (R5 m c) (AdamW.ext2 (AdamW.row (idx5 t).1) (AdamW.col (idx5 t).2))
  refine Eq.trans ?_ hr.symm
  refine (out5_at _ _ _ _ r s).trans ?_
  rw [grad_blk, iblk1_at, iblk2_at, iblk3_at]
  rfl
theorem cover5 (i : S704x1024.Idx) : ∃ t : Fin cfg0.N, (cfg0.win 5).flush t = true ∧ i ∈ ((cfg0.win 5).blk t).view.set := by
  obtain ⟨t, ht⟩ := step_of i
  refine ⟨t, flush0_5 t, ?_⟩
  show i ∈ ((View.whole main_v0_1).slice (win0_5.rect t)).set
  rw [View.set_slice_whole, Rect.mem_set_unit]
  exact Fin.forall_fin_two.2 ⟨AdamW.rows (idx5 t).1 ht (by decide), AdamW.cols (idx5 t).2 (i 1).isLt⟩
theorem final5 : (dats m 0 c).arrAt 5 cfg0.N = R5 m c := (dats m 0 c).arrAt_eq_of_cover 5 (R5 m c) (fun t _ => flushed5 m c t) cover5

abbrev R6 : S704x1024.Idx → EReal := T6 (X0 m c) (X1 m c) (X2 m c) (X3 m c)
theorem flushed6 (t : Fin cfg0.N) : (dats m 0 c).flushed 6 t = ((cfg0.win 6).blk t).view.read (Elt Ideal) (R6 m c) := by
  show (cfg0.win 6).cut (grid0.coords t) ((dats m 0 c).after 6 t) = _
  rw [after0_6]
  funext j
  obtain ⟨r, s, rfl⟩ : ∃ (r : Fin 64) (s : Fin 1024), j = ix2 r s := ⟨_, _, ix2_eta (a := 64) (b := 1024) j⟩
  have hr : ((cfg0.win 6).blk t).view.read (Elt Ideal) (R6 m c) (ix2 r s) = R6 m c (ix2 (rowI t r) s) := by
    rw [View.read_apply]
    exact congrArg (R6 m c) (AdamW.ext2 (AdamW.row (idx6 t).1) (AdamW.col (idx6 t).2))
  refine Eq.trans ?_ hr.symm
  refine (out6_at _ _ _ _ r s).trans ?_
  rw [grad_blk, iblk2_at]
  rfl
theorem cover6 (i : S704x1024.Idx) : ∃ t : Fin cfg0.N, (cfg0.win 6).flush t = true ∧ i ∈ ((cfg0.win 6).blk t).view.set := by
  obtain ⟨t, ht⟩ := step_of i
  refine ⟨t, flush0_6 t, ?_⟩
  show i ∈ ((View.whole main_v0_2).slice (win0_6.rect t)).set
  rw [View.set_slice_whole, Rect.mem_set_unit]
  exact Fin.forall_fin_two.2 ⟨AdamW.rows (idx6 t).1 ht (by decide), AdamW.cols (idx6 t).2 (i 1).isLt⟩
theorem final6 : (dats m 0 c).arrAt 6 cfg0.N = R6 m c := (dats m 0 c).arrAt_eq_of_cover 6 (R6 m c) (fun t _ => flushed6 m c t) cover6

abbrev R7 : S704x1024.Idx → EReal := T7 (X0 m c) (X1 m c) (X2 m c) (X3 m c)
theorem flushed7 (t : Fin cfg0.N) : (dats m 0 c).flushed 7 t = ((cfg0.win 7).blk t).view.read (Elt Ideal) (R7 m c) := by
  show (cfg0.win 7).cut (grid0.coords t) ((dats m 0 c).after 7 t) = _
  rw [after0_7]
  funext j
  obtain ⟨r, s, rfl⟩ : ∃ (r : Fin 64) (s : Fin 1024), j = ix2 r s := ⟨_, _, ix2_eta (a := 64) (b := 1024) j⟩
  have hr : ((cfg0.win 7).blk t).view.read (Elt Ideal) (R7 m c) (ix2 r s) = R7 m c (ix2 (rowI t r) s) := by
    rw [View.read_apply]
    exact congrArg (R7 m c) (AdamW.ext2 (AdamW.row (idx7 t).1) (AdamW.col (idx7 t).2))
  refine Eq.trans ?_ hr.symm
  refine (out7_at _ _ _ _ r s).trans ?_
  rw [grad_blk, iblk3_at]
  rfl
theorem cover7 (i : S704x1024.Idx) : ∃ t : Fin cfg0.N, (cfg0.win 7).flush t = true ∧ i ∈ ((cfg0.win 7).blk t).view.set := by
  obtain ⟨t, ht⟩ := step_of i
  refine ⟨t, flush0_7 t, ?_⟩
  show i ∈ ((View.whole main_v0_3).slice (win0_7.rect t)).set
  rw [View.set_slice_whole, Rect.mem_set_unit]
  exact Fin.forall_fin_two.2 ⟨AdamW.rows (idx7 t).1 ht (by decide), AdamW.cols (idx7 t).2 (i 1).isLt⟩
theorem final7 : (dats m 0 c).arrAt 7 cfg0.N = R7 m c := (dats m 0 c).arrAt_eq_of_cover 7 (R7 m c) (fun t _ => flushed7 m c t) cover7

/-! ## The reference -/

open Cert.AdamWDownRefIdeal.Read

variable (y0 : S4x704x1024.Idx → EReal) (y1 y2 y3 : S704x1024.Idx → EReal)

theorem ref_grad (i : S704x1024.Idx) : val_main_v1 (F := Ideal) y0 i = grad y0 (i 0) (i 1) := by
  rw [val_main_v1_apply, Fin.sum_univ_four]
  have z (j) : val_main_cst (F := Ideal) j = (0 : EReal) := Ideal.ofBits_zero .f32
  have e (k : Fin 4) : idx_main_v1 i k = ix3 k (i 0) (i 1) := by funext a; fin_cases a <;> rfl
  rw [z, zero_add, e 0, e 1, e 2, e 3]
  rfl
theorem ref4 : val_main_v1 (F := Ideal) y0 = T4 y0 y1 y2 y3 := by
  funext i
  exact ref_grad y0 i
theorem ref5 : val_main_v25 (F := Ideal) y0 y1 y2 y3 = T5 y0 y1 y2 y3 := by
  funext i
  unfold T5
  rw [← ref_grad y0 i]
  rfl
theorem ref6 : val_main_v6 (F := Ideal) y0 y2 = T6 y0 y1 y2 y3 := by
  funext i
  unfold T6
  rw [← ref_grad y0 i]
  rfl
theorem ref7 : val_main_v12 (F := Ideal) y0 y3 = T7 y0 y1 y2 y3 := by
  funext i
  unfold T7
  rw [← ref_grad y0 i]
  rfl

/-! ## The claims -/

theorem frame_kernel : Cert.quiescent_AdamWDown := fun m ρ _ => Cert.AdamWDown.Gen.frame m ρ
theorem frame_ideal : Cert.quiescent_AdamWDownIdeal := fun m ρ _ => Cert.AdamWDownIdeal.Gen.frame m ρ
theorem frame_ref : Cert.quiescent_AdamWDownRefIdeal := fun m ρ _ =>
  (θ_run Cert.AdamWDownRefIdeal.defs _ _).mono (fun r h => ⟨fun c => (h c).2.2.2.2, sem_eq_zero_of_no_sems (by decide) r.2⟩)
    (Cert.AdamWDownRefIdeal.Value.run m ρ)
theorem algebraic : Cert.algebraic_AdamWDownIdeal_AdamWDownRefIdeal := by
  intro m ρ m' ρ' _ hag
  refine ⟨R4 m, R5 m, R6 m, R7 m, ?_, ?_⟩
  · exact (θ_run Cert.AdamWDownIdeal.defs _ _).mono (fun _ h c => ⟨(h c).1.trans (final4 m c), (h c).2.1.trans (final5 m c),
      (h c).2.2.1.trans (final6 m c), (h c).2.2.2.1.trans (final7 m c), (h c).2.2.2.2⟩) (Cert.AdamWDownIdeal.Value.run_blocks m ρ)
  · refine (θ_run Cert.AdamWDownRefIdeal.defs _ _).mono (fun _ h c => ⟨(h c).1.trans ?_, (h c).2.1.trans ?_, (h c).2.2.1.trans ?_,
      (h c).2.2.2.1.trans ?_, (h c).2.2.2.2⟩) (Cert.AdamWDownRefIdeal.Value.run m' ρ')
    · rw [(hag c).1]
      exact (val_main_v1_eq (F := Ideal) _).trans (ref4 (X0 m c) (X1 m c) (X2 m c) (X3 m c))
    · rw [(hag c).1, (hag c).2.1, (hag c).2.2.1, (hag c).2.2.2]
      exact (val_main_v25_eq (F := Ideal) _ _ _ _).trans (ref5 (X0 m c) (X1 m c) (X2 m c) (X3 m c))
    · rw [(hag c).1, (hag c).2.2.1]
      exact (val_main_v6_eq (F := Ideal) _ _).trans (ref6 (X0 m c) (X1 m c) (X2 m c) (X3 m c))
    · rw [(hag c).1, (hag c).2.2.2]
      exact (val_main_v12_eq (F := Ideal) _ _).trans (ref7 (X0 m c) (X1 m c) (X2 m c) (X3 m c))

end Cert.Proof.AdamWDown
-- ==== Proof.AdamW.AdamSmall.lean ====
/- The values of `AdamSmall`: the four arrays, block by block, and the claims. -/
module

public import proofs.«01_k».proof.Defs
public import proofs.«01_k».proof.Proof.AdamW.Step
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.AdamSmall

open Cert.AdamSmallIdeal Cert.AdamSmallIdeal.Gen
open Cert.Proof.AdamW (hz ix2_eta)
open Idealize.SL.Sem Idealize.ShloMosaic Idealize.ShloMosaic.TcCoe

/-! ## The four arrays -/

/-- The sum of the gradient's pieces. -/
def grad (x0 : S8x336x128.Idx → EReal) (p : Fin 336) (q : Fin 128) : EReal := x0 (ix3 (0 : Fin 8) p q) + x0 (ix3 (1 : Fin 8) p q) + x0 (ix3 (2 : Fin 8) p q) + x0 (ix3 (3 : Fin 8) p q) + x0 (ix3 (4 : Fin 8) p q) + x0 (ix3 (5 : Fin 8) p q) + x0 (ix3 (6 : Fin 8) p q) + x0 (ix3 (7 : Fin 8) p q)
def T4 (x0 : S8x336x128.Idx → EReal) (x1 x2 x3 : S336x128.Idx → EReal) : S336x128.Idx → EReal := fun i => grad x0 (i 0) (i 1)
def T5 (x0 : S8x336x128.Idx → EReal) (x1 x2 x3 : S336x128.Idx → EReal) : S336x128.Idx → EReal := fun i => AdamW.delta (grad x0 (i 0) (i 1)) (x1 i) (x2 i) (x3 i)
def T6 (x0 : S8x336x128.Idx → EReal) (x1 x2 x3 : S336x128.Idx → EReal) : S336x128.Idx → EReal := fun i => AdamW.m2 (grad x0 (i 0) (i 1)) (x2 i)
def T7 (x0 : S8x336x128.Idx → EReal) (x1 x2 x3 : S336x128.Idx → EReal) : S336x128.Idx → EReal := fun i => AdamW.v2 (grad x0 (i 0) (i 1)) (x3 i)

/-! ## The kernel -/

variable (m : (ℓ : Loc nD τ sig) → Buf (Elt Ideal) ℓ) (ρ : Dev nD → PrngReg) (c : Dev nD)

abbrev X0 : S8x336x128.Idx → EReal := m ((c : Thread nD τ).loc main_arg0)
abbrev X1 : S336x128.Idx → EReal := m ((c : Thread nD τ).loc main_arg1)
abbrev X2 : S336x128.Idx → EReal := m ((c : Thread nD τ).loc main_arg2)
abbrev X3 : S336x128.Idx → EReal := m ((c : Thread nD τ).loc main_arg3)

def gradB (x0 : S8x336x128.Idx → EReal) (r : Fin 336) (s : Fin 128) : EReal := x0 (ix3 (0 : Fin 8) r s) + x0 (ix3 (1 : Fin 8) r s) + x0 (ix3 (2 : Fin 8) r s) + x0 (ix3 (3 : Fin 8) r s) + x0 (ix3 (4 : Fin 8) r s) + x0 (ix3 (5 : Fin 8) r s) + x0 (ix3 (6 : Fin 8) r s) + x0 (ix3 (7 : Fin 8) r s)
theorem pay_at (a0 a1 a2 a3 a4 a5 a6 a7 : Vec Ideal S1x336x128 .f32) (r : Fin 336) (s : Fin 128) : k0_pay3 (F := Ideal) a0 a1 a2 a3 a4 a5 a6 a7 (ix2 r s) =
    a0 (ix3 (0 : Fin 1) r s) + a1 (ix3 (0 : Fin 1) r s) + a2 (ix3 (0 : Fin 1) r s) + a3 (ix3 (0 : Fin 1) r s) + a4 (ix3 (0 : Fin 1) r s) + a5 (ix3 (0 : Fin 1) r s) + a6 (ix3 (0 : Fin 1) r s) + a7 (ix3 (0 : Fin 1) r s) := by
  pointwise [k0_pay3]
theorem ld0 (x0 : Vec Ideal S8x336x128 .f32) (r : Fin 336) (s : Fin 128) : View.ld x0 r0_0 (ix3 (0 : Fin 1) r s) = x0 (ix3 (0 : Fin 8) r s) :=
  congrArg x0 (AdamW.ext3 rfl (AdamW.at0 _) (AdamW.at0 _))
theorem ld1 (x0 : Vec Ideal S8x336x128 .f32) (r : Fin 336) (s : Fin 128) : View.ld x0 r0_1 (ix3 (0 : Fin 1) r s) = x0 (ix3 (1 : Fin 8) r s) :=
  congrArg x0 (AdamW.ext3 rfl (AdamW.at0 _) (AdamW.at0 _))
theorem ld2 (x0 : Vec Ideal S8x336x128 .f32) (r : Fin 336) (s : Fin 128) : View.ld x0 r0_2 (ix3 (0 : Fin 1) r s) = x0 (ix3 (2 : Fin 8) r s) :=
  congrArg x0 (AdamW.ext3 rfl (AdamW.at0 _) (AdamW.at0 _))
theorem ld3 (x0 : Vec Ideal S8x336x128 .f32) (r : Fin 336) (s : Fin 128) : View.ld x0 r0_3 (ix3 (0 : Fin 1) r s) = x0 (ix3 (3 : Fin 8) r s) :=
  congrArg x0 (AdamW.ext3 rfl (AdamW.at0 _) (AdamW.at0 _))
theorem ld4 (x0 : Vec Ideal S8x336x128 .f32) (r : Fin 336) (s : Fin 128) : View.ld x0 r0_4 (ix3 (0 : Fin 1) r s) = x0 (ix3 (4 : Fin 8) r s) :=
  congrArg x0 (AdamW.ext3 rfl (AdamW.at0 _) (AdamW.at0 _))
theorem ld5 (x0 : Vec Ideal S8x336x128 .f32) (r : Fin 336) (s : Fin 128) : View.ld x0 r0_5 (ix3 (0 : Fin 1) r s) = x0 (ix3 (5 : Fin 8) r s) :=
  congrArg x0 (AdamW.ext3 rfl (AdamW.at0 _) (AdamW.at0 _))
theorem ld6 (x0 : Vec Ideal S8x336x128 .f32) (r : Fin 336) (s : Fin 128) : View.ld x0 r0_6 (ix3 (0 : Fin 1) r s) = x0 (ix3 (6 : Fin 8) r s) :=
  congrArg x0 (AdamW.ext3 rfl (AdamW.at0 _) (AdamW.at0 _))
theorem ld7 (x0 : Vec Ideal S8x336x128 .f32) (r : Fin 336) (s : Fin 128) : View.ld x0 r0_7 (ix3 (0 : Fin 1) r s) = x0 (ix3 (7 : Fin 8) r s) :=
  congrArg x0 (AdamW.ext3 rfl (AdamW.at0 _) (AdamW.at0 _))
theorem grad_at (x0 : Vec Ideal S8x336x128 .f32) (x1 x2 x3 : Vec Ideal S336x128 .f32) (r : Fin 336) (s : Fin 128) : k0_pay3 (F := Ideal) (View.ld x0 r0_0) (View.ld x0 r0_1) (View.ld x0 r0_2) (View.ld x0 r0_3) (View.ld x0 r0_4) (View.ld x0 r0_5) (View.ld x0 r0_6) (View.ld x0 r0_7) (ix2 r s) = gradB x0 r s := by
  refine (pay_at _ _ _ _ _ _ _ _ r s).trans ?_
  rw [ld0, ld1, ld2, ld3, ld4, ld5, ld6, ld7]
  rfl
theorem out4_at (x0 : Vec Ideal S8x336x128 .f32) (x1 x2 x3 : Vec Ideal S336x128 .f32) (r : Fin 336) (s : Fin 128) : out0_4 x0 x1 x2 x3 (ix2 r s) = gradB x0 r s := by
  unfold out0_4 k0_pay5
  rw [View.canon_unit_zero hz]
  rw [← grad_at x0 x1 x2 x3 r s]
theorem out5_at (x0 : Vec Ideal S8x336x128 .f32) (x1 x2 x3 : Vec Ideal S336x128 .f32) (r : Fin 336) (s : Fin 128) : out0_5 x0 x1 x2 x3 (ix2 r s) = AdamW.delta (gradB x0 r s) (x1 (ix2 r s)) (x2 (ix2 r s)) (x3 (ix2 r s)) := by
  unfold out0_5 k0_pay5 k0_pay6
  rw [View.canon_unit_zero hz]
  simp only [View.ld_unit_zero (S := S336x128) hz]
  rw [← grad_at x0 x1 x2 x3 r s]
  rfl
theorem out6_at (x0 : Vec Ideal S8x336x128 .f32) (x1 x2 x3 : Vec Ideal S336x128 .f32) (r : Fin 336) (s : Fin 128) : out0_6 x0 x1 x2 x3 (ix2 r s) = AdamW.m2 (gradB x0 r s) (x2 (ix2 r s)) := by
  unfold out0_6 k0_pay6
  rw [View.canon_unit_zero hz]
  simp only [View.ld_unit_zero (S := S336x128) hz]
  rw [← grad_at x0 x1 x2 x3 r s]
  rfl
theorem out7_at (x0 : Vec Ideal S8x336x128 .f32) (x1 x2 x3 : Vec Ideal S336x128 .f32) (r : Fin 336) (s : Fin 128) : out0_7 x0 x1 x2 x3 (ix2 r s) = AdamW.v2 (gradB x0 r s) (x3 (ix2 r s)) := by
  unfold out0_7 k0_pay5
  rw [View.canon_unit_zero hz]
  simp only [View.ld_unit_zero (S := S336x128) hz]
  rw [← grad_at x0 x1 x2 x3 r s]
  rfl

theorem lt_N (t : Fin cfg0.N) : t.val < 1 := by have := t.isLt; have hN : cfg0.N = 1 := N_0; omega
def rowI (t : Fin cfg0.N) (r : Fin 336) : Fin 336 := ⟨336 * t.val + r.val, by have := lt_N t; omega⟩
theorem idx0 : ∀ t : Fin cfg0.N, win0_0.index t 0 = 0 ∧ win0_0.index t 1 = t.val ∧ win0_0.index t 2 = 0 := by decide +kernel
theorem iblk0_at (t : Fin cfg0.N) (k : Fin 8) (r : Fin 336) (s : Fin 128) : iblk m c 0 t (ix3 k r s) = X0 m c (ix3 k (rowI t r) s) := by
  refine Eq.trans ?_ (congrFun (V_main_arg0 m c) _)
  unfold iblk
  rw [View.read_apply]
  exact congrArg (V m c main_arg0) (AdamW.ext3 (AdamW.col (idx0 t).1) (AdamW.row (idx0 t).2.1) (AdamW.col (idx0 t).2.2))
theorem step_of (i : S336x128.Idx) : ∃ t : Fin cfg0.N, t.val = (i 0).val / 336 := by
  have l0 : (i 0).val < 336 := (i 0).isLt
  have hN : cfg0.N = 1 := N_0
  exact ⟨⟨(i 0).val / 336, by omega⟩, rfl⟩
theorem grad_blk (t : Fin cfg0.N) (r : Fin 336) (s : Fin 128) : gradB (iblk m c 0 t) r s = grad (X0 m c) (rowI t r) s := by
  unfold gradB grad
  rw [iblk0_at m c t 0 r s, iblk0_at m c t 1 r s, iblk0_at m c t 2 r s, iblk0_at m c t 3 r s, iblk0_at m c t 4 r s, iblk0_at m c t 5 r s, iblk0_at m c t 6 r s, iblk0_at m c t 7 r s]
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem iblk1_at (t : Fin cfg0.N) (r : Fin 336) (s : Fin 128) : iblk m c 1 t (ix2 r s) = X1 m c (ix2 (rowI t r) s) := by
  refine Eq.trans ?_ (congrFun (V_main_arg1 m c) _)
  unfold iblk
  rw [View.read_apply]
  exact congrArg (V m c main_arg1) (AdamW.ext2 (AdamW.row (idx1 t).1) (AdamW.col (idx1 t).2))
theorem iblk2_at (t : Fin cfg0.N) (r : Fin 336) (s : Fin 128) : iblk m c 2 t (ix2 r s) = X2 m c (ix2 (rowI t r) s) := by
  refine Eq.trans ?_ (congrFun (V_main_arg2 m c) _)
  unfold iblk
  rw [View.read_apply]
  exact congrArg (V m c main_arg2) (AdamW.ext2 (AdamW.row (idx2 t).1) (AdamW.col (idx2 t).2))
theorem iblk3_at (t : Fin cfg0.N) (r : Fin 336) (s : Fin 128) : iblk m c 3 t (ix2 r s) = X3 m c (ix2 (rowI t r) s) := by
  refine Eq.trans ?_ (congrFun (V_main_arg3 m c) _)
  unfold iblk
  rw [View.read_apply]
  exact congrArg (V m c main_arg3) (AdamW.ext2 (AdamW.row (idx3 t).1) (AdamW.col (idx3 t).2))

abbrev R4 : S336x128.Idx → EReal := T4 (X0 m c) (X1 m c) (X2 m c) (X3 m c)
theorem flushed4 (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  obtain ⟨r, s, rfl⟩ : ∃ (r : Fin 336) (s : Fin 128), j = ix2 r s := ⟨_, _, ix2_eta (a := 336) (b := 128) j⟩
  have hr : ((cfg0.win 4).blk t).view.read (Elt Ideal) (R4 m c) (ix2 r s) = R4 m c (ix2 (rowI t r) s) := by
    rw [View.read_apply]
    exact congrArg (R4 m c) (AdamW.ext2 (AdamW.row (idx4 t).1) (AdamW.col (idx4 t).2))
  refine Eq.trans ?_ hr.symm
  refine (out4_at _ _ _ _ r s).trans ?_
  rw [grad_blk]
  rfl
theorem cover4 (i : S336x128.Idx) : ∃ t : Fin cfg0.N, (cfg0.win 4).flush t = true ∧ i ∈ ((cfg0.win 4).blk t).view.set := by
  obtain ⟨t, ht⟩ := step_of i
  refine ⟨t, flush0_4 t, ?_⟩
  show i ∈ ((View.whole main_v0_0).slice (win0_4.rect t)).set
  rw [View.set_slice_whole, Rect.mem_set_unit]
  exact Fin.forall_fin_two.2 ⟨AdamW.rows (idx4 t).1 ht (by decide), AdamW.cols (idx4 t).2 (i 1).isLt⟩
theorem final4 : (dats m 0 c).arrAt 4 cfg0.N = R4 m c := (dats m 0 c).arrAt_eq_of_cover 4 (R4 m c) (fun t _ => flushed4 m c t) cover4

abbrev R5 : S336x128.Idx → EReal := T5 (X0 m c) (X1 m c) (X2 m c) (X3 m c)
theorem flushed5 (t : Fin cfg0.N) : (dats m 0 c).flushed 5 t = ((cfg0.win 5).blk t).view.read (Elt Ideal) (R5 m c) := by
  show (cfg0.win 5).cut (grid0.coords t) ((dats m 0 c).after 5 t) = _
  rw [after0_5]
  funext j
  obtain ⟨r, s, rfl⟩ : ∃ (r : Fin 336) (s : Fin 128), j = ix2 r s := ⟨_, _, ix2_eta (a := 336) (b := 128) j⟩
  have hr : ((cfg0.win 5).blk t).view.read (Elt Ideal) (R5 m c) (ix2 r s) = R5 m c (ix2 (rowI t r) s) := by
    rw [View.read_apply]
    exact congrArg (R5 m c) (AdamW.ext2 (AdamW.row (idx5 t).1) (AdamW.col (idx5 t).2))
  refine Eq.trans ?_ hr.symm
  refine (out5_at _ _ _ _ r s).trans ?_
  rw [grad_blk, iblk1_at, iblk2_at, iblk3_at]
  rfl
theorem cover5 (i : S336x128.Idx) : ∃ t : Fin cfg0.N, (cfg0.win 5).flush t = true ∧ i ∈ ((cfg0.win 5).blk t).view.set := by
  obtain ⟨t, ht⟩ := step_of i
  refine ⟨t, flush0_5 t, ?_⟩
  show i ∈ ((View.whole main_v0_1).slice (win0_5.rect t)).set
  rw [View.set_slice_whole, Rect.mem_set_unit]
  exact Fin.forall_fin_two.2 ⟨AdamW.rows (idx5 t).1 ht (by decide), AdamW.cols (idx5 t).2 (i 1).isLt⟩
theorem final5 : (dats m 0 c).arrAt 5 cfg0.N = R5 m c := (dats m 0 c).arrAt_eq_of_cover 5 (R5 m c) (fun t _ => flushed5 m c t) cover5

abbrev R6 : S336x128.Idx → EReal := T6 (X0 m c) (X1 m c) (X2 m c) (X3 m c)
theorem flushed6 (t : Fin cfg0.N) : (dats m 0 c).flushed 6 t = ((cfg0.win 6).blk t).view.read (Elt Ideal) (R6 m c) := by
  show (cfg0.win 6).cut (grid0.coords t) ((dats m 0 c).after 6 t) = _
  rw [after0_6]
  funext j
  obtain ⟨r, s, rfl⟩ : ∃ (r : Fin 336) (s : Fin 128), j = ix2 r s := ⟨_, _, ix2_eta (a := 336) (b := 128) j⟩
  have hr : ((cfg0.win 6).blk t).view.read (Elt Ideal) (R6 m c) (ix2 r s) = R6 m c (ix2 (rowI t r) s) := by
    rw [View.read_apply]
    exact congrArg (R6 m c) (AdamW.ext2 (AdamW.row (idx6 t).1) (AdamW.col (idx6 t).2))
  refine Eq.trans ?_ hr.symm
  refine (out6_at _ _ _ _ r s).trans ?_
  rw [grad_blk, iblk2_at]
  rfl
theorem cover6 (i : S336x128.Idx) : ∃ t : Fin cfg0.N, (cfg0.win 6).flush t = true ∧ i ∈ ((cfg0.win 6).blk t).view.set := by
  obtain ⟨t, ht⟩ := step_of i
  refine ⟨t, flush0_6 t, ?_⟩
  show i ∈ ((View.whole main_v0_2).slice (win0_6.rect t)).set
  rw [View.set_slice_whole, Rect.mem_set_unit]
  exact Fin.forall_fin_two.2 ⟨AdamW.rows (idx6 t).1 ht (by decide), AdamW.cols (idx6 t).2 (i 1).isLt⟩
theorem final6 : (dats m 0 c).arrAt 6 cfg0.N = R6 m c := (dats m 0 c).arrAt_eq_of_cover 6 (R6 m c) (fun t _ => flushed6 m c t) cover6

abbrev R7 : S336x128.Idx → EReal := T7 (X0 m c) (X1 m c) (X2 m c) (X3 m c)
theorem flushed7 (t : Fin cfg0.N) : (dats m 0 c).flushed 7 t = ((cfg0.win 7).blk t).view.read (Elt Ideal) (R7 m c) := by
  show (cfg0.win 7).cut (grid0.coords t) ((dats m 0 c).after 7 t) = _
  rw [after0_7]
  funext j
  obtain ⟨r, s, rfl⟩ : ∃ (r : Fin 336) (s : Fin 128), j = ix2 r s := ⟨_, _, ix2_eta (a := 336) (b := 128) j⟩
  have hr : ((cfg0.win 7).blk t).view.read (Elt Ideal) (R7 m c) (ix2 r s) = R7 m c (ix2 (rowI t r) s) := by
    rw [View.read_apply]
    exact congrArg (R7 m c) (AdamW.ext2 (AdamW.row (idx7 t).1) (AdamW.col (idx7 t).2))
  refine Eq.trans ?_ hr.symm
  refine (out7_at _ _ _ _ r s).trans ?_
  rw [grad_blk, iblk3_at]
  rfl
theorem cover7 (i : S336x128.Idx) : ∃ t : Fin cfg0.N, (cfg0.win 7).flush t = true ∧ i ∈ ((cfg0.win 7).blk t).view.set := by
  obtain ⟨t, ht⟩ := step_of i
  refine ⟨t, flush0_7 t, ?_⟩
  show i ∈ ((View.whole main_v0_3).slice (win0_7.rect t)).set
  rw [View.set_slice_whole, Rect.mem_set_unit]
  exact Fin.forall_fin_two.2 ⟨AdamW.rows (idx7 t).1 ht (by decide), AdamW.cols (idx7 t).2 (i 1).isLt⟩
theorem final7 : (dats m 0 c).arrAt 7 cfg0.N = R7 m c := (dats m 0 c).arrAt_eq_of_cover 7 (R7 m c) (fun t _ => flushed7 m c t) cover7

/-! ## The reference -/

open Cert.AdamSmallRefIdeal.Read

variable (y0 : S8x336x128.Idx → EReal) (y1 y2 y3 : S336x128.Idx → EReal)

theorem ref_grad (i : S336x128.Idx) : val_main_v0 (F := Ideal) y0 i = grad y0 (i 0) (i 1) := by
  rw [val_main_v0_apply, Fin.sum_univ_eight]
  have z (j) : val_main_cst (F := Ideal) j = (0 : EReal) := Ideal.ofBits_zero .f32
  have e (k : Fin 8) : idx_main_v0 i k = ix3 k (i 0) (i 1) := by funext a; fin_cases a <;> rfl
  rw [z, zero_add, e 0, e 1, e 2, e 3, e 4, e 5, e 6, e 7]
  rfl
theorem ref4 : val_main_v0 (F := Ideal) y0 = T4 y0 y1 y2 y3 := by
  funext i
  exact ref_grad y0 i
theorem ref5 : val_main_v24 (F := Ideal) y0 y1 y2 y3 = T5 y0 y1 y2 y3 := by
  funext i
  unfold T5
  rw [← ref_grad y0 i]
  rfl
theorem ref6 : val_main_v5 (F := Ideal) y0 y2 = T6 y0 y1 y2 y3 := by
  funext i
  unfold T6
  rw [← ref_grad y0 i]
  rfl
theorem ref7 : val_main_v11 (F := Ideal) y0 y3 = T7 y0 y1 y2 y3 := by
  funext i
  unfold T7
  rw [← ref_grad y0 i]
  rfl

/-! ## The claims -/

theorem frame_kernel : Cert.quiescent_AdamSmall := fun m ρ _ => Cert.AdamSmall.Gen.frame m ρ
theorem frame_ideal : Cert.quiescent_AdamSmallIdeal := fun m ρ _ => Cert.AdamSmallIdeal.Gen.frame m ρ
theorem frame_ref : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run m ρ)
theorem algebraic : Cert.algebraic_AdamSmallIdeal_AdamSmallRefIdeal := by
  intro m ρ m' ρ' _ hag
  refine ⟨R4 m, R5 m, R6 m, R7 m, ?_, ?_⟩
  · exact (θ_run Cert.AdamSmallIdeal.defs _ _).mono (fun _ h c => ⟨(h c).1.trans (final4 m c), (h c).2.1.trans (final5 m c),
      (h c).2.2.1.trans (final6 m c), (h c).2.2.2.1.trans (final7 m c), (h c).2.2.2.2⟩) (Cert.AdamSmallIdeal.Value.run_blocks m ρ)
  · refine (θ_run Cert.AdamSmallRefIdeal.defs _ _).mono (fun _ h c => ⟨(h c).1.trans ?_, (h c).2.1.trans ?_, (h c).2.2.1.trans ?_,
      (h c).2.2.2.1.trans ?_, (h c).2.2.2.2⟩) (Cert.AdamSmallRefIdeal.Value.run m' ρ')
    · rw [(hag c).1]
      exact (val_main_v0_eq (F := Ideal) _).trans (ref4 (X0 m c) (X1 m c) (X2 m c) (X3 m c))
    · rw [(hag c).1, (hag c).2.1, (hag c).2.2.1, (hag c).2.2.2]
      exact (val_main_v24_eq (F := Ideal) _ _ _ _).trans (ref5 (X0 m c) (X1 m c) (X2 m c) (X3 m c))
    · rw [(hag c).1, (hag c).2.2.1]
      exact (val_main_v5_eq (F := Ideal) _ _).trans (ref6 (X0 m c) (X1 m c) (X2 m c) (X3 m c))
    · rw [(hag c).1, (hag c).2.2.2]
      exact (val_main_v11_eq (F := Ideal) _ _).trans (ref7 (X0 m c) (X1 m c) (X2 m c) (X3 m c))

end Cert.Proof.AdamSmall
-- ==== Proof.AdamW.AdamReplicated.lean ====
/- The values of `AdamReplicated`: the four arrays, block by block, and the claims. -/
module

public import proofs.«01_k».proof.Defs
public import proofs.«01_k».proof.Proof.AdamW.Step
public import proofs.«01_k».proof.Proof.Gen.AdamReplicated
public import proofs.«01_k».proof.Proof.Gen.AdamReplicated.Frame
public import proofs.«01_k».proof.Proof.Gen.AdamReplicatedIdeal
public import proofs.«01_k».proof.Proof.Gen.AdamReplicatedIdeal.Value
public import proofs.«01_k».proof.Proof.Gen.AdamReplicatedRefIdeal
public import proofs.«01_k».proof.Proof.Gen.AdamReplicatedRefIdeal.Run
public import proofs.«01_k».proof.Proof.Gen.AdamReplicatedRefIdeal.Read
public import Idealize.ShloMosaic.Lib.Pointwise
public import Idealize.ShloMosaic.Lib.Pipeline.Value
public import Idealize.ShloMosaic.Lib.Quiescent

@[expose] public section

set_option maxRecDepth 16384

noncomputable section

namespace Cert.Proof.AdamReplicated

open Cert.AdamReplicatedIdeal Cert.AdamReplicatedIdeal.Gen
open Cert.Proof.AdamW (hz ix2_eta)
open Idealize.SL.Sem Idealize.ShloMosaic Idealize.ShloMosaic.TcCoe

/-! ## The four arrays -/

/-- The sum of the gradient's pieces. -/
def grad (x0 : S8x168x128.Idx → EReal) (p : Fin 168) (q : Fin 128) : EReal := x0 (ix3 (0 : Fin 8) p q) + x0 (ix3 (1 : Fin 8) p q) + x0 (ix3 (2 : Fin 8) p q) + x0 (ix3 (3 : Fin 8) p q) + x0 (ix3 (4 : Fin 8) p q) + x0 (ix3 (5 : Fin 8) p q) + x0 (ix3 (6 : Fin 8) p q) + x0 (ix3 (7 : Fin 8) p q)
def T4 (x0 : S8x168x128.Idx → EReal) (x1 x2 x3 : S168x128.Idx → EReal) : S168x128.Idx → EReal := fun i => grad x0 (i 0) (i 1)
def T5 (x0 : S8x168x128.Idx → EReal) (x1 x2 x3 : S168x128.Idx → EReal) : S168x128.Idx → EReal := fun i => AdamW.delta (grad x0 (i 0) (i 1)) (x1 i) (x2 i) (x3 i)
def T6 (x0 : S8x168x128.Idx → EReal) (x1 x2 x3 : S168x128.Idx → EReal) : S168x128.Idx → EReal := fun i => AdamW.m2 (grad x0 (i 0) (i 1)) (x2 i)
def T7 (x0 : S8x168x128.Idx → EReal) (x1 x2 x3 : S168x128.Idx → EReal) : S168x128.Idx → EReal := fun i => AdamW.v2 (grad x0 (i 0) (i 1)) (x3 i)

/-! ## The kernel -/

variable (m : (ℓ : Loc nD τ sig) → Buf (Elt Ideal) ℓ) (ρ : Dev nD → PrngReg) (c : Dev nD)

abbrev X0 : S8x168x128.Idx → EReal := m ((c : Thread nD τ).loc main_arg0)
abbrev X1 : S168x128.Idx → EReal := m ((c : Thread nD τ).loc main_arg1)
abbrev X2 : S168x128.Idx → EReal := m ((c : Thread nD τ).loc main_arg2)
abbrev X3 : S168x128.Idx → EReal := m ((c : Thread nD τ).loc main_arg3)

def gradB (x0 : S8x168x128.Idx → EReal) (r : Fin 168) (s : Fin 128) : EReal := x0 (ix3 (0 : Fin 8) r s) + x0 (ix3 (1 : Fin 8) r s) + x0 (ix3 (2 : Fin 8) r s) + x0 (ix3 (3 : Fin 8) r s) + x0 (ix3 (4 : Fin 8) r s) + x0 (ix3 (5 : Fin 8) r s) + x0 (ix3 (6 : Fin 8) r s) + x0 (ix3 (7 : Fin 8) r s)
theorem pay_at (a0 a1 a2 a3 a4 a5 a6 a7 : Vec Ideal S1x168x128 .f32) (r : Fin 168) (s : Fin 128) : k0_pay3 (F := Ideal) a0 a1 a2 a3 a4 a5 a6 a7 (ix2 r s) =
    a0 (ix3 (0 : Fin 1) r s) + a1 (ix3 (0 : Fin 1) r s) + a2 (ix3 (0 : Fin 1) r s) + a3 (ix3 (0 : Fin 1) r s) + a4 (ix3 (0 : Fin 1) r s) + a5 (ix3 (0 : Fin 1) r s) + a6 (ix3 (0 : Fin 1) r s) + a7 (ix3 (0 : Fin 1) r s) := by
  pointwise [k0_pay3]
theorem ld0 (x0 : Vec Ideal S8x168x128 .f32) (r : Fin 168) (s : Fin 128) : View.ld x0 r0_0 (ix3 (0 : Fin 1) r s) = x0 (ix3 (0 : Fin 8) r s) :=
  congrArg x0 (AdamW.ext3 rfl (AdamW.at0 _) (AdamW.at0 _))
theorem ld1 (x0 : Vec Ideal S8x168x128 .f32) (r : Fin 168) (s : Fin 128) : View.ld x0 r0_1 (ix3 (0 : Fin 1) r s) = x0 (ix3 (1 : Fin 8) r s) :=
  congrArg x0 (AdamW.ext3 rfl (AdamW.at0 _) (AdamW.at0 _))
theorem ld2 (x0 : Vec Ideal S8x168x128 .f32) (r : Fin 168) (s : Fin 128) : View.ld x0 r0_2 (ix3 (0 : Fin 1) r s) = x0 (ix3 (2 : Fin 8) r s) :=
  congrArg x0 (AdamW.ext3 rfl (AdamW.at0 _) (AdamW.at0 _))
theorem ld3 (x0 : Vec Ideal S8x168x128 .f32) (r : Fin 168) (s : Fin 128) : View.ld x0 r0_3 (ix3 (0 : Fin 1) r s) = x0 (ix3 (3 : Fin 8) r s) :=
  congrArg x0 (AdamW.ext3 rfl (AdamW.at0 _) (AdamW.at0 _))
theorem ld4 (x0 : Vec Ideal S8x168x128 .f32) (r : Fin 168) (s : Fin 128) : View.ld x0 r0_4 (ix3 (0 : Fin 1) r s) = x0 (ix3 (4 : Fin 8) r s) :=
  congrArg x0 (AdamW.ext3 rfl (AdamW.at0 _) (AdamW.at0 _))
theorem ld5 (x0 : Vec Ideal S8x168x128 .f32) (r : Fin 168) (s : Fin 128) : View.ld x0 r0_5 (ix3 (0 : Fin 1) r s) = x0 (ix3 (5 : Fin 8) r s) :=
  congrArg x0 (AdamW.ext3 rfl (AdamW.at0 _) (AdamW.at0 _))
theorem ld6 (x0 : Vec Ideal S8x168x128 .f32) (r : Fin 168) (s : Fin 128) : View.ld x0 r0_6 (ix3 (0 : Fin 1) r s) = x0 (ix3 (6 : Fin 8) r s) :=
  congrArg x0 (AdamW.ext3 rfl (AdamW.at0 _) (AdamW.at0 _))
theorem ld7 (x0 : Vec Ideal S8x168x128 .f32) (r : Fin 168) (s : Fin 128) : View.ld x0 r0_7 (ix3 (0 : Fin 1) r s) = x0 (ix3 (7 : Fin 8) r s) :=
  congrArg x0 (AdamW.ext3 rfl (AdamW.at0 _) (AdamW.at0 _))
theorem grad_at (x0 : Vec Ideal S8x168x128 .f32) (x1 x2 x3 : Vec Ideal S168x128 .f32) (r : Fin 168) (s : Fin 128) : k0_pay3 (F := Ideal) (View.ld x0 r0_0) (View.ld x0 r0_1) (View.ld x0 r0_2) (View.ld x0 r0_3) (View.ld x0 r0_4) (View.ld x0 r0_5) (View.ld x0 r0_6) (View.ld x0 r0_7) (ix2 r s) = gradB x0 r s := by
  refine (pay_at _ _ _ _ _ _ _ _ r s).trans ?_
  rw [ld0, ld1, ld2, ld3, ld4, ld5, ld6, ld7]
  rfl
theorem out4_at (x0 : Vec Ideal S8x168x128 .f32) (x1 x2 x3 : Vec Ideal S168x128 .f32) (r : Fin 168) (s : Fin 128) : out0_4 x0 x1 x2 x3 (ix2 r s) = gradB x0 r s := by
  unfold out0_4 k0_pay5
  rw [View.canon_unit_zero hz]
  rw [← grad_at x0 x1 x2 x3 r s]
theorem out5_at (x0 : Vec Ideal S8x168x128 .f32) (x1 x2 x3 : Vec Ideal S168x128 .f32) (r : Fin 168) (s : Fin 128) : out0_5 x0 x1 x2 x3 (ix2 r s) = AdamW.delta (gradB x0 r s) (x1 (ix2 r s)) (x2 (ix2 r s)) (x3 (ix2 r s)) := by
  unfold out0_5 k0_pay5 k0_pay6
  rw [View.canon_unit_zero hz]
  simp only [View.ld_unit_zero (S := S168x128) hz]
  rw [← grad_at x0 x1 x2 x3 r s]
  rfl
theorem out6_at (x0 : Vec Ideal S8x168x128 .f32) (x1 x2 x3 : Vec Ideal S168x128 .f32) (r : Fin 168) (s : Fin 128) : out0_6 x0 x1 x2 x3 (ix2 r s) = AdamW.m2 (gradB x0 r s) (x2 (ix2 r s)) := by
  unfold out0_6 k0_pay6
  rw [View.canon_unit_zero hz]
  simp only [View.ld_unit_zero (S := S168x128) hz]
  rw [← grad_at x0 x1 x2 x3 r s]
  rfl
theorem out7_at (x0 : Vec Ideal S8x168x128 .f32) (x1 x2 x3 : Vec Ideal S168x128 .f32) (r : Fin 168) (s : Fin 128) : out0_7 x0 x1 x2 x3 (ix2 r s) = AdamW.v2 (gradB x0 r s) (x3 (ix2 r s)) := by
  unfold out0_7 k0_pay5
  rw [View.canon_unit_zero hz]
  simp only [View.ld_unit_zero (S := S168x128) hz]
  rw [← grad_at x0 x1 x2 x3 r s]
  rfl

theorem lt_N (t : Fin cfg0.N) : t.val < 1 := by have := t.isLt; have hN : cfg0.N = 1 := N_0; omega
def rowI (t : Fin cfg0.N) (r : Fin 168) : Fin 168 := ⟨168 * t.val + r.val, by have := lt_N t; omega⟩
theorem idx0 : ∀ t : Fin cfg0.N, win0_0.index t 0 = 0 ∧ win0_0.index t 1 = t.val ∧ win0_0.index t 2 = 0 := by decide +kernel
theorem iblk0_at (t : Fin cfg0.N) (k : Fin 8) (r : Fin 168) (s : Fin 128) : iblk m c 0 t (ix3 k r s) = X0 m c (ix3 k (rowI t r) s) := by
  refine Eq.trans ?_ (congrFun (V_main_arg0 m c) _)
  unfold iblk
  rw [View.read_apply]
  exact congrArg (V m c main_arg0) (AdamW.ext3 (AdamW.col (idx0 t).1) (AdamW.row (idx0 t).2.1) (AdamW.col (idx0 t).2.2))
theorem step_of (i : S168x128.Idx) : ∃ t : Fin cfg0.N, t.val = (i 0).val / 168 := by
  have l0 : (i 0).val < 168 := (i 0).isLt
  have hN : cfg0.N = 1 := N_0
  exact ⟨⟨(i 0).val / 168, by omega⟩, rfl⟩
theorem grad_blk (t : Fin cfg0.N) (r : Fin 168) (s : Fin 128) : gradB (iblk m c 0 t) r s = grad (X0 m c) (rowI t r) s := by
  unfold gradB grad
  rw [iblk0_at m c t 0 r s, iblk0_at m c t 1 r s, iblk0_at m c t 2 r s, iblk0_at m c t 3 r s, iblk0_at m c t 4 r s, iblk0_at m c t 5 r s, iblk0_at m c t 6 r s, iblk0_at m c t 7 r s]
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem iblk1_at (t : Fin cfg0.N) (r : Fin 168) (s : Fin 128) : iblk m c 1 t (ix2 r s) = X1 m c (ix2 (rowI t r) s) := by
  refine Eq.trans ?_ (congrFun (V_main_arg1 m c) _)
  unfold iblk
  rw [View.read_apply]
  exact congrArg (V m c main_arg1) (AdamW.ext2 (AdamW.row (idx1 t).1) (AdamW.col (idx1 t).2))
theorem iblk2_at (t : Fin cfg0.N) (r : Fin 168) (s : Fin 128) : iblk m c 2 t (ix2 r s) = X2 m c (ix2 (rowI t r) s) := by
  refine Eq.trans ?_ (congrFun (V_main_arg2 m c) _)
  unfold iblk
  rw [View.read_apply]
  exact congrArg (V m c main_arg2) (AdamW.ext2 (AdamW.row (idx2 t).1) (AdamW.col (idx2 t).2))
theorem iblk3_at (t : Fin cfg0.N) (r : Fin 168) (s : Fin 128) : iblk m c 3 t (ix2 r s) = X3 m c (ix2 (rowI t r) s) := by
  refine Eq.trans ?_ (congrFun (V_main_arg3 m c) _)
  unfold iblk
  rw [View.read_apply]
  exact congrArg (V m c main_arg3) (AdamW.ext2 (AdamW.row (idx3 t).1) (AdamW.col (idx3 t).2))

abbrev R4 : S168x128.Idx → EReal := T4 (X0 m c) (X1 m c) (X2 m c) (X3 m c)
theorem flushed4 (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  obtain ⟨r, s, rfl⟩ : ∃ (r : Fin 168) (s : Fin 128), j = ix2 r s := ⟨_, _, ix2_eta (a := 168) (b := 128) j⟩
  have hr : ((cfg0.win 4).blk t).view.read (Elt Ideal) (R4 m c) (ix2 r s) = R4 m c (ix2 (rowI t r) s) := by
    rw [View.read_apply]
    exact congrArg (R4 m c) (AdamW.ext2 (AdamW.row (idx4 t).1) (AdamW.col (idx4 t).2))
  refine Eq.trans ?_ hr.symm
  refine (out4_at _ _ _ _ r s).trans ?_
  rw [grad_blk]
  rfl
theorem cover4 (i : S168x128.Idx) : ∃ t : Fin cfg0.N, (cfg0.win 4).flush t = true ∧ i ∈ ((cfg0.win 4).blk t).view.set := by
  obtain ⟨t, ht⟩ := step_of i
  refine ⟨t, flush0_4 t, ?_⟩
  show i ∈ ((View.whole main_v0_0).slice (win0_4.rect t)).set
  rw [View.set_slice_whole, Rect.mem_set_unit]
  exact Fin.forall_fin_two.2 ⟨AdamW.rows (idx4 t).1 ht (by decide), AdamW.cols (idx4 t).2 (i 1).isLt⟩
theorem final4 : (dats m 0 c).arrAt 4 cfg0.N = R4 m c := (dats m 0 c).arrAt_eq_of_cover 4 (R4 m c) (fun t _ => flushed4 m c t) cover4

abbrev R5 : S168x128.Idx → EReal := T5 (X0 m c) (X1 m c) (X2 m c) (X3 m c)
theorem flushed5 (t : Fin cfg0.N) : (dats m 0 c).flushed 5 t = ((cfg0.win 5).blk t).view.read (Elt Ideal) (R5 m c) := by
  show (cfg0.win 5).cut (grid0.coords t) ((dats m 0 c).after 5 t) = _
  rw [after0_5]
  funext j
  obtain ⟨r, s, rfl⟩ : ∃ (r : Fin 168) (s : Fin 128), j = ix2 r s := ⟨_, _, ix2_eta (a := 168) (b := 128) j⟩
  have hr : ((cfg0.win 5).blk t).view.read (Elt Ideal) (R5 m c) (ix2 r s) = R5 m c (ix2 (rowI t r) s) := by
    rw [View.read_apply]
    exact congrArg (R5 m c) (AdamW.ext2 (AdamW.row (idx5 t).1) (AdamW.col (idx5 t).2))
  refine Eq.trans ?_ hr.symm
  refine (out5_at _ _ _ _ r s).trans ?_
  rw [grad_blk, iblk1_at, iblk2_at, iblk3_at]
  rfl
theorem cover5 (i : S168x128.Idx) : ∃ t : Fin cfg0.N, (cfg0.win 5).flush t = true ∧ i ∈ ((cfg0.win 5).blk t).view.set := by
  obtain ⟨t, ht⟩ := step_of i
  refine ⟨t, flush0_5 t, ?_⟩
  show i ∈ ((View.whole main_v0_1).slice (win0_5.rect t)).set
  rw [View.set_slice_whole, Rect.mem_set_unit]
  exact Fin.forall_fin_two.2 ⟨AdamW.rows (idx5 t).1 ht (by decide), AdamW.cols (idx5 t).2 (i 1).isLt⟩
theorem final5 : (dats m 0 c).arrAt 5 cfg0.N = R5 m c := (dats m 0 c).arrAt_eq_of_cover 5 (R5 m c) (fun t _ => flushed5 m c t) cover5

abbrev R6 : S168x128.Idx → EReal := T6 (X0 m c) (X1 m c) (X2 m c) (X3 m c)
theorem flushed6 (t : Fin cfg0.N) : (dats m 0 c).flushed 6 t = ((cfg0.win 6).blk t).view.read (Elt Ideal) (R6 m c) := by
  show (cfg0.win 6).cut (grid0.coords t) ((dats m 0 c).after 6 t) = _
  rw [after0_6]
  funext j
  obtain ⟨r, s, rfl⟩ : ∃ (r : Fin 168) (s : Fin 128), j = ix2 r s := ⟨_, _, ix2_eta (a := 168) (b := 128) j⟩
  have hr : ((cfg0.win 6).blk t).view.read (Elt Ideal) (R6 m c) (ix2 r s) = R6 m c (ix2 (rowI t r) s) := by
    rw [View.read_apply]
    exact congrArg (R6 m c) (AdamW.ext2 (AdamW.row (idx6 t).1) (AdamW.col (idx6 t).2))
  refine Eq.trans ?_ hr.symm
  refine (out6_at _ _ _ _ r s).trans ?_
  rw [grad_blk, iblk2_at]
  rfl
theorem cover6 (i : S168x128.Idx) : ∃ t : Fin cfg0.N, (cfg0.win 6).flush t = true ∧ i ∈ ((cfg0.win 6).blk t).view.set := by
  obtain ⟨t, ht⟩ := step_of i
  refine ⟨t, flush0_6 t, ?_⟩
  show i ∈ ((View.whole main_v0_2).slice (win0_6.rect t)).set
  rw [View.set_slice_whole, Rect.mem_set_unit]
  exact Fin.forall_fin_two.2 ⟨AdamW.rows (idx6 t).1 ht (by decide), AdamW.cols (idx6 t).2 (i 1).isLt⟩
theorem final6 : (dats m 0 c).arrAt 6 cfg0.N = R6 m c := (dats m 0 c).arrAt_eq_of_cover 6 (R6 m c) (fun t _ => flushed6 m c t) cover6

abbrev R7 : S168x128.Idx → EReal := T7 (X0 m c) (X1 m c) (X2 m c) (X3 m c)
theorem flushed7 (t : Fin cfg0.N) : (dats m 0 c).flushed 7 t = ((cfg0.win 7).blk t).view.read (Elt Ideal) (R7 m c) := by
  show (cfg0.win 7).cut (grid0.coords t) ((dats m 0 c).after 7 t) = _
  rw [after0_7]
  funext j
  obtain ⟨r, s, rfl⟩ : ∃ (r : Fin 168) (s : Fin 128), j = ix2 r s := ⟨_, _, ix2_eta (a := 168) (b := 128) j⟩
  have hr : ((cfg0.win 7).blk t).view.read (Elt Ideal) (R7 m c) (ix2 r s) = R7 m c (ix2 (rowI t r) s) := by
    rw [View.read_apply]
    exact congrArg (R7 m c) (AdamW.ext2 (AdamW.row (idx7 t).1) (AdamW.col (idx7 t).2))
  refine Eq.trans ?_ hr.symm
  refine (out7_at _ _ _ _ r s).trans ?_
  rw [grad_blk, iblk3_at]
  rfl
theorem cover7 (i : S168x128.Idx) : ∃ t : Fin cfg0.N, (cfg0.win 7).flush t = true ∧ i ∈ ((cfg0.win 7).blk t).view.set := by
  obtain ⟨t, ht⟩ := step_of i
  refine ⟨t, flush0_7 t, ?_⟩
  show i ∈ ((View.whole main_v0_3).slice (win0_7.rect t)).set
  rw [View.set_slice_whole, Rect.mem_set_unit]
  exact Fin.forall_fin_two.2 ⟨AdamW.rows (idx7 t).1 ht (by decide), AdamW.cols (idx7 t).2 (i 1).isLt⟩
theorem final7 : (dats m 0 c).arrAt 7 cfg0.N = R7 m c := (dats m 0 c).arrAt_eq_of_cover 7 (R7 m c) (fun t _ => flushed7 m c t) cover7

/-! ## The reference -/

open Cert.AdamReplicatedRefIdeal.Read

variable (y0 : S8x168x128.Idx → EReal) (y1 y2 y3 : S168x128.Idx → EReal)

theorem ref_grad (i : S168x128.Idx) : val_main_v0 (F := Ideal) y0 i = grad y0 (i 0) (i 1) := by
  rw [val_main_v0_apply, Fin.sum_univ_eight]
  have z (j) : val_main_cst (F := Ideal) j = (0 : EReal) := Ideal.ofBits_zero .f32
  have e (k : Fin 8) : idx_main_v0 i k = ix3 k (i 0) (i 1) := by funext a; fin_cases a <;> rfl
  rw [z, zero_add, e 0, e 1, e 2, e 3, e 4, e 5, e 6, e 7]
  rfl
theorem ref4 : val_main_v0 (F := Ideal) y0 = T4 y0 y1 y2 y3 := by
  funext i
  exact ref_grad y0 i
theorem ref5 : val_main_v24 (F := Ideal) y0 y1 y2 y3 = T5 y0 y1 y2 y3 := by
  funext i
  unfold T5
  rw [← ref_grad y0 i]
  rfl
theorem ref6 : val_main_v5 (F := Ideal) y0 y2 = T6 y0 y1 y2 y3 := by
  funext i
  unfold T6
  rw [← ref_grad y0 i]
  rfl
theorem ref7 : val_main_v11 (F := Ideal) y0 y3 = T7 y0 y1 y2 y3 := by
  funext i
  unfold T7
  rw [← ref_grad y0 i]
  rfl

/-! ## The claims -/

theorem frame_kernel : Cert.quiescent_AdamReplicated := fun m ρ _ => Cert.AdamReplicated.Gen.frame m ρ
theorem frame_ideal : Cert.quiescent_AdamReplicatedIdeal := fun m ρ _ => Cert.AdamReplicatedIdeal.Gen.frame m ρ
theorem frame_ref : Cert.quiescent_AdamReplicatedRefIdeal := fun m ρ _ =>
  (θ_run Cert.AdamReplicatedRefIdeal.defs _ _).mono (fun r h => ⟨fun c => (h c).2.2.2.2, sem_eq_zero_of_no_sems (by decide) r.2⟩)
    (Cert.AdamReplicatedRefIdeal.Value.run m ρ)
theorem algebraic : Cert.algebraic_AdamReplicatedIdeal_AdamReplicatedRefIdeal := by
  intro m ρ m' ρ' _ hag
  refine ⟨R4 m, R5 m, R6 m, R7 m, ?_, ?_⟩
  · exact (θ_run Cert.AdamReplicatedIdeal.defs _ _).mono (fun _ h c => ⟨(h c).1.trans (final4 m c), (h c).2.1.trans (final5 m c),
      (h c).2.2.1.trans (final6 m c), (h c).2.2.2.1.trans (final7 m c), (h c).2.2.2.2⟩) (Cert.AdamReplicatedIdeal.Value.run_blocks m ρ)
  · refine (θ_run Cert.AdamReplicatedRefIdeal.defs _ _).mono (fun _ h c => ⟨(h c).1.trans ?_, (h c).2.1.trans ?_, (h c).2.2.1.trans ?_,
      (h c).2.2.2.1.trans ?_, (h c).2.2.2.2⟩) (Cert.AdamReplicatedRefIdeal.Value.run m' ρ')
    · rw [(hag c).1]
      exact (val_main_v0_eq (F := Ideal) _).trans (ref4 (X0 m c) (X1 m c) (X2 m c) (X3 m c))
    · rw [(hag c).1, (hag c).2.1, (hag c).2.2.1, (hag c).2.2.2]
      exact (val_main_v24_eq (F := Ideal) _ _ _ _).trans (ref5 (X0 m c) (X1 m c) (X2 m c) (X3 m c))
    · rw [(hag c).1, (hag c).2.2.1]
      exact (val_main_v5_eq (F := Ideal) _ _).trans (ref6 (X0 m c) (X1 m c) (X2 m c) (X3 m c))
    · rw [(hag c).1, (hag c).2.2.2]
      exact (val_main_v11_eq (F := Ideal) _ _).trans (ref7 (X0 m c) (X1 m c) (X2 m c) (X3 m c))

end Cert.Proof.AdamReplicated
-- ==== Proof.lean ====
module

public import proofs.«01_k».proof.Defs
public import proofs.«01_k».proof.Proof.Mla.Frames
public import proofs.«01_k».proof.Proof.Mla.Algebraic
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal.Run
public import proofs.«01_k».proof.Proof.Gen.Pre_real_inputs
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.UpDxRes
public import proofs.«01_k».proof.Proof.Gen.UpDxRes.Frame
public import proofs.«01_k».proof.Proof.Gen.UpDxResIdeal
public import proofs.«01_k».proof.Proof.Gen.UpDxResIdeal.Frame
public import proofs.«01_k».proof.Proof.Gen.UpDxResIdeal.Value
public import proofs.«01_k».proof.Proof.Gen.UpDxResRefIdeal
public import proofs.«01_k».proof.Proof.Gen.UpDxResRefIdeal.Run
public import proofs.«01_k».proof.Proof.Gen.UpDxResRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.Gen.AdamWInRefIdeal.Read
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Frame
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.Gen.AdamWOutRefIdeal.Read
public import proofs.«01_k».proof.Proof.Gen.AdamWUp
public import proofs.«01_k».proof.Proof.Gen.AdamWUp.Frame
public import proofs.«01_k».proof.Proof.Gen.AdamWUpIdeal
public import proofs.«01_k».proof.Proof.Gen.AdamWUpIdeal.Frame
public import proofs.«01_k».proof.Proof.Gen.AdamWUpIdeal.Value
public import proofs.«01_k».proof.Proof.Gen.AdamWUpRefIdeal
public import proofs.«01_k».proof.Proof.Gen.AdamWUpRefIdeal.Run
public import proofs.«01_k».proof.Proof.Gen.AdamWUpRefIdeal.Read
public import proofs.«01_k».proof.Proof.Gen.AdamWDown
public import proofs.«01_k».proof.Proof.Gen.AdamWDown.Frame
public import proofs.«01_k».proof.Proof.Gen.AdamWDownIdeal
public import proofs.«01_k».proof.Proof.Gen.AdamWDownIdeal.Frame
public import proofs.«01_k».proof.Proof.Gen.AdamWDownIdeal.Value
public import proofs.«01_k».proof.Proof.Gen.AdamWDownRefIdeal
public import proofs.«01_k».proof.Proof.Gen.AdamWDownRefIdeal.Run
public import proofs.«01_k».proof.Proof.Gen.AdamWDownRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamReplicated
public import proofs.«01_k».proof.Proof.Gen.AdamReplicated.Frame
public import proofs.«01_k».proof.Proof.Gen.AdamReplicatedIdeal
public import proofs.«01_k».proof.Proof.Gen.AdamReplicatedIdeal.Frame
public import proofs.«01_k».proof.Proof.Gen.AdamReplicatedIdeal.Value
public import proofs.«01_k».proof.Proof.Gen.AdamReplicatedRefIdeal
public import proofs.«01_k».proof.Proof.Gen.AdamReplicatedRefIdeal.Run
public import proofs.«01_k».proof.Proof.Gen.AdamReplicatedRefIdeal.Read
public import proofs.«01_k».proof.Proof.Products.DownDx
public import proofs.«01_k».proof.Proof.Products.DownDw
public import proofs.«01_k».proof.Proof.Products.UpDx
public import proofs.«01_k».proof.Proof.Products.UpDw
public import proofs.«01_k».proof.Proof.Products.OutDx
public import proofs.«01_k».proof.Proof.Products.OutDw
public import proofs.«01_k».proof.Proof.Products.InDx
public import proofs.«01_k».proof.Proof.Products.InDw
public import proofs.«01_k».proof.Proof.Products.FfnUp
public import proofs.«01_k».proof.Proof.Products.InProj
public import proofs.«01_k».proof.Proof.Products.UpDxRes
public import proofs.«01_k».proof.Proof.Products.OutProj
public import proofs.«01_k».proof.Proof.Products.FfnDown
public import proofs.«01_k».proof.Proof.AdamW.AdamWIn
public import proofs.«01_k».proof.Proof.AdamW.AdamWOut
public import proofs.«01_k».proof.Proof.AdamW.AdamWUp
public import proofs.«01_k».proof.Proof.AdamW.AdamWDown
public import proofs.«01_k».proof.Proof.AdamW.AdamSmall
public import proofs.«01_k».proof.Proof.AdamW.AdamReplicated

@[expose] public section

noncomputable section

namespace Cert.Proof

theorem claim : Cert.Claim :=
  ⟨Cert.Mla.Gen.facts, Cert.MlaIdeal.Gen.facts, Cert.MlaRefIdeal.Gen.facts, Cert.DownDx.Gen.facts, Cert.DownDxIdeal.Gen.facts,
    Cert.DownDxRefIdeal.Gen.facts, Cert.DownDw.Gen.facts, Cert.DownDwIdeal.Gen.facts, Cert.DownDwRefIdeal.Gen.facts,
    Cert.UpDx.Gen.facts, Cert.UpDxIdeal.Gen.facts, Cert.UpDxRefIdeal.Gen.facts, Cert.UpDw.Gen.facts, Cert.UpDwIdeal.Gen.facts,
    Cert.UpDwRefIdeal.Gen.facts, Cert.OutDx.Gen.facts, Cert.OutDxIdeal.Gen.facts, Cert.OutDxRefIdeal.Gen.facts,
    Cert.OutDw.Gen.facts, Cert.OutDwIdeal.Gen.facts, Cert.OutDwRefIdeal.Gen.facts, Cert.InDx.Gen.facts, Cert.InDxIdeal.Gen.facts,
    Cert.InDxRefIdeal.Gen.facts, Cert.InDw.Gen.facts, Cert.InDwIdeal.Gen.facts, Cert.InDwRefIdeal.Gen.facts, Cert.FfnUp.Gen.facts,
    Cert.FfnUpIdeal.Gen.facts, Cert.FfnUpRefIdeal.Gen.facts, Cert.InProj.Gen.facts, Cert.InProjIdeal.Gen.facts,
    Cert.InProjRefIdeal.Gen.facts, Cert.UpDxRes.Gen.facts, Cert.UpDxResIdeal.Gen.facts, Cert.UpDxResRefIdeal.Gen.facts,
    Cert.OutProj.Gen.facts, Cert.OutProjIdeal.Gen.facts, Cert.OutProjRefIdeal.Gen.facts, Cert.FfnDown.Gen.facts,
    Cert.FfnDownIdeal.Gen.facts, Cert.FfnDownRefIdeal.Gen.facts, Cert.AdamWIn.Gen.facts, Cert.AdamWInIdeal.Gen.facts,
    Cert.AdamWInRefIdeal.Gen.facts, Cert.AdamWOut.Gen.facts, Cert.AdamWOutIdeal.Gen.facts, Cert.AdamWOutRefIdeal.Gen.facts,
    Cert.AdamWUp.Gen.facts, Cert.AdamWUpIdeal.Gen.facts, Cert.AdamWUpRefIdeal.Gen.facts, Cert.AdamWDown.Gen.facts,
    Cert.AdamWDownIdeal.Gen.facts, Cert.AdamWDownRefIdeal.Gen.facts, Cert.AdamSmall.Gen.facts, Cert.AdamSmallIdeal.Gen.facts,
    Cert.AdamSmallRefIdeal.Gen.facts, Cert.AdamReplicated.Gen.facts, Cert.AdamReplicatedIdeal.Gen.facts,
    Cert.AdamReplicatedRefIdeal.Gen.facts, Cert.Pre_real_inputs.Gen.facts, frame_kernel, frame_ideal, frame_ideal_pre, frame_ref,
    frame_ref_pre, DownDx.frame_kernel, DownDx.frame_ideal, DownDx.frame_ref, DownDw.frame_kernel, DownDw.frame_ideal,
    DownDw.frame_ref, UpDx.frame_kernel, UpDx.frame_ideal, UpDx.frame_ref, UpDw.frame_kernel, UpDw.frame_ideal, UpDw.frame_ref,
    OutDx.frame_kernel, OutDx.frame_ideal, OutDx.frame_ref, OutDw.frame_kernel, OutDw.frame_ideal, OutDw.frame_ref,
    InDx.frame_kernel, InDx.frame_ideal, InDx.frame_ref, InDw.frame_kernel, InDw.frame_ideal, InDw.frame_ref, FfnUp.frame_kernel,
    FfnUp.frame_ideal, FfnUp.frame_ref, InProj.frame_kernel, InProj.frame_ideal, InProj.frame_ref, UpDxRes.frame_kernel,
    UpDxRes.frame_ideal, UpDxRes.frame_ref, OutProj.frame_kernel, OutProj.frame_ideal, OutProj.frame_ref, FfnDown.frame_kernel,
    FfnDown.frame_ideal, FfnDown.frame_ref, AdamWIn.frame_kernel, AdamWIn.frame_ideal, AdamWIn.frame_ref, AdamWOut.frame_kernel,
    AdamWOut.frame_ideal, AdamWOut.frame_ref, AdamWUp.frame_kernel, AdamWUp.frame_ideal, AdamWUp.frame_ref,
    AdamWDown.frame_kernel, AdamWDown.frame_ideal, AdamWDown.frame_ref, AdamSmall.frame_kernel, AdamSmall.frame_ideal,
    AdamSmall.frame_ref, AdamReplicated.frame_kernel, AdamReplicated.frame_ideal, AdamReplicated.frame_ref, trivial, algebraic,
    trivial, DownDx.algebraic, trivial, DownDw.algebraic, trivial, UpDx.algebraic, trivial, UpDw.algebraic, trivial,
    OutDx.algebraic, trivial, OutDw.algebraic, trivial, InDx.algebraic, trivial, InDw.algebraic, trivial, FfnUp.algebraic,
    trivial, InProj.algebraic, trivial, UpDxRes.algebraic, trivial, OutProj.algebraic, trivial, FfnDown.algebraic, trivial,
    AdamWIn.algebraic, trivial, AdamWOut.algebraic, trivial, AdamWUp.algebraic, trivial, AdamWDown.algebraic, trivial,
    AdamSmall.algebraic, trivial, AdamReplicated.algebraic⟩

end Cert.Proof
